-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def Pre_KernelDwOut (m : (ℓ : Loc Cert.KernelDwOut.nD Cert.KernelDwOut.τ Cert.KernelDwOut.sig) → Buf (Elt Bits) ℓ) : Prop :=
  True

def Pre_KernelDwOutIdeal (m : (ℓ : Loc Cert.KernelDwOutIdeal.nD Cert.KernelDwOutIdeal.τ Cert.KernelDwOutIdeal.sig) → Buf (Elt Ideal) ℓ) : Prop :=
  True

def Pre_ReferenceDwOutIdeal (m : (ℓ : Loc Cert.ReferenceDwOutIdeal.nD Cert.ReferenceDwOutIdeal.τ Cert.ReferenceDwOutIdeal.sig) → Buf (Elt Ideal) ℓ) : Prop :=
  True

def Pre_KernelDMixed (m : (ℓ : Loc Cert.KernelDMixed.nD Cert.KernelDMixed.τ Cert.KernelDMixed.sig) → Buf (Elt Bits) ℓ) : Prop :=
  True

def Pre_KernelDMixedIdeal (m : (ℓ : Loc Cert.KernelDMixedIdeal.nD Cert.KernelDMixedIdeal.τ Cert.KernelDMixedIdeal.sig) → Buf (Elt Ideal) ℓ) : Prop :=
  True

def Pre_ReferenceDMixedIdeal (m : (ℓ : Loc Cert.ReferenceDMixedIdeal.nD Cert.ReferenceDMixedIdeal.τ Cert.ReferenceDMixedIdeal.sig) → Buf (Elt Ideal) ℓ) : Prop :=
  True

def Pre_KernelOutProj (m : (ℓ : Loc Cert.KernelOutProj.nD Cert.KernelOutProj.τ Cert.KernelOutProj.sig) → Buf (Elt Bits) ℓ) : Prop :=
  True

def Pre_KernelOutProjIdeal (m : (ℓ : Loc Cert.KernelOutProjIdeal.nD Cert.KernelOutProjIdeal.τ Cert.KernelOutProjIdeal.sig) → Buf (Elt Ideal) ℓ) : Prop :=
  True

def Pre_ReferenceOutProjIdeal (m : (ℓ : Loc Cert.ReferenceOutProjIdeal.nD Cert.ReferenceOutProjIdeal.τ Cert.ReferenceOutProjIdeal.sig) → Buf (Elt Ideal) ℓ) : Prop :=
  True

def Pre_KernelDownProj (m : (ℓ : Loc Cert.KernelDownProj.nD Cert.KernelDownProj.τ Cert.KernelDownProj.sig) → Buf (Elt Bits) ℓ) : Prop :=
  True

def Pre_KernelDownProjIdeal (m : (ℓ : Loc Cert.KernelDownProjIdeal.nD Cert.KernelDownProjIdeal.τ Cert.KernelDownProjIdeal.sig) → Buf (Elt Ideal) ℓ) : Prop :=
  True

def Pre_ReferenceDownProjIdeal (m : (ℓ : Loc Cert.ReferenceDownProjIdeal.nD Cert.ReferenceDownProjIdeal.τ Cert.ReferenceDownProjIdeal.sig) → Buf (Elt Ideal) ℓ) : Prop :=
  True

def Pre_KernelDIn (m : (ℓ : Loc Cert.KernelDIn.nD Cert.KernelDIn.τ Cert.KernelDIn.sig) → Buf (Elt Bits) ℓ) : Prop :=
  True

def Pre_KernelDInIdeal (m : (ℓ : Loc Cert.KernelDInIdeal.nD Cert.KernelDInIdeal.τ Cert.KernelDInIdeal.sig) → Buf (Elt Ideal) ℓ) : Prop :=
  True

def Pre_ReferenceDInIdeal (m : (ℓ : Loc Cert.ReferenceDInIdeal.nD Cert.ReferenceDInIdeal.τ Cert.ReferenceDInIdeal.sig) → Buf (Elt Ideal) ℓ) : Prop :=
  True

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2))
      ∧ r.2.sem = fun _ => 0)

def quiescent_KernelDwOut [hKernelDwOut : Cert.KernelDwOut.Facts] : Prop :=
  ∀ (m : (ℓ : Loc Cert.KernelDwOut.nD Cert.KernelDwOut.τ Cert.KernelDwOut.sig) → Buf (Elt Bits) ℓ) (g : Dev Cert.KernelDwOut.nD → PrngReg), Pre_KernelDwOut m →
    θ_run (Cert.KernelDwOut.defs (F := Bits)) (onTc (τ := Cert.KernelDwOut.τ) (Cert.KernelDwOut.main (F := Bits))) ⟨m, fun _ => 0, g⟩ (fun r => (∀ c : Dev Cert.KernelDwOut.nD,
      r.2.mem ((c.tc : Thread Cert.KernelDwOut.nD Cert.KernelDwOut.τ).loc Cert.KernelDwOut.main_arg0) = m ((c.tc : Thread Cert.KernelDwOut.nD Cert.KernelDwOut.τ).loc Cert.KernelDwOut.main_arg0)
      ∧ r.2.mem ((c.tc : Thread Cert.KernelDwOut.nD Cert.KernelDwOut.τ).loc Cert.KernelDwOut.main_arg1) = m ((c.tc : Thread Cert.KernelDwOut.nD Cert.KernelDwOut.τ).loc Cert.KernelDwOut.main_arg1))
      ∧ r.2.sem = fun _ => 0)

def quiescent_KernelDwOutIdeal [hKernelDwOutIdeal : Cert.KernelDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg), Pre_KernelDwOutIdeal m →
    θ_run (Cert.KernelDwOutIdeal.defs (F := Ideal)) (onTc (τ := Cert.KernelDwOutIdeal.τ) (Cert.KernelDwOutIdeal.main (F := Ideal))) ⟨m, fun _ => 0, g⟩ (fun r => (∀ c : Dev Cert.KernelDwOutIdeal.nD,
      r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
      ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ r.2.sem = fun _ => 0)

def quiescent_ReferenceDwOutIdeal [hReferenceDwOutIdeal : Cert.ReferenceDwOutIdeal.Facts] : Prop :=
  ∀ (m : (ℓ : Loc Cert.ReferenceDwOutIdeal.nD Cert.ReferenceDwOutIdeal.τ Cert.ReferenceDwOutIdeal.sig) → Buf (Elt Ideal) ℓ) (g : Dev Cert.ReferenceDwOutIdeal.nD → PrngReg), Pre_ReferenceDwOutIdeal m →
    θ_run (Cert.ReferenceDwOutIdeal.defs (F := Ideal)) (onTc (τ := Cert.ReferenceDwOutIdeal.τ) (Cert.ReferenceDwOutIdeal.main (F := Ideal))) ⟨m, fun _ => 0, g⟩ (fun r => (∀ c : Dev Cert.ReferenceDwOutIdeal.nD,
      r.2.mem ((c.tc : Thread Cert.ReferenceDwOutIdeal.nD Cert.ReferenceDwOutIdeal.τ).loc Cert.ReferenceDwOutIdeal.main_arg0) = m ((c.tc : Thread Cert.ReferenceDwOutIdeal.nD Cert.ReferenceDwOutIdeal.τ).loc Cert.ReferenceDwOutIdeal.main_arg0)
      ∧ r.2.mem ((c.tc : Thread Cert.ReferenceDwOutIdeal.nD Cert.ReferenceDwOutIdeal.τ).loc Cert.ReferenceDwOutIdeal.main_arg1) = m ((c.tc : Thread Cert.ReferenceDwOutIdeal.nD Cert.ReferenceDwOutIdeal.τ).loc Cert.ReferenceDwOutIdeal.main_arg1))
      ∧ r.2.sem = fun _ => 0)

def quiescent_KernelDMixed [hKernelDMixed : Cert.KernelDMixed.Facts] : Prop :=
  ∀ (m : (ℓ : Loc Cert.KernelDMixed.nD Cert.KernelDMixed.τ Cert.KernelDMixed.sig) → Buf (Elt Bits) ℓ) (g : Dev Cert.KernelDMixed.nD → PrngReg), Pre_KernelDMixed m →
    θ_run (Cert.KernelDMixed.defs (F := Bits)) (onTc (τ := Cert.KernelDMixed.τ) (Cert.KernelDMixed.main (F := Bits))) ⟨m, fun _ => 0, g⟩ (fun r => (∀ c : Dev Cert.KernelDMixed.nD,
      r.2.mem ((c.tc : Thread Cert.KernelDMixed.nD Cert.KernelDMixed.τ).loc Cert.KernelDMixed.main_arg0) = m ((c.tc : Thread Cert.KernelDMixed.nD Cert.KernelDMixed.τ).loc Cert.KernelDMixed.main_arg0)
      ∧ r.2.mem ((c.tc : Thread Cert.KernelDMixed.nD Cert.KernelDMixed.τ).loc Cert.KernelDMixed.main_arg1) = m ((c.tc : Thread Cert.KernelDMixed.nD Cert.KernelDMixed.τ).loc Cert.KernelDMixed.main_arg1))
      ∧ r.2.sem = fun _ => 0)

def quiescent_KernelDMixedIdeal [hKernelDMixedIdeal : Cert.KernelDMixedIdeal.Facts] : Prop :=
  ∀ (m : (ℓ : Loc Cert.KernelDMixedIdeal.nD Cert.KernelDMixedIdeal.τ Cert.KernelDMixedIdeal.sig) → Buf (Elt Ideal) ℓ) (g : Dev Cert.KernelDMixedIdeal.nD → PrngReg), Pre_KernelDMixedIdeal m →
    θ_run (Cert.KernelDMixedIdeal.defs (F := Ideal)) (onTc (τ := Cert.KernelDMixedIdeal.τ) (Cert.KernelDMixedIdeal.main (F := Ideal))) ⟨m, fun _ => 0, g⟩ (fun r => (∀ c : Dev Cert.KernelDMixedIdeal.nD,
      r.2.mem ((c.tc : Thread Cert.KernelDMixedIdeal.nD Cert.KernelDMixedIdeal.τ).loc Cert.KernelDMixedIdeal.main_arg0) = m ((c.tc : Thread Cert.KernelDMixedIdeal.nD Cert.KernelDMixedIdeal.τ).loc Cert.KernelDMixedIdeal.main_arg0)
      ∧ r.2.mem ((c.tc : Thread Cert.KernelDMixedIdeal.nD Cert.KernelDMixedIdeal.τ).loc Cert.KernelDMixedIdeal.main_arg1) = m ((c.tc : Thread Cert.KernelDMixedIdeal.nD Cert.KernelDMixedIdeal.τ).loc Cert.KernelDMixedIdeal.main_arg1))
      ∧ r.2.sem = fun _ => 0)

def quiescent_ReferenceDMixedIdeal [hReferenceDMixedIdeal : Cert.ReferenceDMixedIdeal.Facts] : Prop :=
  ∀ (m : (ℓ : Loc Cert.ReferenceDMixedIdeal.nD Cert.ReferenceDMixedIdeal.τ Cert.ReferenceDMixedIdeal.sig) → Buf (Elt Ideal) ℓ) (g : Dev Cert.ReferenceDMixedIdeal.nD → PrngReg), Pre_ReferenceDMixedIdeal m →
    θ_run (Cert.ReferenceDMixedIdeal.defs (F := Ideal)) (onTc (τ := Cert.ReferenceDMixedIdeal.τ) (Cert.ReferenceDMixedIdeal.main (F := Ideal))) ⟨m, fun _ => 0, g⟩ (fun r => (∀ c : Dev Cert.ReferenceDMixedIdeal.nD,
      r.2.mem ((c.tc : Thread Cert.ReferenceDMixedIdeal.nD Cert.ReferenceDMixedIdeal.τ).loc Cert.ReferenceDMixedIdeal.main_arg0) = m ((c.tc : Thread Cert.ReferenceDMixedIdeal.nD Cert.ReferenceDMixedIdeal.τ).loc Cert.ReferenceDMixedIdeal.main_arg0)
      ∧ r.2.mem ((c.tc : Thread Cert.ReferenceDMixedIdeal.nD Cert.ReferenceDMixedIdeal.τ).loc Cert.ReferenceDMixedIdeal.main_arg1) = m ((c.tc : Thread Cert.ReferenceDMixedIdeal.nD Cert.ReferenceDMixedIdeal.τ).loc Cert.ReferenceDMixedIdeal.main_arg1))
      ∧ r.2.sem = fun _ => 0)

def quiescent_KernelOutProj [hKernelOutProj : Cert.KernelOutProj.Facts] : Prop :=
  ∀ (m : (ℓ : Loc Cert.KernelOutProj.nD Cert.KernelOutProj.τ Cert.KernelOutProj.sig) → Buf (Elt Bits) ℓ) (g : Dev Cert.KernelOutProj.nD → PrngReg), Pre_KernelOutProj m →
    θ_run (Cert.KernelOutProj.defs (F := Bits)) (onTc (τ := Cert.KernelOutProj.τ) (Cert.KernelOutProj.main (F := Bits))) ⟨m, fun _ => 0, g⟩ (fun r => (∀ c : Dev Cert.KernelOutProj.nD,
      r.2.mem ((c.tc : Thread Cert.KernelOutProj.nD Cert.KernelOutProj.τ).loc Cert.KernelOutProj.main_arg0) = m ((c.tc : Thread Cert.KernelOutProj.nD Cert.KernelOutProj.τ).loc Cert.KernelOutProj.main_arg0)
      ∧ r.2.mem ((c.tc : Thread Cert.KernelOutProj.nD Cert.KernelOutProj.τ).loc Cert.KernelOutProj.main_arg1) = m ((c.tc : Thread Cert.KernelOutProj.nD Cert.KernelOutProj.τ).loc Cert.KernelOutProj.main_arg1)
      ∧ r.2.mem ((c.tc : Thread Cert.KernelOutProj.nD Cert.KernelOutProj.τ).loc Cert.KernelOutProj.main_arg2) = m ((c.tc : Thread Cert.KernelOutProj.nD Cert.KernelOutProj.τ).loc Cert.KernelOutProj.main_arg2))
      ∧ r.2.sem = fun _ => 0)

def quiescent_KernelOutProjIdeal [hKernelOutProjIdeal : Cert.KernelOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
      ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2))
      ∧ r.2.sem = fun _ => 0)

def quiescent_ReferenceOutProjIdeal [hReferenceOutProjIdeal : Cert.ReferenceOutProjIdeal.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1)
      ∧ r.2.mem ((c.tc : Thread Cert.ReferenceOutProjIdeal.nD Cert.ReferenceOutProjIdeal.τ).loc Cert.ReferenceOutProjIdeal.main_arg2) = m ((c.tc : Thread Cert.ReferenceOutProjIdeal.nD Cert.ReferenceOutProjIdeal.τ).loc Cert.ReferenceOutProjIdeal.main_arg2))
      ∧ r.2.sem = fun _ => 0)

def quiescent_KernelDownProj [hKernelDownProj : Cert.KernelDownProj.Facts] : Prop :=
  ∀ (m : (ℓ : Loc Cert.KernelDownProj.nD Cert.KernelDownProj.τ Cert.KernelDownProj.sig) → Buf (Elt Bits) ℓ) (g : Dev Cert.KernelDownProj.nD → PrngReg), Pre_KernelDownProj m →
    θ_run (Cert.KernelDownProj.defs (F := Bits)) (onTc (τ := Cert.KernelDownProj.τ) (Cert.KernelDownProj.main (F := Bits))) ⟨m, fun _ => 0, g⟩ (fun r => (∀ c : Dev Cert.KernelDownProj.nD,
      r.2.mem ((c.tc : Thread Cert.KernelDownProj.nD Cert.KernelDownProj.τ).loc Cert.KernelDownProj.main_arg0) = m ((c.tc : Thread Cert.KernelDownProj.nD Cert.KernelDownProj.τ).loc Cert.KernelDownProj.main_arg0)
      ∧ r.2.mem ((c.tc : Thread Cert.KernelDownProj.nD Cert.KernelDownProj.τ).loc Cert.KernelDownProj.main_arg1) = m ((c.tc : Thread Cert.KernelDownProj.nD Cert.KernelDownProj.τ).loc Cert.KernelDownProj.main_arg1)
      ∧ r.2.mem ((c.tc : Thread Cert.KernelDownProj.nD Cert.KernelDownProj.τ).loc Cert.KernelDownProj.main_arg2) = m ((c.tc : Thread Cert.KernelDownProj.nD Cert.KernelDownProj.τ).loc Cert.KernelDownProj.main_arg2))
      ∧ r.2.sem = fun _ => 0)

def quiescent_KernelDownProjIdeal [hKernelDownProjIdeal : Cert.KernelDownProjIdeal.Facts] : Prop :=
  ∀ (m : (ℓ : Loc Cert.KernelDownProjIdeal.nD Cert.KernelDownProjIdeal.τ Cert.KernelDownProjIdeal.sig) → Buf (Elt Ideal) ℓ) (g : Dev Cert.KernelDownProjIdeal.nD → PrngReg), Pre_KernelDownProjIdeal m →
    θ_run (Cert.KernelDownProjIdeal.defs (F := Ideal)) (onTc (τ := Cert.KernelDownProjIdeal.τ) (Cert.KernelDownProjIdeal.main (F := Ideal))) ⟨m, fun _ => 0, g⟩ (fun r => (∀ c : Dev Cert.KernelDownProjIdeal.nD,
      r.2.mem ((c.tc : Thread Cert.KernelDownProjIdeal.nD Cert.KernelDownProjIdeal.τ).loc Cert.KernelDownProjIdeal.main_arg0) = m ((c.tc : Thread Cert.KernelDownProjIdeal.nD Cert.KernelDownProjIdeal.τ).loc Cert.KernelDownProjIdeal.main_arg0)
      ∧ r.2.mem ((c.tc : Thread Cert.KernelDownProjIdeal.nD Cert.KernelDownProjIdeal.τ).loc Cert.KernelDownProjIdeal.main_arg1) = m ((c.tc : Thread Cert.KernelDownProjIdeal.nD Cert.KernelDownProjIdeal.τ).loc Cert.KernelDownProjIdeal.main_arg1)
      ∧ r.2.mem ((c.tc : Thread Cert.KernelDownProjIdeal.nD Cert.KernelDownProjIdeal.τ).loc Cert.KernelDownProjIdeal.main_arg2) = m ((c.tc : Thread Cert.KernelDownProjIdeal.nD Cert.KernelDownProjIdeal.τ).loc Cert.KernelDownProjIdeal.main_arg2))
      ∧ r.2.sem = fun _ => 0)

def quiescent_ReferenceDownProjIdeal [hReferenceDownProjIdeal : Cert.ReferenceDownProjIdeal.Facts] : Prop :=
  ∀ (m : (ℓ : Loc Cert.ReferenceDownProjIdeal.nD Cert.ReferenceDownProjIdeal.τ Cert.ReferenceDownProjIdeal.sig) → Buf (Elt Ideal) ℓ) (g : Dev Cert.ReferenceDownProjIdeal.nD → PrngReg), Pre_ReferenceDownProjIdeal m →
    θ_run (Cert.ReferenceDownProjIdeal.defs (F := Ideal)) (onTc (τ := Cert.ReferenceDownProjIdeal.τ) (Cert.ReferenceDownProjIdeal.main (F := Ideal))) ⟨m, fun _ => 0, g⟩ (fun r => (∀ c : Dev Cert.ReferenceDownProjIdeal.nD,
      r.2.mem ((c.tc : Thread Cert.ReferenceDownProjIdeal.nD Cert.ReferenceDownProjIdeal.τ).loc Cert.ReferenceDownProjIdeal.main_arg0) = m ((c.tc : Thread Cert.ReferenceDownProjIdeal.nD Cert.ReferenceDownProjIdeal.τ).loc Cert.ReferenceDownProjIdeal.main_arg0)
      ∧ r.2.mem ((c.tc : Thread Cert.ReferenceDownProjIdeal.nD Cert.ReferenceDownProjIdeal.τ).loc Cert.ReferenceDownProjIdeal.main_arg1) = m ((c.tc : Thread Cert.ReferenceDownProjIdeal.nD Cert.ReferenceDownProjIdeal.τ).loc Cert.ReferenceDownProjIdeal.main_arg1)
      ∧ r.2.mem ((c.tc : Thread Cert.ReferenceDownProjIdeal.nD Cert.ReferenceDownProjIdeal.τ).loc Cert.ReferenceDownProjIdeal.main_arg2) = m ((c.tc : Thread Cert.ReferenceDownProjIdeal.nD Cert.ReferenceDownProjIdeal.τ).loc Cert.ReferenceDownProjIdeal.main_arg2))
      ∧ r.2.sem = fun _ => 0)

def quiescent_KernelDIn [hKernelDIn : Cert.KernelDIn.Facts] : Prop :=
  ∀ (m : (ℓ : Loc Cert.KernelDIn.nD Cert.KernelDIn.τ Cert.KernelDIn.sig) → Buf (Elt Bits) ℓ) (g : Dev Cert.KernelDIn.nD → PrngReg), Pre_KernelDIn m →
    θ_run (Cert.KernelDIn.defs (F := Bits)) (onTc (τ := Cert.KernelDIn.τ) (Cert.KernelDIn.main (F := Bits))) ⟨m, fun _ => 0, g⟩ (fun r => (∀ c : Dev Cert.KernelDIn.nD,
      r.2.mem ((c.tc : Thread Cert.KernelDIn.nD Cert.KernelDIn.τ).loc Cert.KernelDIn.main_arg0) = m ((c.tc : Thread Cert.KernelDIn.nD Cert.KernelDIn.τ).loc Cert.KernelDIn.main_arg0)
      ∧ r.2.mem ((c.tc : Thread Cert.KernelDIn.nD Cert.KernelDIn.τ).loc Cert.KernelDIn.main_arg1) = m ((c.tc : Thread Cert.KernelDIn.nD Cert.KernelDIn.τ).loc Cert.KernelDIn.main_arg1))
      ∧ r.2.sem = fun _ => 0)

def quiescent_KernelDInIdeal [hKernelDInIdeal : Cert.KernelDInIdeal.Facts] : Prop :=
  ∀ (m : (ℓ : Loc Cert.KernelDInIdeal.nD Cert.KernelDInIdeal.τ Cert.KernelDInIdeal.sig) → Buf (Elt Ideal) ℓ) (g : Dev Cert.KernelDInIdeal.nD → PrngReg), Pre_KernelDInIdeal m →
    θ_run (Cert.KernelDInIdeal.defs (F := Ideal)) (onTc (τ := Cert.KernelDInIdeal.τ) (Cert.KernelDInIdeal.main (F := Ideal))) ⟨m, fun _ => 0, g⟩ (fun r => (∀ c : Dev Cert.KernelDInIdeal.nD,
      r.2.mem ((c.tc : Thread Cert.KernelDInIdeal.nD Cert.KernelDInIdeal.τ).loc Cert.KernelDInIdeal.main_arg0) = m ((c.tc : Thread Cert.KernelDInIdeal.nD Cert.KernelDInIdeal.τ).loc Cert.KernelDInIdeal.main_arg0)
      ∧ r.2.mem ((c.tc : Thread Cert.KernelDInIdeal.nD Cert.KernelDInIdeal.τ).loc Cert.KernelDInIdeal.main_arg1) = m ((c.tc : Thread Cert.KernelDInIdeal.nD Cert.KernelDInIdeal.τ).loc Cert.KernelDInIdeal.main_arg1))
      ∧ r.2.sem = fun _ => 0)

def quiescent_ReferenceDInIdeal [hReferenceDInIdeal : Cert.ReferenceDInIdeal.Facts] : Prop :=
  ∀ (m : (ℓ : Loc Cert.ReferenceDInIdeal.nD Cert.ReferenceDInIdeal.τ Cert.ReferenceDInIdeal.sig) → Buf (Elt Ideal) ℓ) (g : Dev Cert.ReferenceDInIdeal.nD → PrngReg), Pre_ReferenceDInIdeal m →
    θ_run (Cert.ReferenceDInIdeal.defs (F := Ideal)) (onTc (τ := Cert.ReferenceDInIdeal.τ) (Cert.ReferenceDInIdeal.main (F := Ideal))) ⟨m, fun _ => 0, g⟩ (fun r => (∀ c : Dev Cert.ReferenceDInIdeal.nD,
      r.2.mem ((c.tc : Thread Cert.ReferenceDInIdeal.nD Cert.ReferenceDInIdeal.τ).loc Cert.ReferenceDInIdeal.main_arg0) = m ((c.tc : Thread Cert.ReferenceDInIdeal.nD Cert.ReferenceDInIdeal.τ).loc Cert.ReferenceDInIdeal.main_arg0)
      ∧ r.2.mem ((c.tc : Thread Cert.ReferenceDInIdeal.nD Cert.ReferenceDInIdeal.τ).loc Cert.ReferenceDInIdeal.main_arg1) = m ((c.tc : Thread Cert.ReferenceDInIdeal.nD Cert.ReferenceDInIdeal.τ).loc Cert.ReferenceDInIdeal.main_arg1))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v22) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_v181) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_v166) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)) →
    ∃ (v0 : (c : Dev Cert.KernelActIdeal.nD) → Buf (Elt Ideal) ((c.tc : Thread Cert.KernelActIdeal.nD Cert.KernelActIdeal.τ).loc Cert.KernelActIdeal.main_v0)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v5) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)) →
    ∃ (v0 : (c : Dev Cert.KernelGIdeal.nD) → Buf (Elt Ideal) ((c.tc : Thread Cert.KernelGIdeal.nD Cert.KernelGIdeal.τ).loc Cert.KernelGIdeal.main_v1)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v1) = v0 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v5) = v0 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1))

def preserves_KernelS_KernelSIdeal : Prop :=
  True

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)) →
    ∃ (v0 : (c : Dev Cert.KernelSIdeal.nD) → Buf (Elt Ideal) ((c.tc : Thread Cert.KernelSIdeal.nD Cert.KernelSIdeal.τ).loc Cert.KernelSIdeal.main_v1)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v1) = v0 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v6) = v0 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2))

def preserves_KernelDwOut_KernelDwOutIdeal : Prop :=
  True

def algebraic_KernelDwOutIdeal_ReferenceDwOutIdeal [hKernelDwOutIdeal : Cert.KernelDwOutIdeal.Facts] [hReferenceDwOutIdeal : Cert.ReferenceDwOutIdeal.Facts] : Prop :=
  ∀ (m : (ℓ : Loc Cert.KernelDwOutIdeal.nD Cert.KernelDwOutIdeal.τ Cert.KernelDwOutIdeal.sig) → Buf (Elt Ideal) ℓ) (g : Dev Cert.KernelDwOutIdeal.nD → PrngReg)
    (m' : (ℓ : Loc Cert.ReferenceDwOutIdeal.nD Cert.ReferenceDwOutIdeal.τ Cert.ReferenceDwOutIdeal.sig) → Buf (Elt Ideal) ℓ) (g' : Dev Cert.ReferenceDwOutIdeal.nD → PrngReg), Pre_KernelDwOutIdeal m →
    (∀ c : Dev Cert.KernelDwOutIdeal.nD,
      m' ((c.tc : Thread Cert.ReferenceDwOutIdeal.nD Cert.ReferenceDwOutIdeal.τ).loc Cert.ReferenceDwOutIdeal.main_arg0) = m ((c.tc : Thread Cert.KernelDwOutIdeal.nD Cert.KernelDwOutIdeal.τ).loc Cert.KernelDwOutIdeal.main_arg0)
      ∧ m' ((c.tc : Thread Cert.ReferenceDwOutIdeal.nD Cert.ReferenceDwOutIdeal.τ).loc Cert.ReferenceDwOutIdeal.main_arg1) = m ((c.tc : Thread Cert.KernelDwOutIdeal.nD Cert.KernelDwOutIdeal.τ).loc Cert.KernelDwOutIdeal.main_arg1)) →
    ∃ (v0 : (c : Dev Cert.KernelDwOutIdeal.nD) → Buf (Elt Ideal) ((c.tc : Thread Cert.KernelDwOutIdeal.nD Cert.KernelDwOutIdeal.τ).loc Cert.KernelDwOutIdeal.main_v0)),
      θ_run (Cert.KernelDwOutIdeal.defs (F := Ideal)) (onTc (τ := Cert.KernelDwOutIdeal.τ) (Cert.KernelDwOutIdeal.main (F := Ideal))) ⟨m, fun _ => 0, g⟩ (fun r => ∀ c : Dev Cert.KernelDwOutIdeal.nD,
          r.2.mem ((c.tc : Thread Cert.KernelDwOutIdeal.nD Cert.KernelDwOutIdeal.τ).loc Cert.KernelDwOutIdeal.main_v0) = v0 c
          ∧ r.2.mem ((c.tc : Thread Cert.KernelDwOutIdeal.nD Cert.KernelDwOutIdeal.τ).loc Cert.KernelDwOutIdeal.main_arg0) = m ((c.tc : Thread Cert.KernelDwOutIdeal.nD Cert.KernelDwOutIdeal.τ).loc Cert.KernelDwOutIdeal.main_arg0)
          ∧ r.2.mem ((c.tc : Thread Cert.KernelDwOutIdeal.nD Cert.KernelDwOutIdeal.τ).loc Cert.KernelDwOutIdeal.main_arg1) = m ((c.tc : Thread Cert.KernelDwOutIdeal.nD Cert.KernelDwOutIdeal.τ).loc Cert.KernelDwOutIdeal.main_arg1))
      ∧ θ_run (Cert.ReferenceDwOutIdeal.defs (F := Ideal)) (onTc (τ := Cert.ReferenceDwOutIdeal.τ) (Cert.ReferenceDwOutIdeal.main (F := Ideal))) ⟨m', fun _ => 0, g'⟩ (fun r => ∀ c : Dev Cert.ReferenceDwOutIdeal.nD,
          r.2.mem ((c.tc : Thread Cert.ReferenceDwOutIdeal.nD Cert.ReferenceDwOutIdeal.τ).loc Cert.ReferenceDwOutIdeal.main_v6) = v0 c
          ∧ r.2.mem ((c.tc : Thread Cert.ReferenceDwOutIdeal.nD Cert.ReferenceDwOutIdeal.τ).loc Cert.ReferenceDwOutIdeal.main_arg0) = m' ((c.tc : Thread Cert.ReferenceDwOutIdeal.nD Cert.ReferenceDwOutIdeal.τ).loc Cert.ReferenceDwOutIdeal.main_arg0)
          ∧ r.2.mem ((c.tc : Thread Cert.ReferenceDwOutIdeal.nD Cert.ReferenceDwOutIdeal.τ).loc Cert.ReferenceDwOutIdeal.main_arg1) = m' ((c.tc : Thread Cert.ReferenceDwOutIdeal.nD Cert.ReferenceDwOutIdeal.τ).loc Cert.ReferenceDwOutIdeal.main_arg1))

def preserves_KernelDMixed_KernelDMixedIdeal : Prop :=
  True

def algebraic_KernelDMixedIdeal_ReferenceDMixedIdeal [hKernelDMixedIdeal : Cert.KernelDMixedIdeal.Facts] [hReferenceDMixedIdeal : Cert.ReferenceDMixedIdeal.Facts] : Prop :=
  ∀ (m : (ℓ : Loc Cert.KernelDMixedIdeal.nD Cert.KernelDMixedIdeal.τ Cert.KernelDMixedIdeal.sig) → Buf (Elt Ideal) ℓ) (g : Dev Cert.KernelDMixedIdeal.nD → PrngReg)
    (m' : (ℓ : Loc Cert.ReferenceDMixedIdeal.nD Cert.ReferenceDMixedIdeal.τ Cert.ReferenceDMixedIdeal.sig) → Buf (Elt Ideal) ℓ) (g' : Dev Cert.ReferenceDMixedIdeal.nD → PrngReg), Pre_KernelDMixedIdeal m →
    (∀ c : Dev Cert.KernelDMixedIdeal.nD,
      m' ((c.tc : Thread Cert.ReferenceDMixedIdeal.nD Cert.ReferenceDMixedIdeal.τ).loc Cert.ReferenceDMixedIdeal.main_arg0) = m ((c.tc : Thread Cert.KernelDMixedIdeal.nD Cert.KernelDMixedIdeal.τ).loc Cert.KernelDMixedIdeal.main_arg0)
      ∧ m' ((c.tc : Thread Cert.ReferenceDMixedIdeal.nD Cert.ReferenceDMixedIdeal.τ).loc Cert.ReferenceDMixedIdeal.main_arg1) = m ((c.tc : Thread Cert.KernelDMixedIdeal.nD Cert.KernelDMixedIdeal.τ).loc Cert.KernelDMixedIdeal.main_arg1)) →
    ∃ (v0 : (c : Dev Cert.KernelDMixedIdeal.nD) → Buf (Elt Ideal) ((c.tc : Thread Cert.KernelDMixedIdeal.nD Cert.KernelDMixedIdeal.τ).loc Cert.KernelDMixedIdeal.main_v0)),
      θ_run (Cert.KernelDMixedIdeal.defs (F := Ideal)) (onTc (τ := Cert.KernelDMixedIdeal.τ) (Cert.KernelDMixedIdeal.main (F := Ideal))) ⟨m, fun _ => 0, g⟩ (fun r => ∀ c : Dev Cert.KernelDMixedIdeal.nD,
          r.2.mem ((c.tc : Thread Cert.KernelDMixedIdeal.nD Cert.KernelDMixedIdeal.τ).loc Cert.KernelDMixedIdeal.main_v0) = v0 c
          ∧ r.2.mem ((c.tc : Thread Cert.KernelDMixedIdeal.nD Cert.KernelDMixedIdeal.τ).loc Cert.KernelDMixedIdeal.main_arg0) = m ((c.tc : Thread Cert.KernelDMixedIdeal.nD Cert.KernelDMixedIdeal.τ).loc Cert.KernelDMixedIdeal.main_arg0)
          ∧ r.2.mem ((c.tc : Thread Cert.KernelDMixedIdeal.nD Cert.KernelDMixedIdeal.τ).loc Cert.KernelDMixedIdeal.main_arg1) = m ((c.tc : Thread Cert.KernelDMixedIdeal.nD Cert.KernelDMixedIdeal.τ).loc Cert.KernelDMixedIdeal.main_arg1))
      ∧ θ_run (Cert.ReferenceDMixedIdeal.defs (F := Ideal)) (onTc (τ := Cert.ReferenceDMixedIdeal.τ) (Cert.ReferenceDMixedIdeal.main (F := Ideal))) ⟨m', fun _ => 0, g'⟩ (fun r => ∀ c : Dev Cert.ReferenceDMixedIdeal.nD,
          r.2.mem ((c.tc : Thread Cert.ReferenceDMixedIdeal.nD Cert.ReferenceDMixedIdeal.τ).loc Cert.ReferenceDMixedIdeal.main_v5) = v0 c
          ∧ r.2.mem ((c.tc : Thread Cert.ReferenceDMixedIdeal.nD Cert.ReferenceDMixedIdeal.τ).loc Cert.ReferenceDMixedIdeal.main_arg0) = m' ((c.tc : Thread Cert.ReferenceDMixedIdeal.nD Cert.ReferenceDMixedIdeal.τ).loc Cert.ReferenceDMixedIdeal.main_arg0)
          ∧ r.2.mem ((c.tc : Thread Cert.ReferenceDMixedIdeal.nD Cert.ReferenceDMixedIdeal.τ).loc Cert.ReferenceDMixedIdeal.main_arg1) = m' ((c.tc : Thread Cert.ReferenceDMixedIdeal.nD Cert.ReferenceDMixedIdeal.τ).loc Cert.ReferenceDMixedIdeal.main_arg1))

def preserves_KernelOutProj_KernelOutProjIdeal : Prop :=
  True

def algebraic_KernelOutProjIdeal_ReferenceOutProjIdeal [hKernelOutProjIdeal : Cert.KernelOutProjIdeal.Facts] [hReferenceOutProjIdeal : Cert.ReferenceOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg)
    (m' : (ℓ : Loc Cert.ReferenceOutProjIdeal.nD Cert.ReferenceOutProjIdeal.τ Cert.ReferenceOutProjIdeal.sig) → Buf (Elt Ideal) ℓ) (g' : Dev Cert.ReferenceOutProjIdeal.nD → PrngReg), Pre_KernelOutProjIdeal m →
    (∀ c : Dev Cert.KernelOutProjIdeal.nD,
      m' ((c.tc : Thread Cert.ReferenceOutProjIdeal.nD Cert.ReferenceOutProjIdeal.τ).loc Cert.ReferenceOutProjIdeal.main_arg0) = m ((c.tc : Thread Cert.KernelOutProjIdeal.nD Cert.KernelOutProjIdeal.τ).loc Cert.KernelOutProjIdeal.main_arg0)
      ∧ m' ((c.tc : Thread Cert.ReferenceOutProjIdeal.nD Cert.ReferenceOutProjIdeal.τ).loc Cert.ReferenceOutProjIdeal.main_arg1) = m ((c.tc : Thread Cert.KernelOutProjIdeal.nD Cert.KernelOutProjIdeal.τ).loc Cert.KernelOutProjIdeal.main_arg1)
      ∧ m' ((c.tc : Thread Cert.ReferenceOutProjIdeal.nD Cert.ReferenceOutProjIdeal.τ).loc Cert.ReferenceOutProjIdeal.main_arg2) = m ((c.tc : Thread Cert.KernelOutProjIdeal.nD Cert.KernelOutProjIdeal.τ).loc Cert.KernelOutProjIdeal.main_arg2)) →
    ∃ (v0 : (c : Dev Cert.KernelOutProjIdeal.nD) → Buf (Elt Ideal) ((c.tc : Thread Cert.KernelOutProjIdeal.nD Cert.KernelOutProjIdeal.τ).loc Cert.KernelOutProjIdeal.main_v0)),
      θ_run (Cert.KernelOutProjIdeal.defs (F := Ideal)) (onTc (τ := Cert.KernelOutProjIdeal.τ) (Cert.KernelOutProjIdeal.main (F := Ideal))) ⟨m, fun _ => 0, g⟩ (fun r => ∀ c : Dev Cert.KernelOutProjIdeal.nD,
          r.2.mem ((c.tc : Thread Cert.KernelOutProjIdeal.nD Cert.KernelOutProjIdeal.τ).loc Cert.KernelOutProjIdeal.main_v0) = v0 c
          ∧ r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
          ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
          ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2))
      ∧ θ_run (Cert.ReferenceOutProjIdeal.defs (F := Ideal)) (onTc (τ := Cert.ReferenceOutProjIdeal.τ) (Cert.ReferenceOutProjIdeal.main (F := Ideal))) ⟨m', fun _ => 0, g'⟩ (fun r => ∀ c : Dev Cert.ReferenceOutProjIdeal.nD,
          r.2.mem ((c.tc : Thread Cert.ReferenceOutProjIdeal.nD Cert.ReferenceOutProjIdeal.τ).loc Cert.ReferenceOutProjIdeal.main_v3) = v0 c
          ∧ r.2.mem ((c.tc : Thread Cert.ReferenceOutProjIdeal.nD Cert.ReferenceOutProjIdeal.τ).loc Cert.ReferenceOutProjIdeal.main_arg0) = m' ((c.tc : Thread Cert.ReferenceOutProjIdeal.nD Cert.ReferenceOutProjIdeal.τ).loc Cert.ReferenceOutProjIdeal.main_arg0)
          ∧ r.2.mem ((c.tc : Thread Cert.ReferenceOutProjIdeal.nD Cert.ReferenceOutProjIdeal.τ).loc Cert.ReferenceOutProjIdeal.main_arg1) = m' ((c.tc : Thread Cert.ReferenceOutProjIdeal.nD Cert.ReferenceOutProjIdeal.τ).loc Cert.ReferenceOutProjIdeal.main_arg1)
          ∧ r.2.mem ((c.tc : Thread Cert.ReferenceOutProjIdeal.nD Cert.ReferenceOutProjIdeal.τ).loc Cert.ReferenceOutProjIdeal.main_arg2) = m' ((c.tc : Thread Cert.ReferenceOutProjIdeal.nD Cert.ReferenceOutProjIdeal.τ).loc Cert.ReferenceOutProjIdeal.main_arg2))

def preserves_KernelDownProj_KernelDownProjIdeal : Prop :=
  True

def algebraic_KernelDownProjIdeal_ReferenceDownProjIdeal [hKernelDownProjIdeal : Cert.KernelDownProjIdeal.Facts] [hReferenceDownProjIdeal : Cert.ReferenceDownProjIdeal.Facts] : Prop :=
  ∀ (m : (ℓ : Loc Cert.KernelDownProjIdeal.nD Cert.KernelDownProjIdeal.τ Cert.KernelDownProjIdeal.sig) → Buf (Elt Ideal) ℓ) (g : Dev Cert.KernelDownProjIdeal.nD → PrngReg)
    (m' : (ℓ : Loc Cert.ReferenceDownProjIdeal.nD Cert.ReferenceDownProjIdeal.τ Cert.ReferenceDownProjIdeal.sig) → Buf (Elt Ideal) ℓ) (g' : Dev Cert.ReferenceDownProjIdeal.nD → PrngReg), Pre_KernelDownProjIdeal m →
    (∀ c : Dev Cert.KernelDownProjIdeal.nD,
      m' ((c.tc : Thread Cert.ReferenceDownProjIdeal.nD Cert.ReferenceDownProjIdeal.τ).loc Cert.ReferenceDownProjIdeal.main_arg0) = m ((c.tc : Thread Cert.KernelDownProjIdeal.nD Cert.KernelDownProjIdeal.τ).loc Cert.KernelDownProjIdeal.main_arg0)
      ∧ m' ((c.tc : Thread Cert.ReferenceDownProjIdeal.nD Cert.ReferenceDownProjIdeal.τ).loc Cert.ReferenceDownProjIdeal.main_arg1) = m ((c.tc : Thread Cert.KernelDownProjIdeal.nD Cert.KernelDownProjIdeal.τ).loc Cert.KernelDownProjIdeal.main_arg1)
      ∧ m' ((c.tc : Thread Cert.ReferenceDownProjIdeal.nD Cert.ReferenceDownProjIdeal.τ).loc Cert.ReferenceDownProjIdeal.main_arg2) = m ((c.tc : Thread Cert.KernelDownProjIdeal.nD Cert.KernelDownProjIdeal.τ).loc Cert.KernelDownProjIdeal.main_arg2)) →
    ∃ (v0 : (c : Dev Cert.KernelDownProjIdeal.nD) → Buf (Elt Ideal) ((c.tc : Thread Cert.KernelDownProjIdeal.nD Cert.KernelDownProjIdeal.τ).loc Cert.KernelDownProjIdeal.main_v0)),
      θ_run (Cert.KernelDownProjIdeal.defs (F := Ideal)) (onTc (τ := Cert.KernelDownProjIdeal.τ) (Cert.KernelDownProjIdeal.main (F := Ideal))) ⟨m, fun _ => 0, g⟩ (fun r => ∀ c : Dev Cert.KernelDownProjIdeal.nD,
          r.2.mem ((c.tc : Thread Cert.KernelDownProjIdeal.nD Cert.KernelDownProjIdeal.τ).loc Cert.KernelDownProjIdeal.main_v0) = v0 c
          ∧ r.2.mem ((c.tc : Thread Cert.KernelDownProjIdeal.nD Cert.KernelDownProjIdeal.τ).loc Cert.KernelDownProjIdeal.main_arg0) = m ((c.tc : Thread Cert.KernelDownProjIdeal.nD Cert.KernelDownProjIdeal.τ).loc Cert.KernelDownProjIdeal.main_arg0)
          ∧ r.2.mem ((c.tc : Thread Cert.KernelDownProjIdeal.nD Cert.KernelDownProjIdeal.τ).loc Cert.KernelDownProjIdeal.main_arg1) = m ((c.tc : Thread Cert.KernelDownProjIdeal.nD Cert.KernelDownProjIdeal.τ).loc Cert.KernelDownProjIdeal.main_arg1)
          ∧ r.2.mem ((c.tc : Thread Cert.KernelDownProjIdeal.nD Cert.KernelDownProjIdeal.τ).loc Cert.KernelDownProjIdeal.main_arg2) = m ((c.tc : Thread Cert.KernelDownProjIdeal.nD Cert.KernelDownProjIdeal.τ).loc Cert.KernelDownProjIdeal.main_arg2))
      ∧ θ_run (Cert.ReferenceDownProjIdeal.defs (F := Ideal)) (onTc (τ := Cert.ReferenceDownProjIdeal.τ) (Cert.ReferenceDownProjIdeal.main (F := Ideal))) ⟨m', fun _ => 0, g'⟩ (fun r => ∀ c : Dev Cert.ReferenceDownProjIdeal.nD,
          r.2.mem ((c.tc : Thread Cert.ReferenceDownProjIdeal.nD Cert.ReferenceDownProjIdeal.τ).loc Cert.ReferenceDownProjIdeal.main_v3) = v0 c
          ∧ r.2.mem ((c.tc : Thread Cert.ReferenceDownProjIdeal.nD Cert.ReferenceDownProjIdeal.τ).loc Cert.ReferenceDownProjIdeal.main_arg0) = m' ((c.tc : Thread Cert.ReferenceDownProjIdeal.nD Cert.ReferenceDownProjIdeal.τ).loc Cert.ReferenceDownProjIdeal.main_arg0)
          ∧ r.2.mem ((c.tc : Thread Cert.ReferenceDownProjIdeal.nD Cert.ReferenceDownProjIdeal.τ).loc Cert.ReferenceDownProjIdeal.main_arg1) = m' ((c.tc : Thread Cert.ReferenceDownProjIdeal.nD Cert.ReferenceDownProjIdeal.τ).loc Cert.ReferenceDownProjIdeal.main_arg1)
          ∧ r.2.mem ((c.tc : Thread Cert.ReferenceDownProjIdeal.nD Cert.ReferenceDownProjIdeal.τ).loc Cert.ReferenceDownProjIdeal.main_arg2) = m' ((c.tc : Thread Cert.ReferenceDownProjIdeal.nD Cert.ReferenceDownProjIdeal.τ).loc Cert.ReferenceDownProjIdeal.main_arg2))

def preserves_KernelDIn_KernelDInIdeal : Prop :=
  True

def algebraic_KernelDInIdeal_ReferenceDInIdeal [hKernelDInIdeal : Cert.KernelDInIdeal.Facts] [hReferenceDInIdeal : Cert.ReferenceDInIdeal.Facts] : Prop :=
  ∀ (m : (ℓ : Loc Cert.KernelDInIdeal.nD Cert.KernelDInIdeal.τ Cert.KernelDInIdeal.sig) → Buf (Elt Ideal) ℓ) (g : Dev Cert.KernelDInIdeal.nD → PrngReg)
    (m' : (ℓ : Loc Cert.ReferenceDInIdeal.nD Cert.ReferenceDInIdeal.τ Cert.ReferenceDInIdeal.sig) → Buf (Elt Ideal) ℓ) (g' : Dev Cert.ReferenceDInIdeal.nD → PrngReg), Pre_KernelDInIdeal m →
    (∀ c : Dev Cert.KernelDInIdeal.nD,
      m' ((c.tc : Thread Cert.ReferenceDInIdeal.nD Cert.ReferenceDInIdeal.τ).loc Cert.ReferenceDInIdeal.main_arg0) = m ((c.tc : Thread Cert.KernelDInIdeal.nD Cert.KernelDInIdeal.τ).loc Cert.KernelDInIdeal.main_arg0)
      ∧ m' ((c.tc : Thread Cert.ReferenceDInIdeal.nD Cert.ReferenceDInIdeal.τ).loc Cert.ReferenceDInIdeal.main_arg1) = m ((c.tc : Thread Cert.KernelDInIdeal.nD Cert.KernelDInIdeal.τ).loc Cert.KernelDInIdeal.main_arg1)) →
    ∃ (v0 : (c : Dev Cert.KernelDInIdeal.nD) → Buf (Elt Ideal) ((c.tc : Thread Cert.KernelDInIdeal.nD Cert.KernelDInIdeal.τ).loc Cert.KernelDInIdeal.main_v0)),
      θ_run (Cert.KernelDInIdeal.defs (F := Ideal)) (onTc (τ := Cert.KernelDInIdeal.τ) (Cert.KernelDInIdeal.main (F := Ideal))) ⟨m, fun _ => 0, g⟩ (fun r => ∀ c : Dev Cert.KernelDInIdeal.nD,
          r.2.mem ((c.tc : Thread Cert.KernelDInIdeal.nD Cert.KernelDInIdeal.τ).loc Cert.KernelDInIdeal.main_v0) = v0 c
          ∧ r.2.mem ((c.tc : Thread Cert.KernelDInIdeal.nD Cert.KernelDInIdeal.τ).loc Cert.KernelDInIdeal.main_arg0) = m ((c.tc : Thread Cert.KernelDInIdeal.nD Cert.KernelDInIdeal.τ).loc Cert.KernelDInIdeal.main_arg0)
          ∧ r.2.mem ((c.tc : Thread Cert.KernelDInIdeal.nD Cert.KernelDInIdeal.τ).loc Cert.KernelDInIdeal.main_arg1) = m ((c.tc : Thread Cert.KernelDInIdeal.nD Cert.KernelDInIdeal.τ).loc Cert.KernelDInIdeal.main_arg1))
      ∧ θ_run (Cert.ReferenceDInIdeal.defs (F := Ideal)) (onTc (τ := Cert.ReferenceDInIdeal.τ) (Cert.ReferenceDInIdeal.main (F := Ideal))) ⟨m', fun _ => 0, g'⟩ (fun r => ∀ c : Dev Cert.ReferenceDInIdeal.nD,
          r.2.mem ((c.tc : Thread Cert.ReferenceDInIdeal.nD Cert.ReferenceDInIdeal.τ).loc Cert.ReferenceDInIdeal.main_v4) = v0 c
          ∧ r.2.mem ((c.tc : Thread Cert.ReferenceDInIdeal.nD Cert.ReferenceDInIdeal.τ).loc Cert.ReferenceDInIdeal.main_arg0) = m' ((c.tc : Thread Cert.ReferenceDInIdeal.nD Cert.ReferenceDInIdeal.τ).loc Cert.ReferenceDInIdeal.main_arg0)
          ∧ r.2.mem ((c.tc : Thread Cert.ReferenceDInIdeal.nD Cert.ReferenceDInIdeal.τ).loc Cert.ReferenceDInIdeal.main_arg1) = m' ((c.tc : Thread Cert.ReferenceDInIdeal.nD Cert.ReferenceDInIdeal.τ).loc Cert.ReferenceDInIdeal.main_arg1))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)) →
    ∃ (v0 : (c : Dev Cert.KernelDwInIdeal.nD) → Buf (Elt Ideal) ((c.tc : Thread Cert.KernelDwInIdeal.nD Cert.KernelDwInIdeal.τ).loc Cert.KernelDwInIdeal.main_v0)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v0) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v6) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelAct : Cert.KernelAct.Facts) (hKernelActIdeal : Cert.KernelActIdeal.Facts) (hReferenceActIdeal : Cert.ReferenceActIdeal.Facts) (hKernelG : Cert.KernelG.Facts) (hKernelGIdeal : Cert.KernelGIdeal.Facts) (hReferenceGIdeal : Cert.ReferenceGIdeal.Facts) (hKernelS : Cert.KernelS.Facts) (hKernelSIdeal : Cert.KernelSIdeal.Facts) (hReferenceSIdeal : Cert.ReferenceSIdeal.Facts) (hKernelDwOut : Cert.KernelDwOut.Facts) (hKernelDwOutIdeal : Cert.KernelDwOutIdeal.Facts) (hReferenceDwOutIdeal : Cert.ReferenceDwOutIdeal.Facts) (hKernelDMixed : Cert.KernelDMixed.Facts) (hKernelDMixedIdeal : Cert.KernelDMixedIdeal.Facts) (hReferenceDMixedIdeal : Cert.ReferenceDMixedIdeal.Facts) (hKernelOutProj : Cert.KernelOutProj.Facts) (hKernelOutProjIdeal : Cert.KernelOutProjIdeal.Facts) (hReferenceOutProjIdeal : Cert.ReferenceOutProjIdeal.Facts) (hKernelDownProj : Cert.KernelDownProj.Facts) (hKernelDownProjIdeal : Cert.KernelDownProjIdeal.Facts) (hReferenceDownProjIdeal : Cert.ReferenceDownProjIdeal.Facts) (hKernelDIn : Cert.KernelDIn.Facts) (hKernelDInIdeal : Cert.KernelDInIdeal.Facts) (hReferenceDInIdeal : Cert.ReferenceDInIdeal.Facts) (hKernelDwIn : Cert.KernelDwIn.Facts) (hKernelDwInIdeal : Cert.KernelDwInIdeal.Facts) (hReferenceDwInIdeal : Cert.ReferenceDwInIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelS (hKernelS := hKernelS)
    ∧ quiescent_KernelSIdeal (hKernelSIdeal := hKernelSIdeal)
    ∧ quiescent_ReferenceSIdeal (hReferenceSIdeal := hReferenceSIdeal)
    ∧ quiescent_KernelDwOut (hKernelDwOut := hKernelDwOut)
    ∧ quiescent_KernelDwOutIdeal (hKernelDwOutIdeal := hKernelDwOutIdeal)
    ∧ quiescent_ReferenceDwOutIdeal (hReferenceDwOutIdeal := hReferenceDwOutIdeal)
    ∧ quiescent_KernelDMixed (hKernelDMixed := hKernelDMixed)
    ∧ quiescent_KernelDMixedIdeal (hKernelDMixedIdeal := hKernelDMixedIdeal)
    ∧ quiescent_ReferenceDMixedIdeal (hReferenceDMixedIdeal := hReferenceDMixedIdeal)
    ∧ quiescent_KernelOutProj (hKernelOutProj := hKernelOutProj)
    ∧ quiescent_KernelOutProjIdeal (hKernelOutProjIdeal := hKernelOutProjIdeal)
    ∧ quiescent_ReferenceOutProjIdeal (hReferenceOutProjIdeal := hReferenceOutProjIdeal)
    ∧ quiescent_KernelDownProj (hKernelDownProj := hKernelDownProj)
    ∧ quiescent_KernelDownProjIdeal (hKernelDownProjIdeal := hKernelDownProjIdeal)
    ∧ quiescent_ReferenceDownProjIdeal (hReferenceDownProjIdeal := hReferenceDownProjIdeal)
    ∧ quiescent_KernelDIn (hKernelDIn := hKernelDIn)
    ∧ quiescent_KernelDInIdeal (hKernelDInIdeal := hKernelDInIdeal)
    ∧ quiescent_ReferenceDInIdeal (hReferenceDInIdeal := hReferenceDInIdeal)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelAct_KernelActIdeal
    ∧ algebraic_KernelActIdeal_ReferenceActIdeal (hKernelActIdeal := hKernelActIdeal) (hReferenceActIdeal := hReferenceActIdeal)
    ∧ preserves_KernelG_KernelGIdeal
    ∧ algebraic_KernelGIdeal_ReferenceGIdeal (hKernelGIdeal := hKernelGIdeal) (hReferenceGIdeal := hReferenceGIdeal)
    ∧ preserves_KernelS_KernelSIdeal
    ∧ algebraic_KernelSIdeal_ReferenceSIdeal (hKernelSIdeal := hKernelSIdeal) (hReferenceSIdeal := hReferenceSIdeal)
    ∧ preserves_KernelDwOut_KernelDwOutIdeal
    ∧ algebraic_KernelDwOutIdeal_ReferenceDwOutIdeal (hKernelDwOutIdeal := hKernelDwOutIdeal) (hReferenceDwOutIdeal := hReferenceDwOutIdeal)
    ∧ preserves_KernelDMixed_KernelDMixedIdeal
    ∧ algebraic_KernelDMixedIdeal_ReferenceDMixedIdeal (hKernelDMixedIdeal := hKernelDMixedIdeal) (hReferenceDMixedIdeal := hReferenceDMixedIdeal)
    ∧ preserves_KernelOutProj_KernelOutProjIdeal
    ∧ algebraic_KernelOutProjIdeal_ReferenceOutProjIdeal (hKernelOutProjIdeal := hKernelOutProjIdeal) (hReferenceOutProjIdeal := hReferenceOutProjIdeal)
    ∧ preserves_KernelDownProj_KernelDownProjIdeal
    ∧ algebraic_KernelDownProjIdeal_ReferenceDownProjIdeal (hKernelDownProjIdeal := hKernelDownProjIdeal) (hReferenceDownProjIdeal := hReferenceDownProjIdeal)
    ∧ preserves_KernelDIn_KernelDInIdeal
    ∧ algebraic_KernelDInIdeal_ReferenceDInIdeal (hKernelDInIdeal := hKernelDInIdeal) (hReferenceDInIdeal := hReferenceDInIdeal)
    ∧ preserves_KernelDwIn_KernelDwInIdeal
    ∧ algebraic_KernelDwInIdeal_ReferenceDwInIdeal (hKernelDwInIdeal := hKernelDwInIdeal) (hReferenceDwInIdeal := hReferenceDwInIdeal)
-- ==== Pre_finite.lean ====
abbrev S4x2048x4128 : Shape := ⟨3, ![4, 2048, 4128]⟩
abbrev S16x128x384 : Shape := ⟨3, ![16, 128, 384]⟩
abbrev S16 : Shape := ⟨1, ![16]⟩
abbrev S4x2048x2048 : Shape := ⟨3, ![4, 2048, 2048]⟩
abbrev S_ : Shape := ⟨0, ![]⟩

class Facts : Prop where
  bitsLt_bf16_f32 : FTy.bits .bf16 < FTy.bits .f32
  bcast_S_S4x2048x4128 : S_.BroadcastsInDim S4x2048x4128 (![] : Fin 0 → Fin S4x2048x4128.rank)
  bcast_S_S16x128x384 : S_.BroadcastsInDim S16x128x384 (![] : Fin 0 → Fin S16x128x384.rank)
  bcast_S_S16 : S_.BroadcastsInDim S16 (![] : Fin 0 → Fin S16.rank)
  bcast_S_S4x2048x2048 : S_.BroadcastsInDim S4x2048x2048 (![] : Fin 0 → Fin S4x2048x2048.rank)

variable [Facts]

def fn {F : FTy → Type} [FloatOps F] (main_arg0 : FVec F S4x2048x4128 .f32) (main_arg1 : FVec F S16x128x384 .f32) (main_arg2 : FVec F S16 .f32) (main_arg3 : FVec F S4x2048x2048 .bf16) : IVec S4x2048x4128 1 × IVec S16x128x384 1 × IVec S16 1 × IVec S4x2048x2048 1 :=
  let main_v0 : FVec F S4x2048x2048 .f32 := (extf .f32 · bitsLt_bf16_f32) main_arg3
  let main_v1 : FVec F S4x2048x4128 .f32 := Host.absf main_arg0
  let main_cst : FVec F S_ .f32 := constant S_ .f32 0x7F800000#32
  let main_v2 : FVec F S4x2048x4128 .f32 := broadcastInDim S4x2048x4128 ![] bcast_S_S4x2048x4128 main_cst
  let main_v3 : IVec S4x2048x4128 1 := cmpf .olt main_v1 main_v2
  let main_v4 : FVec F S16x128x384 .f32 := Host.absf main_arg1
  let main_cst_0 : FVec F S_ .f32 := constant S_ .f32 0x7F800000#32
  let main_v5 : FVec F S16x128x384 .f32 := broadcastInDim S16x128x384 ![] bcast_S_S16x128x384 main_cst_0
  let main_v6 : IVec S16x128x384 1 := cmpf .olt main_v4 main_v5
  let main_v7 : FVec F S16 .f32 := Host.absf main_arg2
  let main_cst_1 : FVec F S_ .f32 := constant S_ .f32 0x7F800000#32
  let main_v8 : FVec F S16 .f32 := broadcastInDim S16 ![] bcast_S_S16 main_cst_1
  let main_v9 : IVec S16 1 := cmpf .olt main_v7 main_v8
  let main_v10 : FVec F S4x2048x2048 .f32 := Host.absf main_v0
  let main_cst_2 : FVec F S_ .f32 := constant S_ .f32 0x7F800000#32
  let main_v11 : FVec F S4x2048x2048 .f32 := broadcastInDim S4x2048x2048 ![] bcast_S_S4x2048x2048 main_cst_2
  let main_v12 : IVec S4x2048x2048 1 := cmpf .olt main_v10 main_v11
  (main_v3, main_v6, main_v9, main_v12)
-- ==== Kernel.lean ====
abbrev S4x2048x4128 : Shape := ⟨3, ![4, 2048, 4128]⟩
abbrev S16x128x384 : Shape := ⟨3, ![16, 128, 384]⟩
abbrev S16 : Shape := ⟨1, ![16]⟩
abbrev S4x2048x2048 : Shape := ⟨3, ![4, 2048, 2048]⟩
abbrev S128x384 : Shape := ⟨2, ![128, 384]⟩
abbrev S_ : Shape := ⟨0, ![]⟩
abbrev S16x128 : Shape := ⟨2, ![16, 128]⟩
abbrev S2048 : Shape := ⟨1, ![2048]⟩
abbrev S2048x1 : Shape := ⟨2, ![2048, 1]⟩
abbrev S4x2048x1024 : Shape := ⟨3, ![4, 2048, 1024]⟩
abbrev S4x2048x1536 : Shape := ⟨3, ![4, 2048, 1536]⟩
abbrev S4x2048x32 : Shape := ⟨3, ![4, 2048, 32]⟩
abbrev S4x2048x256 : Shape := ⟨3, ![4, 2048, 256]⟩
abbrev S4x2048x96 : Shape := ⟨3, ![4, 2048, 96]⟩
abbrev S4x2048x4224 : Shape := ⟨3, ![4, 2048, 4224]⟩
abbrev S1x128x1024 : Shape := ⟨3, ![1, 128, 1024]⟩
abbrev S1x128x256 : Shape := ⟨3, ![1, 128, 256]⟩
abbrev S1x2048x256 : Shape := ⟨3, ![1, 2048, 256]⟩
abbrev S1x384 : Shape := ⟨2, ![1, 384]⟩
abbrev S128x256 : Shape := ⟨2, ![128, 256]⟩
abbrev S384x256 : Shape := ⟨2, ![384, 256]⟩
abbrev S384x128 : Shape := ⟨2, ![384, 128]⟩
abbrev S1x128 : Shape := ⟨2, ![1, 128]⟩
abbrev S128x128 : Shape := ⟨2, ![128, 128]⟩
abbrev S512x128 : Shape := ⟨2, ![512, 128]⟩
abbrev S512x384 : Shape := ⟨2, ![512, 384]⟩
abbrev S4x128x384 : Shape := ⟨3, ![4, 128, 384]⟩
abbrev S512x1 : Shape := ⟨2, ![512, 1]⟩
abbrev S512 : Shape := ⟨1, ![512]⟩
abbrev S1x128x128 : Shape := ⟨3, ![1, 128, 128]⟩

abbrev nBuf : Space → Nat
  | .hbm => 39
  | .vmem => 26
  | .smem => 0
  | _ => 0

abbrev bufTy : (tb : Table) → Fin (tcTables nBuf tb) → BufTy
  | .hbm, ⟨0, _⟩ => ⟨S4x2048x4128, .f32⟩
  | .hbm, ⟨1, _⟩ => ⟨S16x128x384, .f32⟩
  | .hbm, ⟨2, _⟩ => ⟨S16, .f32⟩
  | .hbm, ⟨3, _⟩ => ⟨S4x2048x2048, .bf16⟩
  | .hbm, ⟨4, _⟩ => ⟨S128x384, .i32⟩
  | .hbm, ⟨5, _⟩ => ⟨S_, .i32⟩
  | .hbm, ⟨6, _⟩ => ⟨S128x384, .i32⟩
  | .hbm, ⟨7, _⟩ => ⟨S128x384, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S_, .i32⟩
  | .hbm, ⟨12, _⟩ => ⟨S128x384, .i32⟩
  | .hbm, ⟨13, _⟩ => ⟨S128x384, .i1⟩
  | .hbm, ⟨14, _⟩ => ⟨S_, .f32⟩
  | .hbm, ⟨15, _⟩ => ⟨S_, .f32⟩
  | .hbm, ⟨16, _⟩ => ⟨S16x128x384, .i1⟩
  | .hbm, ⟨17, _⟩ => ⟨S16x128x384, .f32⟩
  | .hbm, ⟨18, _⟩ => ⟨S16x128x384, .f32⟩
  | .hbm, ⟨19, _⟩ => ⟨S16x128, .f32⟩
  | .hbm, ⟨20, _⟩ => ⟨S2048, .f32⟩
  | .hbm, ⟨21, _⟩ => ⟨S2048x1, .f32⟩
  | .hbm, ⟨22, _⟩ => ⟨S4x2048x1024, .f32⟩
  | .hbm, ⟨23, _⟩ => ⟨S4x2048x1536, .f32⟩
  | .hbm, ⟨24, _⟩ => ⟨S4x2048x32, .f32⟩
  | .hbm, ⟨25, _⟩ => ⟨S4x2048x1024, .f32⟩
  | .hbm, ⟨26, _⟩ => ⟨S4x2048x256, .f32⟩
  | .hbm, ⟨27, _⟩ => ⟨S4x2048x256, .f32⟩
  | .hbm, ⟨28, _⟩ => ⟨S_, .f32⟩
  | .hbm, ⟨29, _⟩ => ⟨S4x2048x96, .f32⟩
  | .hbm, ⟨30, _⟩ => ⟨S4x2048x4224, .f32⟩
  | .hbm, ⟨31, _⟩ => ⟨S4x2048x1024, .bf16⟩
  | .hbm, ⟨32, _⟩ => ⟨S4x2048x256, .f32⟩
  | .hbm, ⟨33, _⟩ => ⟨S4x2048x256, .f32⟩
  | .hbm, ⟨34, _⟩ => ⟨S16x128x384, .f32⟩
  | .hbm, ⟨35, _⟩ => ⟨S2048x1, .f32⟩
  | .hbm, ⟨36, _⟩ => ⟨S16x128, .f32⟩
  | .hbm, ⟨37, _⟩ => ⟨S_, .f32⟩
  | .hbm, ⟨38, _⟩ => ⟨S16, .f32⟩
  | .local _ .vmem, ⟨0, _⟩ => ⟨S1x128x1024, .f32⟩
  | .local _ .vmem, ⟨1, _⟩ => ⟨S1x128x1024, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S16x128x384, .f32⟩
  | .local _ .vmem, ⟨15, _⟩ => ⟨S2048x1, .f32⟩
  | .local _ .vmem, ⟨16, _⟩ => ⟨S1x128x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x2048x256, .f32⟩
  | .local _ .vmem, ⟨21, _⟩ => ⟨S1x2048x256, .f32⟩
  | .local _ .vmem, ⟨22, _⟩ => ⟨S1x2048x256, .f32⟩
  | .local _ .vmem, ⟨23, _⟩ => ⟨S1x2048x256, .f32⟩
  | .local _ .vmem, ⟨24, _⟩ => ⟨S16x128x384, .f32⟩
  | .local _ .vmem, ⟨25, _⟩ => ⟨S2048x1, .f32⟩
  | _, _ => ⟨S4x2048x4128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c15_i32 : BitVec 32 := 15#32
  let c0_i32_24 : BitVec 32 := 0#32
  let arg1 : BitVec 32 := BitVec.ofNat 32 (i 1).val
  let c_m1_i32 : BitVec 32 := 4294967295#32
  let v35 : BitVec 32 := Scalar.addi arg1 c_m1_i32
  let v36 : BitVec 32 := Scalar.maxsi c0_i32_24 v35
  let v37 : BitVec 32 := Scalar.minsi c15_i32 v36
  let c128_i32_25 : BitVec 32 := 128#32
  let v38 : BitVec 32 := Scalar.muli v37 c128_i32_25
  v38
def k0_mult2 (i : grid0.Coords) : BitVec 32 :=
  let c15_i32_28 : BitVec 32 := 15#32
  let c0_i32_27 : BitVec 32 := 0#32
  let arg1 : BitVec 32 := BitVec.ofNat 32 (i 1).val
  let c0_i32_26 : BitVec 32 := 0#32
  let v40 : BitVec 32 := Scalar.addi arg1 c0_i32_26
  let v41 : BitVec 32 := Scalar.maxsi c0_i32_27 v40
  let v42 : BitVec 32 := Scalar.minsi c15_i32_28 v41
  let c128_i32_29 : BitVec 32 := 128#32
  let v43 : BitVec 32 := Scalar.muli v42 c128_i32_29
  v43
def k0_mult3 (i : grid0.Coords) : BitVec 32 :=
  let c15_i32_31 : BitVec 32 := 15#32
  let c0_i32_30 : BitVec 32 := 0#32
  let arg1 : BitVec 32 := BitVec.ofNat 32 (i 1).val
  let c1_i32 : BitVec 32 := 1#32
  let v45 : BitVec 32 := Scalar.addi arg1 c1_i32
  let v46 : BitVec 32 := Scalar.maxsi c0_i32_30 v45
  let v47 : BitVec 32 := Scalar.minsi c15_i32_31 v46
  let c128_i32_32 : BitVec 32 := 128#32
  let v48 : BitVec 32 := Scalar.muli v47 c128_i32_32
  v48
def k0_off1 (i : grid0.Coords) (c_m1_i32 : BitVec 32) : Fin 3 → Nat :=
  let c0_210 : Index := 0#32
  let c15_i32 : BitVec 32 := 15#32
  let c0_i32_24 : BitVec 32 := 0#32
  let arg1 : BitVec 32 := BitVec.ofNat 32 (i 1).val
  let v35 : BitVec 32 := Scalar.addi arg1 c_m1_i32
  let v36 : BitVec 32 := Scalar.maxsi c0_i32_24 v35
  let v37 : BitVec 32 := Scalar.minsi c15_i32 v36
  let c128_i32_25 : BitVec 32 := 128#32
  let v38 : BitVec 32 := Scalar.muli v37 c128_i32_25
  let v39 : BitVec 32 := v38
  let v559 : Index := Scalar.indexCast v39
  let c0_211 : Index := 0#32
  ![0, v559.toNat, 0]
def k0_off1_at (r : Fin 3) : BitVec 32 :=
  if r.val < 1 then
    4294967295#32
  else
    if r.val < 2 then
      0#32
    else
      1#32
def k0_off2 (i : grid0.Coords) (c_m1_i32 : BitVec 32) : Fin 3 → Nat :=
  let c0_286 : Index := 0#32
  let c15_i32 : BitVec 32 := 15#32
  let c0_i32_24 : BitVec 32 := 0#32
  let arg1 : BitVec 32 := BitVec.ofNat 32 (i 1).val
  let v35 : BitVec 32 := Scalar.addi arg1 c_m1_i32
  let v36 : BitVec 32 := Scalar.maxsi c0_i32_24 v35
  let v37 : BitVec 32 := Scalar.minsi c15_i32 v36
  let c128_i32_25 : BitVec 32 := 128#32
  let v38 : BitVec 32 := Scalar.muli v37 c128_i32_25
  let v39 : BitVec 32 := v38
  let v749 : Index := Scalar.indexCast v39
  let c128 : Index := 128#32
  ![0, v749.toNat, 128]
def k0_off2_at (r : Fin 3) : BitVec 32 :=
  if r.val < 1 then
    4294967295#32
  else
    if r.val < 2 then
      0#32
    else
      1#32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c14_i32 : BitVec 32 := 14#32
  let c0_i32_0 : BitVec 32 := 0#32
  ![arg0.toNat, v2.toNat, c14_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c14_i32 : BitVec 32 := 14#32
  let c0_i32_1 : BitVec 32 := 0#32
  ![arg0.toNat, v2.toNat, c14_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c14_i32 : BitVec 32 := 14#32
  let c0_i32_0 : BitVec 32 := 0#32
  ![arg0.toNat, v2.toNat, c14_i32.toNat]

def cc0_transform_4 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c15_i32_0 : BitVec 32 := 15#32
  let c0_i32_1 : BitVec 32 := 0#32
  ![arg0.toNat, v2.toNat, c15_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c15_i32_1 : BitVec 32 := 15#32
  let c0_i32_2 : BitVec 32 := 0#32
  ![arg0.toNat, v2.toNat, c15_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c15_i32_0 : BitVec 32 := 15#32
  let c0_i32_1 : BitVec 32 := 0#32
  ![arg0.toNat, v2.toNat, c15_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S16x128x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S4x2048x4128 : Shape := ⟨3, ![4, 2048, 4128]⟩
abbrev S16x128x384 : Shape := ⟨3, ![16, 128, 384]⟩
abbrev S16 : Shape := ⟨1, ![16]⟩
abbrev S4x2048x2048 : Shape := ⟨3, ![4, 2048, 2048]⟩
abbrev S4x2048x1024 : Shape := ⟨3, ![4, 2048, 1024]⟩
abbrev S4x2048x256 : Shape := ⟨3, ![4, 2048, 256]⟩
abbrev S_ : Shape := ⟨0, ![]⟩
abbrev S4x128x16x64 : Shape := ⟨4, ![4, 128, 16, 64]⟩
abbrev S4x16x128x16x64 : Shape := ⟨5, ![4, 16, 128, 16, 64]⟩
abbrev S4x2048x4x64 : Shape := ⟨4, ![4, 2048, 4, 64]⟩
abbrev S4x2048x4x4x64 : Shape := ⟨5, ![4, 2048, 4, 4, 64]⟩
abbrev S4x2048x16x64 : Shape := ⟨4, ![4, 2048, 16, 64]⟩
abbrev S4x2304x16x64 : Shape := ⟨4, ![4, 2304, 16, 64]⟩
abbrev S4x18x128x16x64 : Shape := ⟨5, ![4, 18, 128, 16, 64]⟩
abbrev S4x16x384x16x64 : Shape := ⟨5, ![4, 16, 384, 16, 64]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x1x1 : Shape := ⟨3, ![16, 1, 1]⟩
abbrev S4x16x16x128x384 : Shape := ⟨5, ![4, 16, 16, 128, 384]⟩
abbrev S1x1x16x128x384 : Shape := ⟨5, ![1, 1, 16, 128, 384]⟩
abbrev S1x16x1x128x384 : Shape := ⟨5, ![1, 16, 1, 128, 384]⟩
abbrev S4x16x16x128 : Shape := ⟨4, ![4, 16, 16, 128]⟩
abbrev S4x16x16x128x1 : Shape := ⟨5, ![4, 16, 16, 128, 1]⟩
abbrev S1x1x16x1x1 : Shape := ⟨5, ![1, 1, 16, 1, 1]⟩
abbrev S4x16x16x64x128 : Shape := ⟨5, ![4, 16, 16, 64, 128]⟩
abbrev S4x16x16x64x384 : Shape := ⟨5, ![4, 16, 16, 64, 384]⟩
abbrev S4x16x16x384x64 : Shape := ⟨5, ![4, 16, 16, 384, 64]⟩
abbrev S4x16x16x128x64 : Shape := ⟨5, ![4, 16, 16, 128, 64]⟩

abbrev nBuf : Space → Nat
  | .hbm => 252
  | .vmem => 0
  | .smem => 0
  | _ => 0

abbrev hbmTy0_0 (i : Nat) : BufTy := match i % 128 with
  | 0 => ⟨S4x2048x4128, .f32⟩
  | 1 => ⟨S16x128x384, .f32⟩
  | 2 => ⟨S16, .f32⟩
  | 3 => ⟨S4x2048x2048, .bf16⟩
  | 4 => ⟨S4x2048x1024, .f32⟩
  | 5 => ⟨S4x2048x256, .f32⟩
  | 6 => ⟨S4x2048x256, .f32⟩
  | 7 => ⟨S_, .f32⟩
  | 8 => ⟨S4x128x16x64, .f32⟩
  | 9 => ⟨S4x16x128x16x64, .f32⟩
  | 10 => ⟨S4x2048x4x64, .f32⟩
  | 11 => ⟨S4x2048x4x4x64, .f32⟩
  | 12 => ⟨S4x2048x16x64, .f32⟩
  | 13 => ⟨S4x2304x16x64, .f32⟩
  | 14 => ⟨S_, .f32⟩
  | 15 => ⟨S4x128x16x64, .f32⟩
  | 16 => ⟨S_, .f32⟩
  | 17 => ⟨S4x128x16x64, .f32⟩
  | 18 => ⟨S4x18x128x16x64, .f32⟩
  | 19 => ⟨S4x16x128x16x64, .f32⟩
  | 20 => ⟨S4x16x128x16x64, .f32⟩
  | 21 => ⟨S4x16x128x16x64, .f32⟩
  | 22 => ⟨S4x16x384x16x64, .f32⟩
  | 23 => ⟨S4x2048x4x64, .f32⟩
  | 24 => ⟨S4x2048x4x4x64, .f32⟩
  | 25 => ⟨S4x2048x16x64, .f32⟩
  | 26 => ⟨S4x2304x16x64, .f32⟩
  | 27 => ⟨S_, .f32⟩
  | 28 => ⟨S4x128x16x64, .f32⟩
  | 29 => ⟨S_, .f32⟩
  | 30 => ⟨S4x128x16x64, .f32⟩
  | 31 => ⟨S4x18x128x16x64, .f32⟩
  | 32 => ⟨S4x16x128x16x64, .f32⟩
  | 33 => ⟨S4x16x128x16x64, .f32⟩
  | 34 => ⟨S4x16x128x16x64, .f32⟩
  | 35 => ⟨S4x16x384x16x64, .f32⟩
  | 36 => ⟨S384, .i32⟩
  | 37 => ⟨S1x384, .i32⟩
  | 38 => ⟨S_, .i32⟩
  | 39 => ⟨S1x384, .i32⟩
  | 40 => ⟨S1x384, .i32⟩
  | 41 => ⟨S128, .i32⟩
  | 42 => ⟨S128x1, .i32⟩
  | 43 => ⟨S128x384, .i32⟩
  | 44 => ⟨S128x384, .i32⟩
  | 45 => ⟨S128x384, .i32⟩
  | 46 => ⟨S16, .i32⟩
  | 47 => ⟨S16x1, .i32⟩
  | 48 => ⟨S_, .i32⟩
  | 49 => ⟨S16x1, .i32⟩
  | 50 => ⟨S16x1, .i32⟩
  | 51 => ⟨S_, .i32⟩
  | 52 => ⟨S16x1, .i32⟩
  | 53 => ⟨S16x1, .i32⟩
  | 54 => ⟨S384, .i32⟩
  | 55 => ⟨S1x384, .i32⟩
  | 56 => ⟨S16x384, .i32⟩
  | 57 => ⟨S16x384, .i32⟩
  | 58 => ⟨S16x384, .i32⟩
  | 59 => ⟨S128x384, .i32⟩
  | 60 => ⟨S_, .i32⟩
  | 61 => ⟨S128x384, .i32⟩
  | 62 => ⟨S128x384, .i1⟩
  | 63 => ⟨S1x128x384, .i1⟩
  | 64 => ⟨S_, .i32⟩
  | 65 => ⟨S16x384, .i32⟩
  | 66 => ⟨S16x384, .i1⟩
  | 67 => ⟨S_, .i32⟩
  | 68 => ⟨S16x384, .i32⟩
  | 69 => ⟨S16x384, .i1⟩
  | 70 => ⟨S16x384, .i1⟩
  | 71 => ⟨S16x1x384, .i1⟩
  | 72 => ⟨S16x128x384, .i1⟩
  | 73 => ⟨S16x128x384, .i1⟩
  | 74 => ⟨S16x128x384, .i1⟩
  | 75 => ⟨S16x1x1, .f32⟩
  | 76 => ⟨S4x16x16x128x384, .f32⟩
  | 77 => ⟨S_, .f32⟩
  | 78 => ⟨S4x16x16x128x384, .f32⟩
  | 79 => ⟨S4x16x16x128x384, .f32⟩
  | 80 => ⟨S1x1x16x128x384, .f32⟩
  | 81 => ⟨S4x16x16x128x384, .f32⟩
  | 82 => ⟨S4x16x16x128x384, .f32⟩
  | 83 => ⟨S1x16x1x128x384, .i1⟩
  | 84 => ⟨S_, .f32⟩
  | 85 => ⟨S_, .f32⟩
  | 86 => ⟨S4x16x16x128x384, .i1⟩
  | 87 => ⟨S4x16x16x128x384, .f32⟩
  | 88 => ⟨S4x16x16x128x384, .f32⟩
  | 89 => ⟨S_, .f32⟩
  | 90 => ⟨S4x16x16x128x384, .f32⟩
  | 91 => ⟨S_, .f32⟩
  | 92 => ⟨S4x16x16x128, .f32⟩
  | 93 => ⟨S4x16x16x128x1, .f32⟩
  | 94 => ⟨S4x16x16x128x384, .f32⟩
  | 95 => ⟨S4x16x16x128x384, .i1⟩
  | 96 => ⟨S4x16x16x128x384, .f32⟩
  | 97 => ⟨S_, .f32⟩
  | 98 => ⟨S4x16x16x128, .f32⟩
  | 99 => ⟨S4x16x16x128x1, .f32⟩
  | 100 => ⟨S1x1x16x1x1, .f32⟩
  | 101 => ⟨S4x16x16x128x1, .f32⟩
  | 102 => ⟨S4x16x16x128x1, .f32⟩
  | 103 => ⟨S4x16x16x128x1, .f32⟩
  | 104 => ⟨S4x16x16x128x1, .i1⟩
  | 105 => ⟨S4x16x16x128x1, .f32⟩
  | 106 => ⟨S4x16x16x128x1, .i1⟩
  | 107 => ⟨S_, .f32⟩
  | 108 => ⟨S4x16x16x128x1, .f32⟩
  | 109 => ⟨S_, .f32⟩
  | 110 => ⟨S4x16x16x128x1, .f32⟩
  | 111 => ⟨S_, .f32⟩
  | 112 => ⟨S4x16x16x128x1, .f32⟩
  | 113 => ⟨S4x16x16x128x1, .f32⟩
  | 114 => ⟨S4x16x16x128x1, .f32⟩
  | 115 => ⟨S4x16x16x128x1, .f32⟩
  | 116 => ⟨S4x16x16x128x1, .i1⟩
  | 117 => ⟨S4x16x16x128x1, .f32⟩
  | 118 => ⟨S4x16x16x128x1, .i1⟩
  | 119 => ⟨S_, .f32⟩
  | 120 => ⟨S4x16x16x128x1, .f32⟩
  | 121 => ⟨S_, .f32⟩
  | 122 => ⟨S4x16x16x128x1, .f32⟩
  | 123 => ⟨S_, .f32⟩
  | 124 => ⟨S4x16x16x128x1, .f32⟩
  | 125 => ⟨S4x16x16x128x1, .f32⟩
  | 126 => ⟨S4x16x16x128x1, .f32⟩
  | 127 => ⟨S4x16x16x128x384, .f32⟩
  | _ => ⟨S4x2048x4128, .f32⟩

abbrev hbmTy0_1 (i : Nat) : BufTy := match i % 128 with
  | 0 => ⟨S4x16x16x128x384, .f32⟩
  | 1 => ⟨S4x16x16x128x384, .f32⟩
  | 2 => ⟨S_, .f32⟩
  | 3 => ⟨S4x16x16x128, .f32⟩
  | 4 => ⟨S4x16x16x128x1, .f32⟩
  | 5 => ⟨S1x1x16x1x1, .f32⟩
  | 6 => ⟨S4x16x16x128x1, .f32⟩
  | 7 => ⟨S4x16x16x128x1, .f32⟩
  | 8 => ⟨S4x16x16x128x1, .f32⟩
  | 9 => ⟨S4x16x16x128x1, .f32⟩
  | 10 => ⟨S4x16x16x128x384, .f32⟩
  | 11 => ⟨S4x16x16x128x384, .f32⟩
  | 12 => ⟨S4x16x16x128x1, .f32⟩
  | 13 => ⟨S_, .f32⟩
  | 14 => ⟨S4x16x16x128x1, .f32⟩
  | 15 => ⟨S4x16x16x128x1, .f32⟩
  | 16 => ⟨S4x16x16x64x128, .f32⟩
  | 17 => ⟨S4x16x128x16x64, .f32⟩
  | 18 => ⟨S4x2048x1024, .f32⟩
  | 19 => ⟨S4x2048x1024, .bf16⟩
  | 20 => ⟨S4x2048x1024, .f32⟩
  | 21 => ⟨S4x16x128x16x64, .f32⟩
  | 22 => ⟨S4x16x16x64x128, .f32⟩
  | 23 => ⟨S4x16x16x128x384, .f32⟩
  | 24 => ⟨S4x16x16x64x384, .f32⟩
  | 25 => ⟨S4x16x384x16x64, .f32⟩
  | 26 => ⟨S4x16x16x128x384, .f32⟩
  | 27 => ⟨S4x16x16x128x384, .f32⟩
  | 28 => ⟨S4x16x16x128x384, .f32⟩
  | 29 => ⟨S_, .f32⟩
  | 30 => ⟨S4x16x16x128, .f32⟩
  | 31 => ⟨S4x16x16x128x1, .f32⟩
  | 32 => ⟨S4x16x16x128x1, .f32⟩
  | 33 => ⟨S4x16x16x128x384, .f32⟩
  | 34 => ⟨S4x16x16x128x384, .f32⟩
  | 35 => ⟨S4x16x16x128x1, .f32⟩
  | 36 => ⟨S_, .f32⟩
  | 37 => ⟨S16x1, .f32⟩
  | 38 => ⟨S1x1x16x1x1, .f32⟩
  | 39 => ⟨S4x16x16x128x1, .f32⟩
  | 40 => ⟨S_, .f32⟩
  | 41 => ⟨S16, .f32⟩
  | 42 => ⟨S16x1x1, .f32⟩
  | 43 => ⟨S_, .f32⟩
  | 44 => ⟨S4x16x16x128, .f32⟩
  | 45 => ⟨S4x16x16x128x384, .f32⟩
  | 46 => ⟨S4x16x16x128x384, .f32⟩
  | 47 => ⟨S4x16x16x128x384, .f32⟩
  | 48 => ⟨S4x16x16x128x384, .f32⟩
  | 49 => ⟨S_, .f32⟩
  | 50 => ⟨S4x16x16x128, .f32⟩
  | 51 => ⟨S4x16x16x128x1, .f32⟩
  | 52 => ⟨S4x16x16x128x1, .f32⟩
  | 53 => ⟨S4x16x16x128x1, .f32⟩
  | 54 => ⟨S_, .f32⟩
  | 55 => ⟨S16x1, .f32⟩
  | 56 => ⟨S1x1x16x1x1, .f32⟩
  | 57 => ⟨S4x16x16x128x1, .f32⟩
  | 58 => ⟨S_, .f32⟩
  | 59 => ⟨S16, .f32⟩
  | 60 => ⟨S16x1x1, .f32⟩
  | 61 => ⟨S16x1x1, .f32⟩
  | 62 => ⟨S_, .f32⟩
  | 63 => ⟨S4x16x16x128, .f32⟩
  | 64 => ⟨S4x16x16x128, .f32⟩
  | 65 => ⟨S4x16x16x128x384, .f32⟩
  | 66 => ⟨S4x16x16x128x384, .f32⟩
  | 67 => ⟨S4x16x16x128x384, .f32⟩
  | 68 => ⟨S_, .f32⟩
  | 69 => ⟨S4x16x16x128x384, .f32⟩
  | 70 => ⟨S4x16x16x128x384, .f32⟩
  | 71 => ⟨S_, .f32⟩
  | 72 => ⟨S16x128x384, .f32⟩
  | 73 => ⟨S1x1x16x128x384, .f32⟩
  | 74 => ⟨S_, .f32⟩
  | 75 => ⟨S16x128x384, .f32⟩
  | 76 => ⟨S_, .f32⟩
  | 77 => ⟨S4x16x16x128x384, .f32⟩
  | 78 => ⟨S4x16x16x128x384, .f32⟩
  | 79 => ⟨S4x16x16x384x64, .f32⟩
  | 80 => ⟨S4x16x384x16x64, .f32⟩
  | 81 => ⟨S4x16x16x128x64, .f32⟩
  | 82 => ⟨S4x16x128x16x64, .f32⟩
  | 83 => ⟨S16, .f32⟩
  | 84 => ⟨S4x16x128x16x64, .f32⟩
  | 85 => ⟨S4x16x128x16x64, .f32⟩
  | 86 => ⟨S4x16x128x16x64, .f32⟩
  | 87 => ⟨S_, .f32⟩
  | 88 => ⟨S4x18x128x16x64, .f32⟩
  | 89 => ⟨S_, .f32⟩
  | 90 => ⟨S4x18x128x16x64, .f32⟩
  | 91 => ⟨S4x18x128x16x64, .f32⟩
  | 92 => ⟨S_, .f32⟩
  | 93 => ⟨S4x18x128x16x64, .f32⟩
  | 94 => ⟨S4x18x128x16x64, .f32⟩
  | 95 => ⟨S4x2304x16x64, .f32⟩
  | 96 => ⟨S4x128x16x64, .f32⟩
  | 97 => ⟨S4x2048x16x64, .f32⟩
  | 98 => ⟨S4x128x16x64, .f32⟩
  | 99 => ⟨S4x2048x4x4x64, .f32⟩
  | 100 => ⟨S_, .f32⟩
  | 101 => ⟨S4x2048x4x64, .f32⟩
  | 102 => ⟨S4x2048x256, .f32⟩
  | 103 => ⟨S4x16x128x16x64, .f32⟩
  | 104 => ⟨S4x16x128x16x64, .f32⟩
  | 105 => ⟨S4x16x128x16x64, .f32⟩
  | 106 => ⟨S_, .f32⟩
  | 107 => ⟨S4x18x128x16x64, .f32⟩
  | 108 => ⟨S_, .f32⟩
  | 109 => ⟨S4x18x128x16x64, .f32⟩
  | 110 => ⟨S4x18x128x16x64, .f32⟩
  | 111 => ⟨S_, .f32⟩
  | 112 => ⟨S4x18x128x16x64, .f32⟩
  | 113 => ⟨S4x18x128x16x64, .f32⟩
  | 114 => ⟨S4x2304x16x64, .f32⟩
  | 115 => ⟨S4x128x16x64, .f32⟩
  | 116 => ⟨S4x2048x16x64, .f32⟩
  | 117 => ⟨S4x128x16x64, .f32⟩
  | 118 => ⟨S4x2048x4x4x64, .f32⟩
  | 119 => ⟨S_, .f32⟩
  | 120 => ⟨S4x2048x4x64, .f32⟩
  | 121 => ⟨S4x2048x256, .f32⟩
  | 122 => ⟨S4x2048x1024, .f32⟩
  | 123 => ⟨S4x2048x1024, .bf16⟩
  | _ => ⟨S4x2048x4128, .f32⟩

abbrev hbmTy (i : Nat) : BufTy := match i / 128 with
  | 0 => hbmTy0_0 i
  | 1 => hbmTy0_1 i
  | _ => ⟨S4x2048x4128, .f32⟩

abbrev bufTy : (tb : Table) → Fin (tcTables nBuf tb) → BufTy
  | .hbm, ⟨i, _⟩ => hbmTy i
  | _, _ => ⟨S4x2048x4128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_7 : Ref sig .tc := ⟨.hbm, 64, rfl⟩
abbrev main_v51 : Ref sig .tc := ⟨.hbm, 65, rfl⟩
abbrev main_v52 : Ref sig .tc := ⟨.hbm, 66, rfl⟩
abbrev main_c_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_10 : Ref sig .tc := ⟨.hbm, 84, rfl⟩
abbrev main_call0_v0 : Ref sig .tc := ⟨.hbm, 85, rfl⟩
abbrev main_v68_1 : Ref sig .tc := ⟨.hbm, 86, rfl⟩
abbrev main_call0_v2 : Ref sig .tc := ⟨.hbm, 87, rfl⟩
abbrev main_v68_0 : Ref sig .tc := ⟨.hbm, 88, rfl⟩
abbrev main_call0_cst : Ref sig .tc := ⟨.hbm, 89, rfl⟩
abbrev main_v68_2 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_13 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_cst_15 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_16 : Ref sig .tc := ⟨.hbm, 119, rfl⟩
abbrev main_v92 : Ref sig .tc := ⟨.hbm, 120, rfl⟩
abbrev main_cst_17 : Ref sig .tc := ⟨.hbm, 121, rfl⟩
abbrev main_v93 : Ref sig .tc := ⟨.hbm, 122, rfl⟩
abbrev main_cst_18 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_19 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_20 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_21 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_22 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_23 : Ref sig .tc := ⟨.hbm, 168, rfl⟩
abbrev main_v134 : Ref sig .tc := ⟨.hbm, 169, rfl⟩
abbrev main_v135 : Ref sig .tc := ⟨.hbm, 170, rfl⟩
abbrev main_cst_24 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_25 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_26 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_27 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_cst_28 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_call1_cst : Ref sig .tc := ⟨.hbm, 196, rfl⟩
abbrev main_call1_v0 : Ref sig .tc := ⟨.hbm, 197, rfl⟩
abbrev main_v156 : Ref sig .tc := ⟨.hbm, 198, rfl⟩
abbrev main_cst_29 : Ref sig .tc := ⟨.hbm, 199, rfl⟩
abbrev main_v157 : Ref sig .tc := ⟨.hbm, 200, rfl⟩
abbrev main_v158 : Ref sig .tc := ⟨.hbm, 201, rfl⟩
abbrev main_cst_30 : Ref sig .tc := ⟨.hbm, 202, rfl⟩
abbrev main_v159 : Ref sig .tc := ⟨.hbm, 203, rfl⟩
abbrev main_cst_31 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_cst_32 : Ref sig .tc := ⟨.hbm, 215, rfl⟩
abbrev main_v170 : Ref sig .tc := ⟨.hbm, 216, rfl⟩
abbrev main_cst_33 : Ref sig .tc := ⟨.hbm, 217, rfl⟩
abbrev main_v171 : Ref sig .tc := ⟨.hbm, 218, rfl⟩
abbrev main_v172 : Ref sig .tc := ⟨.hbm, 219, rfl⟩
abbrev main_cst_34 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_35 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_36 : Ref sig .tc := ⟨.hbm, 234, rfl⟩
abbrev main_v185 : Ref sig .tc := ⟨.hbm, 235, rfl⟩
abbrev main_cst_37 : Ref sig .tc := ⟨.hbm, 236, rfl⟩
abbrev main_v186 : Ref sig .tc := ⟨.hbm, 237, rfl⟩
abbrev main_v187 : Ref sig .tc := ⟨.hbm, 238, rfl⟩
abbrev main_cst_38 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_cst_39 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩

abbrev nD : Nat := 1
abbrev τ : Topo := Topo.v7x

variable {F : FTy → Type} [FloatOps F]
-- ==== KernelUp.lean ====
abbrev S8192x1024 : Shape := ⟨2, ![8192, 1024]⟩
abbrev S8192x2816 : Shape := ⟨2, ![8192, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelAct.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceActIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelG.lean ====
abbrev S8192x2816 : Shape := ⟨2, ![8192, 2816]⟩
abbrev S1024x5632 : Shape := ⟨2, ![1024, 5632]⟩
abbrev S1024x2816 : Shape := ⟨2, ![1024, 2816]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S1024x2816, .bf16⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGIdeal.lean ====
abbrev S8192x2816 : Shape := ⟨2, ![8192, 2816]⟩
abbrev S1024x5632 : Shape := ⟨2, ![1024, 5632]⟩
abbrev S_ : Shape := ⟨0, ![]⟩
abbrev S8192x1024 : Shape := ⟨2, ![8192, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x2816, .bf16⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelS.lean ====
abbrev S8192x2816 : Shape := ⟨2, ![8192, 2816]⟩
abbrev S1024x5632 : Shape := ⟨2, ![1024, 5632]⟩
abbrev S8192x1024 : Shape := ⟨2, ![8192, 1024]⟩
abbrev S1024x2816 : Shape := ⟨2, ![1024, 2816]⟩
abbrev S1024x1408 : Shape := ⟨2, ![1024, 1408]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S8192x1024, .f32⟩
  | .hbm, ⟨3, _⟩ => ⟨S1024x2816, .bf16⟩
  | .hbm, ⟨4, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceSIdeal.lean ====
abbrev S8192x2816 : Shape := ⟨2, ![8192, 2816]⟩
abbrev S1024x5632 : Shape := ⟨2, ![1024, 5632]⟩
abbrev S8192x1024 : Shape := ⟨2, ![8192, 1024]⟩
abbrev S_ : Shape := ⟨0, ![]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x5632, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .bf16⟩
  | .hbm, ⟨6, _⟩ => ⟨S1024x2816, .f32⟩
  | .hbm, ⟨7, _⟩ => ⟨S8192x2816, .f32⟩
  | .hbm, ⟨8, _⟩ => ⟨S8192x2816, .f32⟩
  | .hbm, ⟨9, _⟩ => ⟨S8192x1024, .f32⟩
  | .hbm, ⟨10, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelDwOut.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwOutIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDMixed.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDMixedIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOutProj.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutProjIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDownProj.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownProjIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDIn.lean ====
abbrev S8192x4224 : Shape := ⟨2, ![8192, 4224]⟩
abbrev S1024x4224 : Shape := ⟨2, ![1024, 4224]⟩
abbrev S8192x1024 : Shape := ⟨2, ![8192, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4224, .bf16⟩
  | .hbm, ⟨1, _⟩ => ⟨S1024x4224, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDInIdeal.lean ====
abbrev S8192x4224 : Shape := ⟨2, ![8192, 4224]⟩
abbrev S1024x4224 : Shape := ⟨2, ![1024, 4224]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S1024x4224, .bf16⟩
  | .hbm, ⟨2, _⟩ => ⟨S_, .f32⟩
  | .hbm, ⟨3, _⟩ => ⟨S8192x1024, .f32⟩
  | .hbm, ⟨4, _⟩ => ⟨S1024x4224, .f32⟩
  | .hbm, ⟨5, _⟩ => ⟨S8192x4224, .f32⟩
  | .hbm, ⟨6, _⟩ => ⟨S8192x4224, .f32⟩
  | .hbm, ⟨7, _⟩ => ⟨S8192x1024, .f32⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwIn.lean ====
abbrev S8192x1024 : Shape := ⟨2, ![8192, 1024]⟩
abbrev S8192x4224 : Shape := ⟨2, ![8192, 4224]⟩
abbrev S1024x4224 : Shape := ⟨2, ![1024, 4224]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4224, .bf16⟩
  | .hbm, ⟨2, _⟩ => ⟨S1024x4224, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwInIdeal.lean ====
abbrev S8192x1024 : Shape := ⟨2, ![8192, 1024]⟩
abbrev S8192x4224 : Shape := ⟨2, ![8192, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4224, .bf16⟩
  | .hbm, ⟨2, _⟩ => ⟨S8192x1024, .f32⟩
  | .hbm, ⟨3, _⟩ => ⟨S_, .f32⟩
  | .hbm, ⟨4, _⟩ => ⟨S1024x4224, .f32⟩
  | .hbm, ⟨5, _⟩ => ⟨S8192x4224, .f32⟩
  | .hbm, ⟨6, _⟩ => ⟨S8192x4224, .f32⟩
  | .hbm, ⟨7, _⟩ => ⟨S4224x1024, .f32⟩
  | .hbm, ⟨8, _⟩ => ⟨S1024x4224, .f32⟩
  | .hbm, ⟨9, _⟩ => ⟨S1024x4224, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.RowMath.lean ====
module

public import Idealize.ShloMosaic.PureOps.Ideal.Laws

@[expose] public section

noncomputable section

namespace Cert.RowMath

open Idealize.ShloMosaic

/-! One row of the attention: the scores `s` of one query of one head against its 384 keys (`⊥` at a key that the query does
    not see), the head's sink `z`, and the cotangents `g` of the row's probabilities. Everything over the extended reals. -/

variable (s : Fin 384 → EReal) (z : EReal) (g : Fin 384 → EReal)

/-- The larger of the row's largest score and the sink. -/
def top : EReal := max (Finset.univ.fold max ⊥ s) z
/-- The exponentials of the scores. -/
def ex (j : Fin 384) : EReal := Ideal.exp (s j - top s z)
/-- The sink's exponential. -/
def exz : EReal := Ideal.exp (z - top s z)

/-! ### As the kernel computes it -/

/-- The reciprocal of the denominator. -/
def kInv : EReal := Ideal.div 1 ((∑ j, ex s z j) + exz s z)
/-- A probability. -/
def kP (j : Fin 384) : EReal := ex s z j * kInv s z
/-- The row's sum of probability times cotangent. -/
def kR : EReal := ∑ j, g j * kP s z j
/-- The cotangent of a score. -/
def kDs (j : Fin 384) : EReal := kP s z j * (g j - kR s z g)
/-- The cotangent of the sink. -/
def kDz : EReal := (0 - exz s z * kInv s z) * kR s z g

/-! ### As the derivative of the plain formula computes it -/

/-- The denominator. -/
def rDen : EReal := (0 + ∑ j, ex s z j) + exz s z
/-- A probability. -/
def rP (j : Fin 384) : EReal := Ideal.div (ex s z j) (rDen s z)
/-- The cotangent of the denominator. -/
def rDd : EReal := -(0 + ∑ j, g j * Ideal.div 1 (rDen s z * rDen s z) * ex s z j)
/-- The cotangent of a score through the exponential. -/
def rDe (j : Fin 384) : EReal := (Ideal.div (g j) (rDen s z) + (0 + rDd s z g)) * ex s z j
/-- The cotangent of the sink through its exponential. -/
def rDz : EReal := rDd s z g * exz s z
/-- The cotangent of the maximum. -/
def rDm : EReal := -rDz s z g + (0 + ∑ j, -rDe s z g j)

/-! ### Over real numbers -/

/-- What the two sides need of a row: every score a real number or `⊥`, the sink a real number. -/
structure Row : Prop where
  s_ne : ∀ j, s j ≠ ⊤
  z_ne : z ≠ ⊤
  z_ne' : z ≠ ⊥

variable {s z g}

theorem exp_bot : Ideal.exp ⊥ = 0 := rfl
theorem exp_coe (r : ℝ) : Ideal.exp (r : EReal) = (Real.exp r : EReal) := rfl

theorem fold_ne_top (h : ∀ j, s j ≠ ⊤) : Finset.univ.fold max ⊥ s ≠ ⊤ := by
  have : Finset.univ.fold max ⊥ s < ⊤ := (Finset.fold_max_lt _).mpr ⟨bot_lt_top, fun j _ => lt_top_iff_ne_top.mpr (h j)⟩
  exact this.ne

theorem Row.top_real (h : Row s z) : ∃ m : ℝ, top s z = m := by
  have h1 : top s z ≠ ⊤ := by
    unfold top; intro e
    rcases max_choice (Finset.univ.fold max ⊥ s) z with h' | h' <;> rw [h'] at e
    · exact fold_ne_top h.s_ne e
    · exact h.z_ne e
  have h2 : top s z ≠ ⊥ := fun e => h.z_ne' (le_bot_iff.mp (e ▸ le_max_right _ _))
  exact ⟨(top s z).toReal, (EReal.coe_toReal h1 h2).symm⟩

/-- A row's exponentials are real numbers, at least zero, zero at an unseen key, and the sink's is above zero. -/
theorem Row.reals (h : Row s z) : ∃ (x : Fin 384 → ℝ) (e : ℝ), (∀ j, ex s z j = x j) ∧ exz s z = e ∧ (∀ j, 0 ≤ x j) ∧ 0 < e ∧
    ∀ j, s j = ⊥ → x j = 0 := by
  obtain ⟨m, hm⟩ := h.top_real
  have hx : ∀ j, ∃ x : ℝ, ex s z j = x ∧ 0 ≤ x ∧ (s j = ⊥ → x = 0) := by
    intro j
    rcases eq_or_ne (s j) ⊥ with hj | hj
    · exact ⟨0, by rw [ex, hm, hj, EReal.bot_sub, exp_bot, EReal.coe_zero], le_refl _, fun _ => rfl⟩
    · refine ⟨Real.exp ((s j).toReal - m), ?_, (Real.exp_pos _).le, fun e => absurd e hj⟩
      obtain ⟨r, hr⟩ : ∃ r : ℝ, s j = r := ⟨_, (EReal.coe_toReal (h.s_ne j) hj).symm⟩
      simp only [ex, hm, hr, EReal.toReal_coe, ← EReal.coe_sub, exp_coe]
  choose x hx using hx
  obtain ⟨r, hr⟩ : ∃ r : ℝ, z = r := ⟨_, (EReal.coe_toReal h.z_ne h.z_ne').symm⟩
  refine ⟨x, Real.exp (r - m), fun j => (hx j).1, ?_, fun j => (hx j).2.1, Real.exp_pos _, fun j => (hx j).2.2⟩
  simp only [exz, hm]
  rw [hr, ← EReal.coe_sub]; rfl

theorem div_real (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

theorem coe_sum {ι : Type} [Fintype ι] (f : ι → ℝ) : ∑ j, (f j : EReal) = ((∑ j, f j : ℝ) : EReal) := by
  classical
  induction (Finset.univ : Finset ι) using Finset.induction_on with
  | empty => simp
  | insert a t ha ih => rw [Finset.sum_insert ha, Finset.sum_insert ha, ih, EReal.coe_add]

/-- The two sides' probabilities, and their cotangents, are the same real numbers: for cotangents `gk` (the kernel's) and `gr`
    (the formula's) that are real numbers and agree at the seen keys. -/
theorem Row.main (h : Row s z) (gk gr : Fin 384 → ℝ) (hg : ∀ j, s j ≠ ⊥ → gk j = gr j) :
    ∃ (p d : Fin 384 → ℝ) (dz : ℝ),
      (∀ j, kP s z j = p j) ∧ (∀ j, rP s z j = p j) ∧ (∀ j, s j = ⊥ → p j = 0) ∧
      (∀ j, kDs s z (fun j => gk j) j = d j) ∧ (∀ j, rDe s z (fun j => gr j) j = d j) ∧ (∀ j, s j = ⊥ → d j = 0) ∧
      kDz s z (fun j => gk j) = dz ∧ rDz s z (fun j => gr j) = dz ∧ rDm s z (fun j => gr j) = 0 := by
  obtain ⟨x, e, hx, he, x0, e0, xb⟩ := h.reals
  have hS : ∑ j, ex s z j = ((∑ j, x j : ℝ) : EReal) := by rw [← coe_sum]; exact Finset.sum_congr rfl fun j _ => hx j
  set S := ∑ j, x j with hSdef
  have S0 : 0 ≤ S := Finset.sum_nonneg fun j _ => x0 j
  have hD : (S + e) ≠ 0 := by positivity
  have hinv : kInv s z = ((1 / (S + e) : ℝ) : EReal) := by
    unfold kInv; rw [hS, he, ← EReal.coe_add, ← EReal.coe_one, div_real 1 hD]
  have hden : rDen s z = ((S + e : ℝ) : EReal) := by unfold rDen; rw [zero_add, hS, he, ← EReal.coe_add]
  have hkP : ∀ j, kP s z j = ((x j / (S + e) : ℝ) : EReal) := fun j => by
    unfold kP; rw [hx, hinv, ← EReal.coe_mul, mul_one_div]
  have hgx : ∀ j, gk j * x j = gr j * x j := fun j => by
    by_cases hj : s j = ⊥
    · rw [xb j hj, mul_zero, mul_zero]
    · rw [hg j hj]
  have hkR : kR s z (fun j => gk j) = (((∑ j, gr j * x j) / (S + e) : ℝ) : EReal) := by
    unfold kR
    rw [Finset.sum_div, ← coe_sum]
    refine Finset.sum_congr rfl fun j _ => ?_
    rw [hkP, ← EReal.coe_mul, ← hgx, mul_div_assoc]
  set R := ∑ j, gr j * x j with hR
  have hrDd : rDd s z (fun j => gr j) = ((-(R / ((S + e) * (S + e))) : ℝ) : EReal) := by
    unfold rDd
    rw [zero_add, hden, ← EReal.coe_mul, ← EReal.coe_one, div_real 1 (mul_ne_zero hD hD), EReal.coe_neg]
    congr 1
    rw [hR, Finset.sum_div, ← coe_sum]
    refine Finset.sum_congr rfl fun j _ => ?_
    rw [hx, ← EReal.coe_mul, ← EReal.coe_mul]; congr 1; ring
  have hrDe : ∀ j, rDe s z (fun j => gr j) j = ((x j / (S + e) * (gr j - R / (S + e)) : ℝ) : EReal) := fun j => by
    unfold rDe
    rw [zero_add, hrDd, hden, div_real _ hD, ← EReal.coe_add, hx, ← EReal.coe_mul]; congr 1; field_simp; ring
  have hrDz : rDz s z (fun j => gr j) = ((-(e / (S + e)) * (R / (S + e)) : ℝ) : EReal) := by
    unfold rDz
    rw [hrDd, he, ← EReal.coe_mul]; congr 1; field_simp
  refine ⟨fun j => x j / (S + e), fun j => x j / (S + e) * (gr j - R / (S + e)), -(e / (S + e)) * (R / (S + e)), hkP, fun j => ?_,
    fun j hj => by simp only [xb j hj, zero_div], fun j => ?_, hrDe, fun j hj => by simp only [xb j hj, zero_div, zero_mul], ?_, hrDz, ?_⟩
  · unfold rP; rw [hx, hden, div_real _ hD]
  · unfold kDs
    rw [hkP, hkR, ← EReal.coe_sub, ← EReal.coe_mul]; congr 1
    by_cases hj : s j = ⊥
    · simp only [xb j hj, zero_div, zero_mul]
    · rw [hg j hj]
  · unfold kDz
    rw [hkR, he, hinv, ← EReal.coe_mul, zero_sub, ← EReal.coe_neg, ← EReal.coe_mul]; congr 1; ring
  · unfold rDm
    rw [hrDz, zero_add]
    have : ∑ j, -rDe s z (fun j => (gr j : EReal)) j = ((∑ j, -(x j / (S + e) * (gr j - R / (S + e))) : ℝ) : EReal) := by
      rw [← coe_sum]; exact Finset.sum_congr rfl fun j _ => by rw [hrDe, ← EReal.coe_neg]
    rw [this, ← EReal.coe_neg, ← EReal.coe_add, ← EReal.coe_zero]; congr 1
    have e1 : ∑ j, -(x j / (S + e) * (gr j - R / (S + e))) = -(R / (S + e)) + S / (S + e) * (R / (S + e)) := by
      rw [Finset.sum_neg_distrib, hR, hSdef, Finset.sum_div, Finset.sum_div, Finset.sum_mul, ← Finset.sum_neg_distrib,
        ← Finset.sum_neg_distrib, ← Finset.sum_add_distrib]
      refine Finset.sum_congr rfl fun j _ => ?_
      rw [← Finset.sum_div]; ring
    rw [e1]; field_simp; ring

/-- Some key of a row has the row's largest score. -/
theorem exists_fold_max : ∃ j, s j = Finset.univ.fold max ⊥ s := by
  obtain ⟨j, -, hj⟩ := Finset.exists_max_image Finset.univ s ⟨0, Finset.mem_univ _⟩
  refine ⟨j, le_antisymm ?_ ?_⟩
  · exact (Finset.le_fold_max _).mpr (Or.inr ⟨j, Finset.mem_univ _, le_refl _⟩)
  · exact (Finset.fold_max_le _).mpr ⟨bot_le, fun i hi => hj i hi⟩

end Cert.RowMath

end
-- ==== Proof.Tile.lean ====
/- The body's vector values, named once for the four groups of query heads and for every case of the body. -/
module

public import proofs.«01_k».proof.Proof.Gen.KernelIdeal.Skeleton
public import Idealize.ShloMosaic.Lib.Pointwise
public import proofs.«01_k».proof.Proof.RowMath

@[expose] public section

set_option maxRecDepth 16384

noncomputable section

namespace Cert.KernelIdeal.Tile

open Cert.KernelIdeal Cert.KernelIdeal.Gen
open Idealize.ShloMosaic

attribute [local instance] Cert.KernelIdeal.Gen.facts

section Defs

variable {F : FTy → Type} [FloatOps F] [Named F]

/-- Which lanes are among the first 64. -/
def low : IVec S1x128 1 := shapeCast S1x128 (cmpi .slt (iota .tc S1x128 32 [1] iota_S1x128_d1_w32) (broadcast S1x128 64#32)) shapeCasts_S1x128_S1x128
def low128 : IVec S128x128 1 := broadcastTo S128x128 low broadcasts_S1x128_S128x128
def low384 : IVec S384x128 1 := broadcastTo S384x128 low broadcasts_S1x128_S384x128
def zer : FVec F S128x128 .f32 := broadcast S128x128 (Scalar.ofBits .f32 0x00000000#32)
def zer384 : FVec F S384x128 .f32 := broadcast S384x128 (Scalar.ofBits .f32 0x00000000#32)

/-- A pair of key heads: the columns `0 … 127` or `128 … 255` of the keys. -/
def lo (x : FVec F S384x256 .f32) : FVec F S384x128 .f32 := extractStridedSlice S384x128 ![0, 0] x slices_S384x256_o0_0_S384x128
def hi (x : FVec F S384x256 .f32) : FVec F S384x128 .f32 := extractStridedSlice S384x128 ![0, 128] x slices_S384x256_o0_128_S384x128
def rot (x : FVec F S384x128 .f32) : FVec F S384x128 .f32 := dynamicRotate 1 64#32 none x rotates_S384x128_d1

/-- The pair's first key head in both halves of the lanes; its second. -/
def dupE (x : FVec F S384x128 .f32) : FVec F S384x128 .bf16 := truncf .bf16 (select low384 x (rot x)) bitsLt_bf16_f32
def dupO (x : FVec F S384x128 .f32) : FVec F S384x128 .bf16 := truncf .bf16 (select low384 (rot x) x) bitsLt_bf16_f32

/-- Four query heads one above the other, each in the lanes of its half. -/
def stack (v : FVec F S128x256 .f32) : FVec F S512x128 .f32 :=
  concatenate S512x128 0 [
    ⟨S128x128, select low128 (extractStridedSlice S128x128 ![0, 0] v slices_S128x256_o0_0_S128x128) zer⟩,
    ⟨S128x128, select low128 zer (extractStridedSlice S128x128 ![0, 0] v slices_S128x256_o0_0_S128x128)⟩,
    ⟨S128x128, select low128 (extractStridedSlice S128x128 ![0, 128] v slices_S128x256_o0_128_S128x128) zer⟩,
    ⟨S128x128, select low128 zer (extractStridedSlice S128x128 ![0, 128] v slices_S128x256_o0_128_S128x128)⟩]
    concatenates_S128x128_S128x128_S128x128_S128x128_S512x128_d0

/-- The scaled queries and the cotangents of the four heads of a group. -/
def qs (v : FVec F S1x128x256 .f32) : FVec F S512x128 .bf16 :=
  truncf .bf16 (mulf (stack (shapeCast S128x256 v shapeCasts_S1x128x256_S128x256)) (broadcast S512x128 (Scalar.ofBits .f32 0x3E000000#32))) bitsLt_bf16_f32
def dos (v : FVec F S1x128x256 .bf16) : FVec F S512x128 .bf16 :=
  truncf .bf16 (stack (extf .f32 (shapeCast S128x256 v shapeCasts_S1x128x256_S128x256) bitsLt_bf16_f32)) bitsLt_bf16_f32

/-- Three blocks of keys one above the other. -/
def cat (u v w : FVec F S1x128x256 .f32) : FVec F S384x256 .f32 := k0_pay7 u v w

/-- The rows' products with the keys. -/
def dotK (a : FVec F S512x128 .bf16) (k : FVec F S384x128 .bf16) : FVec F S512x384 .f32 :=
  matmul dot_S512x128_S384x128_S512x384_1_1_0_0_n_n none a k (constant S512x384 .f32 0x00000000#32)

/-- The scores. -/
def scores (i : grid0.Coords) (s : FVec F S512x384 .f32) (b : FVec F S4x128x384 .f32) : FVec F S512x384 .f32 :=
  addf (addf s (shapeCast S512x384 (shapeCast S4x128x384 b shapeCasts_S4x128x384_S4x128x384) shapeCasts_S4x128x384_S512x384))
    (broadcastTo S512x384 (k0_pay6 i) broadcasts_S1x384_S512x384)

def wide (x : FVec F S512x1 .f32) : FVec F S512x384 .f32 := broadcastTo S512x384 x broadcasts_S512x1_S512x384
def col (x : FVec F S512 .f32) : FVec F S512x1 .f32 := shapeCast S512x1 x shapeCasts_S512_S512x1
def rowSum (x : FVec F S512x384 .f32) : FVec F S512x1 .f32 :=
  col (multiReduction .add [1] S512 x 0x00000000#32 reduces_S512x384_S512 (.inl rfl) rfl)
def sinks (z : FVec F S512x1 .f32) : FVec F S512x1 .f32 := shapeCast S512x1 z shapeCasts_S512x1_S512x1

/-- The greatest of a row's scores and its sink. -/
def top (s : FVec F S512x384 .f32) (z : FVec F S512x1 .f32) : FVec F S512x1 .f32 :=
  maximumf (col (multiReduction .maximumf [1] S512 s 0xFF800000#32 reduces_S512x384_S512 (.inl rfl) rfl)) z
def ex (s : FVec F S512x384 .f32) (z : FVec F S512x1 .f32) : FVec F S512x384 .f32 := exp (subf s (wide (top s z)))
def exz (s : FVec F S512x384 .f32) (z : FVec F S512x1 .f32) : FVec F S512x1 .f32 := exp (subf z (top s z))
def inv (s : FVec F S512x384 .f32) (z : FVec F S512x1 .f32) : FVec F S512x1 .f32 :=
  divf (broadcast S512x1 (Scalar.ofBits .f32 0x3F800000#32)) (addf (rowSum (ex s z)) (exz s z))
/-- The probabilities, the sink's probability. -/
def prob (s : FVec F S512x384 .f32) (z : FVec F S512x1 .f32) : FVec F S512x384 .f32 := mulf (ex s z) (wide (inv s z))
def probz (s : FVec F S512x384 .f32) (z : FVec F S512x1 .f32) : FVec F S512x1 .f32 := mulf (exz s z) (inv s z)
def mean (s : FVec F S512x384 .f32) (z : FVec F S512x1 .f32) (g : FVec F S512x384 .f32) : FVec F S512x1 .f32 :=
  rowSum (mulf g (prob s z))
/-- The scores' cotangents. -/
def dsc (s : FVec F S512x384 .f32) (z : FVec F S512x1 .f32) (g : FVec F S512x384 .f32) : FVec F S512x384 .f32 :=
  mulf (prob s z) (subf g (wide (mean s z g)))
def half (x : FVec F S512x384 .f32) : FVec F S512x384 .bf16 := truncf .bf16 x bitsLt_bf16_f32

/-- The queries' gradients of a group, side by side. -/
def dqOut (d : FVec F S512x384 .f32) (k : FVec F S384x128 .bf16) : FVec F S1x128x256 .bf16 :=
  have u : FVec F S512x128 .f32 := mulf (matmul dot_S512x384_S384x128_S512x128_1_0_0_1_n_n none (half d) k (constant S512x128 .f32 0x00000000#32)) (broadcast S512x128 (Scalar.ofBits .f32 0x3E000000#32))
  shapeCast S1x128x256 (truncf .bf16 (concatenate S128x256 1 [
      ⟨S128x128, select low128 (extractStridedSlice S128x128 ![0, 0] u slices_S512x128_o0_0_S128x128) (extractStridedSlice S128x128 ![128, 0] u slices_S512x128_o128_0_S128x128)⟩,
      ⟨S128x128, select low128 (extractStridedSlice S128x128 ![256, 0] u slices_S512x128_o256_0_S128x128) (extractStridedSlice S128x128 ![384, 0] u slices_S512x128_o384_0_S128x128)⟩]
    concatenates_S128x128_S128x128_S128x256_d1) bitsLt_bf16_f32) shapeCasts_S128x256_S1x128x256

/-- What a group adds to its four heads of the bias's gradient, and to their sinks'. -/
def dbOut (acc : FVec F S4x128x384 .f32) (d : FVec F S512x384 .f32) : FVec F S4x128x384 .f32 :=
  addf (shapeCast S4x128x384 acc shapeCasts_S4x128x384_S4x128x384) (shapeCast S4x128x384 d shapeCasts_S512x384_S4x128x384)
def dzOut (acc : FVec F S512x1 .f32) (s : FVec F S512x384 .f32) (z : FVec F S512x1 .f32) (g : FVec F S512x384 .f32) : FVec F S512x1 .f32 :=
  addf (shapeCast S512x1 acc shapeCasts_S512x1_S512x1)
    (mulf (subf (broadcast S512x1 (Scalar.ofBits .f32 0x00000000#32)) (probz s z)) (mean s z g))

/-- The keys' (or values') gradients of a group: the two halves of the lanes added, in the lanes of the pair's first head
    (`foldE`) or its second (`foldO`), zero in the others. -/
def dotR (p : FVec F S512x384 .bf16) (a : FVec F S512x128 .bf16) : FVec F S384x128 .f32 :=
  matmul dot_S512x384_S512x128_S384x128_0_0_1_1_n_n none p a (constant S384x128 .f32 0x00000000#32)
def foldE (x : FVec F S384x128 .f32) : FVec F S384x128 .f32 := select low384 (addf x (rot x)) zer384
def foldO (x : FVec F S384x128 .f32) : FVec F S384x128 .f32 := select low384 zer384 (addf x (rot x))

/-- Key head `g` of four, in both halves of the lanes. -/
def kd (g : Fin 4) (x : FVec F S384x256 .f32) : FVec F S384x128 .bf16 :=
  match g with
  | 0 => dupE (lo x)
  | 1 => dupO (lo x)
  | 2 => dupE (hi x)
  | 3 => dupO (hi x)

/-- Group `g`'s share of a pair of key heads' gradient. -/
def fold (g : Fin 4) (x : FVec F S384x128 .f32) : FVec F S384x128 .f32 :=
  match g with
  | 0 => foldE x
  | 1 => foldO x
  | 2 => foldE x
  | 3 => foldO x

/-- What a grid point loads: the queries, the bias, the sinks and the cotangents of the four groups, three blocks of keys and of
    values. -/
structure Ins (F : FTy → Type) where
  i : grid0.Coords
  q : Fin 4 → FVec F S1x128x256 .f32
  k : Fin 3 → FVec F S1x128x256 .f32
  v : Fin 3 → FVec F S1x128x256 .f32
  b : Fin 4 → FVec F S4x128x384 .f32
  z : Fin 4 → FVec F S512x1 .f32
  d : Fin 4 → FVec F S1x128x256 .bf16

namespace Ins
variable (I : Ins F) (g : Fin 4)
def kk : FVec F S384x256 .f32 := cat (I.k 0) (I.k 1) (I.k 2)
def vv : FVec F S384x256 .f32 := cat (I.v 0) (I.v 1) (I.v 2)
/-- Group `g`'s scores, their probabilities' cotangents, the probabilities, the scores' cotangents. -/
def s : FVec F S512x384 .f32 := scores I.i (dotK (qs (I.q g)) (kd g I.kk)) (I.b g)
def dp : FVec F S512x384 .f32 := dotK (dos (I.d g)) (kd g I.vv)
def zz : FVec F S512x1 .f32 := sinks (I.z g)
def p : FVec F S512x384 .f32 := prob (I.s g) (I.zz g)
def ds : FVec F S512x384 .f32 := dsc (I.s g) (I.zz g) (I.dp g)
/-- Group `g`'s part of the five results: its queries' gradients; the new bias's and sinks' gradients; what is added to its pair
    of key heads. -/
def dq : FVec F S1x128x256 .bf16 := dqOut (I.ds g) (kd g I.kk)
def db (acc : FVec F S4x128x384 .f32) : FVec F S4x128x384 .f32 := dbOut acc (I.ds g)
def dz (acc : FVec F S512x1 .f32) : FVec F S512x1 .f32 := dzOut acc (I.s g) (I.zz g) (I.dp g)
def dk : FVec F S384x128 .f32 := fold g (dotR (half (I.ds g)) (qs (I.q g)))
def dv : FVec F S384x128 .f32 := fold g (dotR (half (I.p g)) (dos (I.d g)))
end Ins

end Defs

end Cert.KernelIdeal.Tile

end
-- ==== Proof.TileAt.lean ====
/- The body's vector values over the extended reals, read at an index. -/
module

public import proofs.«01_k».proof.Proof.Tile

@[expose] public section

set_option maxRecDepth 16384

noncomputable section

namespace Cert.KernelIdeal.Tile

open Cert.KernelIdeal Cert.KernelIdeal.Gen
open Idealize.ShloMosaic

attribute [local instance] Cert.KernelIdeal.Gen.facts

/-- The test of a lane against 64, decided. -/
theorem lane_lt (l : Fin 128) : IntOp.cmpi CmpIPredicate.slt (BitVec.ofNat 32 l.val) 64#32 = if l.val < 64 then 1#1 else 0#1 := by
  revert l; decide +kernel

theorem lane_sel {α : Type} (l : Fin 128) (a b : α) :
    Scalar.select (IntOp.cmpi CmpIPredicate.slt (BitVec.ofNat 32 l.val) 64#32) a b = if l.val < 64 then a else b := by
  rw [lane_lt]; split <;> rfl

theorem dupE_apply (x : FVec Ideal S384x128 .f32) (j : Fin 384) (l : Fin 128) :
    dupE x (ix2 j l) = x (ix2 j ⟨l.val % 64, by omega⟩) := by
  pointwise [dupE, low384, low, rot]
  rw [lane_sel]
  split
  · congr 2; apply Fin.ext; simp only; omega
  · congr 2; apply Fin.ext; simp only; omega

theorem dupO_apply (x : FVec Ideal S384x128 .f32) (j : Fin 384) (l : Fin 128) :
    dupO x (ix2 j l) = x (ix2 j ⟨64 + l.val % 64, by omega⟩) := by
  pointwise [dupO, low384, low, rot]
  rw [lane_sel]
  split
  · congr 2; apply Fin.ext; simp only; omega
  · congr 2; apply Fin.ext; simp only; omega

theorem lo_apply (x : FVec Ideal S384x256 .f32) (j : Fin 384) (l : Fin 128) : lo x (ix2 j l) = x (ix2 j ⟨l.val, by omega⟩) := by
  pointwise [lo]
theorem hi_apply (x : FVec Ideal S384x256 .f32) (j : Fin 384) (l : Fin 128) : hi x (ix2 j l) = x (ix2 j ⟨128 + l.val, by omega⟩) := by
  pointwise [hi]

theorem kd_apply (g : Fin 4) (x : FVec Ideal S384x256 .f32) (j : Fin 384) (l : Fin 128) :
    kd g x (ix2 j l) = x (ix2 j ⟨64 * g.val + l.val % 64, by omega⟩) := by
  match g with
  | 0 => exact (dupE_apply _ _ _).trans ((lo_apply _ _ _).trans (congrArg (fun c => x (ix2 j c)) (Fin.ext (by simp))))
  | 1 => exact (dupO_apply _ _ _).trans ((lo_apply _ _ _).trans (congrArg (fun c => x (ix2 j c)) (Fin.ext (by simp))))
  | 2 => exact (dupE_apply _ _ _).trans ((hi_apply _ _ _).trans (congrArg (fun c => x (ix2 j c)) (Fin.ext (by simp))))
  | 3 => exact (dupO_apply _ _ _).trans ((hi_apply _ _ _).trans (congrArg (fun c => x (ix2 j c)) (Fin.ext (by simp; omega))))

theorem stack_apply (v : FVec Ideal S128x256 .f32) (ρ : Fin 512) (l : Fin 128) :
    stack v (ix2 ρ l) = if l.val / 64 = ρ.val / 128 % 2 then v (ix2 ⟨ρ.val % 128, by omega⟩ ⟨128 * (ρ.val / 256) + l.val, by omega⟩) else 0 := by
  pointwise [stack, low128, low, zer]
  simp only [lane_sel]
  split
  · split
    · refine Eq.trans ?_ (if_pos (by omega)).symm; refine congrArg₂ (fun a c => v (ix2 a c)) (Fin.ext ?_) (Fin.ext ?_) <;> first | omega | (simp only; omega)
    · exact (if_neg (by omega)).symm
  · split
    · split
      · exact (if_neg (by omega)).symm
      · refine Eq.trans ?_ (if_pos (by omega)).symm; refine congrArg₂ (fun a c => v (ix2 a c)) (Fin.ext ?_) (Fin.ext ?_) <;> first | omega | (simp only; omega)
    · split
      · split
        · refine Eq.trans ?_ (if_pos (by omega)).symm; refine congrArg₂ (fun a c => v (ix2 a c)) (Fin.ext ?_) (Fin.ext ?_) <;> first | omega | (simp only; omega)
        · exact (if_neg (by omega)).symm
      · split
        · exact (if_neg (by omega)).symm
        · refine Eq.trans ?_ (if_pos (by omega)).symm; refine congrArg₂ (fun a c => v (ix2 a c)) (Fin.ext ?_) (Fin.ext ?_) <;> first | omega | (simp only; omega)

/-- The scale of the scores, an eighth. -/
def c8 : EReal := Ideal.ofBits FTy.f32 0x3E000000#32

theorem qs_apply (v : FVec Ideal S1x128x256 .f32) (ρ : Fin 512) (l : Fin 128) :
    qs v (ix2 ρ l) = (if l.val / 64 = ρ.val / 128 % 2 then v (ix3 0 ⟨ρ.val % 128, by omega⟩ ⟨128 * (ρ.val / 256) + l.val, by omega⟩) else 0) * c8 := by
  pointwise [qs]
  rw [stack_apply]
  pointwise []
  rfl

theorem dos_apply (v : FVec Ideal S1x128x256 .bf16) (ρ : Fin 512) (l : Fin 128) :
    dos v (ix2 ρ l) = (if l.val / 64 = ρ.val / 128 % 2 then v (ix3 0 ⟨ρ.val % 128, by omega⟩ ⟨128 * (ρ.val / 256) + l.val, by omega⟩) else 0) := by
  pointwise [dos]
  rw [stack_apply]
  pointwise []

/-- A sum over the lanes of a value that is zero in one half. -/
theorem half_sum (f : Fin 128 → EReal) (e : ℕ) (he : e < 2) (h : ∀ l : Fin 128, ¬l.val / 64 = e → f l = 0) :
    ∑ l, f l = ∑ d : Fin 64, f ⟨64 * e + d.val, by omega⟩ := by
  have hs : ∑ l, f l = ∑ d : Fin 64, f ⟨d.val, by omega⟩ + ∑ d : Fin 64, f ⟨64 + d.val, by omega⟩ :=
    Fin.sum_univ_add (a := 64) (b := 64) f
  rw [hs]
  rcases (show e = 0 ∨ e = 1 by omega) with rfl | rfl
  · rw [Finset.sum_eq_zero (s := Finset.univ) (f := fun d : Fin 64 => f ⟨64 + d.val, _⟩) (fun d _ => h _ (by simp only; omega)), add_zero]
    exact Finset.sum_congr rfl fun d _ => congrArg f (Fin.ext (by simp))
  · rw [Finset.sum_eq_zero (s := Finset.univ) (f := fun d : Fin 64 => f ⟨d.val, _⟩) (fun d _ => h _ (by simp only; omega)), zero_add]

theorem dotK_qs_apply (v : FVec Ideal S1x128x256 .f32) (g : Fin 4) (x : FVec Ideal S384x256 .f32) (ρ : Fin 512) (j : Fin 384) :
    dotK (qs v) (kd g x) (ix2 ρ j)
      = ∑ d : Fin 64, v (ix3 0 ⟨ρ.val % 128, by omega⟩ ⟨64 * (ρ.val / 128) + d.val, by omega⟩) * c8 * x (ix2 j ⟨64 * g.val + d.val, by omega⟩) := by
  pointwise [dotK]
  rw [half_sum _ (ρ.val / 128 % 2) (by omega) (fun l hl => by rw [qs_apply, if_neg hl, zero_mul, zero_mul])]
  refine Finset.sum_congr rfl fun d _ => ?_
  rw [qs_apply, kd_apply, if_pos (by simp only; omega)]
  exact congrArg₂ (fun a b => v (ix3 0 _ a) * c8 * x (ix2 j b)) (Fin.ext (by simp only; omega)) (Fin.ext (by simp only; omega))

theorem dotK_dos_apply (v : FVec Ideal S1x128x256 .bf16) (g : Fin 4) (x : FVec Ideal S384x256 .f32) (ρ : Fin 512) (j : Fin 384) :
    dotK (dos v) (kd g x) (ix2 ρ j)
      = ∑ d : Fin 64, v (ix3 0 ⟨ρ.val % 128, by omega⟩ ⟨64 * (ρ.val / 128) + d.val, by omega⟩) * x (ix2 j ⟨64 * g.val + d.val, by omega⟩) := by
  pointwise [dotK]
  rw [half_sum _ (ρ.val / 128 % 2) (by omega) (fun l hl => by rw [dos_apply, if_neg hl, zero_mul])]
  refine Finset.sum_congr rfl fun d _ => ?_
  rw [dos_apply, kd_apply, if_pos (by simp only; omega)]
  exact congrArg₂ (fun a b => v (ix3 0 _ a) * x (ix2 j b)) (Fin.ext (by simp only; omega)) (Fin.ext (by simp only; omega))

theorem scores_apply (i : grid0.Coords) (s : FVec Ideal S512x384 .f32) (b : FVec Ideal S4x128x384 .f32) (ρ : Fin 512) (j : Fin 384) :
    scores i s b (ix2 ρ j) = s (ix2 ρ j) + b (ix3 ⟨ρ.val / 128, by omega⟩ ⟨ρ.val % 128, by omega⟩ j) + k0_pay6 (F := Ideal) i (ix2 0 j) := by
  pointwise [scores]

/-- One row of a group's scores, or of its values' cotangents. -/
abbrev row (s : FVec Ideal S512x384 .f32) (ρ : Fin 512) : Fin 384 → EReal := fun j => s (ix2 ρ j)

theorem top_apply (s : FVec Ideal S512x384 .f32) (z : FVec Ideal S512x1 .f32) (ρ : Fin 512) :
    top s z (ix2 ρ 0) = RowMath.top (row s ρ) (z (ix2 ρ 0)) := by
  pointwise [top, col, RowMath.top]
  rfl

theorem ex_apply (s : FVec Ideal S512x384 .f32) (z : FVec Ideal S512x1 .f32) (ρ : Fin 512) (j : Fin 384) :
    ex s z (ix2 ρ j) = RowMath.ex (row s ρ) (z (ix2 ρ 0)) j := by
  pointwise [ex, wide, RowMath.ex]
  rw [top_apply]

theorem exz_apply (s : FVec Ideal S512x384 .f32) (z : FVec Ideal S512x1 .f32) (ρ : Fin 512) :
    exz s z (ix2 ρ 0) = RowMath.exz (row s ρ) (z (ix2 ρ 0)) := by
  pointwise [exz, RowMath.exz]
  rw [top_apply]

theorem inv_apply (s : FVec Ideal S512x384 .f32) (z : FVec Ideal S512x1 .f32) (ρ : Fin 512) :
    inv s z (ix2 ρ 0) = RowMath.kInv (row s ρ) (z (ix2 ρ 0)) := by
  pointwise [inv, rowSum, col, RowMath.kInv]
  rw [exz_apply]
  simp only [ex_apply]

theorem prob_apply (s : FVec Ideal S512x384 .f32) (z : FVec Ideal S512x1 .f32) (ρ : Fin 512) (j : Fin 384) :
    prob s z (ix2 ρ j) = RowMath.kP (row s ρ) (z (ix2 ρ 0)) j := by
  pointwise [prob, wide, RowMath.kP]
  rw [ex_apply, inv_apply]

theorem probz_apply (s : FVec Ideal S512x384 .f32) (z : FVec Ideal S512x1 .f32) (ρ : Fin 512) :
    probz s z (ix2 ρ 0) = RowMath.exz (row s ρ) (z (ix2 ρ 0)) * RowMath.kInv (row s ρ) (z (ix2 ρ 0)) := by
  pointwise [probz]
  rw [exz_apply, inv_apply]

theorem mean_apply (s : FVec Ideal S512x384 .f32) (z : FVec Ideal S512x1 .f32) (g : FVec Ideal S512x384 .f32) (ρ : Fin 512) :
    mean s z g (ix2 ρ 0) = RowMath.kR (row s ρ) (z (ix2 ρ 0)) (row g ρ) := by
  pointwise [mean, rowSum, col, RowMath.kR]
  simp only [prob_apply]

theorem dsc_apply (s : FVec Ideal S512x384 .f32) (z : FVec Ideal S512x1 .f32) (g : FVec Ideal S512x384 .f32) (ρ : Fin 512) (j : Fin 384) :
    dsc s z g (ix2 ρ j) = RowMath.kDs (row s ρ) (z (ix2 ρ 0)) (row g ρ) j := by
  pointwise [dsc, wide, RowMath.kDs]
  rw [prob_apply, mean_apply]

theorem dzOut_apply (acc : FVec Ideal S512x1 .f32) (s : FVec Ideal S512x384 .f32) (z : FVec Ideal S512x1 .f32) (g : FVec Ideal S512x384 .f32)
    (ρ : Fin 512) : dzOut acc s z g (ix2 ρ 0) = acc (ix2 ρ 0) + RowMath.kDz (row s ρ) (z (ix2 ρ 0)) (row g ρ) := by
  pointwise [dzOut, RowMath.kDz]
  rw [probz_apply, mean_apply]

theorem dbOut_apply (acc : FVec Ideal S4x128x384 .f32) (d : FVec Ideal S512x384 .f32) (r : Fin 4) (i : Fin 128) (j : Fin 384) :
    dbOut acc d (ix3 r i j) = acc (ix3 r i j) + d (ix2 ⟨128 * r.val + i.val, by omega⟩ j) := by
  pointwise [dbOut]
  congr 4; omega

theorem lane_sel' {α : Type} (n : ℕ) (hn : n < 128) (a b : α) :
    Scalar.select (IntOp.cmpi CmpIPredicate.slt (BitVec.ofNat 32 n) 64#32) a b = if n < 64 then a else b :=
  lane_sel ⟨n, hn⟩ a b

theorem dqOut_apply (d : FVec Ideal S512x384 .f32) (g : Fin 4) (x : FVec Ideal S384x256 .f32) (i : Fin 128) (c : Fin 256) :
    dqOut d (kd g x) (ix3 0 i c)
      = (∑ j, d (ix2 ⟨128 * (c.val / 64) + i.val, by omega⟩ j) * x (ix2 j ⟨64 * g.val + c.val % 64, by omega⟩)) * c8 := by
  pointwise [dqOut, low128, low, half]
  simp only [kd_apply]
  split
  · rw [lane_sel' _ (by omega)]
    split <;>
    · refine congrArg (· * c8) (Finset.sum_congr rfl fun j _ =>
        congrArg₂ (fun a b => d (ix2 a j) * x (ix2 j b)) (Fin.ext ?_) (Fin.ext ?_)) <;> first | omega | (simp only; omega)
  · rw [lane_sel' _ (by omega)]
    split <;>
    · refine congrArg (· * c8) (Finset.sum_congr rfl fun j _ =>
        congrArg₂ (fun a b => d (ix2 a j) * x (ix2 j b)) (Fin.ext ?_) (Fin.ext ?_)) <;> first | omega | (simp only; omega)

theorem foldE_apply (x : FVec Ideal S384x128 .f32) (j : Fin 384) (l : Fin 128) :
    foldE x (ix2 j l) = if l.val / 64 = 0 then x (ix2 j ⟨l.val, by omega⟩) + x (ix2 j ⟨(l.val + 64) % 128, by omega⟩) else 0 := by
  pointwise [foldE, low384, low, rot, zer384]
  rw [lane_sel]
  split
  · refine Eq.trans ?_ (if_pos (by omega)).symm; exact congrArg (fun a => _ + x (ix2 j a)) (Fin.ext (by simp only; omega))
  · exact (if_neg (by omega)).symm

theorem foldO_apply (x : FVec Ideal S384x128 .f32) (j : Fin 384) (l : Fin 128) :
    foldO x (ix2 j l) = if l.val / 64 = 1 then x (ix2 j ⟨l.val, by omega⟩) + x (ix2 j ⟨(l.val + 64) % 128, by omega⟩) else 0 := by
  pointwise [foldO, low384, low, rot, zer384]
  rw [lane_sel]
  split
  · exact (if_neg (by omega)).symm
  · refine Eq.trans ?_ (if_pos (by omega)).symm; exact congrArg (fun a => _ + x (ix2 j a)) (Fin.ext (by simp only; omega))

theorem fold_apply (g : Fin 4) (x : FVec Ideal S384x128 .f32) (j : Fin 384) (l : Fin 128) :
    fold g x (ix2 j l) = if l.val / 64 = g.val % 2 then x (ix2 j ⟨l.val, by omega⟩) + x (ix2 j ⟨(l.val + 64) % 128, by omega⟩) else 0 := by
  match g with
  | 0 => exact foldE_apply x j l
  | 1 => exact foldO_apply x j l
  | 2 => exact foldE_apply x j l
  | 3 => exact foldO_apply x j l

theorem dotR_apply (p : FVec Ideal S512x384 .f32) (a : FVec Ideal S512x128 .bf16) (j : Fin 384) (l : Fin 128) :
    dotR (half p) a (ix2 j l) = ∑ ρ, p (ix2 ρ j) * a (ix2 ρ l) := by
  pointwise [dotR, half]

theorem fold_dos_apply (g : Fin 4) (p : FVec Ideal S512x384 .f32) (v : FVec Ideal S1x128x256 .bf16) (j : Fin 384) (l : Fin 128) :
    fold g (dotR (half p) (dos v)) (ix2 j l)
      = if l.val / 64 = g.val % 2 then ∑ ρ : Fin 512, p (ix2 ρ j) * v (ix3 0 ⟨ρ.val % 128, by omega⟩ ⟨64 * (ρ.val / 128) + l.val % 64, by omega⟩) else 0 := by
  rw [fold_apply]
  split
  · rw [dotR_apply, dotR_apply, ← Finset.sum_add_distrib]
    refine Finset.sum_congr rfl fun ρ _ => ?_
    rw [dos_apply, dos_apply]
    by_cases h : l.val / 64 = ρ.val / 128 % 2
    · rw [if_pos h, if_neg (by simp only; omega), mul_zero, add_zero]
      exact congrArg (fun a => _ * v (ix3 0 _ a)) (Fin.ext (by simp only; omega))
    · rw [if_neg h, if_pos (by simp only; omega), mul_zero, zero_add]
      exact congrArg (fun a => _ * v (ix3 0 _ a)) (Fin.ext (by simp only; omega))
  · rfl

theorem fold_qs_apply (g : Fin 4) (p : FVec Ideal S512x384 .f32) (v : FVec Ideal S1x128x256 .f32) (j : Fin 384) (l : Fin 128) :
    fold g (dotR (half p) (qs v)) (ix2 j l)
      = if l.val / 64 = g.val % 2 then
          ∑ ρ : Fin 512, p (ix2 ρ j) * (v (ix3 0 ⟨ρ.val % 128, by omega⟩ ⟨64 * (ρ.val / 128) + l.val % 64, by omega⟩) * c8) else 0 := by
  rw [fold_apply]
  split
  · rw [dotR_apply, dotR_apply, ← Finset.sum_add_distrib]
    refine Finset.sum_congr rfl fun ρ _ => ?_
    rw [qs_apply, qs_apply]
    by_cases h : l.val / 64 = ρ.val / 128 % 2
    · rw [if_pos h, if_neg (by simp only; omega), zero_mul, mul_zero, add_zero]
      exact congrArg (fun a => _ * (v (ix3 0 _ a) * c8)) (Fin.ext (by simp only; omega))
    · rw [if_neg h, if_pos (by simp only; omega), zero_mul, mul_zero, zero_add]
      exact congrArg (fun a => _ * (v (ix3 0 _ a) * c8)) (Fin.ext (by simp only; omega))
  · rfl

end Cert.KernelIdeal.Tile

end
-- ==== Proof.Cases.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body zeroes the accumulators of dk and dv: this is the first query block of a sequence. -/
abbrev zeroKV (i : grid0.Coords) : Prop :=
  (Scalar.cmpi .ne (Scalar.extui (Scalar.cmpi .eq (BitVec.ofNat 32 (i 1).val) 0#32)) 0#32) = 1#1

/-- The body zeroes the accumulators of the bias and of the sinks: this is the first point of the grid. -/
abbrev zeroBS (i : grid0.Coords) : Prop :=
  (Scalar.cmpi .ne (Scalar.extui (Scalar.andi (Scalar.cmpi .eq (BitVec.ofNat 32 (i 1).val) 0#32)
    (Scalar.cmpi .eq (BitVec.ofNat 32 (i 0).val) 0#32))) 0#32) = 1#1

/-- The coordinates of point `t`: sequence `t / 16`, query block `t % 16`. -/
theorem coord0 (t : Fin cfg0.N) : (grid0.coords t 0).val = t.val / 16 := by
  have ht : t.val < 64 := Nat.lt_of_lt_of_eq t.isLt N_0
  have e : (grid0.coords t 0).val = t.val / 16 % 4 := Pipeline.Grid.coords_val t 0 (by decide) rfl
  omega

theorem coord1 (t : Fin cfg0.N) : (grid0.coords t 1).val = t.val % 16 := by
  have e : (grid0.coords t 1).val = t.val / 1 % 16 := Pipeline.Grid.coords_val t 1 (by decide) rfl
  rw [e, Nat.div_one]

/-- dk and dv are zeroed at the points whose query block is block 0. -/
theorem zeroKV_iff (t : Fin cfg0.N) : zeroKV (grid0.coords t) ↔ t.val % 16 = 0 := by
  have ht : t.val < 64 := Nat.lt_of_lt_of_eq t.isLt N_0
  simp only [zeroKV, coord1 t]
  word_cmp

/-- The bias and the sinks are zeroed at point 0 only. -/
theorem zeroBS_iff (t : Fin cfg0.N) : zeroBS (grid0.coords t) ↔ t.val = 0 := by
  have ht : t.val < 64 := Nat.lt_of_lt_of_eq t.isLt N_0
  simp only [zeroBS, coord0 t, coord1 t]
  word_cmp

/-- The first query block of a sequence. -/
class First (i : grid0.Coords) : Prop where
  eq : (i 1).val = 0

/-- The last query block of a sequence. -/
class Last (i : grid0.Coords) : Prop where
  eq : (i 1).val = 15

/-- A query block with a neighbour on both sides: block `k + 1`. -/
class Mid (i : grid0.Coords) where
  k : ℕ
  eq : (i 1).val = k + 1
  lt : k < 14

/-- The row a shifted block starts at, from the block's number and the shift, as the body computes it. -/
abbrev rowWord (n : ℕ) (x : BitVec 32) : ℕ :=
  (Scalar.indexCast (Scalar.muli (Scalar.minsi 15#32 (Scalar.maxsi 0#32 (Scalar.addi (BitVec.ofNat 32 n) x))) 128#32)).toNat

/-- The printed offsets of the blocks of dk and dv that a point of this kind adds to, in closed form. -/
theorem off_First (i : grid0.Coords) [First i] :
    k0_off1 i 4294967295#32 = ![0, 0, 0]
    ∧ k0_off1 i 0#32 = ![0, 0, 0]
    ∧ k0_off1 i 1#32 = ![0, 128, 0]
    ∧ k0_off2 i 4294967295#32 = ![0, 0, 128]
    ∧ k0_off2 i 0#32 = ![0, 0, 128]
    ∧ k0_off2 i 1#32 = ![0, 128, 128] := by
  have h := First.eq (i := i)
  have H : ∀ n, n = 0 → rowWord n 4294967295#32 = 0 ∧ rowWord n 0#32 = 0 ∧ rowWord n 1#32 = 128 := by
    rintro _ rfl; decide +kernel
  obtain ⟨h0, h1, h2⟩ := H _ h
  unfold k0_off1 k0_off2
  simp only [rowWord] at h0 h1 h2 ⊢
  rw [h0, h1, h2]
  exact ⟨rfl, rfl, rfl, rfl, rfl, rfl⟩

instance (i : grid0.Coords) [First i] : ClosedOff (k0_off1 i 4294967295#32) := ⟨![0, 0, 0], (off_First i).1⟩
instance (i : grid0.Coords) [First i] : ClosedOff (k0_off1 i 0#32) := ⟨![0, 0, 0], (off_First i).2.1⟩
instance (i : grid0.Coords) [First i] : ClosedOff (k0_off1 i 1#32) := ⟨![0, 128, 0], (off_First i).2.2.1⟩
instance (i : grid0.Coords) [First i] : ClosedOff (k0_off2 i 4294967295#32) := ⟨![0, 0, 128], (off_First i).2.2.2.1⟩
instance (i : grid0.Coords) [First i] : ClosedOff (k0_off2 i 0#32) := ⟨![0, 0, 128], (off_First i).2.2.2.2.1⟩
instance (i : grid0.Coords) [First i] : ClosedOff (k0_off2 i 1#32) := ⟨![0, 128, 128], (off_First i).2.2.2.2.2⟩

/-- The printed offsets of the blocks of dk and dv that a point of this kind adds to, in closed form. -/
theorem off_Last (i : grid0.Coords) [Last i] :
    k0_off1 i 4294967295#32 = ![0, 1792, 0]
    ∧ k0_off1 i 0#32 = ![0, 1920, 0]
    ∧ k0_off1 i 1#32 = ![0, 1920, 0]
    ∧ k0_off2 i 4294967295#32 = ![0, 1792, 128]
    ∧ k0_off2 i 0#32 = ![0, 1920, 128]
    ∧ k0_off2 i 1#32 = ![0, 1920, 128] := by
  have h := Last.eq (i := i)
  have H : ∀ n, n = 15 → rowWord n 4294967295#32 = 1792 ∧ rowWord n 0#32 = 1920 ∧ rowWord n 1#32 = 1920 := by
    rintro _ rfl; decide +kernel
  obtain ⟨h0, h1, h2⟩ := H _ h
  unfold k0_off1 k0_off2
  simp only [rowWord] at h0 h1 h2 ⊢
  rw [h0, h1, h2]
  exact ⟨rfl, rfl, rfl, rfl, rfl, rfl⟩

instance (i : grid0.Coords) [Last i] : ClosedOff (k0_off1 i 4294967295#32) := ⟨![0, 1792, 0], (off_Last i).1⟩
instance (i : grid0.Coords) [Last i] : ClosedOff (k0_off1 i 0#32) := ⟨![0, 1920, 0], (off_Last i).2.1⟩
instance (i : grid0.Coords) [Last i] : ClosedOff (k0_off1 i 1#32) := ⟨![0, 1920, 0], (off_Last i).2.2.1⟩
instance (i : grid0.Coords) [Last i] : ClosedOff (k0_off2 i 4294967295#32) := ⟨![0, 1792, 128], (off_Last i).2.2.2.1⟩
instance (i : grid0.Coords) [Last i] : ClosedOff (k0_off2 i 0#32) := ⟨![0, 1920, 128], (off_Last i).2.2.2.2.1⟩
instance (i : grid0.Coords) [Last i] : ClosedOff (k0_off2 i 1#32) := ⟨![0, 1920, 128], (off_Last i).2.2.2.2.2⟩

/-- The printed offsets of the blocks of dk and dv that a point of this kind adds to, in closed form. -/
theorem off_Mid (i : grid0.Coords) [Mid i] :
    k0_off1 i 4294967295#32 = ![0, 128 * Mid.k i, 0]
    ∧ k0_off1 i 0#32 = ![0, 128 * Mid.k i + 128, 0]
    ∧ k0_off1 i 1#32 = ![0, 128 * Mid.k i + 256, 0]
    ∧ k0_off2 i 4294967295#32 = ![0, 128 * Mid.k i, 128]
    ∧ k0_off2 i 0#32 = ![0, 128 * Mid.k i + 128, 128]
    ∧ k0_off2 i 1#32 = ![0, 128 * Mid.k i + 256, 128] := by
  have h := Mid.eq (i := i); have hk := Mid.lt (i := i)
  have H : ∀ k < 14, rowWord (k + 1) 4294967295#32 = 128 * k ∧ rowWord (k + 1) 0#32 = 128 * k + 128
      ∧ rowWord (k + 1) 1#32 = 128 * k + 256 := by decide +kernel
  obtain ⟨h0, h1, h2⟩ := H _ hk
  rw [← h] at h0 h1 h2
  unfold k0_off1 k0_off2
  simp only [rowWord] at h0 h1 h2 ⊢
  rw [h0, h1, h2]
  exact ⟨rfl, rfl, rfl, rfl, rfl, rfl⟩

instance (i : grid0.Coords) [Mid i] : ClosedOff (k0_off1 i 4294967295#32) := ⟨![0, 128 * Mid.k i, 0], (off_Mid i).1⟩
instance (i : grid0.Coords) [Mid i] : ClosedOff (k0_off1 i 0#32) := ⟨![0, 128 * Mid.k i + 128, 0], (off_Mid i).2.1⟩
instance (i : grid0.Coords) [Mid i] : ClosedOff (k0_off1 i 1#32) := ⟨![0, 128 * Mid.k i + 256, 0], (off_Mid i).2.2.1⟩
instance (i : grid0.Coords) [Mid i] : ClosedOff (k0_off2 i 4294967295#32) := ⟨![0, 128 * Mid.k i, 128], (off_Mid i).2.2.2.1⟩
instance (i : grid0.Coords) [Mid i] : ClosedOff (k0_off2 i 0#32) := ⟨![0, 128 * Mid.k i + 128, 128], (off_Mid i).2.2.2.2.1⟩
instance (i : grid0.Coords) [Mid i] : ClosedOff (k0_off2 i 1#32) := ⟨![0, 128 * Mid.k i + 256, 128], (off_Mid i).2.2.2.2.2⟩

end Cert.KernelIdeal.Hand

end
-- ==== Proof.RunStart.lean ====
module

public import proofs.«01_k».proof.Proof.Cases

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S16x128x384 .f32) (harg9 : arg9.IsWhole) (arg10 : Memref sig .tc .vmem S2048x1 .f32) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S1x2048x256 .f32) (harg13 : arg13.IsWhole) (arg14 : Memref sig .tc .vmem S1x2048x256 .f32) (harg14 : arg14.IsWhole) (arg15 : Memref sig .tc .vmem S16x128x384 .f32) (harg15 : arg15.IsWhole) (arg16 : Memref sig .tc .vmem S2048x1 .f32) (harg16 : arg16.IsWhole)

set_option maxHeartbeats 2000000 in
/-- The body at point 0, where all four accumulators are zeroed. Found by running the body's operations one by one: what the
    five results' staging buffers hold afterwards, WITH the proof that the body, started with the ten operands' buffers at
    `x0 … x9` and the results' at anything, ends with the operands as they were
    and the results at those contents. -/
def runStart (c : Dev nD) (i : grid0.Coords) [First i] (hc0 : zeroKV i) (hc1 : zeroBS i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16)
     :
    Σ' (o10 : Vec F S1x128x1024 .bf16), Σ' (o11 : Vec F S1x2048x256 .f32), Σ' (o12 : Vec F S1x2048x256 .f32), Σ' (o13 : Vec F S16x128x384 .f32), { o14 : Vec F S2048x1 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o10 ∗ owns (c : Thread nD τ) arg13 fullShare o11 ∗ owns (c : Thread nD τ) arg14 fullShare o12 ∗ owns (c : Thread nD τ) arg15 fullShare o13 ∗ owns (c : Thread nD τ) arg16 fullShare o14) -∗ K ⟨⟩))
          ⊢ wp frame (wpE (defs₀ (F := F)) Variants.none c none) E (cc0_d_attn_3 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_d_attn_3_eq_skeleton]; unfold cc0_d_attn_3_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; refine View.read_writes_of_cover _ _ arg12.view (View.junk (Val := Elt F) arg12.view) _ ?_
      exact View.cover_of_tiledL _ S1x128x256.size (by sl_kernel_rfl)
    isplitl [H11]
    · iexists _; isplitr; swap; · iexact H11
      ipureintro; refine View.read_writes_of_cover _ _ arg13.view (View.junk (Val := Elt F) arg13.view) _ ?_
      exact View.cover_of_wholeMem _ (by sl_whole_mem)
    isplitl [H12]
    · iexists _; isplitr; swap; · iexact H12
      ipureintro; refine View.read_writes_of_cover _ _ arg14.view (View.junk (Val := Elt F) arg14.view) _ ?_
      exact View.cover_of_wholeMem _ (by sl_whole_mem)
    isplitl [H13]
    · iexists _; isplitr; swap; · iexact H13
      ipureintro; refine View.read_writes_of_cover _ _ arg15.view (View.junk (Val := Elt F) arg15.view) _ ?_
      exact View.cover_of_wholeMem _ (by sl_whole_mem)
    · iexists _; isplitr; swap; · iexact H14
      ipureintro; refine View.read_writes_of_cover _ _ arg16.view (View.junk (Val := Elt F) arg16.view) _ ?_
      exact View.cover_of_wholeMem _ (by sl_whole_mem)

end

end Cert.KernelIdeal.Hand

end
-- ==== Proof.RunFirst.lean ====
module

public import proofs.«01_k».proof.Proof.Cases

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S16x128x384 .f32) (harg9 : arg9.IsWhole) (arg10 : Memref sig .tc .vmem S2048x1 .f32) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S1x2048x256 .f32) (harg13 : arg13.IsWhole) (arg14 : Memref sig .tc .vmem S1x2048x256 .f32) (harg14 : arg14.IsWhole) (arg15 : Memref sig .tc .vmem S16x128x384 .f32) (harg15 : arg15.IsWhole) (arg16 : Memref sig .tc .vmem S2048x1 .f32) (harg16 : arg16.IsWhole)

set_option maxHeartbeats 2000000 in
/-- The body at the first query block of a later sequence, where dk and dv are zeroed. Found by running the body's operations one by one: what the
    five results' staging buffers hold afterwards, WITH the proof that the body, started with the ten operands' buffers at
    `x0 … x9` and the accumulators of the bias and of the sinks at `xo13`, `xo14`, ends with the operands as they were
    and the results at those contents. -/
def runFirst (c : Dev nD) (i : grid0.Coords) [First i] (hc0 : zeroKV i) (hc1 : ¬zeroBS i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16)
    (xo13 : Vec F S16x128x384 .f32) (xo14 : Vec F S2048x1 .f32) :
    Σ' (o10 : Vec F S1x128x1024 .bf16), Σ' (o11 : Vec F S1x2048x256 .f32), Σ' (o12 : Vec F S1x2048x256 .f32), Σ' (o13 : Vec F S16x128x384 .f32), { o14 : Vec F S2048x1 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o10 ∗ owns (c : Thread nD τ) arg13 fullShare o11 ∗ owns (c : Thread nD τ) arg14 fullShare o12 ∗ owns (c : Thread nD τ) arg15 fullShare o13 ∗ owns (c : Thread nD τ) arg16 fullShare o14) -∗ K ⟨⟩))
          ⊢ wp frame (wpE (defs₀ (F := F)) Variants.none c none) E (cc0_d_attn_3 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_d_attn_3_eq_skeleton]; unfold cc0_d_attn_3_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg15.eq_unread hf13
    obtain rfl := harg16.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; refine View.read_writes_of_cover _ _ arg12.view (View.junk (Val := Elt F) arg12.view) _ ?_
      exact View.cover_of_tiledL _ S1x128x256.size (by sl_kernel_rfl)
    isplitl [H11]
    · iexists _; isplitr; swap; · iexact H11
      ipureintro; refine View.read_writes_of_cover _ _ arg13.view (View.junk (Val := Elt F) arg13.view) _ ?_
      exact View.cover_of_wholeMem _ (by sl_whole_mem)
    isplitl [H12]
    · iexists _; isplitr; swap; · iexact H12
      ipureintro; refine View.read_writes_of_cover _ _ arg14.view (View.junk (Val := Elt F) arg14.view) _ ?_
      exact View.cover_of_wholeMem _ (by sl_whole_mem)
    isplitl [H13]
    · iexists _; isplitr; swap; · iexact H13
      ipureintro; rfl
    · iexists _; isplitr; swap; · iexact H14
      ipureintro; rfl

end

end Cert.KernelIdeal.Hand

end
-- ==== Proof.RunMid.lean ====
module

public import proofs.«01_k».proof.Proof.Cases

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S16x128x384 .f32) (harg9 : arg9.IsWhole) (arg10 : Memref sig .tc .vmem S2048x1 .f32) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S1x2048x256 .f32) (harg13 : arg13.IsWhole) (arg14 : Memref sig .tc .vmem S1x2048x256 .f32) (harg14 : arg14.IsWhole) (arg15 : Memref sig .tc .vmem S16x128x384 .f32) (harg15 : arg15.IsWhole) (arg16 : Memref sig .tc .vmem S2048x1 .f32) (harg16 : arg16.IsWhole)

set_option maxHeartbeats 2000000 in
/-- The body at a query block with both neighbours. Found by running the body's operations one by one: what the
    five results' staging buffers hold afterwards, WITH the proof that the body, started with the ten operands' buffers at
    `x0 … x9` and the accumulators at `xo11 … xo14`, ends with the operands as they were
    and the results at those contents. -/
def runMid (c : Dev nD) (i : grid0.Coords) [Mid i] (hc0 : ¬zeroKV i) (hc1 : ¬zeroBS i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16)
    (xo11 : Vec F S1x2048x256 .f32) (xo12 : Vec F S1x2048x256 .f32) (xo13 : Vec F S16x128x384 .f32) (xo14 : Vec F S2048x1 .f32) :
    Σ' (o10 : Vec F S1x128x1024 .bf16), Σ' (o11 : Vec F S1x2048x256 .f32), Σ' (o12 : Vec F S1x2048x256 .f32), Σ' (o13 : Vec F S16x128x384 .f32), { o14 : Vec F S2048x1 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o10 ∗ owns (c : Thread nD τ) arg13 fullShare o11 ∗ owns (c : Thread nD τ) arg14 fullShare o12 ∗ owns (c : Thread nD τ) arg15 fullShare o13 ∗ owns (c : Thread nD τ) arg16 fullShare o14) -∗ K ⟨⟩))
          ⊢ wp frame (wpE (defs₀ (F := F)) Variants.none c none) E (cc0_d_attn_3 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_d_attn_3_eq_skeleton]; unfold cc0_d_attn_3_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg13.eq_unread hf11
    obtain rfl := harg14.eq_unread hf12
    obtain rfl := harg15.eq_unread hf13
    obtain rfl := harg16.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; refine View.read_writes_of_cover _ _ arg12.view (View.junk (Val := Elt F) arg12.view) _ ?_
      exact View.cover_of_tiledL _ S1x128x256.size (by sl_kernel_rfl)
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    · iexists _; isplitr; swap; · iexact H14
      ipureintro; rfl

end

end Cert.KernelIdeal.Hand

end
-- ==== Proof.RunLast.lean ====
module

public import proofs.«01_k».proof.Proof.Cases

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S16x128x384 .f32) (harg9 : arg9.IsWhole) (arg10 : Memref sig .tc .vmem S2048x1 .f32) (harg10 : arg10.IsWhole) (arg11 : Memref sig .tc .vmem S1x128x1024 .bf16) (harg11 : arg11.IsWhole) (arg12 : Memref sig .tc .vmem S1x128x1024 .bf16) (harg12 : arg12.IsWhole) (arg13 : Memref sig .tc .vmem S1x2048x256 .f32) (harg13 : arg13.IsWhole) (arg14 : Memref sig .tc .vmem S1x2048x256 .f32) (harg14 : arg14.IsWhole) (arg15 : Memref sig .tc .vmem S16x128x384 .f32) (harg15 : arg15.IsWhole) (arg16 : Memref sig .tc .vmem S2048x1 .f32) (harg16 : arg16.IsWhole)

set_option maxHeartbeats 2000000 in
/-- The body at the last query block of a sequence. Found by running the body's operations one by one: what the
    five results' staging buffers hold afterwards, WITH the proof that the body, started with the ten operands' buffers at
    `x0 … x9` and the accumulators at `xo11 … xo14`, ends with the operands as they were
    and the results at those contents. -/
def runLast (c : Dev nD) (i : grid0.Coords) [Last i] (hc0 : ¬zeroKV i) (hc1 : ¬zeroBS i)
    (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16)
    (xo11 : Vec F S1x2048x256 .f32) (xo12 : Vec F S1x2048x256 .f32) (xo13 : Vec F S16x128x384 .f32) (xo14 : Vec F S2048x1 .f32) :
    Σ' (o10 : Vec F S1x128x1024 .bf16), Σ' (o11 : Vec F S1x2048x256 .f32), Σ' (o12 : Vec F S1x2048x256 .f32), Σ' (o13 : Vec F S16x128x384 .f32), { o14 : Vec F S2048x1 .f32 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xo12 ∗ owns (c : Thread nD τ) arg15 fullShare xo13 ∗ owns (c : Thread nD τ) arg16 fullShare xo14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare o10 ∗ owns (c : Thread nD τ) arg13 fullShare o11 ∗ owns (c : Thread nD τ) arg14 fullShare o12 ∗ owns (c : Thread nD τ) arg15 fullShare o13 ∗ owns (c : Thread nD τ) arg16 fullShare o14) -∗ K ⟨⟩))
          ⊢ wp frame (wpE (defs₀ (F := F)) Variants.none c none) E (cc0_d_attn_3 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_d_attn_3_eq_skeleton]; unfold cc0_d_attn_3_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg13.eq_unread hf11
    obtain rfl := harg14.eq_unread hf12
    obtain rfl := harg15.eq_unread hf13
    obtain rfl := harg16.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro; refine View.read_writes_of_cover _ _ arg12.view (View.junk (Val := Elt F) arg12.view) _ ?_
      exact View.cover_of_tiledL _ S1x128x256.size (by sl_kernel_rfl)
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    · iexists _; isplitr; swap; · iexact H14
      ipureintro; rfl

end

end Cert.KernelIdeal.Hand

end
-- ==== Proof.Whole.lean ====
module

public import proofs.«01_k».proof.Proof.RunStart
public import proofs.«01_k».proof.Proof.RunFirst
public import proofs.«01_k».proof.Proof.RunMid
public import proofs.«01_k».proof.Proof.RunLast
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of the five results' staging buffers: dq, dk, dv, the bias's and the sinks' gradients. -/
abbrev Outs (F : FTy → Type) : Type :=
  Vec F S1x128x1024 .bf16 × Vec F S1x2048x256 .f32 × Vec F S1x2048x256 .f32 × Vec F S16x128x384 .f32 × Vec F S2048x1 .f32

/-- Window 0's staging buffer at point `t`, and that it is a whole buffer. -/
abbrev buf0 (t : Fin cfg0.N) : Memref sig .tc .vmem S1x128x1024 .f32 := win0_0.stage (cfg0.slots t 0)
abbrev hbuf0 (t : Fin cfg0.N) : (buf0 t).IsWhole := hstage0_0 ((cfg0.slots t 0).cast nbuf0_0)
/-- Window 1's staging buffer at point `t`, and that it is a whole buffer. -/
abbrev buf1 (t : Fin cfg0.N) : Memref sig .tc .vmem S1x128x256 .f32 := win0_1.stage (cfg0.slots t 1)
abbrev hbuf1 (t : Fin cfg0.N) : (buf1 t).IsWhole := hstage0_1 ((cfg0.slots t 1).cast nbuf0_1)
/-- Window 2's staging buffer at point `t`, and that it is a whole buffer. -/
abbrev buf2 (t : Fin cfg0.N) : Memref sig .tc .vmem S1x128x256 .f32 := win0_2.stage (cfg0.slots t 2)
abbrev hbuf2 (t : Fin cfg0.N) : (buf2 t).IsWhole := hstage0_2 ((cfg0.slots t 2).cast nbuf0_2)
/-- Window 3's staging buffer at point `t`, and that it is a whole buffer. -/
abbrev buf3 (t : Fin cfg0.N) : Memref sig .tc .vmem S1x128x256 .f32 := win0_3.stage (cfg0.slots t 3)
abbrev hbuf3 (t : Fin cfg0.N) : (buf3 t).IsWhole := hstage0_3 ((cfg0.slots t 3).cast nbuf0_3)
/-- Window 4's staging buffer at point `t`, and that it is a whole buffer. -/
abbrev buf4 (t : Fin cfg0.N) : Memref sig .tc .vmem S1x128x256 .f32 := win0_4.stage (cfg0.slots t 4)
abbrev hbuf4 (t : Fin cfg0.N) : (buf4 t).IsWhole := hstage0_4 ((cfg0.slots t 4).cast nbuf0_4)
/-- Window 5's staging buffer at point `t`, and that it is a whole buffer. -/
abbrev buf5 (t : Fin cfg0.N) : Memref sig .tc .vmem S1x128x256 .f32 := win0_5.stage (cfg0.slots t 5)
abbrev hbuf5 (t : Fin cfg0.N) : (buf5 t).IsWhole := hstage0_5 ((cfg0.slots t 5).cast nbuf0_5)
/-- Window 6's staging buffer at point `t`, and that it is a whole buffer. -/
abbrev buf6 (t : Fin cfg0.N) : Memref sig .tc .vmem S1x128x256 .f32 := win0_6.stage (cfg0.slots t 6)
abbrev hbuf6 (t : Fin cfg0.N) : (buf6 t).IsWhole := hstage0_6 ((cfg0.slots t 6).cast nbuf0_6)
/-- Window 7's staging buffer at point `t`, and that it is a whole buffer. -/
abbrev buf7 (t : Fin cfg0.N) : Memref sig .tc .vmem S16x128x384 .f32 := win0_7.stage (cfg0.slots t 7)
abbrev hbuf7 (t : Fin cfg0.N) : (buf7 t).IsWhole := hstage0_7 ((cfg0.slots t 7).cast nbuf0_7)
/-- Window 8's staging buffer at point `t`, and that it is a whole buffer. -/
abbrev buf8 (t : Fin cfg0.N) : Memref sig .tc .vmem S2048x1 .f32 := win0_8.stage (cfg0.slots t 8)
abbrev hbuf8 (t : Fin cfg0.N) : (buf8 t).IsWhole := hstage0_8 ((cfg0.slots t 8).cast nbuf0_8)
/-- Window 9's staging buffer at point `t`, and that it is a whole buffer. -/
abbrev buf9 (t : Fin cfg0.N) : Memref sig .tc .vmem S1x128x1024 .bf16 := win0_9.stage (cfg0.slots t 9)
abbrev hbuf9 (t : Fin cfg0.N) : (buf9 t).IsWhole := hstage0_9 ((cfg0.slots t 9).cast nbuf0_9)
/-- Window 10's staging buffer at point `t`, and that it is a whole buffer. -/
abbrev buf10 (t : Fin cfg0.N) : Memref sig .tc .vmem S1x128x1024 .bf16 := win0_10.stage (cfg0.slots t 10)
abbrev hbuf10 (t : Fin cfg0.N) : (buf10 t).IsWhole := hstage0_10 ((cfg0.slots t 10).cast nbuf0_10)
/-- Window 11's staging buffer at point `t`, and that it is a whole buffer. -/
abbrev buf11 (t : Fin cfg0.N) : Memref sig .tc .vmem S1x2048x256 .f32 := win0_11.stage (cfg0.slots t 11)
abbrev hbuf11 (t : Fin cfg0.N) : (buf11 t).IsWhole := hstage0_11 ((cfg0.slots t 11).cast nbuf0_11)
/-- Window 12's staging buffer at point `t`, and that it is a whole buffer. -/
abbrev buf12 (t : Fin cfg0.N) : Memref sig .tc .vmem S1x2048x256 .f32 := win0_12.stage (cfg0.slots t 12)
abbrev hbuf12 (t : Fin cfg0.N) : (buf12 t).IsWhole := hstage0_12 ((cfg0.slots t 12).cast nbuf0_12)
/-- Window 13's staging buffer at point `t`, and that it is a whole buffer. -/
abbrev buf13 (t : Fin cfg0.N) : Memref sig .tc .vmem S16x128x384 .f32 := win0_13.stage (cfg0.slots t 13)
abbrev hbuf13 (t : Fin cfg0.N) : (buf13 t).IsWhole := hstage0_13 ((cfg0.slots t 13).cast nbuf0_13)
/-- Window 14's staging buffer at point `t`, and that it is a whole buffer. -/
abbrev buf14 (t : Fin cfg0.N) : Memref sig .tc .vmem S2048x1 .f32 := win0_14.stage (cfg0.slots t 14)
abbrev hbuf14 (t : Fin cfg0.N) : (buf14 t).IsWhole := hstage0_14 ((cfg0.slots t 14).cast nbuf0_14)

/-- What kind of query block point `t` has. -/
theorem first_of (t : Fin cfg0.N) (h : t.val % 16 = 0) : First (grid0.coords t) := ⟨(coord1 t).trans h⟩
theorem last_of (t : Fin cfg0.N) (h : t.val % 16 = 15) : Last (grid0.coords t) := ⟨(coord1 t).trans h⟩
@[reducible] def mid_of (t : Fin cfg0.N) (h0 : ¬t.val % 16 = 0) (h1 : ¬t.val % 16 = 15) : Mid (grid0.coords t) :=
  ⟨t.val % 16 - 1, by rw [coord1 t]; omega, by omega⟩

/-- The run of the body at point 0, at the point's buffers and blocks. -/
abbrev atStart (c : Dev nD) (t : Fin cfg0.N) (h : t.val = 0) :=
  @runStart F _ _ (buf0 t) (hbuf0 t) (buf1 t) (hbuf1 t) (buf2 t) (hbuf2 t) (buf3 t) (hbuf3 t) (buf4 t) (hbuf4 t) (buf5 t) (hbuf5 t) (buf6 t) (hbuf6 t) (buf7 t) (hbuf7 t) (buf8 t) (hbuf8 t) (buf9 t) (hbuf9 t) (buf10 t) (hbuf10 t) (buf11 t) (hbuf11 t) (buf12 t) (hbuf12 t) (buf13 t) (hbuf13 t) (buf14 t) (hbuf14 t) c (grid0.coords t) (first_of t (by omega)) ((zeroKV_iff t).mpr (by omega)) ((zeroBS_iff t).mpr h)
    (X0_0 m c t) (X0_1 m c t) (X0_2 m c t) (X0_3 m c t) (X0_4 m c t) (X0_5 m c t) (X0_6 m c t) (iblk m c 7 t) (iblk m c 8 t) (iblk m c 9 t)

/-- What it leaves. -/
def outsStart (c : Dev nD) (t : Fin cfg0.N) (h : t.val = 0) : Outs F :=
  ((atStart m c t h).1, (atStart m c t h).2.1, (atStart m c t h).2.2.1,
    (atStart m c t h).2.2.2.1, (atStart m c t h).2.2.2.2.1)

/-- The run of the body at the first query block of a later sequence, at the point's buffers and blocks, from what the point before left. -/
abbrev atFirst (c : Dev nD) (t : Fin cfg0.N) (h : t.val % 16 = 0) (h1 : ¬t.val = 0) (o : Outs F) :=
  @runFirst F _ _ (buf0 t) (hbuf0 t) (buf1 t) (hbuf1 t) (buf2 t) (hbuf2 t) (buf3 t) (hbuf3 t) (buf4 t) (hbuf4 t) (buf5 t) (hbuf5 t) (buf6 t) (hbuf6 t) (buf7 t) (hbuf7 t) (buf8 t) (hbuf8 t) (buf9 t) (hbuf9 t) (buf10 t) (hbuf10 t) (buf11 t) (hbuf11 t) (buf12 t) (hbuf12 t) (buf13 t) (hbuf13 t) (buf14 t) (hbuf14 t) c (grid0.coords t) (first_of t h) ((zeroKV_iff t).mpr h) (fun k => h1 ((zeroBS_iff t).mp k))
    (X0_0 m c t) (X0_1 m c t) (X0_2 m c t) (X0_3 m c t) (X0_4 m c t) (X0_5 m c t) (X0_6 m c t) (iblk m c 7 t) (iblk m c 8 t) (iblk m c 9 t) o.2.2.2.1 o.2.2.2.2

/-- What it leaves. -/
def outsFirst (c : Dev nD) (t : Fin cfg0.N) (h : t.val % 16 = 0) (h1 : ¬t.val = 0) (o : Outs F) : Outs F :=
  ((atFirst m c t h h1 o).1, (atFirst m c t h h1 o).2.1, (atFirst m c t h h1 o).2.2.1,
    (atFirst m c t h h1 o).2.2.2.1, (atFirst m c t h h1 o).2.2.2.2.1)

/-- The run of the body at a query block with both neighbours, at the point's buffers and blocks, from what the point before left. -/
abbrev atMid (c : Dev nD) (t : Fin cfg0.N) (h : ¬t.val % 16 = 0) (h1 : ¬t.val % 16 = 15) (o : Outs F) :=
  @runMid F _ _ (buf0 t) (hbuf0 t) (buf1 t) (hbuf1 t) (buf2 t) (hbuf2 t) (buf3 t) (hbuf3 t) (buf4 t) (hbuf4 t) (buf5 t) (hbuf5 t) (buf6 t) (hbuf6 t) (buf7 t) (hbuf7 t) (buf8 t) (hbuf8 t) (buf9 t) (hbuf9 t) (buf10 t) (hbuf10 t) (buf11 t) (hbuf11 t) (buf12 t) (hbuf12 t) (buf13 t) (hbuf13 t) (buf14 t) (hbuf14 t) c (grid0.coords t) (mid_of t h h1) (fun k => h ((zeroKV_iff t).mp k)) (fun k => h (by rw [(zeroBS_iff t).mp k]))
    (X0_0 m c t) (X0_1 m c t) (X0_2 m c t) (X0_3 m c t) (X0_4 m c t) (X0_5 m c t) (X0_6 m c t) (iblk m c 7 t) (iblk m c 8 t) (iblk m c 9 t) o.2.1 o.2.2.1 o.2.2.2.1 o.2.2.2.2

/-- What it leaves. -/
def outsMid (c : Dev nD) (t : Fin cfg0.N) (h : ¬t.val % 16 = 0) (h1 : ¬t.val % 16 = 15) (o : Outs F) : Outs F :=
  ((atMid m c t h h1 o).1, (atMid m c t h h1 o).2.1, (atMid m c t h h1 o).2.2.1,
    (atMid m c t h h1 o).2.2.2.1, (atMid m c t h h1 o).2.2.2.2.1)

/-- The run of the body at the last query block of a sequence, at the point's buffers and blocks, from what the point before left. -/
abbrev atLast (c : Dev nD) (t : Fin cfg0.N) (h : t.val % 16 = 15) (o : Outs F) :=
  @runLast F _ _ (buf0 t) (hbuf0 t) (buf1 t) (hbuf1 t) (buf2 t) (hbuf2 t) (buf3 t) (hbuf3 t) (buf4 t) (hbuf4 t) (buf5 t) (hbuf5 t) (buf6 t) (hbuf6 t) (buf7 t) (hbuf7 t) (buf8 t) (hbuf8 t) (buf9 t) (hbuf9 t) (buf10 t) (hbuf10 t) (buf11 t) (hbuf11 t) (buf12 t) (hbuf12 t) (buf13 t) (hbuf13 t) (buf14 t) (hbuf14 t) c (grid0.coords t) (last_of t h) (fun k => by have := (zeroKV_iff t).mp k; omega) (fun k => by have := (zeroBS_iff t).mp k; omega)
    (X0_0 m c t) (X0_1 m c t) (X0_2 m c t) (X0_3 m c t) (X0_4 m c t) (X0_5 m c t) (X0_6 m c t) (iblk m c 7 t) (iblk m c 8 t) (iblk m c 9 t) o.2.1 o.2.2.1 o.2.2.2.1 o.2.2.2.2

/-- What it leaves. -/
def outsLast (c : Dev nD) (t : Fin cfg0.N) (h : t.val % 16 = 15) (o : Outs F) : Outs F :=
  ((atLast m c t h o).1, (atLast m c t h o).2.1, (atLast m c t h o).2.2.1,
    (atLast m c t h o).2.2.2.1, (atLast m c t h o).2.2.2.2.1)

/-- What the results' staging buffers hold after the body at point `n`, point by point. -/
def outsAt (c : Dev nD) : (n : ℕ) → n < cfg0.N → Outs F
  | 0, hn => outsStart m c ⟨0, hn⟩ rfl
  | n + 1, hn =>
    if h : (n + 1) % 16 = 0 then outsFirst m c ⟨n + 1, hn⟩ h (Nat.succ_ne_zero n) (outsAt c n (Nat.lt_of_succ_lt hn))
    else if h1 : (n + 1) % 16 = 15 then outsLast m c ⟨n + 1, hn⟩ h1 (outsAt c n (Nat.lt_of_succ_lt hn))
    else outsMid m c ⟨n + 1, hn⟩ h h1 (outsAt c n (Nat.lt_of_succ_lt hn))

/-- What the point before `t` left. -/
abbrev prevAt (c : Dev nD) (t : Fin cfg0.N) : Outs F := outsAt m c (t.val - 1) (Nat.lt_of_le_of_lt (Nat.sub_le _ _) t.isLt)

theorem outsAt_start (c : Dev nD) (t : Fin cfg0.N) (h : t.val = 0) : outsAt m c t.val t.isLt = outsStart m c t h := by
  obtain ⟨n, hn⟩ := t
  cases n with
  | zero => rfl
  | succ n => exact absurd h (Nat.succ_ne_zero n)

theorem outsAt_first (c : Dev nD) (t : Fin cfg0.N) (h : t.val % 16 = 0) (h1 : ¬t.val = 0) :
    outsAt m c t.val t.isLt = outsFirst m c t h h1 (prevAt m c t) := by
  obtain ⟨n, hn⟩ := t
  cases n with
  | zero => exact absurd rfl h1
  | succ n => exact (dif_pos h).trans rfl

theorem outsAt_last (c : Dev nD) (t : Fin cfg0.N) (h : t.val % 16 = 15) :
    outsAt m c t.val t.isLt = outsLast m c t h (prevAt m c t) := by
  obtain ⟨n, hn⟩ := t
  cases n with
  | zero => exact absurd (show 0 % 16 = 15 from h) (by decide)
  | succ n => exact (dif_neg (by intro k; dsimp only at h; omega)).trans ((dif_pos h).trans rfl)

theorem outsAt_mid (c : Dev nD) (t : Fin cfg0.N) (h : ¬t.val % 16 = 0) (h1 : ¬t.val % 16 = 15) :
    outsAt m c t.val t.isLt = outsMid m c t h h1 (prevAt m c t) := by
  obtain ⟨n, hn⟩ := t
  cases n with
  | zero => exact absurd rfl h
  | succ n => exact (dif_neg h).trans ((dif_neg h1).trans rfl)

/-- The proof data of the one pipeline: the arrays as the region finds them; after the body each operand's buffer still at
    its block and the results' at `outsAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => (outsAt m c t.val t.isLt).1
    | ⟨11, _⟩ => (outsAt m c t.val t.isLt).2.1
    | ⟨12, _⟩ => (outsAt m c t.val t.isLt).2.2.1
    | ⟨13, _⟩ => (outsAt m c t.val t.isLt).2.2.2.1
    | ⟨14, _⟩ => (outsAt m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = X0_0 m c t := by dsimp only [dats]
theorem after1 (c : Dev nD) (t : Fin cfg0.N) : (dats m 0 c).after 1 t = X0_1 m c t := by dsimp only [dats]
theorem after2 (c : Dev nD) (t : Fin cfg0.N) : (dats m 0 c).after 2 t = X0_2 m c t := by dsimp only [dats]
theorem after3 (c : Dev nD) (t : Fin cfg0.N) : (dats m 0 c).after 3 t = X0_3 m c t := by dsimp only [dats]
theorem after4 (c : Dev nD) (t : Fin cfg0.N) : (dats m 0 c).after 4 t = X0_4 m c t := by dsimp only [dats]
theorem after5 (c : Dev nD) (t : Fin cfg0.N) : (dats m 0 c).after 5 t = X0_5 m c t := by dsimp only [dats]
theorem after6 (c : Dev nD) (t : Fin cfg0.N) : (dats m 0 c).after 6 t = X0_6 m c t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (outsAt m c t.val t.isLt).1 := by dsimp only [dats]
theorem after11 (c : Dev nD) (t : Fin cfg0.N) : (dats m 0 c).after 11 t = (outsAt m c t.val t.isLt).2.1 := by dsimp only [dats]
theorem after12 (c : Dev nD) (t : Fin cfg0.N) : (dats m 0 c).after 12 t = (outsAt m c t.val t.isLt).2.2.1 := by dsimp only [dats]
theorem after13 (c : Dev nD) (t : Fin cfg0.N) : (dats m 0 c).after 13 t = (outsAt m c t.val t.isLt).2.2.2.1 := by dsimp only [dats]
theorem after14 (c : Dev nD) (t : Fin cfg0.N) : (dats m 0 c).after 14 t = (outsAt m c t.val t.isLt).2.2.2.2 := by dsimp only [dats]
theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d
theorem before4 (c : Dev nD) (t : Fin cfg0.N) (d) : (dats m 0 c).before 4 t d = X0_4 m c t :=
  before0_4_of m (dats m 0 c) (A_eq m c 4) (after4 m c) t d
theorem before5 (c : Dev nD) (t : Fin cfg0.N) (d) : (dats m 0 c).before 5 t d = X0_5 m c t :=
  before0_5_of m (dats m 0 c) (A_eq m c 5) (after5 m c) t d
theorem before6 (c : Dev nD) (t : Fin cfg0.N) (d) : (dats m 0 c).before 6 t d = X0_6 m c t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
/-- A result's buffer not yet written back holds what the point before left. -/
theorem before11 (c : Dev nD) (t : Fin cfg0.N) (h : ¬t.val % 16 = 0) (d) : (dats m 0 c).before 11 t d = (prevAt m c t).2.1 := by
  have hN : t.val < 64 := Nat.lt_of_lt_of_eq t.isLt N_0
  rw [Dat.before_out_kept _ 11 rfl t (by omega) (Bool.eq_false_iff.mpr fun k => by have := (flush0_11 _).mp k; dsimp only at this; omega)
    (fun _ => rfl) (fun _ _ => rfl)]
  dsimp only [dats]
/-- A result's buffer not yet written back holds what the point before left. -/
theorem before12 (c : Dev nD) (t : Fin cfg0.N) (h : ¬t.val % 16 = 0) (d) : (dats m 0 c).before 12 t d = (prevAt m c t).2.2.1 := by
  have hN : t.val < 64 := Nat.lt_of_lt_of_eq t.isLt N_0
  rw [Dat.before_out_kept _ 12 rfl t (by omega) (Bool.eq_false_iff.mpr fun k => by have := (flush0_12 _).mp k; dsimp only at this; omega)
    (fun _ => rfl) (fun _ _ => rfl)]
  dsimp only [dats]
/-- A result's buffer not yet written back holds what the point before left. -/
theorem before13 (c : Dev nD) (t : Fin cfg0.N) (h : ¬t.val = 0) (d) : (dats m 0 c).before 13 t d = (prevAt m c t).2.2.2.1 := by
  have hN : t.val < 64 := Nat.lt_of_lt_of_eq t.isLt N_0
  rw [Dat.before_out_kept _ 13 rfl t (by omega) (Bool.eq_false_iff.mpr fun k => by have := (flush0_13 _).mp k; dsimp only at this; omega)
    (fun _ => rfl) (fun _ _ => rfl)]
  dsimp only [dats]
/-- A result's buffer not yet written back holds what the point before left. -/
theorem before14 (c : Dev nD) (t : Fin cfg0.N) (h : ¬t.val = 0) (d) : (dats m 0 c).before 14 t d = (prevAt m c t).2.2.2.2 := by
  have hN : t.val < 64 := Nat.lt_of_lt_of_eq t.isLt N_0
  rw [Dat.before_out_kept _ 14 rfl t (by omega) (Bool.eq_false_iff.mpr fun k => by have := (flush0_14 _).mp k; dsimp only at this; omega)
    (fun _ => rfl) (fun _ _ => rfl)]
  dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d))
    ∗ (∃ d, owns (c : Thread nD τ) (buf13 t) fullShare ((dats m 0 c).before 13 t d))
    ∗ (∃ d, owns (c : Thread nD τ) (buf14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t)
    ∗ owns (c : Thread nD τ) (buf12 t) fullShare ((dats m 0 c).after 12 t)
    ∗ owns (c : Thread nD τ) (buf13 t) fullShare ((dats m 0 c).after 13 t)
    ∗ owns (c : Thread nD τ) (buf14 t) fullShare ((dats m 0 c).after 14 t))

theorem Φ_succ (c : Dev nD) (t : Fin cfg0.N) : (dats m 0 c).Φ t.succ = (dats m 0 c).Φ t.castSucc := rfl
theorem owes_succ (c : Dev nD) (t : Fin cfg0.N) : (dats m 0 c).owesAt () t.succ = (dats m 0 c).owesAt () t.castSucc := rfl

set_option maxHeartbeats 3600000 in
/-- The body at point 0 takes what it is called with to what it returns. -/
theorem soundStart (c : Dev nD) (t : Fin cfg0.N) (h : t.val = 0) :
    bodyPre m c t ⊢ wp frame (wpE (defs₀ (F := F)) Variants.none c none) Set.univ (bodyAt0 t) (fun _ => bodyPost m c t) := by
  have hN : t.val < 64 := Nat.lt_of_lt_of_eq t.isLt N_0
  unfold bodyPre bodyPost bodyAt0
  simp only [before0, before1, before2, before3, before4, before5, before6, before7, before8, before9]
  rw [Φ_succ, owes_succ, after0, after1, after2, after3, after4, after5, after6, after7, after8, after9, after10, after11, after12, after13, after14, outsAt_start m c t h]
  unfold outsStart; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atStart m c t h).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 3600000 in
/-- The body at the first query block of a later sequence takes what it is called with to what it returns. -/
theorem soundFirst (c : Dev nD) (t : Fin cfg0.N) (h : t.val % 16 = 0) (h1 : ¬t.val = 0) :
    bodyPre m c t ⊢ wp frame (wpE (defs₀ (F := F)) Variants.none c none) Set.univ (bodyAt0 t) (fun _ => bodyPost m c t) := by
  have hN : t.val < 64 := Nat.lt_of_lt_of_eq t.isLt N_0
  unfold bodyPre bodyPost bodyAt0
  simp only [before0, before1, before2, before3, before4, before5, before6, before7, before8, before9, before13 m c t h1, before14 m c t h1]
  rw [Φ_succ, owes_succ, after0, after1, after2, after3, after4, after5, after6, after7, after8, after9, after10, after11, after12, after13, after14, outsAt_first m c t h h1]
  unfold outsFirst; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atFirst m c t h h1 (prevAt m c t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 3600000 in
/-- The body at a query block with both neighbours takes what it is called with to what it returns. -/
theorem soundMid (c : Dev nD) (t : Fin cfg0.N) (h : ¬t.val % 16 = 0) (h1 : ¬t.val % 16 = 15) :
    bodyPre m c t ⊢ wp frame (wpE (defs₀ (F := F)) Variants.none c none) Set.univ (bodyAt0 t) (fun _ => bodyPost m c t) := by
  have hN : t.val < 64 := Nat.lt_of_lt_of_eq t.isLt N_0
  unfold bodyPre bodyPost bodyAt0
  simp only [before0, before1, before2, before3, before4, before5, before6, before7, before8, before9, before11 m c t (by omega), before12 m c t (by omega), before13 m c t (by omega), before14 m c t (by omega)]
  rw [Φ_succ, owes_succ, after0, after1, after2, after3, after4, after5, after6, after7, after8, after9, after10, after11, after12, after13, after14, outsAt_mid m c t h h1]
  unfold outsMid; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atMid m c t h h1 (prevAt m c t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 3600000 in
/-- The body at the last query block of a sequence takes what it is called with to what it returns. -/
theorem soundLast (c : Dev nD) (t : Fin cfg0.N) (h : t.val % 16 = 15) :
    bodyPre m c t ⊢ wp frame (wpE (defs₀ (F := F)) Variants.none c none) Set.univ (bodyAt0 t) (fun _ => bodyPost m c t) := by
  have hN : t.val < 64 := Nat.lt_of_lt_of_eq t.isLt N_0
  unfold bodyPre bodyPost bodyAt0
  simp only [before0, before1, before2, before3, before4, before5, before6, before7, before8, before9, before11 m c t (by omega), before12 m c t (by omega), before13 m c t (by omega), before14 m c t (by omega)]
  rw [Φ_succ, owes_succ, after0, after1, after2, after3, after4, after5, after6, after7, after8, after9, after10, after11, after12, after13, after14, outsAt_last m c t h]
  unfold outsLast; dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atLast m c t h (prevAt m c t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundStart m c t h0
  by_cases h : t.val % 16 = 0
  · exact soundFirst m c t h h0
  by_cases h1 : t.val % 16 = 15
  · exact soundLast m c t h1
  exact soundMid m c t h h1

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The whole program: every fair run ends, the arrays at what the proof data computes, the other buffers at what the host
    lines after the call compute from them, every counter at zero. -/
theorem run_main_zero : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_zero m ρ)

/-- The frame: the program ends from every memory and leaves its four arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_zero m ρ))

end Cert.KernelIdeal.Hand

end
-- ==== Proof.Outs.lean ====
/- What the body's loads read, and its results' staging buffers as named values of them. -/
module

public import proofs.«01_k».proof.Proof.Tile
public import proofs.«01_k».proof.Proof.Whole

@[expose] public section

set_option maxRecDepth 16384

noncomputable section

namespace Cert.KernelIdeal.Hand

open Cert.KernelIdeal Cert.KernelIdeal.Gen
open Idealize.ShloMosaic Idealize.ShloMosaic.Tactic

variable {F : FTy → Type} [FloatOps F] [Named F]

/-- Group `g`'s parts of the queries' (or cotangents', or their gradients') buffer, the bias's and the sinks'. -/
abbrev rq (g : Fin 4) : Rect S1x128x1024 := Rect.unit ![0, 0, 256 * g.val] S1x128x256.size (by revert g; decide)
abbrev rb (g : Fin 4) : Rect S16x128x384 := Rect.unit ![4 * g.val, 0, 0] S4x128x384.size (by revert g; decide)
abbrev rz (g : Fin 4) : Rect S2048x1 := Rect.unit ![512 * g.val, 0] S512x1.size (by revert g; decide)
/-- A whole block of keys or values. -/
abbrev rk : Rect S1x128x256 := Rect.unit ![0, 0, 0] S1x128x256.size (by decide)

section
variable (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S16x128x384 .f32) (harg9 : arg9.IsWhole) (arg10 : Memref sig .tc .vmem S2048x1 .f32) (harg10 : arg10.IsWhole) (arg11 : Memref sig .tc .vmem S1x128x1024 .bf16) (harg11 : arg11.IsWhole)

/-- The loads, through the buffers. -/
def insM (i : grid0.Coords) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) : Tile.Ins F where
  i := i
  q g := View.readAt (Elt F) arg2.view (rq g).toLoadRect (harg2.unread x0)
  k o := match o with
    | 0 => View.readAt (Elt F) arg3.view rk.toLoadRect (harg3.unread x1)
    | 1 => View.readAt (Elt F) arg4.view rk.toLoadRect (harg4.unread x2)
    | 2 => View.readAt (Elt F) arg5.view rk.toLoadRect (harg5.unread x3)
  v o := match o with
    | 0 => View.readAt (Elt F) arg6.view rk.toLoadRect (harg6.unread x4)
    | 1 => View.readAt (Elt F) arg7.view rk.toLoadRect (harg7.unread x5)
    | 2 => View.readAt (Elt F) arg8.view rk.toLoadRect (harg8.unread x6)
  b g := View.readAt (Elt F) arg9.view (rb g).toLoadRect (harg9.unread x7)
  z g := View.readAt (Elt F) arg10.view (rz g).toLoadRect (harg10.unread x8)
  d g := View.readAt (Elt F) arg11.view (rq g).toLoadRect (harg11.unread x9)

/-- The loads, of the buffers' contents. -/
def ins (i : grid0.Coords) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) : Tile.Ins F where
  i := i
  q g := View.ld x0 (rq g)
  k o := match o with
    | 0 => View.ld x1 rk
    | 1 => View.ld x2 rk
    | 2 => View.ld x3 rk
  v o := match o with
    | 0 => View.ld x4 rk
    | 1 => View.ld x5 rk
    | 2 => View.ld x6 rk
  b g := View.ld x7 (rb g)
  z g := View.ld x8 (rz g)
  d g := View.ld x9 (rq g)

theorem insM_eq (i : grid0.Coords) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) : insM arg2 harg2 arg3 harg3 arg4 harg4 arg5 harg5 arg6 harg6 arg7 harg7 arg8 harg8 arg9 harg9 arg10 harg10 arg11 harg11 i x0 x1 x2 x3 x4 x5 x6 x7 x8 x9 = ins i x0 x1 x2 x3 x4 x5 x6 x7 x8 x9 := by
  unfold insM ins
  simp only [View.readAt_eq_ld, Memref.IsWhole.read_unread]

variable (arg12 : Memref sig .tc .vmem S1x128x1024 .bf16) (harg12 : arg12.IsWhole) (arg13 : Memref sig .tc .vmem S1x2048x256 .f32) (harg13 : arg13.IsWhole) (arg14 : Memref sig .tc .vmem S1x2048x256 .f32) (harg14 : arg14.IsWhole) (arg15 : Memref sig .tc .vmem S16x128x384 .f32) (harg15 : arg15.IsWhole) (arg16 : Memref sig .tc .vmem S2048x1 .f32) (harg16 : arg16.IsWhole)

/-! ### How a point changes its results' buffers -/

/-- A load, an addition, what is stored: on one block of keys. -/
def rmw (ld : Vec F S1x128x128 .f32) (u : FVec F S128x128 .f32) : FVec F S1x128x128 .f32 :=
  shapeCast S1x128x128 (addf (shapeCast S128x128 ld shapeCasts_S1x128x128_S128x128) u) shapeCasts_S128x128_S1x128x128
/-- One of the three blocks of keys. -/
def blk (x : FVec F S384x128 .f32) (o : Fin 3) : FVec F S128x128 .f32 :=
  match o with
  | 0 => extractStridedSlice S128x128 ![0, 0] x slices_S384x128_o0_0_S128x128
  | 1 => extractStridedSlice S128x128 ![128, 0] x slices_S384x128_o128_0_S128x128
  | 2 => extractStridedSlice S128x128 ![256, 0] x slices_S384x128_o256_0_S128x128
/-- Where it is added: by group and block. -/
def okv (i : grid0.Coords) (g : Fin 4) (o : Fin 3) : Fin 3 → ℕ :=
  match g, o with
  | 0, 0 | 1, 0 => k0_off1 i 4294967295#32
  | 0, 1 | 1, 1 => k0_off1 i 0#32
  | 0, 2 | 1, 2 => k0_off1 i 1#32
  | 2, 0 | 3, 0 => k0_off2 i 4294967295#32
  | 2, 1 | 3, 1 => k0_off2 i 0#32
  | 2, 2 | 3, 2 => k0_off2 i 1#32
theorem okv_inb (i : grid0.Coords) (g : Fin 4) (o : Fin 3) : ∀ a, okv i g o a + S1x128x128.size a ≤ S1x2048x256.size a :=
  match g, o with
  | 0, 0 | 1, 0 => k0_off1_inb i 0
  | 0, 1 | 1, 1 => k0_off1_inb i 1
  | 0, 2 | 1, 2 => k0_off1_inb i 2
  | 2, 0 | 3, 0 => k0_off2_inb i 0
  | 2, 1 | 3, 1 => k0_off2_inb i 1
  | 2, 2 | 3, 2 => k0_off2_inb i 2
abbrev rkv (i : grid0.Coords) (g : Fin 4) (o : Fin 3) : Rect S1x2048x256 := Rect.unit (okv i g o) S1x128x128.size (okv_inb i g o)

/-- The additions of the groups' blocks into a buffer of keys, the last first: by group and block, and whether the load reads the
    contents `f` the buffer had or what the earlier stores left. -/
def chain (i : grid0.Coords) (v : View sig .tc .vmem S1x2048x256 .f32) (f : v.ty.Contents (Elt F)) (base : List (View.Piece (Elt F) S1x2048x256 .f32))
    (x : Fin 4 → FVec F S384x128 .f32) : List (Fin 4 × Fin 3 × Bool) → List (View.Piece (Elt F) S1x2048x256 .f32)
  | [] => base
  | (g, o, true) :: l => ⟨rkv i g o, rmw (v.readAt (Elt F) (rkv i g o).toLoadRect f) (blk (x g) o)⟩ :: chain i v f base x l
  | (g, o, false) :: l => ⟨rkv i g o, rmw (v.readCov (chain i v f base x l) (rkv i g o).toLoadRect) (blk (x g) o)⟩ :: chain i v f base x l

/-- The additions at a point with both neighbours, at a sequence's last point and at its first. -/
def stepsMid : List (Fin 4 × Fin 3 × Bool) :=
  [(3, 2, false), (3, 1, false), (3, 0, false), (2, 2, true), (2, 1, true), (2, 0, true),
   (1, 2, false), (1, 1, false), (1, 0, false), (0, 2, true), (0, 1, true), (0, 0, true)]
def stepsLast : List (Fin 4 × Fin 3 × Bool) :=
  [(3, 2, false), (3, 1, false), (3, 0, false), (2, 2, false), (2, 1, true), (2, 0, true),
   (1, 2, false), (1, 1, false), (1, 0, false), (0, 2, false), (0, 1, true), (0, 0, true)]
def stepsFirst : List (Fin 4 × Fin 3 × Bool) :=
  [(3, 2, false), (3, 1, false), (3, 0, false), (2, 2, false), (2, 1, false), (2, 0, false),
   (1, 2, false), (1, 1, false), (1, 0, false), (0, 2, false), (0, 1, false), (0, 0, false)]

/-- The zeroes stored first. -/
abbrev zk : View.Piece (Elt F) S1x2048x256 .f32 := ⟨Rect.unit ![0, 0, 0] S1x2048x256.size inb_S1x2048x256_S1x2048x256_0_0_0, k0_pay2⟩
abbrev zv : View.Piece (Elt F) S1x2048x256 .f32 := ⟨Rect.unit ![0, 0, 0] S1x2048x256.size inb_S1x2048x256_S1x2048x256_0_0_0, k0_pay3⟩
abbrev zb : View.Piece (Elt F) S16x128x384 .f32 := ⟨Rect.unit ![0, 0, 0] S16x128x384.size inb_S16x128x384_S16x128x384_0_0_0, k0_pay4⟩
abbrev zs : View.Piece (Elt F) S2048x1 .f32 := ⟨Rect.unit ![0, 0] S2048x1.size inb_S2048x1_S2048x1_0_0, k0_pay5⟩

/-- The bias's and the sinks' gradients of the first `n` groups added, over zeroes. -/
def chainB (I : Tile.Ins F) (v : View sig .tc .vmem S16x128x384 .f32) : (n : ℕ) → n ≤ 4 → List (View.Piece (Elt F) S16x128x384 .f32)
  | 0, _ => [zb]
  | n + 1, h => ⟨rb ⟨n, h⟩, I.db ⟨n, h⟩ (v.readCov (chainB I v n (Nat.le_of_succ_le h)) (rb ⟨n, h⟩).toLoadRect)⟩ :: chainB I v n (Nat.le_of_succ_le h)
def chainZ (I : Tile.Ins F) (v : View sig .tc .vmem S2048x1 .f32) : (n : ℕ) → n ≤ 4 → List (View.Piece (Elt F) S2048x1 .f32)
  | 0, _ => [zs]
  | n + 1, h => ⟨rz ⟨n, h⟩, I.dz ⟨n, h⟩ (v.readCov (chainZ I v n (Nat.le_of_succ_le h)) (rz ⟨n, h⟩).toLoadRect)⟩ :: chainZ I v n (Nat.le_of_succ_le h)

/-- The queries' gradients, group by group; the bias's and the sinks' over the point before's. -/
abbrev dqL (I : Tile.Ins F) : List (View.Piece (Elt F) S1x128x1024 .bf16) := [⟨rq 3, I.dq 3⟩, ⟨rq 2, I.dq 2⟩, ⟨rq 1, I.dq 1⟩, ⟨rq 0, I.dq 0⟩]
def dbL (I : Tile.Ins F) (v : View sig .tc .vmem S16x128x384 .f32) (f : v.ty.Contents (Elt F)) : List (View.Piece (Elt F) S16x128x384 .f32) :=
  [⟨rb 3, I.db 3 (v.readAt (Elt F) (rb 3).toLoadRect f)⟩, ⟨rb 2, I.db 2 (v.readAt (Elt F) (rb 2).toLoadRect f)⟩,
   ⟨rb 1, I.db 1 (v.readAt (Elt F) (rb 1).toLoadRect f)⟩, ⟨rb 0, I.db 0 (v.readAt (Elt F) (rb 0).toLoadRect f)⟩]
def dzL (I : Tile.Ins F) (v : View sig .tc .vmem S2048x1 .f32) (f : v.ty.Contents (Elt F)) : List (View.Piece (Elt F) S2048x1 .f32) :=
  [⟨rz 3, I.dz 3 (v.readAt (Elt F) (rz 3).toLoadRect f)⟩, ⟨rz 2, I.dz 2 (v.readAt (Elt F) (rz 2).toLoadRect f)⟩,
   ⟨rz 1, I.dz 1 (v.readAt (Elt F) (rz 1).toLoadRect f)⟩, ⟨rz 0, I.dz 0 (v.readAt (Elt F) (rz 0).toLoadRect f)⟩]

variable {arg12 : Memref sig .tc .vmem S1x128x1024 .bf16} {harg12 : arg12.IsWhole} {arg13 : Memref sig .tc .vmem S1x2048x256 .f32} {harg13 : arg13.IsWhole} {arg14 : Memref sig .tc .vmem S1x2048x256 .f32} {harg14 : arg14.IsWhole} {arg15 : Memref sig .tc .vmem S16x128x384 .f32} {harg15 : arg15.IsWhole} {arg16 : Memref sig .tc .vmem S2048x1 .f32} {harg16 : arg16.IsWhole}

theorem start10 (c : Dev nD) (i : grid0.Coords) [First i] (hc0 : zeroKV i) (hc1 : zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16)  :
    (runStart arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9).1 = View.read (Elt F) arg12.view (arg12.view.writes (Elt F) arg12.view.junk (dqL (insM arg2 harg2 arg3 harg3 arg4 harg4 arg5 harg5 arg6 harg6 arg7 harg7 arg8 harg8 arg9 harg9 arg10 harg10 arg11 harg11 i x0 x1 x2 x3 x4 x5 x6 x7 x8 x9))) := by sl_kernel_rfl

theorem start11 (c : Dev nD) (i : grid0.Coords) [First i] (hc0 : zeroKV i) (hc1 : zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16)  :
    (runStart arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9).2.1 = View.read (Elt F) arg13.view (arg13.view.writes (Elt F) arg13.view.junk (chain i arg13.view arg13.view.junk [zk] (insM arg2 harg2 arg3 harg3 arg4 harg4 arg5 harg5 arg6 harg6 arg7 harg7 arg8 harg8 arg9 harg9 arg10 harg10 arg11 harg11 i x0 x1 x2 x3 x4 x5 x6 x7 x8 x9).dk stepsFirst)) := by sl_kernel_rfl

theorem start12 (c : Dev nD) (i : grid0.Coords) [First i] (hc0 : zeroKV i) (hc1 : zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16)  :
    (runStart arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9).2.2.1 = View.read (Elt F) arg14.view (arg14.view.writes (Elt F) arg14.view.junk (chain i arg14.view arg14.view.junk [zv] (insM arg2 harg2 arg3 harg3 arg4 harg4 arg5 harg5 arg6 harg6 arg7 harg7 arg8 harg8 arg9 harg9 arg10 harg10 arg11 harg11 i x0 x1 x2 x3 x4 x5 x6 x7 x8 x9).dv stepsFirst)) := by sl_kernel_rfl

theorem start13 (c : Dev nD) (i : grid0.Coords) [First i] (hc0 : zeroKV i) (hc1 : zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16)  :
    (runStart arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9).2.2.2.1 = View.read (Elt F) arg15.view (arg15.view.writes (Elt F) arg15.view.junk (chainB (insM arg2 harg2 arg3 harg3 arg4 harg4 arg5 harg5 arg6 harg6 arg7 harg7 arg8 harg8 arg9 harg9 arg10 harg10 arg11 harg11 i x0 x1 x2 x3 x4 x5 x6 x7 x8 x9) arg15.view 4 (by decide))) := by sl_kernel_rfl

theorem start14 (c : Dev nD) (i : grid0.Coords) [First i] (hc0 : zeroKV i) (hc1 : zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16)  :
    (runStart arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9).2.2.2.2.1 = View.read (Elt F) arg16.view (arg16.view.writes (Elt F) arg16.view.junk (chainZ (insM arg2 harg2 arg3 harg3 arg4 harg4 arg5 harg5 arg6 harg6 arg7 harg7 arg8 harg8 arg9 harg9 arg10 harg10 arg11 harg11 i x0 x1 x2 x3 x4 x5 x6 x7 x8 x9) arg16.view 4 (by decide))) := by sl_kernel_rfl

theorem first10 (c : Dev nD) (i : grid0.Coords) [First i] (hc0 : zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo13 : Vec F S16x128x384 .f32) (xo14 : Vec F S2048x1 .f32) :
    (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo13 xo14).1 = View.read (Elt F) arg12.view (arg12.view.writes (Elt F) arg12.view.junk (dqL (insM arg2 harg2 arg3 harg3 arg4 harg4 arg5 harg5 arg6 harg6 arg7 harg7 arg8 harg8 arg9 harg9 arg10 harg10 arg11 harg11 i x0 x1 x2 x3 x4 x5 x6 x7 x8 x9))) := by sl_kernel_rfl

theorem first11 (c : Dev nD) (i : grid0.Coords) [First i] (hc0 : zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo13 : Vec F S16x128x384 .f32) (xo14 : Vec F S2048x1 .f32) :
    (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo13 xo14).2.1 = View.read (Elt F) arg13.view (arg13.view.writes (Elt F) arg13.view.junk (chain i arg13.view arg13.view.junk [zk] (insM arg2 harg2 arg3 harg3 arg4 harg4 arg5 harg5 arg6 harg6 arg7 harg7 arg8 harg8 arg9 harg9 arg10 harg10 arg11 harg11 i x0 x1 x2 x3 x4 x5 x6 x7 x8 x9).dk stepsFirst)) := by sl_kernel_rfl

theorem first12 (c : Dev nD) (i : grid0.Coords) [First i] (hc0 : zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo13 : Vec F S16x128x384 .f32) (xo14 : Vec F S2048x1 .f32) :
    (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo13 xo14).2.2.1 = View.read (Elt F) arg14.view (arg14.view.writes (Elt F) arg14.view.junk (chain i arg14.view arg14.view.junk [zv] (insM arg2 harg2 arg3 harg3 arg4 harg4 arg5 harg5 arg6 harg6 arg7 harg7 arg8 harg8 arg9 harg9 arg10 harg10 arg11 harg11 i x0 x1 x2 x3 x4 x5 x6 x7 x8 x9).dv stepsFirst)) := by sl_kernel_rfl

theorem first13 (c : Dev nD) (i : grid0.Coords) [First i] (hc0 : zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo13 : Vec F S16x128x384 .f32) (xo14 : Vec F S2048x1 .f32) :
    (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo13 xo14).2.2.2.1 = View.read (Elt F) arg15.view (arg15.view.writes (Elt F) (harg15.unread xo13) (dbL (insM arg2 harg2 arg3 harg3 arg4 harg4 arg5 harg5 arg6 harg6 arg7 harg7 arg8 harg8 arg9 harg9 arg10 harg10 arg11 harg11 i x0 x1 x2 x3 x4 x5 x6 x7 x8 x9) arg15.view (harg15.unread xo13))) := by sl_kernel_rfl

theorem first14 (c : Dev nD) (i : grid0.Coords) [First i] (hc0 : zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo13 : Vec F S16x128x384 .f32) (xo14 : Vec F S2048x1 .f32) :
    (runFirst arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo13 xo14).2.2.2.2.1 = View.read (Elt F) arg16.view (arg16.view.writes (Elt F) (harg16.unread xo14) (dzL (insM arg2 harg2 arg3 harg3 arg4 harg4 arg5 harg5 arg6 harg6 arg7 harg7 arg8 harg8 arg9 harg9 arg10 harg10 arg11 harg11 i x0 x1 x2 x3 x4 x5 x6 x7 x8 x9) arg16.view (harg16.unread xo14))) := by sl_kernel_rfl

theorem mid10 (c : Dev nD) (i : grid0.Coords) [Mid i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runMid arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).1 = View.read (Elt F) arg12.view (arg12.view.writes (Elt F) arg12.view.junk (dqL (insM arg2 harg2 arg3 harg3 arg4 harg4 arg5 harg5 arg6 harg6 arg7 harg7 arg8 harg8 arg9 harg9 arg10 harg10 arg11 harg11 i x0 x1 x2 x3 x4 x5 x6 x7 x8 x9))) := by sl_kernel_rfl

theorem mid11 (c : Dev nD) (i : grid0.Coords) [Mid i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runMid arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).2.1 = View.read (Elt F) arg13.view (arg13.view.writes (Elt F) (harg13.unread xo11) (chain i arg13.view (harg13.unread xo11) [] (insM arg2 harg2 arg3 harg3 arg4 harg4 arg5 harg5 arg6 harg6 arg7 harg7 arg8 harg8 arg9 harg9 arg10 harg10 arg11 harg11 i x0 x1 x2 x3 x4 x5 x6 x7 x8 x9).dk stepsMid)) := by sl_kernel_rfl

theorem mid12 (c : Dev nD) (i : grid0.Coords) [Mid i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runMid arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).2.2.1 = View.read (Elt F) arg14.view (arg14.view.writes (Elt F) (harg14.unread xo12) (chain i arg14.view (harg14.unread xo12) [] (insM arg2 harg2 arg3 harg3 arg4 harg4 arg5 harg5 arg6 harg6 arg7 harg7 arg8 harg8 arg9 harg9 arg10 harg10 arg11 harg11 i x0 x1 x2 x3 x4 x5 x6 x7 x8 x9).dv stepsMid)) := by sl_kernel_rfl

theorem mid13 (c : Dev nD) (i : grid0.Coords) [Mid i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runMid arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).2.2.2.1 = View.read (Elt F) arg15.view (arg15.view.writes (Elt F) (harg15.unread xo13) (dbL (insM arg2 harg2 arg3 harg3 arg4 harg4 arg5 harg5 arg6 harg6 arg7 harg7 arg8 harg8 arg9 harg9 arg10 harg10 arg11 harg11 i x0 x1 x2 x3 x4 x5 x6 x7 x8 x9) arg15.view (harg15.unread xo13))) := by sl_kernel_rfl

theorem mid14 (c : Dev nD) (i : grid0.Coords) [Mid i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runMid arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).2.2.2.2.1 = View.read (Elt F) arg16.view (arg16.view.writes (Elt F) (harg16.unread xo14) (dzL (insM arg2 harg2 arg3 harg3 arg4 harg4 arg5 harg5 arg6 harg6 arg7 harg7 arg8 harg8 arg9 harg9 arg10 harg10 arg11 harg11 i x0 x1 x2 x3 x4 x5 x6 x7 x8 x9) arg16.view (harg16.unread xo14))) := by sl_kernel_rfl

theorem last10 (c : Dev nD) (i : grid0.Coords) [Last i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runLast arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).1 = View.read (Elt F) arg12.view (arg12.view.writes (Elt F) arg12.view.junk (dqL (insM arg2 harg2 arg3 harg3 arg4 harg4 arg5 harg5 arg6 harg6 arg7 harg7 arg8 harg8 arg9 harg9 arg10 harg10 arg11 harg11 i x0 x1 x2 x3 x4 x5 x6 x7 x8 x9))) := by sl_kernel_rfl

theorem last11 (c : Dev nD) (i : grid0.Coords) [Last i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runLast arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).2.1 = View.read (Elt F) arg13.view (arg13.view.writes (Elt F) (harg13.unread xo11) (chain i arg13.view (harg13.unread xo11) [] (insM arg2 harg2 arg3 harg3 arg4 harg4 arg5 harg5 arg6 harg6 arg7 harg7 arg8 harg8 arg9 harg9 arg10 harg10 arg11 harg11 i x0 x1 x2 x3 x4 x5 x6 x7 x8 x9).dk stepsLast)) := by sl_kernel_rfl

theorem last12 (c : Dev nD) (i : grid0.Coords) [Last i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runLast arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).2.2.1 = View.read (Elt F) arg14.view (arg14.view.writes (Elt F) (harg14.unread xo12) (chain i arg14.view (harg14.unread xo12) [] (insM arg2 harg2 arg3 harg3 arg4 harg4 arg5 harg5 arg6 harg6 arg7 harg7 arg8 harg8 arg9 harg9 arg10 harg10 arg11 harg11 i x0 x1 x2 x3 x4 x5 x6 x7 x8 x9).dv stepsLast)) := by sl_kernel_rfl

theorem last13 (c : Dev nD) (i : grid0.Coords) [Last i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runLast arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).2.2.2.1 = View.read (Elt F) arg15.view (arg15.view.writes (Elt F) (harg15.unread xo13) (dbL (insM arg2 harg2 arg3 harg3 arg4 harg4 arg5 harg5 arg6 harg6 arg7 harg7 arg8 harg8 arg9 harg9 arg10 harg10 arg11 harg11 i x0 x1 x2 x3 x4 x5 x6 x7 x8 x9) arg15.view (harg15.unread xo13))) := by sl_kernel_rfl

theorem last14 (c : Dev nD) (i : grid0.Coords) [Last i] (hc0 : ¬zeroKV i) (hc1 : ¬zeroBS i) (x0 : Vec F S1x128x1024 .f32) (x1 : Vec F S1x128x256 .f32) (x2 : Vec F S1x128x256 .f32) (x3 : Vec F S1x128x256 .f32) (x4 : Vec F S1x128x256 .f32) (x5 : Vec F S1x128x256 .f32) (x6 : Vec F S1x128x256 .f32) (x7 : Vec F S16x128x384 .f32) (x8 : Vec F S2048x1 .f32) (x9 : Vec F S1x128x1024 .bf16) (xo11 : Vec F S1x2048x256 .f32) (xo12 : Vec F S1x2048x256 .f32) (xo13 : Vec F S16x128x384 .f32) (xo14 : Vec F S2048x1 .f32) :
    (runLast arg2 harg2 arg3 harg3 arg4 harg4 arg5 harg5 arg6 harg6 arg7 harg7 arg8 harg8 arg9 harg9 arg10 harg10 arg11 harg11 arg12 harg12 arg13 harg13 arg14 harg14 arg15 harg15 arg16 harg16 c i hc0 hc1 x0 x1 x2 x3 x4 x5 x6 x7 x8 x9 xo11 xo12 xo13 xo14).2.2.2.2.1 = View.read (Elt F) arg16.view (arg16.view.writes (Elt F) (harg16.unread xo14) (dzL (insM arg2 harg2 arg3 harg3 arg4 harg4 arg5 harg5 arg6 harg6 arg7 harg7 arg8 harg8 arg9 harg9 arg10 harg10 arg11 harg11 i x0 x1 x2 x3 x4 x5 x6 x7 x8 x9) arg16.view (harg16.unread xo14))) := by sl_kernel_rfl

end

end Cert.KernelIdeal.Hand

end
-- ==== Proof.OutAt.lean ====
/- The results' staging buffers after a point, read at an index, over the extended reals. -/
module

public import proofs.«01_k».proof.Proof.TileAt
public import proofs.«01_k».proof.Proof.Outs
public import Idealize.ShloMosaic.Lib.WritesUnit

@[expose] public section

set_option maxRecDepth 16384

noncomputable section

namespace Cert.KernelIdeal.Hand

open Cert.KernelIdeal Cert.KernelIdeal.Gen
open Idealize.ShloMosaic

attribute [local instance] Cert.KernelIdeal.Gen.facts

/-! ### Stores of the four groups -/

section Tiles

theorem rq_hit (v : View sig .tc .vmem S1x128x1024 .bf16) (f : v.ty.Contents (Elt Ideal)) (L) (g : Fin 4) (w : FVec Ideal S1x128x256 .bf16)
    (i : Fin 128) (c : Fin 1024) (h : c.val / 256 = g.val) :
    v.read (Elt Ideal) (v.writes (Elt Ideal) f (⟨rq g, w⟩ :: L)) (ix3 0 i c) = w (ix3 0 i ⟨c.val % 256, by omega⟩) :=
  View.read_writes_cons_unit_of_mem v f _ w L _ (ix3 0 i ⟨c.val % 256, by omega⟩) rfl fun a => match a with
    | 0 => by show 0 = 0 + 0; rfl
    | 1 => by show i.val = 0 + i.val; omega
    | 2 => by show c.val = 256 * g.val + c.val % 256; omega

theorem rq_miss (v : View sig .tc .vmem S1x128x1024 .bf16) (f : v.ty.Contents (Elt Ideal)) (L) (g : Fin 4) (w : FVec Ideal S1x128x256 .bf16)
    (i : Fin 128) (c : Fin 1024) (h : ¬c.val / 256 = g.val) :
    v.read (Elt Ideal) (v.writes (Elt Ideal) f (⟨rq g, w⟩ :: L)) (ix3 0 i c) = v.read (Elt Ideal) (v.writes (Elt Ideal) f L) (ix3 0 i c) :=
  View.read_writes_cons_unit_of_not_mem v f _ w L _ rfl 2 (by
    show c.val < 256 * g.val ∨ 256 * g.val + 256 ≤ c.val; omega)

theorem dqL_read (I : Tile.Ins Ideal) (v : View sig .tc .vmem S1x128x1024 .bf16) (f : v.ty.Contents (Elt Ideal)) (i : Fin 128) (c : Fin 1024) :
    v.read (Elt Ideal) (v.writes (Elt Ideal) f (dqL I)) (ix3 0 i c) = I.dq ⟨c.val / 256, by omega⟩ (ix3 0 i ⟨c.val % 256, by omega⟩) := by
  obtain ⟨g, hg⟩ : ∃ g : Fin 4, c.val / 256 = g.val := ⟨⟨c.val / 256, by omega⟩, rfl⟩
  rw [show (⟨c.val / 256, by omega⟩ : Fin 4) = g from Fin.ext hg]
  match g, hg with
  | 3, hg => exact rq_hit v f _ 3 _ i c hg
  | 2, hg => exact (rq_miss v f _ 3 _ i c (by rw [hg]; decide)).trans (rq_hit v f _ 2 _ i c hg)
  | 1, hg => exact (rq_miss v f _ 3 _ i c (by rw [hg]; decide)).trans ((rq_miss v f _ 2 _ i c (by rw [hg]; decide)).trans (rq_hit v f _ 1 _ i c hg))
  | 0, hg => exact (rq_miss v f _ 3 _ i c (by rw [hg]; decide)).trans ((rq_miss v f _ 2 _ i c (by rw [hg]; decide)).trans
      ((rq_miss v f _ 1 _ i c (by rw [hg]; decide)).trans (rq_hit v f _ 0 _ i c hg)))

theorem rb_hit (v : View sig .tc .vmem S16x128x384 .f32) (f : v.ty.Contents (Elt Ideal)) (L) (g : Fin 4) (w : FVec Ideal S4x128x384 .f32)
    (a : Fin 16) (i : Fin 128) (j : Fin 384) (h : a.val / 4 = g.val) :
    v.read (Elt Ideal) (v.writes (Elt Ideal) f (⟨rb g, w⟩ :: L)) (ix3 a i j) = w (ix3 ⟨a.val % 4, by omega⟩ i j) :=
  View.read_writes_cons_unit_of_mem v f _ w L _ (ix3 ⟨a.val % 4, by omega⟩ i j) rfl fun b => match b with
    | 0 => by show a.val = 4 * g.val + a.val % 4; omega
    | 1 => by show i.val = 0 + i.val; omega
    | 2 => by show j.val = 0 + j.val; omega

theorem rb_miss (v : View sig .tc .vmem S16x128x384 .f32) (f : v.ty.Contents (Elt Ideal)) (L) (g : Fin 4) (w : FVec Ideal S4x128x384 .f32)
    (a : Fin 16) (i : Fin 128) (j : Fin 384) (h : ¬a.val / 4 = g.val) :
    v.read (Elt Ideal) (v.writes (Elt Ideal) f (⟨rb g, w⟩ :: L)) (ix3 a i j) = v.read (Elt Ideal) (v.writes (Elt Ideal) f L) (ix3 a i j) :=
  View.read_writes_cons_unit_of_not_mem v f _ w L _ rfl 0 (by
    show a.val < 4 * g.val ∨ 4 * g.val + 4 ≤ a.val; omega)

theorem rz_hit (v : View sig .tc .vmem S2048x1 .f32) (f : v.ty.Contents (Elt Ideal)) (L) (g : Fin 4) (w : FVec Ideal S512x1 .f32)
    (a : Fin 2048) (h : a.val / 512 = g.val) :
    v.read (Elt Ideal) (v.writes (Elt Ideal) f (⟨rz g, w⟩ :: L)) (ix2 a 0) = w (ix2 ⟨a.val % 512, by omega⟩ 0) :=
  View.read_writes_cons_unit_of_mem v f _ w L _ (ix2 ⟨a.val % 512, by omega⟩ 0) rfl fun b => match b with
    | 0 => by show a.val = 512 * g.val + a.val % 512; omega
    | 1 => by show 0 = 0 + 0; rfl

theorem rz_miss (v : View sig .tc .vmem S2048x1 .f32) (f : v.ty.Contents (Elt Ideal)) (L) (g : Fin 4) (w : FVec Ideal S512x1 .f32)
    (a : Fin 2048) (h : ¬a.val / 512 = g.val) :
    v.read (Elt Ideal) (v.writes (Elt Ideal) f (⟨rz g, w⟩ :: L)) (ix2 a 0) = v.read (Elt Ideal) (v.writes (Elt Ideal) f L) (ix2 a 0) :=
  View.read_writes_cons_unit_of_not_mem v f _ w L _ rfl 0 (by
    show a.val < 512 * g.val ∨ 512 * g.val + 512 ≤ a.val; omega)

/-- A head's row in its group. -/
theorem db_apply (I : Tile.Ins Ideal) (g : Fin 4) (acc : FVec Ideal S4x128x384 .f32) (r : Fin 4) (i : Fin 128) (j : Fin 384) :
    I.db g acc (ix3 r i j) = acc (ix3 r i j) + I.ds g (ix2 ⟨128 * r.val + i.val, by omega⟩ j) := Tile.dbOut_apply _ _ _ _ _

/-- The sinks' gradient of one row. -/
def dzRow (I : Tile.Ins Ideal) (g : Fin 4) (ρ : Fin 512) : EReal :=
  RowMath.kDz (Tile.row (I.s g) ρ) (I.zz g (ix2 ρ 0)) (Tile.row (I.dp g) ρ)

theorem dz_apply (I : Tile.Ins Ideal) (g : Fin 4) (acc : FVec Ideal S512x1 .f32) (ρ : Fin 512) :
    I.dz g acc (ix2 ρ 0) = acc (ix2 ρ 0) + dzRow I g ρ := Tile.dzOut_apply _ _ _ _ _

/-- The bias's gradient of one row, by head and query. -/
def dbRow (I : Tile.Ins Ideal) (a : Fin 16) (i : Fin 128) (j : Fin 384) : EReal :=
  I.ds ⟨a.val / 4, by omega⟩ (ix2 ⟨128 * (a.val % 4) + i.val, by omega⟩ j)

theorem ld_rb (v : View sig .tc .vmem S16x128x384 .f32) (f : v.ty.Contents (Elt Ideal)) (g : Fin 4) (r : Fin 4) (i : Fin 128) (j : Fin 384) :
    v.readAt (Elt Ideal) (rb g).toLoadRect f (ix3 r i j) = v.read (Elt Ideal) f (ix3 ⟨4 * g.val + r.val, by omega⟩ i j) :=
  congrArg (v.read (Elt Ideal) f) (funext fun b => Fin.ext (match b with
    | 0 => by show 4 * g.val + 1 * r.val = 4 * g.val + r.val; omega
    | 1 => by show 0 + 1 * i.val = i.val; omega
    | 2 => by show 0 + 1 * j.val = j.val; omega))

theorem ld_rz (v : View sig .tc .vmem S2048x1 .f32) (f : v.ty.Contents (Elt Ideal)) (g : Fin 4) (ρ : Fin 512) :
    v.readAt (Elt Ideal) (rz g).toLoadRect f (ix2 ρ 0) = v.read (Elt Ideal) f (ix2 ⟨512 * g.val + ρ.val, by omega⟩ 0) :=
  congrArg (v.read (Elt Ideal) f) (funext fun b => Fin.ext (match b with
    | 0 => by show 512 * g.val + 1 * ρ.val = 512 * g.val + ρ.val; omega
    | 1 => by show 0 + 1 * 0 = 0; omega))

theorem db_hit (I : Tile.Ins Ideal) (v : View sig .tc .vmem S16x128x384 .f32) (f f' : v.ty.Contents (Elt Ideal)) (L) (g : Fin 4)
    (a : Fin 16) (i : Fin 128) (j : Fin 384) (h : a.val / 4 = g.val) :
    v.read (Elt Ideal) (v.writes (Elt Ideal) f (⟨rb g, I.db g (v.readAt (Elt Ideal) (rb g).toLoadRect f')⟩ :: L)) (ix3 a i j)
      = v.read (Elt Ideal) f' (ix3 a i j) + dbRow I a i j := by
  rw [rb_hit v f L g _ a i j h, db_apply, ld_rb]
  unfold dbRow
  rw [show (⟨a.val / 4, by omega⟩ : Fin 4) = g from Fin.ext h]
  exact congrArg (fun b => v.read (Elt Ideal) f' (ix3 b i j) + _) (Fin.ext (by simp only; omega))

theorem dz_hit (I : Tile.Ins Ideal) (v : View sig .tc .vmem S2048x1 .f32) (f f' : v.ty.Contents (Elt Ideal)) (L) (g : Fin 4)
    (a : Fin 2048) (h : a.val / 512 = g.val) :
    v.read (Elt Ideal) (v.writes (Elt Ideal) f (⟨rz g, I.dz g (v.readAt (Elt Ideal) (rz g).toLoadRect f')⟩ :: L)) (ix2 a 0)
      = v.read (Elt Ideal) f' (ix2 a 0) + dzRow I g ⟨a.val % 512, by omega⟩ := by
  rw [rz_hit v f L g _ a h, dz_apply, ld_rz]
  exact congrArg (fun b => v.read (Elt Ideal) f' (ix2 b 0) + _) (Fin.ext (by simp only; omega))

theorem dbL_read (I : Tile.Ins Ideal) (v : View sig .tc .vmem S16x128x384 .f32) (f : v.ty.Contents (Elt Ideal)) (a : Fin 16) (i : Fin 128) (j : Fin 384) :
    v.read (Elt Ideal) (v.writes (Elt Ideal) f (dbL I v f)) (ix3 a i j) = v.read (Elt Ideal) f (ix3 a i j) + dbRow I a i j := by
  obtain ⟨g, hg⟩ : ∃ g : Fin 4, a.val / 4 = g.val := ⟨⟨a.val / 4, by omega⟩, rfl⟩
  unfold dbL
  match g, hg with
  | 3, hg => exact db_hit I v f f _ 3 a i j hg
  | 2, hg => rw [rb_miss v f _ 3 _ a i j (by rw [hg]; decide)]; exact db_hit I v f f _ 2 a i j hg
  | 1, hg => rw [rb_miss v f _ 3 _ a i j (by rw [hg]; decide), rb_miss v f _ 2 _ a i j (by rw [hg]; decide)]; exact db_hit I v f f _ 1 a i j hg
  | 0, hg =>
    rw [rb_miss v f _ 3 _ a i j (by rw [hg]; decide), rb_miss v f _ 2 _ a i j (by rw [hg]; decide), rb_miss v f _ 1 _ a i j (by rw [hg]; decide)]
    exact db_hit I v f f _ 0 a i j hg

theorem dzL_read (I : Tile.Ins Ideal) (v : View sig .tc .vmem S2048x1 .f32) (f : v.ty.Contents (Elt Ideal)) (a : Fin 2048) :
    v.read (Elt Ideal) (v.writes (Elt Ideal) f (dzL I v f)) (ix2 a 0)
      = v.read (Elt Ideal) f (ix2 a 0) + dzRow I ⟨a.val / 512, by omega⟩ ⟨a.val % 512, by omega⟩ := by
  obtain ⟨g, hg⟩ : ∃ g : Fin 4, a.val / 512 = g.val := ⟨⟨a.val / 512, by omega⟩, rfl⟩
  rw [show (⟨a.val / 512, by omega⟩ : Fin 4) = g from Fin.ext hg]
  unfold dzL
  match g, hg with
  | 3, hg => exact dz_hit I v f f _ 3 a hg
  | 2, hg => rw [rz_miss v f _ 3 _ a (by rw [hg]; decide)]; exact dz_hit I v f f _ 2 a hg
  | 1, hg => rw [rz_miss v f _ 3 _ a (by rw [hg]; decide), rz_miss v f _ 2 _ a (by rw [hg]; decide)]; exact dz_hit I v f f _ 1 a hg
  | 0, hg =>
    rw [rz_miss v f _ 3 _ a (by rw [hg]; decide), rz_miss v f _ 2 _ a (by rw [hg]; decide), rz_miss v f _ 1 _ a (by rw [hg]; decide)]
    exact dz_hit I v f f _ 0 a hg

theorem zb_read (v : View sig .tc .vmem S16x128x384 .f32) (f : v.ty.Contents (Elt Ideal)) (a : Fin 16) (i : Fin 128) (j : Fin 384) :
    v.read (Elt Ideal) (v.writes (Elt Ideal) f [zb]) (ix3 a i j) = 0 :=
  (View.read_writes_cons_unit_of_mem v f _ (k0_pay4 (F := Ideal)) [] _ (ix3 a i j) rfl fun b => match b with
    | 0 => by show a.val = 0 + a.val; omega
    | 1 => by show i.val = 0 + i.val; omega
    | 2 => by show j.val = 0 + j.val; omega).trans (by pointwise [k0_pay4])

theorem zs_read (v : View sig .tc .vmem S2048x1 .f32) (f : v.ty.Contents (Elt Ideal)) (a : Fin 2048) :
    v.read (Elt Ideal) (v.writes (Elt Ideal) f [zs]) (ix2 a 0) = 0 :=
  (View.read_writes_cons_unit_of_mem v f _ (k0_pay5 (F := Ideal)) [] _ (ix2 a 0) rfl fun b => match b with
    | 0 => by show a.val = 0 + a.val; omega
    | 1 => by show 0 = 0 + 0; rfl).trans (by pointwise [k0_pay5])

theorem chainB_read (I : Tile.Ins Ideal) (v : View sig .tc .vmem S16x128x384 .f32) (a : Fin 16) (i : Fin 128) (j : Fin 384) :
    ∀ (n : ℕ) (h : n ≤ 4), v.read (Elt Ideal) (v.writes (Elt Ideal) v.junk (chainB I v n h)) (ix3 a i j)
      = if a.val / 4 < n then dbRow I a i j else 0
  | 0, h => (zb_read v _ a i j).trans (if_neg (by omega)).symm
  | n + 1, h => by
    have ih := chainB_read I v a i j n (Nat.le_of_succ_le h)
    unfold chainB
    by_cases e : a.val / 4 = n
    · rw [if_pos (by omega)]
      refine (db_hit I v _ (v.writes (Elt Ideal) v.junk (chainB I v n (Nat.le_of_succ_le h))) _ ⟨n, h⟩ a i j e).trans ?_
      rw [ih, if_neg (by omega), zero_add]
    · rw [rb_miss v _ _ ⟨n, h⟩ _ a i j e, ih]
      exact if_congr (by omega) rfl rfl

theorem chainZ_read (I : Tile.Ins Ideal) (v : View sig .tc .vmem S2048x1 .f32) (a : Fin 2048) :
    ∀ (n : ℕ) (h : n ≤ 4), v.read (Elt Ideal) (v.writes (Elt Ideal) v.junk (chainZ I v n h)) (ix2 a 0)
      = if a.val / 512 < n then dzRow I ⟨a.val / 512, by omega⟩ ⟨a.val % 512, by omega⟩ else 0
  | 0, h => (zs_read v _ a).trans (if_neg (by omega)).symm
  | n + 1, h => by
    have ih := chainZ_read I v a n (Nat.le_of_succ_le h)
    unfold chainZ
    by_cases e : a.val / 512 = n
    · rw [if_pos (by omega)]
      refine (dz_hit I v _ (v.writes (Elt Ideal) v.junk (chainZ I v n (Nat.le_of_succ_le h))) _ ⟨n, h⟩ a e).trans ?_
      rw [ih, if_neg (by omega), zero_add]
      exact congrArg (fun g => dzRow I g _) (Fin.ext e.symm)
    · rw [rz_miss v _ _ ⟨n, h⟩ _ a e, ih]
      exact if_congr (by omega) rfl rfl

end Tiles
/-! ### Additions into the keys' gradients -/

section Keys

variable (i : grid0.Coords) (row : Fin 3 → ℕ)

/-- The blocks' places: `row o` the first key of block `o`. -/
def Places : Prop := ∀ g o, okv i g o = ![0, row o, 128 * (g.val / 2)]

/-- The steps' loads are as they say: one off the contents before meets no earlier block, one off the stores meets a whole one. -/
def Good (whole : Prop) : List (Fin 4 × Fin 3 × Bool) → Prop
  | [] => True
  | (g, o, true) :: l => ¬whole ∧ (∀ s ∈ l, s.1.val / 2 ≠ g.val / 2 ∨ row s.2.1 + 128 ≤ row o ∨ row o + 128 ≤ row s.2.1) ∧ Good whole l
  | (g, o, false) :: l => (whole ∨ ∃ s ∈ l, s.1.val / 2 = g.val / 2 ∧ row s.2.1 = row o) ∧ Good whole l

/-- What one step adds at a key. -/
def adds (x : Fin 4 → FVec Ideal S384x128 .f32) (g : Fin 4) (o : Fin 3) (y : ℕ) (c : ℕ) : EReal :=
  if h : row o ≤ y ∧ y < row o + 128 ∧ c / 128 = g.val / 2 then x g (ix2 ⟨128 * o.val + (y - row o), by omega⟩ ⟨c % 128, by omega⟩) else 0

theorem rmw_apply (ld : FVec Ideal S1x128x128 .f32) (u : FVec Ideal S128x128 .f32) (a b : Fin 128) :
    rmw ld u (ix3 0 a b) = ld (ix3 0 a b) + u (ix2 a b) := by
  pointwise [rmw]

theorem blk_apply (x : FVec Ideal S384x128 .f32) (o : Fin 3) (a b : Fin 128) : blk x o (ix2 a b) = x (ix2 ⟨128 * o.val + a.val, by omega⟩ b) := by
  match o with
  | 0 => pointwise [blk]
  | 1 => pointwise [blk]
  | 2 => pointwise [blk]

variable {i row}

theorem rkv_idx (hp : Places i row) (g : Fin 4) (o : Fin 3) (a b : Fin 128) (y : Fin 2048) (c : Fin 256)
    (hy : y.val = row o + a.val) (hc : c.val = 128 * (g.val / 2) + b.val) : (rkv i g o).idx (ix3 0 a b) = ix3 0 y c :=
  funext fun d => Fin.ext (match d with
    | 0 => by show okv i g o 0 + 1 * 0 = 0; rw [hp]; rfl
    | 1 => by show okv i g o 1 + 1 * a.val = y.val; rw [hp, hy]; show row o + 1 * a.val = _; omega
    | 2 => by show okv i g o 2 + 1 * b.val = c.val; rw [hp, hc]; show 128 * (g.val / 2) + 1 * b.val = _; omega)

theorem mem_rkv (hp : Places i row) (g : Fin 4) (o : Fin 3) (y : S1x2048x256.Idx) :
    y ∈ (rkv i g o).set ↔ row o ≤ (y 1).val ∧ (y 1).val < row o + 128 ∧ (y 2).val / 128 = g.val / 2 := by
  rw [Rect.mem_set_unit]
  constructor
  · intro h
    have h1 := h 1
    have h2 := h 2
    rw [hp] at h1 h2
    change row o ≤ (y 1).val ∧ (y 1).val < row o + 128 at h1
    change 128 * (g.val / 2) ≤ (y 2).val ∧ (y 2).val < 128 * (g.val / 2) + 128 at h2
    omega
  · intro ⟨h1, h2, h3⟩ a
    rw [hp]
    match a with
    | 0 => have := (y 0).isLt; change (y 0).val < 1 at this; show 0 ≤ (y 0).val ∧ (y 0).val < 0 + 1; omega
    | 1 => exact ⟨h1, h2⟩
    | 2 => show 128 * (g.val / 2) ≤ (y 2).val ∧ (y 2).val < 128 * (g.val / 2) + 128; omega

/-- Every store of a chain is a step's, or one of the first. -/
theorem mem_chain (v : View sig .tc .vmem S1x2048x256 .f32) (f : v.ty.Contents (Elt Ideal)) (base) (x : Fin 4 → FVec Ideal S384x128 .f32)
    (l : List (Fin 4 × Fin 3 × Bool)) : (∀ p ∈ chain i v f base x l, p ∈ base ∨ ∃ s ∈ l, p.1 = rkv i s.1 s.2.1) ∧
      (∀ p ∈ base, p ∈ chain i v f base x l) ∧ (∀ s ∈ l, ∃ p ∈ chain i v f base x l, p.1 = rkv i s.1 s.2.1) := by
  induction l with
  | nil => exact ⟨fun p h => .inl h, fun p h => h, fun s h => absurd h (by simp)⟩
  | cons s l ih =>
    obtain ⟨g, o, d⟩ := s
    obtain ⟨h1, h2, h3⟩ := ih
    have key : ∃ w, chain i v f base x ((g, o, d) :: l) = ⟨rkv i g o, w⟩ :: chain i v f base x l := by
      cases d <;> exact ⟨_, rfl⟩
    obtain ⟨w, hw⟩ := key
    rw [hw]
    refine ⟨fun p hp => ?_, fun p hp => List.mem_cons_of_mem _ (h2 p hp), fun s hs => ?_⟩
    · rcases List.mem_cons.mp hp with rfl | hp
      · exact .inr ⟨(g, o, d), List.mem_cons_self, rfl⟩
      · rcases h1 p hp with h | ⟨s, hs, e⟩
        · exact .inl h
        · exact .inr ⟨s, List.mem_cons_of_mem _ hs, e⟩
    · rcases List.mem_cons.mp hs with rfl | hs
      · exact ⟨_, List.mem_cons_self, rfl⟩
      · obtain ⟨p, hp, e⟩ := h3 s hs
        exact ⟨p, List.mem_cons_of_mem _ hp, e⟩

/-- One step more. -/
theorem chain_step (hp : Places i row) (v : View sig .tc .vmem S1x2048x256 .f32) (f' : v.ty.Contents (Elt Ideal)) (L)
    (x : Fin 4 → FVec Ideal S384x128 .f32) (g : Fin 4) (o : Fin 3) (ld : FVec Ideal S1x128x128 .f32)
    (hld : ∀ j, ld j = v.read (Elt Ideal) (v.writes (Elt Ideal) f' L) ((rkv i g o).idx j)) (y : Fin 2048) (c : Fin 256) :
    v.read (Elt Ideal) (v.writes (Elt Ideal) f' (⟨rkv i g o, rmw ld (blk (x g) o)⟩ :: L)) (ix3 0 y c)
      = v.read (Elt Ideal) (v.writes (Elt Ideal) f' L) (ix3 0 y c) + adds row x g o y.val c.val := by
  unfold adds
  by_cases h : row o ≤ y.val ∧ y.val < row o + 128 ∧ c.val / 128 = g.val / 2
  · rw [dif_pos h]
    obtain ⟨h1, h2, h3⟩ := h
    have e := rkv_idx hp g o ⟨y.val - row o, by omega⟩ ⟨c.val % 128, by omega⟩ y c (by simp only; omega) (by simp only; omega)
    have hit := View.read_writes_cons_unit_of_mem v f' (okv_inb i g o) (rmw ld (blk (x g) o)) L (ix3 0 y c)
      (ix3 0 ⟨y.val - row o, by omega⟩ ⟨c.val % 128, by omega⟩) rfl
      (fun a => (congrArg Fin.val (congrFun e a)).symm.trans (congrArg (_ + ·) (Nat.one_mul _)))
    refine hit.trans ?_
    rw [rmw_apply, blk_apply, hld, e]
  · rw [dif_neg h, add_zero]
    have hit := View.read_writes_cons_unit v f' (okv_inb i g o) (rmw ld (blk (x g) o)) L (ix3 0 y c) rfl
    refine hit.trans (dif_neg fun hm => h ?_)
    have h1 := hm 1
    have h2 := hm 2
    rw [hp] at h1 h2
    change row o ≤ y.val ∧ y.val < row o + 128 at h1
    change 128 * (g.val / 2) ≤ c.val ∧ c.val < 128 * (g.val / 2) + 128 at h2
    omega

theorem chain_read (hp : Places i row) (v : View sig .tc .vmem S1x2048x256 .f32) (f f' : v.ty.Contents (Elt Ideal)) (base)
    (x : Fin 4 → FVec Ideal S384x128 .f32) (whole : Prop) (hw : whole → ∀ y, ∃ p ∈ base, y ∈ p.1.set)
    (hn : ¬whole → base = [] ∧ f' = f) (l : List (Fin 4 × Fin 3 × Bool)) (hl : Good row whole l) (y : Fin 2048) (c : Fin 256) :
    v.read (Elt Ideal) (v.writes (Elt Ideal) f' (chain i v f base x l)) (ix3 0 y c)
      = v.read (Elt Ideal) (v.writes (Elt Ideal) f' base) (ix3 0 y c) + (l.map fun s => adds row x s.1 s.2.1 y.val c.val).sum := by
  induction l with
  | nil => simp [chain]
  | cons s l ih =>
    obtain ⟨g, o, d⟩ := s
    obtain ⟨m1, m2, m3⟩ := mem_chain (i := i) v f base x l
    have step : ∀ ld, Good row whole l → (∀ j, ld j = v.read (Elt Ideal) (v.writes (Elt Ideal) f' (chain i v f base x l)) ((rkv i g o).idx j)) →
        v.read (Elt Ideal) (v.writes (Elt Ideal) f' (⟨rkv i g o, rmw ld (blk (x g) o)⟩ :: chain i v f base x l)) (ix3 0 y c)
          = v.read (Elt Ideal) (v.writes (Elt Ideal) f' base) (ix3 0 y c)
            + (((g, o, d) :: l).map fun s => adds row x s.1 s.2.1 y.val c.val).sum := by
      intro ld hg hld
      rw [chain_step hp v f' _ x g o ld hld y c, ih hg, List.map_cons, List.sum_cons, add_assoc]
      exact congrArg _ (add_comm _ _)
    cases d with
    | true =>
      obtain ⟨h0, h1, h2⟩ := hl
      obtain ⟨hb, hf⟩ := hn h0
      refine step _ h2 fun j => ?_
      subst hf
      refine (View.read_writes_apply_of_forall_not_mem v f' _ _ fun p hpm hm => ?_).symm
      rcases m1 p hpm with h | ⟨s, hs, e⟩
      · rw [hb] at h; exact absurd h (by simp)
      · rw [e] at hm
        have a1 := (mem_rkv hp _ _ _).mp hm
        have a2 := (mem_rkv hp g o _).mp ((rkv i g o).idx_mem j)
        have a3 := h1 s hs
        omega
    | false =>
      obtain ⟨h1, h2⟩ := hl
      refine step _ h2 fun j => ?_
      refine View.read_writes_apply_eq v v.junk v f' _ _ ?_
      rcases h1 with h | ⟨s, hs, e1, e2⟩
      · obtain ⟨p, hpm, hy⟩ := hw h ((rkv i g o).idx j)
        exact ⟨p, m2 p hpm, hy⟩
      · obtain ⟨p, hpm, e⟩ := m3 s hs
        refine ⟨p, hpm, ?_⟩
        rw [e]
        have a2 := (mem_rkv hp g o _).mp ((rkv i g o).idx_mem j)
        refine (mem_rkv hp _ _ _).mpr ?_
        omega

end Keys

end Cert.KernelIdeal.Hand

end
-- ==== Proof.OutPt.lean ====
/- The results' staging buffers after each point of the grid, at an index, over the extended reals. -/
module

public import proofs.«01_k».proof.Proof.OutAt

@[expose] public section

set_option maxRecDepth 16384

noncomputable section

namespace Cert.KernelIdeal.Hand

open Cert.KernelIdeal Cert.KernelIdeal.Gen
open Idealize.ShloMosaic Idealize.ShloMosaic.TcCoe

attribute [local instance] Cert.KernelIdeal.Gen.facts

/-- The first key of block `o` of query block `n`'s three, as added to. -/
def rowAt (n : ℕ) (o : Fin 3) : ℕ := 128 * min 15 (n + o.val - 1)

theorem places_of (i : grid0.Coords) (row : Fin 3 → ℕ)
    (h : k0_off1 i 4294967295#32 = ![0, row 0, 0] ∧ k0_off1 i 0#32 = ![0, row 1, 0] ∧ k0_off1 i 1#32 = ![0, row 2, 0]
      ∧ k0_off2 i 4294967295#32 = ![0, row 0, 128] ∧ k0_off2 i 0#32 = ![0, row 1, 128] ∧ k0_off2 i 1#32 = ![0, row 2, 128]) :
    Places i row := fun g o => match g, o with
  | 0, 0 => h.1
  | 1, 0 => h.1
  | 0, 1 => h.2.1
  | 1, 1 => h.2.1
  | 0, 2 => h.2.2.1
  | 1, 2 => h.2.2.1
  | 2, 0 => h.2.2.2.1
  | 3, 0 => h.2.2.2.1
  | 2, 1 => h.2.2.2.2.1
  | 3, 1 => h.2.2.2.2.1
  | 2, 2 => h.2.2.2.2.2
  | 3, 2 => h.2.2.2.2.2

theorem rowAt_first : rowAt 0 0 = 0 ∧ rowAt 0 1 = 0 ∧ rowAt 0 2 = 128 := by decide
theorem rowAt_last : rowAt 15 0 = 1792 ∧ rowAt 15 1 = 1920 ∧ rowAt 15 2 = 1920 := by decide
theorem rowAt_mid (n k : ℕ) (h : n = k + 1) (hk : k < 14) : rowAt n 0 = 128 * k ∧ rowAt n 1 = 128 * k + 128 ∧ rowAt n 2 = 128 * k + 256 := by
  subst h
  unfold rowAt
  refine ⟨?_, ?_, ?_⟩
  · show 128 * min 15 (k + 1 + 0 - 1) = _; omega
  · show 128 * min 15 (k + 1 + 1 - 1) = _; omega
  · show 128 * min 15 (k + 1 + 2 - 1) = _; omega

/-- Where each point's blocks of keys are added. -/
theorem places (t : Fin cfg0.N) : Places (grid0.coords t) (rowAt (t.val % 16)) := by
  by_cases h : t.val % 16 = 0
  · haveI := first_of t h
    obtain ⟨r0, r1, r2⟩ := rowAt_first
    exact places_of _ _ (by rw [h, r0, r1, r2]; exact off_First _)
  by_cases h1 : t.val % 16 = 15
  · haveI := last_of t h1
    obtain ⟨r0, r1, r2⟩ := rowAt_last
    exact places_of _ _ (by rw [h1, r0, r1, r2]; exact off_Last _)
  · obtain ⟨r0, r1, r2⟩ := rowAt_mid (t.val % 16) (t.val % 16 - 1) (by omega) (by omega)
    exact places_of _ _ (by rw [r0, r1, r2]; exact @off_Mid (grid0.coords t) (mid_of t h h1))

theorem good_first (row : Fin 3 → ℕ) : Good row True stepsFirst := by
  simp [Good, stepsFirst]
theorem good_last : Good (rowAt 15) False stepsLast := by
  obtain ⟨r0, r1, r2⟩ := rowAt_last
  simp [Good, stepsLast, r0, r1, r2]
theorem good_mid (n k : ℕ) (h : n = k + 1) (hk : k < 14) : Good (rowAt n) False stepsMid := by
  obtain ⟨r0, r1, r2⟩ := rowAt_mid n k h hk
  simp [Good, stepsMid, r0, r1, r2]
  try omega

/-- A sum over the steps, whatever their loads. -/
theorem sum_steps (f : Fin 4 → Fin 3 → EReal) : (stepsFirst.map fun s => f s.1 s.2.1).sum = ∑ g : Fin 4, ∑ o : Fin 3, f g o := by
  simp only [stepsFirst, List.map_cons, List.map_nil, List.sum_cons, List.sum_nil, Fin.sum_univ_four, Fin.sum_univ_three, add_zero]
  ac_rfl

theorem zk_read (v : View sig .tc .vmem S1x2048x256 .f32) (f : v.ty.Contents (Elt Ideal)) (y : Fin 2048) (c : Fin 256) :
    v.read (Elt Ideal) (v.writes (Elt Ideal) f [zk]) (ix3 0 y c) = 0 :=
  (View.read_writes_cons_unit_of_mem v f _ (k0_pay2 (F := Ideal)) [] _ (ix3 0 y c) rfl fun b => match b with
    | 0 => by show 0 = 0 + 0; rfl
    | 1 => by show y.val = 0 + y.val; omega
    | 2 => by show c.val = 0 + c.val; omega).trans (by pointwise [k0_pay2])
theorem zv_read (v : View sig .tc .vmem S1x2048x256 .f32) (f : v.ty.Contents (Elt Ideal)) (y : Fin 2048) (c : Fin 256) :
    v.read (Elt Ideal) (v.writes (Elt Ideal) f [zv]) (ix3 0 y c) = 0 :=
  (View.read_writes_cons_unit_of_mem v f _ (k0_pay3 (F := Ideal)) [] _ (ix3 0 y c) rfl fun b => match b with
    | 0 => by show 0 = 0 + 0; rfl
    | 1 => by show y.val = 0 + y.val; omega
    | 2 => by show c.val = 0 + c.val; omega).trans (by pointwise [k0_pay3])

/-- The zeroes cover the buffer. -/
theorem cover0 (w : S1x2048x256.Idx → Elt Ideal .f32) (y : S1x2048x256.Idx) :
    ∃ p ∈ ([⟨Rect.unit ![0, 0, 0] S1x2048x256.size inb_S1x2048x256_S1x2048x256_0_0_0, w⟩] : List (View.Piece (Elt Ideal) S1x2048x256 .f32)), y ∈ p.1.set :=
  ⟨_, List.mem_singleton.mpr rfl, View.mem_set_unit_zero (by funext a; fin_cases a <;> rfl) inb_S1x2048x256_S1x2048x256_0_0_0 y⟩

variable (m : (ℓ : Loc nD τ sig) → Buf (Elt Ideal) ℓ) (c : Dev nD)

/-- A point's loads. -/
def insAt (t : Fin cfg0.N) : Tile.Ins Ideal :=
  ins (grid0.coords t) (X0_0 m c t) (X0_1 m c t) (X0_2 m c t) (X0_3 m c t) (X0_4 m c t) (X0_5 m c t) (X0_6 m c t) (iblk m c 7 t) (iblk m c 8 t) (iblk m c 9 t)

theorem insM_at (t : Fin cfg0.N) : insM (buf0 t) (hbuf0 t) (buf1 t) (hbuf1 t) (buf2 t) (hbuf2 t) (buf3 t) (hbuf3 t) (buf4 t) (hbuf4 t) (buf5 t) (hbuf5 t) (buf6 t) (hbuf6 t) (buf7 t) (hbuf7 t) (buf8 t) (hbuf8 t) (buf9 t) (hbuf9 t) (grid0.coords t) (X0_0 m c t) (X0_1 m c t) (X0_2 m c t) (X0_3 m c t) (X0_4 m c t) (X0_5 m c t) (X0_6 m c t) (iblk m c 7 t) (iblk m c 8 t) (iblk m c 9 t) = insAt m c t := insM_eq ..

/-- The queries' gradients of a point. -/
theorem out10 (t : Fin cfg0.N) (i : Fin 128) (col : Fin 1024) :
    (outsAt m c t.val t.isLt).1 (ix3 0 i col) = (insAt m c t).dq ⟨col.val / 256, by omega⟩ (ix3 0 i ⟨col.val % 256, by omega⟩) := by
  have key : (outsAt m c t.val t.isLt).1 = View.read (Elt Ideal) (buf10 t).view ((buf10 t).view.writes (Elt Ideal) (buf10 t).view.junk (dqL (insAt m c t))) := by
    rw [← insM_at]
    by_cases h : t.val = 0
    · rw [outsAt_start m c t h]; haveI := first_of t (by omega); exact start10 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr (by omega)) (hc1 := (zeroBS_iff t).mpr h)  ..
    by_cases h0 : t.val % 16 = 0
    · rw [outsAt_first m c t h0 h]; haveI := first_of t h0; exact first10 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr h0) (hc1 := fun k => h ((zeroBS_iff t).mp k)) (xo13 := (prevAt m c t).2.2.2.1) (xo14 := (prevAt m c t).2.2.2.2) ..
    by_cases h1 : t.val % 16 = 15
    · rw [outsAt_last m c t h1]; haveI := last_of t h1; exact last10 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => by have := (zeroKV_iff t).mp k; omega) (hc1 := fun k => by have := (zeroBS_iff t).mp k; omega) (xo11 := (prevAt m c t).2.1) (xo12 := (prevAt m c t).2.2.1) (xo13 := (prevAt m c t).2.2.2.1) (xo14 := (prevAt m c t).2.2.2.2) ..
    · rw [outsAt_mid m c t h0 h1]; letI := mid_of t h0 h1; exact mid10 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => h0 ((zeroKV_iff t).mp k)) (hc1 := fun k => h0 (by rw [(zeroBS_iff t).mp k])) (xo11 := (prevAt m c t).2.1) (xo12 := (prevAt m c t).2.2.1) (xo13 := (prevAt m c t).2.2.2.1) (xo14 := (prevAt m c t).2.2.2.2) ..
  rw [key]
  exact dqL_read _ _ _ i col

/-- The bias's gradient after a point: one more. -/
theorem out13 (t : Fin cfg0.N) (a : Fin 16) (i : Fin 128) (j : Fin 384) :
    (outsAt m c t.val t.isLt).2.2.2.1 (ix3 a i j) = (if t.val = 0 then 0 else (prevAt m c t).2.2.2.1 (ix3 a i j)) + dbRow (insAt m c t) a i j := by
  by_cases h : t.val = 0
  · have key : (outsAt m c t.val t.isLt).2.2.2.1 = View.read (Elt Ideal) (buf13 t).view ((buf13 t).view.writes (Elt Ideal) (buf13 t).view.junk (chainB (insAt m c t) (buf13 t).view 4 (by decide))) := by
      rw [← insM_at, outsAt_start m c t h]; haveI := first_of t (by omega); exact start13 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr (by omega)) (hc1 := (zeroBS_iff t).mpr h)  ..
    rw [if_pos h, key, zero_add]
    exact (chainB_read _ _ a i j 4 (by decide)).trans (if_pos (by omega))
  · have key : (outsAt m c t.val t.isLt).2.2.2.1 = View.read (Elt Ideal) (buf13 t).view ((buf13 t).view.writes (Elt Ideal) ((hbuf13 t).unread (prevAt m c t).2.2.2.1) (dbL (insAt m c t) (buf13 t).view ((hbuf13 t).unread (prevAt m c t).2.2.2.1))) := by
      rw [← insM_at]
      by_cases h0 : t.val % 16 = 0
      · rw [outsAt_first m c t h0 h]; haveI := first_of t h0; exact first13 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr h0) (hc1 := fun k => h ((zeroBS_iff t).mp k)) (xo13 := (prevAt m c t).2.2.2.1) (xo14 := (prevAt m c t).2.2.2.2) ..
      by_cases h1 : t.val % 16 = 15
      · rw [outsAt_last m c t h1]; haveI := last_of t h1; exact last13 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => by have := (zeroKV_iff t).mp k; omega) (hc1 := fun k => by have := (zeroBS_iff t).mp k; omega) (xo11 := (prevAt m c t).2.1) (xo12 := (prevAt m c t).2.2.1) (xo13 := (prevAt m c t).2.2.2.1) (xo14 := (prevAt m c t).2.2.2.2) ..
      · rw [outsAt_mid m c t h0 h1]; letI := mid_of t h0 h1; exact mid13 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => h0 ((zeroKV_iff t).mp k)) (hc1 := fun k => h0 (by rw [(zeroBS_iff t).mp k])) (xo11 := (prevAt m c t).2.1) (xo12 := (prevAt m c t).2.2.1) (xo13 := (prevAt m c t).2.2.2.1) (xo14 := (prevAt m c t).2.2.2.2) ..
    rw [if_neg h, key, dbL_read, Memref.IsWhole.read_unread]

/-- The sinks' gradients after a point: one more. -/
theorem out14 (t : Fin cfg0.N) (a : Fin 2048) :
    (outsAt m c t.val t.isLt).2.2.2.2 (ix2 a 0) = (if t.val = 0 then 0 else (prevAt m c t).2.2.2.2 (ix2 a 0)) + dzRow (insAt m c t) ⟨a.val / 512, by omega⟩ ⟨a.val % 512, by omega⟩ := by
  by_cases h : t.val = 0
  · have key : (outsAt m c t.val t.isLt).2.2.2.2 = View.read (Elt Ideal) (buf14 t).view ((buf14 t).view.writes (Elt Ideal) (buf14 t).view.junk (chainZ (insAt m c t) (buf14 t).view 4 (by decide))) := by
      rw [← insM_at, outsAt_start m c t h]; haveI := first_of t (by omega); exact start14 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr (by omega)) (hc1 := (zeroBS_iff t).mpr h)  ..
    rw [if_pos h, key, zero_add]
    exact (chainZ_read _ _ a 4 (by decide)).trans (if_pos (by omega))
  · have key : (outsAt m c t.val t.isLt).2.2.2.2 = View.read (Elt Ideal) (buf14 t).view ((buf14 t).view.writes (Elt Ideal) ((hbuf14 t).unread (prevAt m c t).2.2.2.2) (dzL (insAt m c t) (buf14 t).view ((hbuf14 t).unread (prevAt m c t).2.2.2.2))) := by
      rw [← insM_at]
      by_cases h0 : t.val % 16 = 0
      · rw [outsAt_first m c t h0 h]; haveI := first_of t h0; exact first14 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr h0) (hc1 := fun k => h ((zeroBS_iff t).mp k)) (xo13 := (prevAt m c t).2.2.2.1) (xo14 := (prevAt m c t).2.2.2.2) ..
      by_cases h1 : t.val % 16 = 15
      · rw [outsAt_last m c t h1]; haveI := last_of t h1; exact last14 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => by have := (zeroKV_iff t).mp k; omega) (hc1 := fun k => by have := (zeroBS_iff t).mp k; omega) (xo11 := (prevAt m c t).2.1) (xo12 := (prevAt m c t).2.2.1) (xo13 := (prevAt m c t).2.2.2.1) (xo14 := (prevAt m c t).2.2.2.2) ..
      · rw [outsAt_mid m c t h0 h1]; letI := mid_of t h0 h1; exact mid14 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => h0 ((zeroKV_iff t).mp k)) (hc1 := fun k => h0 (by rw [(zeroBS_iff t).mp k])) (xo11 := (prevAt m c t).2.1) (xo12 := (prevAt m c t).2.2.1) (xo13 := (prevAt m c t).2.2.2.1) (xo14 := (prevAt m c t).2.2.2.2) ..
    rw [if_neg h, key, dzL_read, Memref.IsWhole.read_unread]

/-- The keys' gradients after a point: the point's blocks added, on zeroes at a sequence's first. -/
theorem out11 (t : Fin cfg0.N) (y : Fin 2048) (l : Fin 256) :
    (outsAt m c t.val t.isLt).2.1 (ix3 0 y l) = (if t.val % 16 = 0 then 0 else (prevAt m c t).2.1 (ix3 0 y l))
      + ∑ g : Fin 4, ∑ o : Fin 3, adds (rowAt (t.val % 16)) (insAt m c t).dk g o y.val l.val := by
  have hp := places t
  rw [← sum_steps (fun g o => adds (rowAt (t.val % 16)) (insAt m c t).dk g o y.val l.val)]
  by_cases h0 : t.val % 16 = 0
  · have key : (outsAt m c t.val t.isLt).2.1 = View.read (Elt Ideal) (buf11 t).view ((buf11 t).view.writes (Elt Ideal) (buf11 t).view.junk (chain (grid0.coords t) (buf11 t).view (buf11 t).view.junk [zk] (insAt m c t).dk stepsFirst)) := by
      rw [← insM_at]
      haveI := first_of t h0
      by_cases h : t.val = 0
      · rw [outsAt_start m c t h]; exact start11 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr (by omega)) (hc1 := (zeroBS_iff t).mpr h)  ..
      · rw [outsAt_first m c t h0 h]; exact first11 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr h0) (hc1 := fun k => h ((zeroBS_iff t).mp k)) (xo13 := (prevAt m c t).2.2.2.1) (xo14 := (prevAt m c t).2.2.2.2) ..
    rw [if_pos h0, key, chain_read hp _ _ _ _ _ True (fun _ => cover0 _) (fun h => absurd trivial h) _ (good_first _) y l, zk_read]
  · by_cases h1 : t.val % 16 = 15
    · have key : (outsAt m c t.val t.isLt).2.1 = View.read (Elt Ideal) (buf11 t).view ((buf11 t).view.writes (Elt Ideal) ((hbuf11 t).unread (prevAt m c t).2.1) (chain (grid0.coords t) (buf11 t).view ((hbuf11 t).unread (prevAt m c t).2.1) [] (insAt m c t).dk stepsLast)) := by
        rw [← insM_at, outsAt_last m c t h1]; haveI := last_of t h1; exact last11 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => by have := (zeroKV_iff t).mp k; omega) (hc1 := fun k => by have := (zeroBS_iff t).mp k; omega) (xo11 := (prevAt m c t).2.1) (xo12 := (prevAt m c t).2.2.1) (xo13 := (prevAt m c t).2.2.2.1) (xo14 := (prevAt m c t).2.2.2.2) ..
      rw [if_neg h0, key, chain_read hp _ _ _ _ _ False False.elim (fun _ => ⟨rfl, rfl⟩) _ (by rw [h1]; exact good_last) y l]
      exact congrArg (· + _) (congrFun ((hbuf11 t).read_unread _) _)
    · have key : (outsAt m c t.val t.isLt).2.1 = View.read (Elt Ideal) (buf11 t).view ((buf11 t).view.writes (Elt Ideal) ((hbuf11 t).unread (prevAt m c t).2.1) (chain (grid0.coords t) (buf11 t).view ((hbuf11 t).unread (prevAt m c t).2.1) [] (insAt m c t).dk stepsMid)) := by
        rw [← insM_at, outsAt_mid m c t h0 h1]; letI := mid_of t h0 h1; exact mid11 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => h0 ((zeroKV_iff t).mp k)) (hc1 := fun k => h0 (by rw [(zeroBS_iff t).mp k])) (xo11 := (prevAt m c t).2.1) (xo12 := (prevAt m c t).2.2.1) (xo13 := (prevAt m c t).2.2.2.1) (xo14 := (prevAt m c t).2.2.2.2) ..
      rw [if_neg h0, key, chain_read hp _ _ _ _ _ False False.elim (fun _ => ⟨rfl, rfl⟩) _ (good_mid _ (t.val % 16 - 1) (by omega) (by omega)) y l]
      exact congrArg (· + _) (congrFun ((hbuf11 t).read_unread _) _)

/-- The values' gradients after a point: the point's blocks added, on zeroes at a sequence's first. -/
theorem out12 (t : Fin cfg0.N) (y : Fin 2048) (l : Fin 256) :
    (outsAt m c t.val t.isLt).2.2.1 (ix3 0 y l) = (if t.val % 16 = 0 then 0 else (prevAt m c t).2.2.1 (ix3 0 y l))
      + ∑ g : Fin 4, ∑ o : Fin 3, adds (rowAt (t.val % 16)) (insAt m c t).dv g o y.val l.val := by
  have hp := places t
  rw [← sum_steps (fun g o => adds (rowAt (t.val % 16)) (insAt m c t).dv g o y.val l.val)]
  by_cases h0 : t.val % 16 = 0
  · have key : (outsAt m c t.val t.isLt).2.2.1 = View.read (Elt Ideal) (buf12 t).view ((buf12 t).view.writes (Elt Ideal) (buf12 t).view.junk (chain (grid0.coords t) (buf12 t).view (buf12 t).view.junk [zv] (insAt m c t).dv stepsFirst)) := by
      rw [← insM_at]
      haveI := first_of t h0
      by_cases h : t.val = 0
      · rw [outsAt_start m c t h]; exact start12 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr (by omega)) (hc1 := (zeroBS_iff t).mpr h)  ..
      · rw [outsAt_first m c t h0 h]; exact first12 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := (zeroKV_iff t).mpr h0) (hc1 := fun k => h ((zeroBS_iff t).mp k)) (xo13 := (prevAt m c t).2.2.2.1) (xo14 := (prevAt m c t).2.2.2.2) ..
    rw [if_pos h0, key, chain_read hp _ _ _ _ _ True (fun _ => cover0 _) (fun h => absurd trivial h) _ (good_first _) y l, zv_read]
  · by_cases h1 : t.val % 16 = 15
    · have key : (outsAt m c t.val t.isLt).2.2.1 = View.read (Elt Ideal) (buf12 t).view ((buf12 t).view.writes (Elt Ideal) ((hbuf12 t).unread (prevAt m c t).2.2.1) (chain (grid0.coords t) (buf12 t).view ((hbuf12 t).unread (prevAt m c t).2.2.1) [] (insAt m c t).dv stepsLast)) := by
        rw [← insM_at, outsAt_last m c t h1]; haveI := last_of t h1; exact last12 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => by have := (zeroKV_iff t).mp k; omega) (hc1 := fun k => by have := (zeroBS_iff t).mp k; omega) (xo11 := (prevAt m c t).2.1) (xo12 := (prevAt m c t).2.2.1) (xo13 := (prevAt m c t).2.2.2.1) (xo14 := (prevAt m c t).2.2.2.2) ..
      rw [if_neg h0, key, chain_read hp _ _ _ _ _ False False.elim (fun _ => ⟨rfl, rfl⟩) _ (by rw [h1]; exact good_last) y l]
      exact congrArg (· + _) (congrFun ((hbuf12 t).read_unread _) _)
    · have key : (outsAt m c t.val t.isLt).2.2.1 = View.read (Elt Ideal) (buf12 t).view ((buf12 t).view.writes (Elt Ideal) ((hbuf12 t).unread (prevAt m c t).2.2.1) (chain (grid0.coords t) (buf12 t).view ((hbuf12 t).unread (prevAt m c t).2.2.1) [] (insAt m c t).dv stepsMid)) := by
        rw [← insM_at, outsAt_mid m c t h0 h1]; letI := mid_of t h0 h1; exact mid12 (arg12 := buf10 t) (harg12 := hbuf10 t) (arg13 := buf11 t) (harg13 := hbuf11 t) (arg14 := buf12 t) (harg14 := hbuf12 t) (arg15 := buf13 t) (harg15 := hbuf13 t) (arg16 := buf14 t) (harg16 := hbuf14 t) (hc0 := fun k => h0 ((zeroKV_iff t).mp k)) (hc1 := fun k => h0 (by rw [(zeroBS_iff t).mp k])) (xo11 := (prevAt m c t).2.1) (xo12 := (prevAt m c t).2.2.1) (xo13 := (prevAt m c t).2.2.2.1) (xo14 := (prevAt m c t).2.2.2.2) ..
      rw [if_neg h0, key, chain_read hp _ _ _ _ _ False False.elim (fun _ => ⟨rfl, rfl⟩) _ (good_mid _ (t.val % 16 - 1) (by omega) (by omega)) y l]
      exact congrArg (· + _) (congrFun ((hbuf12 t).read_unread _) _)

end Cert.KernelIdeal.Hand

end
-- ==== Proof.Words.lean ====
/- The window of a query, in words. -/
module

public import Idealize.ShloMosaic.Lib.Pointwise

@[expose] public section

namespace Cert.Words

open Idealize.ShloMosaic

/-- A key's distance from a query, compared with the window's reach. -/
theorem near : ∀ i : Fin 128, ∀ j : Fin 384,
    IntOp.cmpi CmpIPredicate.sle (IntOp.absi (IntOp.subi (IntOp.subi (BitVec.ofNat 32 j.val) 128#32) (BitVec.ofNat 32 i.val))) 128#32
      = if i.val ≤ j.val ∧ j.val ≤ i.val + 256 then 1#1 else 0#1 := by decide +kernel

end Cert.Words

end
-- ==== Proof.Win.lean ====
/- A point's loads, over the program's arguments. -/
module

public import proofs.«01_k».proof.Proof.OutPt
public import proofs.«01_k».proof.Proof.Words
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe

attribute [local instance] Cert.KernelIdeal.Gen.facts

variable (m : (ℓ : Loc nD τ sig) → Buf (Elt Ideal) ℓ) (c : Dev nD)

/-! ### The arguments, and what the host prepares of them -/

/-- The projections, the bias, the sinks and the cotangents, as launched. -/
abbrev proj (b : Fin 4) (y : Fin 2048) (l : Fin 4128) : EReal := m ((c : Thread nD τ).loc main_arg0) (ix3 b y l)
abbrev bandB (h : Fin 16) (i : Fin 128) (j : Fin 384) : EReal := m ((c : Thread nD τ).loc main_arg1) (ix3 h i j)
abbrev sinkA (h : Fin 16) : EReal := m ((c : Thread nD τ).loc main_arg2) (ix1 h)
abbrev dmix (b : Fin 4) (y : Fin 2048) (l : Fin 2048) : EReal := m ((c : Thread nD τ).loc main_arg3) (ix3 b y l)

/-- The permuted projections' queries. -/
theorem V_q (b : Fin 4) (y : Fin 2048) (l : Fin 1024) : V m c main_v19 (ix3 b y ⟨l.val, by omega⟩) = proj m c b y ⟨2592 + l.val, by omega⟩ := by
  unfold V V0
  simp only [hostOps0, hostOps0_1, hostOps0_2, List.flatten_cons, List.flatten_nil, List.append_nil, List.cons_append, List.nil_append]
  after_reads_at
  after_reads_at

/-- Their keys. -/
theorem V_k (b : Fin 4) (y : Fin 2048) (l : Fin 256) : V m c main_v19 (ix3 b y ⟨3584 + l.val, by omega⟩) = proj m c b y ⟨3616 + l.val, by omega⟩ := by
  unfold V V0
  simp only [hostOps0, hostOps0_1, hostOps0_2, List.flatten_cons, List.flatten_nil, List.append_nil, List.cons_append, List.nil_append]
  after_reads_at
  after_reads_at
  refine (dif_neg (by omega)).trans ((dif_neg (by omega)).trans ((dif_neg (by omega)).trans ((dif_pos (by omega)).trans ?_)))
  exact congrArg (fun l => proj m c b y l) (Fin.ext (by simp only; omega))

/-- Their values. -/
theorem V_v (b : Fin 4) (y : Fin 2048) (l : Fin 256) : V m c main_v19 (ix3 b y ⟨3840 + l.val, by omega⟩) = proj m c b y ⟨3872 + l.val, by omega⟩ := by
  unfold V V0
  simp only [hostOps0, hostOps0_1, hostOps0_2, List.flatten_cons, List.flatten_nil, List.append_nil, List.cons_append, List.nil_append]
  after_reads_at
  after_reads_at
  refine (dif_neg (by omega)).trans ((dif_neg (by omega)).trans ((dif_neg (by omega)).trans ((dif_neg (by omega)).trans ((dif_pos (by omega)).trans ?_))))
  exact congrArg (fun l => proj m c b y l) (Fin.ext (by simp only; omega))

/-- The sinks, one to a row. -/
theorem V_z (a : Fin 2048) : V m c main_v11 (ix2 a 0) = sinkA m c ⟨a.val / 128, by omega⟩ := by
  unfold V V0
  simp only [hostOps0, hostOps0_1, hostOps0_2, List.flatten_cons, List.flatten_nil, List.append_nil, List.cons_append, List.nil_append]
  after_reads_at

/-- The bias, −∞ beyond the window. -/
theorem V_b (a : Fin 16) (i : Fin 128) (j : Fin 384) :
    V m c main_v8 (ix3 a i j) = if i.val ≤ j.val ∧ j.val ≤ i.val + 256 then bandB m c a i j else ⊥ := by
  unfold V V0
  simp only [hostOps0, hostOps0_1, hostOps0_2, List.flatten_cons, List.flatten_nil, List.append_nil, List.cons_append, List.nil_append]
  after_reads_at
  rw [Words.near]
  split
  · exact rfl
  · show Ideal.ofBits FTy.f32 4286578688#32 = ⊥
    simp [Ideal.ofBits, Ideal.ieee]

/-! ### The windows' blocks -/

theorem t_lt (t : Fin cfg0.N) : t.val < 64 := Nat.lt_of_lt_of_eq t.isLt N_0

theorem at3 {A B C : ℕ} (x : (⟨3, ![A, B, C]⟩ : Shape).Idx) (a : Fin A) (b : Fin B) (c : Fin C) (h0 : (x 0).val = a.val) (h1 : (x 1).val = b.val)
    (h2 : (x 2).val = c.val) : x = ix3 a b c := funext fun d => Fin.ext (match d with | 0 => h0 | 1 => h1 | 2 => h2)
theorem at2 {A B : ℕ} (x : (⟨2, ![A, B]⟩ : Shape).Idx) (a : Fin A) (b : Fin B) (h0 : (x 0).val = a.val) (h1 : (x 1).val = b.val) :
    x = ix2 a b := funext fun d => Fin.ext (match d with | 0 => h0 | 1 => h1)

theorem index0 : ∀ t : Fin cfg0.N, (cfg0.win 0).index t 0 = t.val / 16 ∧ (cfg0.win 0).index t 1 = t.val % 16 ∧ (cfg0.win 0).index t 2 = 0 := by decide +kernel
theorem index1 : ∀ t : Fin cfg0.N, (cfg0.win 1).index t 0 = t.val / 16 ∧ (cfg0.win 1).index t 1 = min 15 (t.val % 16 - 1) ∧ (cfg0.win 1).index t 2 = 14 := by decide +kernel
theorem index2 : ∀ t : Fin cfg0.N, (cfg0.win 2).index t 0 = t.val / 16 ∧ (cfg0.win 2).index t 1 = min 15 (t.val % 16 + 1 - 1) ∧ (cfg0.win 2).index t 2 = 14 := by decide +kernel
theorem index3 : ∀ t : Fin cfg0.N, (cfg0.win 3).index t 0 = t.val / 16 ∧ (cfg0.win 3).index t 1 = min 15 (t.val % 16 + 2 - 1) ∧ (cfg0.win 3).index t 2 = 14 := by decide +kernel
theorem index4 : ∀ t : Fin cfg0.N, (cfg0.win 4).index t 0 = t.val / 16 ∧ (cfg0.win 4).index t 1 = min 15 (t.val % 16 - 1) ∧ (cfg0.win 4).index t 2 = 15 := by decide +kernel
theorem index5 : ∀ t : Fin cfg0.N, (cfg0.win 5).index t 0 = t.val / 16 ∧ (cfg0.win 5).index t 1 = min 15 (t.val % 16 + 1 - 1) ∧ (cfg0.win 5).index t 2 = 15 := by decide +kernel
theorem index6 : ∀ t : Fin cfg0.N, (cfg0.win 6).index t 0 = t.val / 16 ∧ (cfg0.win 6).index t 1 = min 15 (t.val % 16 + 2 - 1) ∧ (cfg0.win 6).index t 2 = 15 := by decide +kernel
theorem index7 : ∀ t : Fin cfg0.N, (cfg0.win 7).index t 0 = 0 ∧ (cfg0.win 7).index t 1 = 0 ∧ (cfg0.win 7).index t 2 = 0 := by decide +kernel
theorem index8 : ∀ t : Fin cfg0.N, (cfg0.win 8).index t 0 = 0 ∧ (cfg0.win 8).index t 1 = 0 := by decide +kernel
theorem index9 : ∀ t : Fin cfg0.N, (cfg0.win 9).index t 0 = t.val / 16 ∧ (cfg0.win 9).index t 1 = t.val % 16 ∧ (cfg0.win 9).index t 2 = 1 := by decide +kernel
theorem iblk0 (t : Fin cfg0.N) (y : ((cfg0.win 0).xblock (cfg0.grid.coords t)).Idx) : iblk m c 0 t y = V m c main_v19 (((cfg0.win 0).rect t).emb y) := rfl
theorem iblk1 (t : Fin cfg0.N) (y : ((cfg0.win 1).xblock (cfg0.grid.coords t)).Idx) : iblk m c 1 t y = V m c main_v19 (((cfg0.win 1).rect t).emb y) := rfl
theorem iblk2 (t : Fin cfg0.N) (y : ((cfg0.win 2).xblock (cfg0.grid.coords t)).Idx) : iblk m c 2 t y = V m c main_v19 (((cfg0.win 2).rect t).emb y) := rfl
theorem iblk3 (t : Fin cfg0.N) (y : ((cfg0.win 3).xblock (cfg0.grid.coords t)).Idx) : iblk m c 3 t y = V m c main_v19 (((cfg0.win 3).rect t).emb y) := rfl
theorem iblk4 (t : Fin cfg0.N) (y : ((cfg0.win 4).xblock (cfg0.grid.coords t)).Idx) : iblk m c 4 t y = V m c main_v19 (((cfg0.win 4).rect t).emb y) := rfl
theorem iblk5 (t : Fin cfg0.N) (y : ((cfg0.win 5).xblock (cfg0.grid.coords t)).Idx) : iblk m c 5 t y = V m c main_v19 (((cfg0.win 5).rect t).emb y) := rfl
theorem iblk6 (t : Fin cfg0.N) (y : ((cfg0.win 6).xblock (cfg0.grid.coords t)).Idx) : iblk m c 6 t y = V m c main_v19 (((cfg0.win 6).rect t).emb y) := rfl
theorem blk0 (t : Fin cfg0.N) (i : Fin 128) (l : Fin 1024) : X0_0 m c t (ix3 0 i l) = proj m c ⟨t.val / 16, by have := t_lt t; omega⟩ ⟨128 * (t.val % 16) + i.val, by omega⟩ ⟨2592 + l.val, by omega⟩ := by
  have ht := t_lt t
  obtain ⟨h0, h1, h2⟩ := index0 t
  unfold X0_0 Pipeline.Window.fill
  rw [dif_pos (moved0_0 t _), iblk0]
  refine Eq.trans (congrArg (V m c main_v19) (at3 _ ⟨t.val / 16, by omega⟩ ⟨128 * (t.val % 16) + i.val, by omega⟩ ⟨l.val, by omega⟩
    ((Pipeline.Window.rect_emb_val (cfg0.win 0) t _ 0).trans ?_) ((Pipeline.Window.rect_emb_val (cfg0.win 0) t _ 1).trans ?_)
    ((Pipeline.Window.rect_emb_val (cfg0.win 0) t _ 2).trans ?_))) (V_q m c _ _ l)
  · refine (congrArg (fun x => x * _ + _) h0).trans ?_; show t.val / 16 * 1 + 0 = t.val / 16; omega
  · refine (congrArg (fun x => x * _ + _) h1).trans ?_; show t.val % 16 * 128 + i.val = 128 * (t.val % 16) + i.val; omega
  · refine (congrArg (fun x => x * _ + _) h2).trans ?_; show 0 * 1024 + l.val = l.val; omega
theorem blk1 (t : Fin cfg0.N) (i : Fin 128) (l : Fin 256) : X0_1 m c t (ix3 0 i l) = proj m c ⟨t.val / 16, by have := t_lt t; omega⟩ ⟨128 * min 15 (t.val % 16 - 1) + i.val, by omega⟩ ⟨3616 + l.val, by omega⟩ := by
  have ht := t_lt t
  obtain ⟨h0, h1, h2⟩ := index1 t
  unfold X0_1 Pipeline.Window.fill
  rw [dif_pos (moved0_1 t _), iblk1]
  refine Eq.trans (congrArg (V m c main_v19) (at3 _ ⟨t.val / 16, by omega⟩ ⟨128 * min 15 (t.val % 16 - 1) + i.val, by omega⟩ ⟨3584 + l.val, by omega⟩
    ((Pipeline.Window.rect_emb_val (cfg0.win 1) t _ 0).trans ?_) ((Pipeline.Window.rect_emb_val (cfg0.win 1) t _ 1).trans ?_)
    ((Pipeline.Window.rect_emb_val (cfg0.win 1) t _ 2).trans ?_))) (V_k m c _ _ l)
  · refine (congrArg (fun x => x * _ + _) h0).trans ?_; show t.val / 16 * 1 + 0 = t.val / 16; omega
  · show (cfg0.win 1).index t 1 * 128 + i.val = 128 * min 15 (t.val % 16 - 1) + i.val; rw [h1]; omega
  · refine (congrArg (fun x => x * _ + _) h2).trans ?_; show 14 * 256 + l.val = 3584 + l.val; omega
theorem blk2 (t : Fin cfg0.N) (i : Fin 128) (l : Fin 256) : X0_2 m c t (ix3 0 i l) = proj m c ⟨t.val / 16, by have := t_lt t; omega⟩ ⟨128 * min 15 (t.val % 16 + 1 - 1) + i.val, by omega⟩ ⟨3616 + l.val, by omega⟩ := by
  have ht := t_lt t
  obtain ⟨h0, h1, h2⟩ := index2 t
  unfold X0_2 Pipeline.Window.fill
  rw [dif_pos (moved0_2 t _), iblk2]
  refine Eq.trans (congrArg (V m c main_v19) (at3 _ ⟨t.val / 16, by omega⟩ ⟨128 * min 15 (t.val % 16 + 1 - 1) + i.val, by omega⟩ ⟨3584 + l.val, by omega⟩
    ((Pipeline.Window.rect_emb_val (cfg0.win 2) t _ 0).trans ?_) ((Pipeline.Window.rect_emb_val (cfg0.win 2) t _ 1).trans ?_)
    ((Pipeline.Window.rect_emb_val (cfg0.win 2) t _ 2).trans ?_))) (V_k m c _ _ l)
  · refine (congrArg (fun x => x * _ + _) h0).trans ?_; show t.val / 16 * 1 + 0 = t.val / 16; omega
  · show (cfg0.win 2).index t 1 * 128 + i.val = 128 * min 15 (t.val % 16 + 1 - 1) + i.val; rw [h1]; omega
  · refine (congrArg (fun x => x * _ + _) h2).trans ?_; show 14 * 256 + l.val = 3584 + l.val; omega
theorem blk3 (t : Fin cfg0.N) (i : Fin 128) (l : Fin 256) : X0_3 m c t (ix3 0 i l) = proj m c ⟨t.val / 16, by have := t_lt t; omega⟩ ⟨128 * min 15 (t.val % 16 + 2 - 1) + i.val, by omega⟩ ⟨3616 + l.val, by omega⟩ := by
  have ht := t_lt t
  obtain ⟨h0, h1, h2⟩ := index3 t
  unfold X0_3 Pipeline.Window.fill
  rw [dif_pos (moved0_3 t _), iblk3]
  refine Eq.trans (congrArg (V m c main_v19) (at3 _ ⟨t.val / 16, by omega⟩ ⟨128 * min 15 (t.val % 16 + 2 - 1) + i.val, by omega⟩ ⟨3584 + l.val, by omega⟩
    ((Pipeline.Window.rect_emb_val (cfg0.win 3) t _ 0).trans ?_) ((Pipeline.Window.rect_emb_val (cfg0.win 3) t _ 1).trans ?_)
    ((Pipeline.Window.rect_emb_val (cfg0.win 3) t _ 2).trans ?_))) (V_k m c _ _ l)
  · refine (congrArg (fun x => x * _ + _) h0).trans ?_; show t.val / 16 * 1 + 0 = t.val / 16; omega
  · show (cfg0.win 3).index t 1 * 128 + i.val = 128 * min 15 (t.val % 16 + 2 - 1) + i.val; rw [h1]; omega
  · refine (congrArg (fun x => x * _ + _) h2).trans ?_; show 14 * 256 + l.val = 3584 + l.val; omega
theorem blk4 (t : Fin cfg0.N) (i : Fin 128) (l : Fin 256) : X0_4 m c t (ix3 0 i l) = proj m c ⟨t.val / 16, by have := t_lt t; omega⟩ ⟨128 * min 15 (t.val % 16 - 1) + i.val, by omega⟩ ⟨3872 + l.val, by omega⟩ := by
  have ht := t_lt t
  obtain ⟨h0, h1, h2⟩ := index4 t
  unfold X0_4 Pipeline.Window.fill
  rw [dif_pos (moved0_4 t _), iblk4]
  refine Eq.trans (congrArg (V m c main_v19) (at3 _ ⟨t.val / 16, by omega⟩ ⟨128 * min 15 (t.val % 16 - 1) + i.val, by omega⟩ ⟨3840 + l.val, by omega⟩
    ((Pipeline.Window.rect_emb_val (cfg0.win 4) t _ 0).trans ?_) ((Pipeline.Window.rect_emb_val (cfg0.win 4) t _ 1).trans ?_)
    ((Pipeline.Window.rect_emb_val (cfg0.win 4) t _ 2).trans ?_))) (V_v m c _ _ l)
  · refine (congrArg (fun x => x * _ + _) h0).trans ?_; show t.val / 16 * 1 + 0 = t.val / 16; omega
  · show (cfg0.win 4).index t 1 * 128 + i.val = 128 * min 15 (t.val % 16 - 1) + i.val; rw [h1]; omega
  · refine (congrArg (fun x => x * _ + _) h2).trans ?_; show 15 * 256 + l.val = 3840 + l.val; omega
theorem blk5 (t : Fin cfg0.N) (i : Fin 128) (l : Fin 256) : X0_5 m c t (ix3 0 i l) = proj m c ⟨t.val / 16, by have := t_lt t; omega⟩ ⟨128 * min 15 (t.val % 16 + 1 - 1) + i.val, by omega⟩ ⟨3872 + l.val, by omega⟩ := by
  have ht := t_lt t
  obtain ⟨h0, h1, h2⟩ := index5 t
  unfold X0_5 Pipeline.Window.fill
  rw [dif_pos (moved0_5 t _), iblk5]
  refine Eq.trans (congrArg (V m c main_v19) (at3 _ ⟨t.val / 16, by omega⟩ ⟨128 * min 15 (t.val % 16 + 1 - 1) + i.val, by omega⟩ ⟨3840 + l.val, by omega⟩
    ((Pipeline.Window.rect_emb_val (cfg0.win 5) t _ 0).trans ?_) ((Pipeline.Window.rect_emb_val (cfg0.win 5) t _ 1).trans ?_)
    ((Pipeline.Window.rect_emb_val (cfg0.win 5) t _ 2).trans ?_))) (V_v m c _ _ l)
  · refine (congrArg (fun x => x * _ + _) h0).trans ?_; show t.val / 16 * 1 + 0 = t.val / 16; omega
  · show (cfg0.win 5).index t 1 * 128 + i.val = 128 * min 15 (t.val % 16 + 1 - 1) + i.val; rw [h1]; omega
  · refine (congrArg (fun x => x * _ + _) h2).trans ?_; show 15 * 256 + l.val = 3840 + l.val; omega
theorem blk6 (t : Fin cfg0.N) (i : Fin 128) (l : Fin 256) : X0_6 m c t (ix3 0 i l) = proj m c ⟨t.val / 16, by have := t_lt t; omega⟩ ⟨128 * min 15 (t.val % 16 + 2 - 1) + i.val, by omega⟩ ⟨3872 + l.val, by omega⟩ := by
  have ht := t_lt t
  obtain ⟨h0, h1, h2⟩ := index6 t
  unfold X0_6 Pipeline.Window.fill
  rw [dif_pos (moved0_6 t _), iblk6]
  refine Eq.trans (congrArg (V m c main_v19) (at3 _ ⟨t.val / 16, by omega⟩ ⟨128 * min 15 (t.val % 16 + 2 - 1) + i.val, by omega⟩ ⟨3840 + l.val, by omega⟩
    ((Pipeline.Window.rect_emb_val (cfg0.win 6) t _ 0).trans ?_) ((Pipeline.Window.rect_emb_val (cfg0.win 6) t _ 1).trans ?_)
    ((Pipeline.Window.rect_emb_val (cfg0.win 6) t _ 2).trans ?_))) (V_v m c _ _ l)
  · refine (congrArg (fun x => x * _ + _) h0).trans ?_; show t.val / 16 * 1 + 0 = t.val / 16; omega
  · show (cfg0.win 6).index t 1 * 128 + i.val = 128 * min 15 (t.val % 16 + 2 - 1) + i.val; rw [h1]; omega
  · refine (congrArg (fun x => x * _ + _) h2).trans ?_; show 15 * 256 + l.val = 3840 + l.val; omega
theorem blk7 (t : Fin cfg0.N) (a : Fin 16) (i : Fin 128) (j : Fin 384) : iblk m c 7 t (ix3 a i j) = V m c main_v8 (ix3 a i j) := by
  obtain ⟨h0, h1, h2⟩ := index7 t
  refine congrArg (V m c main_v8) (at3 _ _ _ _ ((Pipeline.Window.rect_emb_val (cfg0.win 7) t _ 0).trans ?_)
    ((Pipeline.Window.rect_emb_val (cfg0.win 7) t _ 1).trans ?_) ((Pipeline.Window.rect_emb_val (cfg0.win 7) t _ 2).trans ?_))
  · refine (congrArg (fun x => x * _ + _) h0).trans ?_; show 0 * 16 + a.val = a.val; omega
  · refine (congrArg (fun x => x * _ + _) h1).trans ?_; show 0 * 128 + i.val = i.val; omega
  · refine (congrArg (fun x => x * _ + _) h2).trans ?_; show 0 * 384 + j.val = j.val; omega
theorem blk8 (t : Fin cfg0.N) (a : Fin 2048) : iblk m c 8 t (ix2 a 0) = V m c main_v11 (ix2 a 0) := by
  obtain ⟨h0, h1⟩ := index8 t
  refine congrArg (V m c main_v11) (at2 _ _ _ ((Pipeline.Window.rect_emb_val (cfg0.win 8) t _ 0).trans ?_)
    ((Pipeline.Window.rect_emb_val (cfg0.win 8) t _ 1).trans ?_))
  · refine (congrArg (fun x => x * _ + _) h0).trans ?_; show 0 * 2048 + a.val = a.val; omega
  · exact congrArg (fun x => x * _ + _) h1
theorem blk9 (t : Fin cfg0.N) (i : Fin 128) (l : Fin 1024) :
    iblk m c 9 t (ix3 0 i l) = dmix m c ⟨t.val / 16, by have := t_lt t; omega⟩ ⟨128 * (t.val % 16) + i.val, by omega⟩ ⟨1024 + l.val, by omega⟩ := by
  have ht := t_lt t
  obtain ⟨h0, h1, h2⟩ := index9 t
  refine Eq.trans (congrArg (V m c main_arg3) (at3 _ ⟨t.val / 16, by omega⟩ ⟨128 * (t.val % 16) + i.val, by omega⟩ ⟨1024 + l.val, by omega⟩
    ((Pipeline.Window.rect_emb_val (cfg0.win 9) t _ 0).trans ?_)
    ((Pipeline.Window.rect_emb_val (cfg0.win 9) t _ 1).trans ?_) ((Pipeline.Window.rect_emb_val (cfg0.win 9) t _ 2).trans ?_))) (congrFun (V_main_arg3 m c) _)
  · refine (congrArg (fun x => x * _ + _) h0).trans ?_; show t.val / 16 * 1 + 0 = t.val / 16; omega
  · refine (congrArg (fun x => x * _ + _) h1).trans ?_; show t.val % 16 * 128 + i.val = _; show _ = 128 * (t.val % 16) + i.val; omega
  · refine (congrArg (fun x => x * _ + _) h2).trans ?_; show 1 * 1024 + l.val = 1024 + l.val; omega

/-! ### The loads -/

section
variable (t : Fin cfg0.N)

/-- The sequence and the query block of a point. -/
abbrev sq : Fin 4 := ⟨t.val / 16, by have := t_lt t; omega⟩
abbrev qrow (i : Fin 128) : Fin 2048 := ⟨128 * (t.val % 16) + i.val, by omega⟩
abbrev krow (o : Fin 3) (i : Fin 128) : Fin 2048 := ⟨rowAt (t.val % 16) o + i.val, by unfold rowAt; omega⟩

theorem in_q (g : Fin 4) (i : Fin 128) (l : Fin 256) :
    (insAt m c t).q g (ix3 0 i l) = proj m c (sq t) (qrow t i) ⟨2592 + (256 * g.val + l.val), by omega⟩ :=
  (congrArg (X0_0 m c t) (at3 _ 0 i ⟨256 * g.val + l.val, by omega⟩ rfl (by show 0 + 1 * i.val = _; omega)
    (by show 256 * g.val + 1 * l.val = 256 * g.val + l.val; omega))).trans (blk0 m c t i _)
theorem in_k (o : Fin 3) (i : Fin 128) (l : Fin 256) :
    (insAt m c t).k o (ix3 0 i l) = proj m c (sq t) (krow t o i) ⟨3616 + l.val, by omega⟩ := by
  have e : (rk.toLoadRect).idx (ix3 0 i l) = ix3 0 i l := at3 _ _ _ _ rfl (by show 0 + 1 * i.val = _; omega) (by show 0 + 1 * l.val = _; omega)
  match o with
  | 0 => exact (congrArg (X0_1 m c t) e).trans (blk1 m c t i l)
  | 1 => exact (congrArg (X0_2 m c t) e).trans (blk2 m c t i l)
  | 2 => exact (congrArg (X0_3 m c t) e).trans (blk3 m c t i l)
theorem in_v (o : Fin 3) (i : Fin 128) (l : Fin 256) :
    (insAt m c t).v o (ix3 0 i l) = proj m c (sq t) (krow t o i) ⟨3872 + l.val, by omega⟩ := by
  have e : (rk.toLoadRect).idx (ix3 0 i l) = ix3 0 i l := at3 _ _ _ _ rfl (by show 0 + 1 * i.val = _; omega) (by show 0 + 1 * l.val = _; omega)
  match o with
  | 0 => exact (congrArg (X0_4 m c t) e).trans (blk4 m c t i l)
  | 1 => exact (congrArg (X0_5 m c t) e).trans (blk5 m c t i l)
  | 2 => exact (congrArg (X0_6 m c t) e).trans (blk6 m c t i l)
theorem in_b (g : Fin 4) (r : Fin 4) (i : Fin 128) (j : Fin 384) :
    (insAt m c t).b g (ix3 r i j) = if i.val ≤ j.val ∧ j.val ≤ i.val + 256 then bandB m c ⟨4 * g.val + r.val, by omega⟩ i j else ⊥ :=
  (congrArg (iblk m c 7 t) (at3 _ ⟨4 * g.val + r.val, by omega⟩ i j (by show 4 * g.val + 1 * r.val = 4 * g.val + r.val; omega) (by show 0 + 1 * i.val = _; omega)
    (by show 0 + 1 * j.val = _; omega))).trans ((blk7 m c t _ i j).trans (V_b m c _ i j))
theorem in_z (g : Fin 4) (ρ : Fin 512) : (insAt m c t).z g (ix2 ρ 0) = sinkA m c ⟨4 * g.val + ρ.val / 128, by omega⟩ :=
  (congrArg (iblk m c 8 t) (at2 _ ⟨512 * g.val + ρ.val, by omega⟩ 0 (by show 512 * g.val + 1 * ρ.val = 512 * g.val + ρ.val; omega) rfl)).trans
    ((blk8 m c t _).trans ((V_z m c _).trans (congrArg (fun h => sinkA m c h) (Fin.ext (by simp only; omega)))))
theorem in_d (g : Fin 4) (i : Fin 128) (l : Fin 256) :
    (insAt m c t).d g (ix3 0 i l) = dmix m c (sq t) (qrow t i) ⟨1024 + (256 * g.val + l.val), by omega⟩ :=
  (congrArg (iblk m c 9 t) (at3 _ 0 i ⟨256 * g.val + l.val, by omega⟩ rfl (by show 0 + 1 * i.val = _; omega)
    (by show 256 * g.val + 1 * l.val = 256 * g.val + l.val; omega))).trans (blk9 m c t i _)

end

end Cert.KernelIdeal.Hand

end
-- ==== Proof.Arrays.lean ====
/- The kernel's result arrays after the run, over its points. -/
module

public import proofs.«01_k».proof.Proof.Win
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

attribute [local instance] Cert.KernelIdeal.Gen.facts

variable (m : (ℓ : Loc nD τ sig) → Buf (Elt Ideal) ℓ) (c : Dev nD)

/-- The point of a sequence and a query block. -/
def pt (b : Fin 4) (n : Fin 16) : Fin cfg0.N := ⟨16 * b.val + n.val, Nat.lt_of_lt_of_eq (by omega : 16 * b.val + n.val < 64) N_0.symm⟩

theorem index10 : ∀ t : Fin cfg0.N, (cfg0.win 10).index t 0 = t.val / 16 ∧ (cfg0.win 10).index t 1 = t.val % 16 ∧ (cfg0.win 10).index t 2 = 0 := by decide +kernel
theorem index11 : ∀ t : Fin cfg0.N, (cfg0.win 11).index t 0 = t.val / 16 ∧ (cfg0.win 11).index t 1 = 0 ∧ (cfg0.win 11).index t 2 = 0 := by decide +kernel
theorem index12 : ∀ t : Fin cfg0.N, (cfg0.win 12).index t 0 = t.val / 16 ∧ (cfg0.win 12).index t 1 = 0 ∧ (cfg0.win 12).index t 2 = 0 := by decide +kernel
theorem index13 : ∀ t : Fin cfg0.N, (cfg0.win 13).index t 0 = 0 ∧ (cfg0.win 13).index t 1 = 0 ∧ (cfg0.win 13).index t 2 = 0 := by decide +kernel
theorem index14 : ∀ t : Fin cfg0.N, (cfg0.win 14).index t 0 = 0 ∧ (cfg0.win 14).index t 1 = 0 := by decide +kernel

theorem dq_congr {t t' : Fin cfg0.N} {g g' : Fin 4} {i i' : Fin 128} {l l' : Fin 256} (ht : t.val = t'.val) (hg : g.val = g'.val) (hi : i.val = i'.val)
    (hl : l.val = l'.val) : (insAt m c t).dq g (ix3 0 i l) = (insAt m c t').dq g' (ix3 0 i' l') := by
  obtain rfl := Fin.ext ht; obtain rfl := Fin.ext hg; obtain rfl := Fin.ext hi; obtain rfl := Fin.ext hl; rfl

/-- The queries' gradients are each point's own. -/
theorem end10 (b : Fin 4) (y : Fin 2048) (l : Fin 1024) : (dats m 0 c).arrAt 10 cfg0.N (ix3 b y l)
    = (insAt m c (pt b ⟨y.val / 128, by omega⟩)).dq ⟨l.val / 256, by omega⟩ (ix3 0 ⟨y.val % 128, by omega⟩ ⟨l.val % 256, by omega⟩) := by
  refine (fun H => H b y l rfl) ((dats m 0 c).arrAt_forall_of_covers 10 (fun i v => ∀ (b : Fin 4) (y : Fin 2048) (l : Fin 1024), i = ix3 b y l → v
    = (insAt m c (pt b ⟨y.val / 128, by omega⟩)).dq ⟨l.val / 256, by omega⟩ (ix3 0 ⟨y.val % 128, by omega⟩ ⟨l.val % 256, by omega⟩))
    (by decide +kernel) (fun t _ x b y l e => ?_) (ix3 b y l))
  have ht := t_lt t
  obtain ⟨h0, h1, h2⟩ := index10 t
  have e0 : t.val / 16 * 1 + (x 0).val = b.val := (congrArg (fun v => v * 1 + (x 0).val) h0).symm.trans ((Pipeline.Window.rect_emb_val (cfg0.win 10) t x 0).symm.trans (congrArg (fun i => (i 0).val) e))
  have e1 : t.val % 16 * 128 + (x 1).val = y.val := (congrArg (fun v => v * 128 + (x 1).val) h1).symm.trans ((Pipeline.Window.rect_emb_val (cfg0.win 10) t x 1).symm.trans (congrArg (fun i => (i 1).val) e))
  have e2 : 0 * 1024 + (x 2).val = l.val := (congrArg (fun v => v * 1024 + (x 2).val) h2).symm.trans ((Pipeline.Window.rect_emb_val (cfg0.win 10) t x 2).symm.trans (congrArg (fun i => (i 2).val) e))
  have b0 : (x 0).val < 1 := ((cfg0.win 10).xinj (cfg0.grid.coords t) x 0).isLt
  have b1 : (x 1).val < 128 := ((cfg0.win 10).xinj (cfg0.grid.coords t) x 1).isLt
  show (outsAt m c t.val t.isLt).1 ((cfg0.win 10).xinj (cfg0.grid.coords t) x) = _
  refine (congrArg (outsAt m c t.val t.isLt).1 (at3 _ 0 ⟨(x 1).val, b1⟩ l ?_ rfl ?_)).trans ((out10 m c t _ _).trans (dq_congr m c ?_ ?_ ?_ ?_))
  · show (x 0).val = 0; omega
  · show (x 2).val = l.val; omega
  · show t.val = 16 * b.val + y.val / 128; omega
  · rfl
  · show (x 1).val = y.val % 128; omega
  · rfl

/-- A running sum that starts anew at every multiple of `P`. -/
theorem run_sum {N P : ℕ} (u : (k : ℕ) → k < N → EReal) (a : ℕ → EReal)
    (h : ∀ k (hk : k < N), u k hk = (if k % P = 0 then 0 else u (k - 1) (by omega)) + a k) (q : ℕ) :
    ∀ r, r < P → ∀ hk : P * q + r < N, u (P * q + r) hk = ∑ n ∈ Finset.range (r + 1), a (P * q + n)
  | 0, h0, hk => by
      rw [h, if_pos (by rw [Nat.add_zero]; exact Nat.mul_mod_right P q), zero_add, Finset.sum_range_one]
  | r + 1, h0, hk => by
      have hm : ¬ (P * q + (r + 1)) % P = 0 := by rw [Nat.mul_add_mod, Nat.mod_eq_of_lt h0]; omega
      rw [h, if_neg hm, Finset.sum_range_succ, ← run_sum u a h q r (by omega) (by omega)]
      rfl

/-- A function of the points, over the naturals. -/
def onPts (f : Fin cfg0.N → EReal) (k : ℕ) : EReal := if h : k < cfg0.N then f ⟨k, h⟩ else 0

theorem onPts_at (f : Fin cfg0.N → EReal) (t : Fin cfg0.N) : onPts f t.val = f t := dif_pos t.isLt

theorem onPts_pt (f : Fin cfg0.N → EReal) (b : Fin 4) (n : Fin 16) : onPts f (16 * b.val + n.val) = f (pt b n) := dif_pos (pt b n).isLt

/-- A sum over `A * B` steps, `B` at a time. -/
theorem sum_blocks (A B : ℕ) (f : ℕ → EReal) : ∑ k ∈ Finset.range (A * B), f k = ∑ a : Fin A, ∑ b : Fin B, f (B * a.val + b.val) := by
  rw [Finset.sum_range, ← finProdFinEquiv.sum_comp (fun k : Fin (A * B) => f k.val), Fintype.sum_prod_type]
  exact Finset.sum_congr rfl fun a _ => Finset.sum_congr rfl fun b _ => congrArg f (Nat.add_comm _ _)

/-- What the points leave after the last of a sequence, or after the last of all. -/
theorem sum_pts (f : Fin cfg0.N → EReal) : ∑ k ∈ Finset.range 64, onPts f (64 * 0 + k) = ∑ b : Fin 4, ∑ n : Fin 16, f (pt b n) := by
  refine (sum_blocks 4 16 fun k => onPts f (64 * 0 + k)).trans (Finset.sum_congr rfl fun b _ => Finset.sum_congr rfl fun n _ => ?_)
  refine Eq.trans (congrArg (onPts f) ?_) (onPts_pt f b n)
  show 64 * 0 + (16 * b.val + n.val) = 16 * b.val + n.val; omega

theorem sum_seq (f : Fin cfg0.N → EReal) (b : Fin 4) : ∑ k ∈ Finset.range 16, onPts f (16 * b.val + k) = ∑ n : Fin 16, f (pt b n) := by
  rw [Finset.sum_range]; exact Finset.sum_congr rfl fun n _ => onPts_pt f b n

theorem outsAt_congr {k k' : ℕ} (e : k = k') (hk : k < cfg0.N) (hk' : k' < cfg0.N) : outsAt m c k hk = outsAt m c k' hk' := by
  subst e; rfl

/-- The bias's gradients are summed over all points. -/
theorem end13 (a : Fin 16) (i : Fin 128) (j : Fin 384) : (dats m 0 c).arrAt 13 cfg0.N (ix3 a i j)
    = ∑ b : Fin 4, ∑ n : Fin 16, dbRow (insAt m c (pt b n)) a i j := by
  rw [← sum_pts (fun t => dbRow (insAt m c t) a i j)]
  refine (fun H => H a i j rfl) ((dats m 0 c).arrAt_forall_of_covers 13 (fun x v => ∀ (a : Fin 16) (i : Fin 128) (j : Fin 384), x = ix3 a i j → v
    = ∑ k ∈ Finset.range 64, onPts (fun t => dbRow (insAt m c t) a i j) (64 * 0 + k)) (by decide +kernel) (fun t hf x a i j e => ?_) (ix3 a i j))
  have ht := t_lt t
  have h63 : t.val = 64 * 0 + 63 := by have := (flush0_13 t).mp hf; omega
  obtain ⟨h0, h1, h2⟩ := index13 t
  have e0 : 0 * 16 + (x 0).val = a.val := (congrArg (fun v => v * 16 + (x 0).val) h0).symm.trans ((Pipeline.Window.rect_emb_val (cfg0.win 13) t x 0).symm.trans (congrArg (fun i => (i 0).val) e))
  have e1 : 0 * 128 + (x 1).val = i.val := (congrArg (fun v => v * 128 + (x 1).val) h1).symm.trans ((Pipeline.Window.rect_emb_val (cfg0.win 13) t x 1).symm.trans (congrArg (fun i => (i 1).val) e))
  have e2 : 0 * 384 + (x 2).val = j.val := (congrArg (fun v => v * 384 + (x 2).val) h2).symm.trans ((Pipeline.Window.rect_emb_val (cfg0.win 13) t x 2).symm.trans (congrArg (fun i => (i 2).val) e))
  show (outsAt m c t.val t.isLt).2.2.2.1 ((cfg0.win 13).xinj (cfg0.grid.coords t) x) = _
  refine (congrArg (outsAt m c t.val t.isLt).2.2.2.1 (at3 _ a i j ?_ ?_ ?_)).trans ?_
  · show (x 0).val = a.val; omega
  · show (x 1).val = i.val; omega
  · show (x 2).val = j.val; omega
  have H := run_sum (P := 64) (fun k hk => (outsAt m c k hk).2.2.2.1 (ix3 a i j)) (onPts fun t => dbRow (insAt m c t) a i j) (fun k hk => by
    rw [show onPts (fun t => dbRow (insAt m c t) a i j) k = dbRow (insAt m c ⟨k, hk⟩) a i j from dif_pos hk]
    refine (out13 m c ⟨k, hk⟩ a i j).trans (congrArg (fun z => z + dbRow (insAt m c ⟨k, hk⟩) a i j) ?_)
    have := t_lt ⟨k, hk⟩
    by_cases hz : k = 0
    · exact (if_pos hz).trans (if_pos (by omega)).symm
    · exact (if_neg hz).trans (if_neg (by simp only at this; omega)).symm) 0 63 (by decide) (by rw [← h63]; exact t.isLt)
  exact (congrArg (fun o : Outs Ideal => o.2.2.2.1 (ix3 a i j)) (outsAt_congr m c h63 _ _)).trans H

/-- So are the sinks', one to a row. -/
theorem end14 (a : Fin 2048) : (dats m 0 c).arrAt 14 cfg0.N (ix2 a 0)
    = ∑ b : Fin 4, ∑ n : Fin 16, dzRow (insAt m c (pt b n)) ⟨a.val / 512, by omega⟩ ⟨a.val % 512, by omega⟩ := by
  rw [← sum_pts (fun t => dzRow (insAt m c t) ⟨a.val / 512, by omega⟩ ⟨a.val % 512, by omega⟩)]
  refine (fun H => H a rfl) ((dats m 0 c).arrAt_forall_of_covers 14 (fun x v => ∀ (a : Fin 2048), x = ix2 a 0 → v
    = ∑ k ∈ Finset.range 64, onPts (fun t => dzRow (insAt m c t) ⟨a.val / 512, by omega⟩ ⟨a.val % 512, by omega⟩) (64 * 0 + k)) (by decide +kernel) (fun t hf x a e => ?_) (ix2 a 0))
  have ht := t_lt t
  have h63 : t.val = 64 * 0 + 63 := by have := (flush0_14 t).mp hf; omega
  obtain ⟨h0, h1⟩ := index14 t
  have e0 : 0 * 2048 + (x 0).val = a.val := (congrArg (fun v => v * 2048 + (x 0).val) h0).symm.trans ((Pipeline.Window.rect_emb_val (cfg0.win 14) t x 0).symm.trans (congrArg (fun i => (i 0).val) e))
  have e1 : 0 * 1 + (x 1).val = 0 := (congrArg (fun v => v * 1 + (x 1).val) h1).symm.trans ((Pipeline.Window.rect_emb_val (cfg0.win 14) t x 1).symm.trans (congrArg (fun i => (i 1).val) e))
  show (outsAt m c t.val t.isLt).2.2.2.2 ((cfg0.win 14).xinj (cfg0.grid.coords t) x) = _
  refine (congrArg (outsAt m c t.val t.isLt).2.2.2.2 (at2 _ a 0 ?_ ?_)).trans ?_
  · show (x 0).val = a.val; omega
  · show (x 1).val = 0; omega
  have H := run_sum (P := 64) (fun k hk => (outsAt m c k hk).2.2.2.2 (ix2 a 0)) (onPts fun t => dzRow (insAt m c t) ⟨a.val / 512, by omega⟩ ⟨a.val % 512, by omega⟩) (fun k hk => by
    rw [show onPts (fun t => dzRow (insAt m c t) ⟨a.val / 512, by omega⟩ ⟨a.val % 512, by omega⟩) k = dzRow (insAt m c ⟨k, hk⟩) ⟨a.val / 512, by omega⟩ ⟨a.val % 512, by omega⟩ from dif_pos hk]
    refine (out14 m c ⟨k, hk⟩ a).trans (congrArg (fun z => z + dzRow (insAt m c ⟨k, hk⟩) ⟨a.val / 512, by omega⟩ ⟨a.val % 512, by omega⟩) ?_)
    have := t_lt ⟨k, hk⟩
    by_cases hz : k = 0
    · exact (if_pos hz).trans (if_pos (by omega)).symm
    · exact (if_neg hz).trans (if_neg (by simp only at this; omega)).symm) 0 63 (by decide) (by rw [← h63]; exact t.isLt)
  exact (congrArg (fun o : Outs Ideal => o.2.2.2.2 (ix2 a 0)) (outsAt_congr m c h63 _ _)).trans H

/-- What a point adds to an element of the keys' or values' gradients. -/
def addsAt (x : Tile.Ins Ideal → Fin 4 → FVec Ideal S384x128 .f32) (t : Fin cfg0.N) (y l : ℕ) : EReal :=
  ∑ g : Fin 4, ∑ o : Fin 3, adds (rowAt (t.val % 16)) (x (insAt m c t)) g o y l

/-- The keys' and values' gradients are summed over a sequence's points. -/
theorem end11 (b : Fin 4) (y : Fin 2048) (l : Fin 256) : (dats m 0 c).arrAt 11 cfg0.N (ix3 b y l)
    = ∑ n : Fin 16, addsAt m c Tile.Ins.dk (pt b n) y.val l.val := by
  rw [← sum_seq (fun t => addsAt m c Tile.Ins.dk t y.val l.val)]
  refine (fun H => H b y l rfl) ((dats m 0 c).arrAt_forall_of_covers 11 (fun x v => ∀ (b : Fin 4) (y : Fin 2048) (l : Fin 256), x = ix3 b y l → v
    = ∑ k ∈ Finset.range 16, onPts (fun t => addsAt m c Tile.Ins.dk t y.val l.val) (16 * b.val + k)) (by decide +kernel) (fun t hf x b y l e => ?_) (ix3 b y l))
  have ht := t_lt t
  have h15 := (flush0_11 t).mp hf
  obtain ⟨h0, h1, h2⟩ := index11 t
  have e0 : t.val / 16 * 1 + (x 0).val = b.val := (congrArg (fun v => v * 1 + (x 0).val) h0).symm.trans ((Pipeline.Window.rect_emb_val (cfg0.win 11) t x 0).symm.trans (congrArg (fun i => (i 0).val) e))
  have e1 : 0 * 2048 + (x 1).val = y.val := (congrArg (fun v => v * 2048 + (x 1).val) h1).symm.trans ((Pipeline.Window.rect_emb_val (cfg0.win 11) t x 1).symm.trans (congrArg (fun i => (i 1).val) e))
  have e2 : 0 * 256 + (x 2).val = l.val := (congrArg (fun v => v * 256 + (x 2).val) h2).symm.trans ((Pipeline.Window.rect_emb_val (cfg0.win 11) t x 2).symm.trans (congrArg (fun i => (i 2).val) e))
  have b0 : (x 0).val < 1 := ((cfg0.win 11).xinj (cfg0.grid.coords t) x 0).isLt
  have hb : t.val = 16 * b.val + 15 := by omega
  show (outsAt m c t.val t.isLt).2.1 ((cfg0.win 11).xinj (cfg0.grid.coords t) x) = _
  refine (congrArg (outsAt m c t.val t.isLt).2.1 (at3 _ 0 y l ?_ ?_ ?_)).trans ?_
  · show (x 0).val = 0; omega
  · show (x 1).val = y.val; omega
  · show (x 2).val = l.val; omega
  have H := run_sum (P := 16) (fun k hk => (outsAt m c k hk).2.1 (ix3 0 y l)) (onPts fun t => addsAt m c Tile.Ins.dk t y.val l.val) (fun k hk => by
    rw [show onPts (fun t => addsAt m c Tile.Ins.dk t y.val l.val) k = addsAt m c Tile.Ins.dk ⟨k, hk⟩ y.val l.val from dif_pos hk]
    exact out11 m c ⟨k, hk⟩ y l) b.val 15 (by decide) (by rw [← hb]; exact t.isLt)
  exact (congrArg (fun o : Outs Ideal => o.2.1 (ix3 0 y l)) (outsAt_congr m c hb _ _)).trans H

theorem end12 (b : Fin 4) (y : Fin 2048) (l : Fin 256) : (dats m 0 c).arrAt 12 cfg0.N (ix3 b y l)
    = ∑ n : Fin 16, addsAt m c Tile.Ins.dv (pt b n) y.val l.val := by
  rw [← sum_seq (fun t => addsAt m c Tile.Ins.dv t y.val l.val)]
  refine (fun H => H b y l rfl) ((dats m 0 c).arrAt_forall_of_covers 12 (fun x v => ∀ (b : Fin 4) (y : Fin 2048) (l : Fin 256), x = ix3 b y l → v
    = ∑ k ∈ Finset.range 16, onPts (fun t => addsAt m c Tile.Ins.dv t y.val l.val) (16 * b.val + k)) (by decide +kernel) (fun t hf x b y l e => ?_) (ix3 b y l))
  have ht := t_lt t
  have h15 := (flush0_12 t).mp hf
  obtain ⟨h0, h1, h2⟩ := index12 t
  have e0 : t.val / 16 * 1 + (x 0).val = b.val := (congrArg (fun v => v * 1 + (x 0).val) h0).symm.trans ((Pipeline.Window.rect_emb_val (cfg0.win 12) t x 0).symm.trans (congrArg (fun i => (i 0).val) e))
  have e1 : 0 * 2048 + (x 1).val = y.val := (congrArg (fun v => v * 2048 + (x 1).val) h1).symm.trans ((Pipeline.Window.rect_emb_val (cfg0.win 12) t x 1).symm.trans (congrArg (fun i => (i 1).val) e))
  have e2 : 0 * 256 + (x 2).val = l.val := (congrArg (fun v => v * 256 + (x 2).val) h2).symm.trans ((Pipeline.Window.rect_emb_val (cfg0.win 12) t x 2).symm.trans (congrArg (fun i => (i 2).val) e))
  have b0 : (x 0).val < 1 := ((cfg0.win 12).xinj (cfg0.grid.coords t) x 0).isLt
  have hb : t.val = 16 * b.val + 15 := by omega
  show (outsAt m c t.val t.isLt).2.2.1 ((cfg0.win 12).xinj (cfg0.grid.coords t) x) = _
  refine (congrArg (outsAt m c t.val t.isLt).2.2.1 (at3 _ 0 y l ?_ ?_ ?_)).trans ?_
  · show (x 0).val = 0; omega
  · show (x 1).val = y.val; omega
  · show (x 2).val = l.val; omega
  have H := run_sum (P := 16) (fun k hk => (outsAt m c k hk).2.2.1 (ix3 0 y l)) (onPts fun t => addsAt m c Tile.Ins.dv t y.val l.val) (fun k hk => by
    rw [show onPts (fun t => addsAt m c Tile.Ins.dv t y.val l.val) k = addsAt m c Tile.Ins.dv ⟨k, hk⟩ y.val l.val from dif_pos hk]
    exact out12 m c ⟨k, hk⟩ y l) b.val 15 (by decide) (by rw [← hb]; exact t.isLt)
  exact (congrArg (fun o : Outs Ideal => o.2.2.1 (ix3 0 y l)) (outsAt_congr m c hb _ _)).trans H

/-- The array of the sinks' gradients. -/
abbrev arr14 : FVec Ideal S2048x1 .f32 := (dats m 0 c).arrAt 14 cfg0.N

/-- The host sums the sinks' rows, head by head. -/
theorem tail22 (h : Fin 16) : Pipeline.afterTail₀ cfgs (dats m) 0 (V0 m) [hostOps1] c main_v22 (ix1 h)
    = ∑ i : Fin 128, arr14 m c (ix2 ⟨128 * h.val + i.val, by omega⟩ 0) := by
  have hw : Pipeline.withArrays (cfgs 0).spec c (V0 m c) (fun w => (dats m 0 c).arrAt w (cfgs 0).N) (Proc.devRef .tc main_v20_4) = (dats m 0 c).arrAt 14 cfg0.N :=
    (dats m 0 c).withArrays_arrAt sharedIn0 (V0 m c) (A_eq m c) 14
  unfold Pipeline.afterTail₀
  simp only [hostOps1, List.flatten_cons, List.flatten_nil, List.append_nil, List.cons_append, List.nil_append]
  after_reads_at
  rw [hw]
  exact Finset.sum_congr rfl fun i _ => congrArg (fun a => arr14 m c (ix2 a 0)) (Fin.ext (by show h.val * 128 + i.val = 128 * h.val + i.val; omega))

end Cert.KernelIdeal.Hand

end
-- ==== Proof.Gather.lean ====
/- Where a key's gradients gather from. -/
module

public import proofs.«01_k».proof.Proof.Arrays

@[expose] public section

set_option maxRecDepth 16384

noncomputable section

namespace Cert.KernelIdeal.Hand

open Cert.KernelIdeal Cert.KernelIdeal.Gen
open Idealize.ShloMosaic Idealize.ShloMosaic.TcCoe

attribute [local instance] Cert.KernelIdeal.Gen.facts

variable {m : (ℓ : Loc nD τ sig) → Buf (Elt Ideal) ℓ} {c : Dev nD}

/-- A sum over a group's rows, head by head. -/
theorem sum512 (f : Fin 512 → EReal) : ∑ ρ, f ρ = ∑ x : Fin 4, ∑ i : Fin 128, f ⟨128 * x.val + i.val, by omega⟩ := by
  have h := sum_blocks 4 128 fun k => if h : k < 512 then f ⟨k, h⟩ else 0
  rw [Finset.sum_range] at h
  refine Eq.trans (Finset.sum_congr rfl fun ρ _ => ?_) (h.trans (Finset.sum_congr rfl fun x _ => Finset.sum_congr rfl fun i _ => ?_))
  · exact (dif_pos (c := ρ.val < 512) (t := fun h => f ⟨ρ.val, h⟩) ρ.isLt).symm
  · exact dif_pos _

/-- The block that block `n`'s window adds its part `o` to is, where the part counts, block `n + o - 1`: so a block gathers from the
    last part of the window before, the middle of its own, the first of the next. -/
theorem gather_blocks (f : Fin 16 → Fin 3 → EReal) (h0 : f 0 0 = 0) (h15 : f 15 2 = 0) (Y : Fin 16) :
    (∑ n : Fin 16, ∑ o : Fin 3, if min 15 (n.val + o.val - 1) = Y.val then f n o else 0)
      = ((if h : 2 ≤ Y.val + 1 ∧ Y.val + 1 - 2 < 16 then f ⟨Y.val + 1 - 2, h.2⟩ 2 else 0)
          + if h : 1 ≤ Y.val + 1 ∧ Y.val + 1 - 1 < 16 then f ⟨Y.val + 1 - 1, h.2⟩ 1 else 0)
        + if h : Y.val + 1 < 16 then f ⟨Y.val + 1, h⟩ 0 else 0 := by
  have a0 : (∑ n : Fin 16, if min 15 (n.val + 0 - 1) = Y.val then f n 0 else 0) = if h : Y.val + 1 < 16 then f ⟨Y.val + 1, h⟩ 0 else 0 := by
    have z : ∀ n : Fin 16, n.val ≠ Y.val + 1 → (if min 15 (n.val + 0 - 1) = Y.val then f n 0 else 0) = 0 := fun n hn => by
      split_ifs with e
      · have : n = 0 := Fin.ext (by show n.val = 0; omega)
        rw [this, h0]
      · rfl
    split_ifs with h
    · rw [Finset.sum_eq_single_of_mem (⟨Y.val + 1, h⟩ : Fin 16) (Finset.mem_univ _) fun n _ hn => z n fun e => hn (Fin.ext e)]
      exact if_pos (by simp only; omega)
    · exact Finset.sum_eq_zero fun n _ => z n (by omega)
  have a1 : (∑ n : Fin 16, if min 15 (n.val + 1 - 1) = Y.val then f n 1 else 0)
      = if h : 1 ≤ Y.val + 1 ∧ Y.val + 1 - 1 < 16 then f ⟨Y.val + 1 - 1, h.2⟩ 1 else 0 := by
    rw [dif_pos (by omega), Finset.sum_eq_single_of_mem (⟨Y.val + 1 - 1, by omega⟩ : Fin 16) (Finset.mem_univ _) fun n _ hn => if_neg fun e => hn (Fin.ext (by simp only; omega))]
    exact if_pos (by simp only; omega)
  have a2 : (∑ n : Fin 16, if min 15 (n.val + 2 - 1) = Y.val then f n 2 else 0)
      = if h : 2 ≤ Y.val + 1 ∧ Y.val + 1 - 2 < 16 then f ⟨Y.val + 1 - 2, h.2⟩ 2 else 0 := by
    have z : ∀ n : Fin 16, n.val + 1 ≠ Y.val → (if min 15 (n.val + 2 - 1) = Y.val then f n 2 else 0) = 0 := fun n hn => by
      split_ifs with e
      · have : n = 15 := Fin.ext (by show n.val = 15; omega)
        rw [this, h15]
      · rfl
    split_ifs with h
    · rw [Finset.sum_eq_single_of_mem (⟨Y.val + 1 - 2, h.2⟩ : Fin 16) (Finset.mem_univ _) fun n _ hn => z n fun e => hn (Fin.ext (by simp only; omega))]
      exact if_pos (by simp only; omega)
    · exact Finset.sum_eq_zero fun n _ => z n (by omega)
  rw [← a0, ← a1, ← a2, ← Finset.sum_add_distrib, ← Finset.sum_add_distrib]
  refine Finset.sum_congr rfl fun n _ => ?_
  rw [Fin.sum_univ_three]
  exact (add_assoc _ _ _).trans ((add_comm _ _).trans (congrArg (· + _) (add_comm _ _)))

/-- What one group and part of a window add to an element. -/
theorem adds_at (X : Fin 4 → FVec Ideal S384x128 .f32) (V : Fin 4 → Fin 384 → Fin 64 → EReal)
    (hX : ∀ g j (l : Fin 128), X g (ix2 j l) = if l.val / 64 = g.val % 2 then V g j ⟨l.val % 64, by omega⟩ else 0)
    (n : ℕ) (g : Fin 4) (o : Fin 3) (y : Fin 2048) (l : Fin 256) :
    adds (rowAt n) X g o y.val l.val
      = if g.val = l.val / 64 then (if min 15 (n + o.val - 1) = y.val / 128 then V g ⟨128 * o.val + y.val % 128, by omega⟩ ⟨l.val % 64, by omega⟩ else 0) else 0 := by
  unfold adds rowAt
  by_cases hm : min 15 (n + o.val - 1) = y.val / 128
  · by_cases hg : g.val = l.val / 64
    · rw [if_pos hg, if_pos hm, dif_pos (by omega), hX, if_pos (by simp only; omega)]
      exact congrArg₂ (V g) (Fin.ext (by simp only; omega)) (Fin.ext (by simp only; omega))
    · rw [if_neg hg]
      split_ifs with h
      · rw [hX, if_neg (by simp only; omega)]
      · rfl
  · rw [dif_neg (by omega), if_neg hm]
    split_ifs <;> rfl

/-- The sum over a sequence's points, gathered as the reference gathers it. -/
theorem gather (x : Tile.Ins Ideal → Fin 4 → FVec Ideal S384x128 .f32) (b : Fin 4) (W : Fin 16 → Fin 384 → Fin 16 → Fin 64 → EReal)
    (hx : ∀ n g j (l : Fin 128), x (insAt m c (pt b n)) g (ix2 j l)
      = if l.val / 64 = g.val % 2 then ∑ z : Fin 4, W n j ⟨4 * g.val + z.val, by omega⟩ ⟨l.val % 64, by omega⟩ else 0)
    (hw : ∀ n (j : Fin 384) h d, ¬(128 ≤ 128 * n.val + j.val ∧ 128 * n.val + j.val < 2176) → W n j h d = 0) (y : Fin 2048) (l : Fin 256) :
    ∑ n : Fin 16, addsAt m c x (pt b n) y.val l.val
      = ∑ z : Fin 4, (((if h : 2 ≤ y.val / 128 + 1 ∧ y.val / 128 + 1 - 2 < 16 then W ⟨y.val / 128 + 1 - 2, h.2⟩ ⟨256 + y.val % 128, by omega⟩ ⟨4 * (l.val / 64) + z.val, by omega⟩ ⟨l.val % 64, by omega⟩ else 0)
          + if h : 1 ≤ y.val / 128 + 1 ∧ y.val / 128 + 1 - 1 < 16 then W ⟨y.val / 128 + 1 - 1, h.2⟩ ⟨128 + y.val % 128, by omega⟩ ⟨4 * (l.val / 64) + z.val, by omega⟩ ⟨l.val % 64, by omega⟩ else 0)
        + if h : y.val / 128 + 1 < 16 then W ⟨y.val / 128 + 1, h⟩ ⟨y.val % 128, by omega⟩ ⟨4 * (l.val / 64) + z.val, by omega⟩ ⟨l.val % 64, by omega⟩ else 0) := by
  have one : ∀ n : Fin 16, addsAt m c x (pt b n) y.val l.val
      = ∑ o : Fin 3, if min 15 (n.val + o.val - 1) = y.val / 128 then
          ∑ z : Fin 4, W n ⟨128 * o.val + y.val % 128, by omega⟩ ⟨4 * (l.val / 64) + z.val, by omega⟩ ⟨l.val % 64, by omega⟩ else 0 := fun n => by
    have hn : (pt b n).val % 16 = n.val := by show (16 * b.val + n.val) % 16 = n.val; omega
    unfold addsAt
    rw [hn, Finset.sum_eq_single_of_mem (⟨l.val / 64, by omega⟩ : Fin 4) (Finset.mem_univ _) fun g _ hg => Finset.sum_eq_zero fun o _ =>
      (adds_at _ (fun g j d => ∑ z : Fin 4, W n j ⟨4 * g.val + z.val, by omega⟩ d) (hx n) n.val g o y l).trans (if_neg fun e => hg (Fin.ext e))]
    exact Finset.sum_congr rfl fun o _ => (adds_at _ (fun g j d => ∑ z : Fin 4, W n j ⟨4 * g.val + z.val, by omega⟩ d) (hx n) n.val _ o y l).trans (if_pos rfl)
  rw [Finset.sum_congr rfl fun n _ => one n]
  refine (gather_blocks (fun n o => ∑ z : Fin 4, W n ⟨128 * o.val + y.val % 128, by omega⟩ ⟨4 * (l.val / 64) + z.val, by omega⟩ ⟨l.val % 64, by omega⟩)
    (Finset.sum_eq_zero fun z _ => hw _ _ _ _ (by show ¬(128 ≤ 128 * 0 + (128 * 0 + y.val % 128) ∧ _); omega))
    (Finset.sum_eq_zero fun z _ => hw _ _ _ _ (by show ¬(_ ∧ 128 * 15 + (128 * 2 + y.val % 128) < 2176); omega)) ⟨y.val / 128, by omega⟩).trans ?_
  rw [Finset.sum_add_distrib, Finset.sum_add_distrib]
  refine congrArg₂ (· + ·) (congrArg₂ (· + ·) ?_ ?_) ?_
  · split_ifs
    · rfl
    · exact (Finset.sum_const_zero).symm
  · split_ifs
    · rfl
    · exact (Finset.sum_const_zero).symm
  · split_ifs
    · exact Finset.sum_congr rfl fun z _ => congrArg (fun j => W ⟨y.val / 128 + 1, by omega⟩ j ⟨4 * (l.val / 64) + z.val, by omega⟩ ⟨l.val % 64, by omega⟩) (Fin.ext (by show 128 * 0 + y.val % 128 = y.val % 128; omega))
    · exact (Finset.sum_const_zero).symm

end Cert.KernelIdeal.Hand

end
-- ==== Proof.RefSums.lean ====
/- The reference's sums over several axes. -/
module
public import proofs.«01_k».proof.Proof.Gen.ReferenceIdeal.Read
public import proofs.«01_k».proof.Proof.RowMath
public import Idealize.ShloMosaic.Lib.Pointwise
@[expose] public section
set_option maxRecDepth 16384
noncomputable section
namespace Cert.ReferenceIdeal.Hand
open Cert.ReferenceIdeal Cert.ReferenceIdeal.Gen Cert.ReferenceIdeal.Read
open Idealize.ShloMosaic Idealize.ShloMosaic.TcCoe
open Cert.RowMath

/-- A sum over the first two axes. -/
theorem sum_d01 (x : S4x16x16x128x384.Idx → EReal) (z : EReal) (h : Fin 16) (i : Fin 128) (j : Fin 384) :
    Ideal.hostReduceAdd reducesTo_S4x16x16x128x384_S16x128x384_d0_1 x z (ix3 h i j) = z + ∑ b : Fin 4, ∑ n : Fin 16, x (ix5 b n h i j) := by
  have inv : ∀ k : S4x16x16x128x384.Idx, reducesTo_S4x16x16x128x384_S16x128x384_d0_1.drop k = ix3 h i j → ix5 (k 0 : Fin 4) (k 1 : Fin 16) h i j = k := by
    intro k hk
    refine funext fun a => Fin.ext ?_
    match a with
    | 0 => rfl
    | 1 => rfl
    | 2 => exact (congrArg Fin.val (congrFun hk 0)).symm
    | 3 => exact (congrArg Fin.val (congrFun hk 1)).symm
    | 4 => exact (congrArg Fin.val (congrFun hk 2)).symm
  unfold Ideal.hostReduceAdd
  rw [← Fintype.sum_prod_type' (f := fun (b : Fin 4) (n : Fin 16) => x (ix5 b n h i j))]
  refine congrArg (z + ·) (Finset.sum_nbij' (fun k => ((k 0 : Fin 4), (k 1 : Fin 16))) (fun p => ix5 p.1 p.2 h i j) ?_ ?_ ?_ ?_ ?_)
  · exact fun k _ => Finset.mem_univ _
  · exact fun p _ => Finset.mem_filter.mpr ⟨Finset.mem_univ _, funext fun a => Fin.ext (match a with | 0 => rfl | 1 => rfl | 2 => rfl)⟩
  · exact fun k hk => inv k (Finset.mem_filter.mp hk).2
  · exact fun p _ => rfl
  · exact fun k hk => congrArg x (inv k (Finset.mem_filter.mp hk).2).symm

/-- A sum over the first two axes of one element each. -/
theorem sum_d01' (x : S1x1x16x128x384.Idx → EReal) (z : EReal) (h : Fin 16) (i : Fin 128) (j : Fin 384) :
    Ideal.hostReduceAdd reducesTo_S1x1x16x128x384_S16x128x384_d0_1 x z (ix3 h i j) = z + x (ix5 0 0 h i j) := by
  have inv : ∀ k : S1x1x16x128x384.Idx, reducesTo_S1x1x16x128x384_S16x128x384_d0_1.drop k = ix3 h i j → k = ix5 0 0 h i j := by
    intro k hk
    refine funext fun a => Fin.ext ?_
    match a with
    | 0 => exact Nat.lt_one_iff.mp (k 0).isLt
    | 1 => exact Nat.lt_one_iff.mp (k 1).isLt
    | 2 => exact congrArg Fin.val (congrFun hk 0)
    | 3 => exact congrArg Fin.val (congrFun hk 1)
    | 4 => exact congrArg Fin.val (congrFun hk 2)
  unfold Ideal.hostReduceAdd
  refine congrArg (z + ·) (Finset.sum_eq_single_of_mem _ ?_ fun k hk ne => absurd (inv k (Finset.mem_filter.mp hk).2) ne)
  exact Finset.mem_filter.mpr ⟨Finset.mem_univ _, funext fun a => Fin.ext (match a with | 0 => rfl | 1 => rfl | 2 => rfl)⟩

/-- A sum over the axes of the sequences, the blocks and the queries. -/
theorem sum_d013 (x : S4x16x16x128x1.Idx → EReal) (z : EReal) (h : Fin 16) :
    Ideal.hostReduceAdd reducesTo_S4x16x16x128x1_S16x1_d0_1_3 x z (ix2 h 0) = z + ∑ b : Fin 4, ∑ n : Fin 16, ∑ i : Fin 128, x (ix5 b n h i 0) := by
  have inv : ∀ k : S4x16x16x128x1.Idx, reducesTo_S4x16x16x128x1_S16x1_d0_1_3.drop k = ix2 h 0 → ix5 (k 0 : Fin 4) (k 1 : Fin 16) h (k 3 : Fin 128) 0 = k := by
    intro k hk
    refine funext fun a => Fin.ext ?_
    match a with
    | 0 => rfl
    | 1 => rfl
    | 2 => exact (congrArg Fin.val (congrFun hk 0)).symm
    | 3 => rfl
    | 4 => exact (Nat.lt_one_iff.mp (k 4).isLt).symm
  unfold Ideal.hostReduceAdd
  have e : ∑ b : Fin 4, ∑ n : Fin 16, ∑ i : Fin 128, x (ix5 b n h i 0) = ∑ p : Fin 4 × Fin 16 × Fin 128, x (ix5 p.1 p.2.1 h p.2.2 0) := by
    rw [Fintype.sum_prod_type]
    refine Finset.sum_congr rfl fun b _ => ?_
    rw [Fintype.sum_prod_type]
  rw [e]
  refine congrArg (z + ·) (Finset.sum_nbij' (fun k => ((k 0 : Fin 4), (k 1 : Fin 16), (k 3 : Fin 128))) (fun p => ix5 p.1 p.2.1 h p.2.2 0) ?_ ?_ ?_ ?_ ?_)
  · exact fun k _ => Finset.mem_univ _
  · exact fun p _ => Finset.mem_filter.mpr ⟨Finset.mem_univ _, funext fun a => Fin.ext (match a with | 0 => rfl | 1 => rfl)⟩
  · exact fun k hk => inv k (Finset.mem_filter.mp hk).2
  · exact fun p _ => rfl
  · exact fun k hk => congrArg x (inv k (Finset.mem_filter.mp hk).2).symm

/-- A sum over all axes but the heads', of one element each. -/
theorem sum_d0134 (x : S1x1x16x1x1.Idx → EReal) (z : EReal) (h : Fin 16) :
    Ideal.hostReduceAdd reducesTo_S1x1x16x1x1_S16_d0_1_3_4 x z (ix1 h) = z + x (ix5 0 0 h 0 0) := by
  have inv : ∀ k : S1x1x16x1x1.Idx, reducesTo_S1x1x16x1x1_S16_d0_1_3_4.drop k = ix1 h → k = ix5 0 0 h 0 0 := by
    intro k hk
    refine funext fun a => Fin.ext ?_
    match a with
    | 0 => exact Nat.lt_one_iff.mp (k 0).isLt
    | 1 => exact Nat.lt_one_iff.mp (k 1).isLt
    | 2 => exact congrArg Fin.val (congrFun hk 0)
    | 3 => exact Nat.lt_one_iff.mp (k 3).isLt
    | 4 => exact Nat.lt_one_iff.mp (k 4).isLt
  unfold Ideal.hostReduceAdd
  refine congrArg (z + ·) (Finset.sum_eq_single_of_mem _ ?_ fun k hk ne => absurd (inv k (Finset.mem_filter.mp hk).2) ne)
  exact Finset.mem_filter.mpr ⟨Finset.mem_univ _, funext fun a => Fin.ext (match a with | 0 => rfl)⟩

end Cert.ReferenceIdeal.Hand
end
-- ==== Proof.RefRow.lean ====
/- The reference, read at an index. -/
module
public import proofs.«01_k».proof.Proof.Gen.ReferenceIdeal.Read
public import proofs.«01_k».proof.Proof.RowMath
public import proofs.«01_k».proof.Proof.RefSums
public import proofs.«01_k».proof.Proof.Words
public import Idealize.ShloMosaic.Lib.Pointwise
@[expose] public section
set_option maxRecDepth 16384
noncomputable section
namespace Cert.ReferenceIdeal.Hand
open Cert.ReferenceIdeal Cert.ReferenceIdeal.Gen Cert.ReferenceIdeal.Read
open Idealize.ShloMosaic Idealize.ShloMosaic.TcCoe
open Cert.RowMath
variable (x0 : (⟨S4x2048x4128, .f32⟩ : BufTy).Contents (Elt Ideal)) (x1 : (⟨S16x128x384, .f32⟩ : BufTy).Contents (Elt Ideal)) (x2 : (⟨S16, .f32⟩ : BufTy).Contents (Elt Ideal)) (x3 : (⟨S4x2048x2048, .bf16⟩ : BufTy).Contents (Elt Ideal))

/-- A query sees a key of its window: at most 128 before or after it, and within the sequence. -/
def Seen (n : Fin 16) (i : Fin 128) (j : Fin 384) : Prop := i.val ≤ j.val ∧ j.val ≤ i.val + 256 ∧ 128 ≤ 128 * n.val + j.val ∧ 128 * n.val + j.val < 2176

instance (n : Fin 16) (i : Fin 128) (j : Fin 384) : Decidable (Seen n i j) := by unfold Seen; infer_instance

/-- A row's scores, its probabilities' cotangents, its sink. -/
abbrev sR (b : Fin 4) (n : Fin 16) (h : Fin 16) (i : Fin 128) (j : Fin 384) : EReal := val_main_v68_0 (F := Ideal) x0 x1 (ix5 b n h i j)
abbrev gR (b : Fin 4) (n : Fin 16) (h : Fin 16) (i : Fin 128) (j : Fin 384) : EReal := val_main_v119 (F := Ideal) x0 x3 (ix5 b n h i j)
abbrev zR (h : Fin 16) : EReal := x2 (ix1 h)
theorem neg_inf : Ideal.ofBits FTy.f32 4286578688#32 = ⊥ := by simp [Ideal.ofBits, Ideal.ieee]

/-! ### What the row is made of -/

theorem q_at (b : Fin 4) (n : Fin 16) (i : Fin 128) (h : Fin 16) (d : Fin 64) :
    val_main_v4 (F := Ideal) x0 (ix5 b n i h d) = x0 (ix3 b ⟨128 * n.val + i.val, by omega⟩ ⟨2592 + (64 * h.val + d.val), by omega⟩) := by
  pointwise [val_main_v4, val_main_v0]
  exact congrArg₂ (fun y l => x0 (ix3 b y l)) (Fin.ext (by simp only; omega)) (Fin.ext (by simp only; omega))

/-- Whether a padded sequence's position is one of the sequence. -/
theorem pad3 {α : Type} (y : ℕ) (f : (128 ≤ y ∧ y < 2176) → α) (z : α) (a : y < 128 → α) (c : ¬y < 128 → ¬y - 128 < 2048 → α)
    (ha : ∀ h, a h = z) (hc : ∀ h h', c h h' = z) (g : ¬y < 128 → y - 128 < 2048 → α) (hg : ∀ h h' h'', g h h' = f h'') :
    (if h1 : y < 128 then a h1 else if h2 : y - 128 < 2048 then g h1 h2 else c h1 h2) = if h : 128 ≤ y ∧ y < 2176 then f h else z := by
  split_ifs <;> first | exact ha _ | exact hc _ _ | exact hg _ _ _ | omega

theorem cut3 {α : Type} (j : ℕ) (z : α) (a : j < 128 → α) (b : ¬j < 128 → j - 128 < 128 → α) (c : ¬j < 128 → ¬j - 128 < 128 → α)
    (ha : ∀ h, a h = z) (hb : ∀ h h', b h h' = z) (hc : ∀ h h', c h h' = z) :
    (if h1 : j < 128 then a h1 else if h2 : j - 128 < 128 then b h1 h2 else c h1 h2) = z := by
  split_ifs <;> first | exact ha _ | exact hb _ _ | exact hc _ _

/-- The keys of a head along the padded sequence; those of a window. -/
theorem k8_at (b : Fin 4) (y : Fin 2304) (h : Fin 16) (d : Fin 64) : val_main_v8 (F := Ideal) x0 (ix4 b y h d)
    = if hy : 128 ≤ y.val ∧ y.val < 2176 then x0 (ix3 b ⟨y.val - 128, by omega⟩ ⟨3616 + (64 * (h.val / 4) + d.val), by omega⟩) else 0 := by
  have z : ∀ k : S4x128x16x64.Idx, val_main_v3 (F := Ideal) k = 0 := fun k => by
    rw [val_main_v3_apply]; show Ideal.ofBits FTy.f32 0x00000000#32 = 0; simp [Ideal.ofBits, Ideal.ieee]
  pointwise [val_main_v8]
  refine pad3 y.val _ _ _ _ (fun _ => z _) (fun _ _ => z _) _ fun _ _ _ => ?_
  pointwise [val_main_v7, val_main_v6, val_main_v5, val_main_v1]
  exact congrArg (fun l => x0 (ix3 b ⟨y.val - 128, by omega⟩ l)) (Fin.ext (by simp only; omega))
theorem kbl_at (b : Fin 4) (p : Fin 18) (r : Fin 128) (h : Fin 16) (d : Fin 64) : val_main_v11 (F := Ideal) x0 (ix5 b p r h d)
    = val_main_v8 (F := Ideal) x0 (ix4 b ⟨128 * p.val + r.val, by omega⟩ h d) := by
  rw [val_main_v11_apply]
  have h0 := b.isLt; have h1 := p.isLt; have h2 := r.isLt; have h3 := h.isLt; have h4 := d.isLt
  refine congrArg (val_main_v8 (F := Ideal) x0) (funext fun a => Fin.ext ?_)
  match a with
  | 0 => show ((((b.val * 18 + p.val) * 128 + r.val) * 16 + h.val) * 64 + d.val) / 2359296 = b.val; omega
  | 1 => show ((((b.val * 18 + p.val) * 128 + r.val) * 16 + h.val) * 64 + d.val) / 1024 % 2304 = 128 * p.val + r.val; omega
  | 2 => show ((((b.val * 18 + p.val) * 128 + r.val) * 16 + h.val) * 64 + d.val) / 64 % 16 = h.val; omega
  | 3 => show ((((b.val * 18 + p.val) * 128 + r.val) * 16 + h.val) * 64 + d.val) % 64 = d.val; omega
theorem kwin_at (b : Fin 4) (n : Fin 16) (j : Fin 384) (h : Fin 16) (d : Fin 64) : val_main_v15 (F := Ideal) x0 (ix5 b n j h d)
    = val_main_v8 (F := Ideal) x0 (ix4 b ⟨128 * n.val + j.val, by omega⟩ h d) := by
  pointwise [val_main_v15]
  refine cut3 j.val _ _ _ _ (fun _ => ?_) (fun _ _ => ?_) (fun _ _ => ?_)
  · rw [val_main_v12_apply]
    refine Eq.trans (congrArg (val_main_v11 (F := Ideal) x0) (a₂ := ix5 b ⟨n.val + 0, by omega⟩ ⟨j.val, by omega⟩ h d) (funext fun a => match a with
      | 0 => rfl | 1 => rfl | 2 => rfl | 3 => rfl | 4 => rfl)) ((kbl_at x0 b _ _ h d).trans ?_)
    exact congrArg (fun y => val_main_v8 (F := Ideal) x0 (ix4 b y h d)) (Fin.ext (by simp only; omega))
  · rw [val_main_v13_apply]
    refine Eq.trans (congrArg (val_main_v11 (F := Ideal) x0) (a₂ := ix5 b ⟨n.val + 1, by omega⟩ ⟨j.val - 128, by omega⟩ h d) (funext fun a => match a with
      | 0 => rfl | 1 => Fin.ext (by show _ = n.val + 1; exact Nat.add_comm _ _) | 2 => rfl | 3 => rfl | 4 => rfl)) ((kbl_at x0 b _ _ h d).trans ?_)
    exact congrArg (fun y => val_main_v8 (F := Ideal) x0 (ix4 b y h d)) (Fin.ext (by simp only; omega))
  · rw [val_main_v14_apply]
    refine Eq.trans (congrArg (val_main_v11 (F := Ideal) x0) (a₂ := ix5 b ⟨n.val + 2, by omega⟩ ⟨j.val - 128 - 128, by omega⟩ h d) (funext fun a => match a with
      | 0 => rfl | 1 => Fin.ext (by show _ = n.val + 2; exact Nat.add_comm _ _) | 2 => rfl | 3 => rfl | 4 => rfl)) ((kbl_at x0 b _ _ h d).trans ?_)
    exact congrArg (fun y => val_main_v8 (F := Ideal) x0 (ix4 b y h d)) (Fin.ext (by simp only; omega))
theorem k_at (b : Fin 4) (n : Fin 16) (j : Fin 384) (h : Fin 16) (d : Fin 64) : val_main_v15 (F := Ideal) x0 (ix5 b n j h d)
    = if hj : 128 ≤ 128 * n.val + j.val ∧ 128 * n.val + j.val < 2176 then
        x0 (ix3 b ⟨128 * n.val + j.val - 128, by omega⟩ ⟨3616 + (64 * (h.val / 4) + d.val), by omega⟩) else 0 := by
  rw [kwin_at, k8_at]

/-- The values of a head along the padded sequence; those of a window. -/
theorem v8_at (b : Fin 4) (y : Fin 2304) (h : Fin 16) (d : Fin 64) : val_main_v19 (F := Ideal) x0 (ix4 b y h d)
    = if hy : 128 ≤ y.val ∧ y.val < 2176 then x0 (ix3 b ⟨y.val - 128, by omega⟩ ⟨3872 + (64 * (h.val / 4) + d.val), by omega⟩) else 0 := by
  have z : ∀ k : S4x128x16x64.Idx, val_main_v3 (F := Ideal) k = 0 := fun k => by
    rw [val_main_v3_apply]; show Ideal.ofBits FTy.f32 0x00000000#32 = 0; simp [Ideal.ofBits, Ideal.ieee]
  pointwise [val_main_v19]
  refine pad3 y.val _ _ _ _ (fun _ => z _) (fun _ _ => z _) _ fun _ _ _ => ?_
  pointwise [val_main_v18, val_main_v17, val_main_v16, val_main_v2]
  exact congrArg (fun l => x0 (ix3 b ⟨y.val - 128, by omega⟩ l)) (Fin.ext (by simp only; omega))
theorem vbl_at (b : Fin 4) (p : Fin 18) (r : Fin 128) (h : Fin 16) (d : Fin 64) : val_main_v22 (F := Ideal) x0 (ix5 b p r h d)
    = val_main_v19 (F := Ideal) x0 (ix4 b ⟨128 * p.val + r.val, by omega⟩ h d) := by
  rw [val_main_v22_apply]
  have h0 := b.isLt; have h1 := p.isLt; have h2 := r.isLt; have h3 := h.isLt; have h4 := d.isLt
  refine congrArg (val_main_v19 (F := Ideal) x0) (funext fun a => Fin.ext ?_)
  match a with
  | 0 => show ((((b.val * 18 + p.val) * 128 + r.val) * 16 + h.val) * 64 + d.val) / 2359296 = b.val; omega
  | 1 => show ((((b.val * 18 + p.val) * 128 + r.val) * 16 + h.val) * 64 + d.val) / 1024 % 2304 = 128 * p.val + r.val; omega
  | 2 => show ((((b.val * 18 + p.val) * 128 + r.val) * 16 + h.val) * 64 + d.val) / 64 % 16 = h.val; omega
  | 3 => show ((((b.val * 18 + p.val) * 128 + r.val) * 16 + h.val) * 64 + d.val) % 64 = d.val; omega
theorem vwin_at (b : Fin 4) (n : Fin 16) (j : Fin 384) (h : Fin 16) (d : Fin 64) : val_main_v26 (F := Ideal) x0 (ix5 b n j h d)
    = val_main_v19 (F := Ideal) x0 (ix4 b ⟨128 * n.val + j.val, by omega⟩ h d) := by
  pointwise [val_main_v26]
  refine cut3 j.val _ _ _ _ (fun _ => ?_) (fun _ _ => ?_) (fun _ _ => ?_)
  · rw [val_main_v23_apply]
    refine Eq.trans (congrArg (val_main_v22 (F := Ideal) x0) (a₂ := ix5 b ⟨n.val + 0, by omega⟩ ⟨j.val, by omega⟩ h d) (funext fun a => match a with
      | 0 => rfl | 1 => rfl | 2 => rfl | 3 => rfl | 4 => rfl)) ((vbl_at x0 b _ _ h d).trans ?_)
    exact congrArg (fun y => val_main_v19 (F := Ideal) x0 (ix4 b y h d)) (Fin.ext (by simp only; omega))
  · rw [val_main_v24_apply]
    refine Eq.trans (congrArg (val_main_v22 (F := Ideal) x0) (a₂ := ix5 b ⟨n.val + 1, by omega⟩ ⟨j.val - 128, by omega⟩ h d) (funext fun a => match a with
      | 0 => rfl | 1 => Fin.ext (by show _ = n.val + 1; exact Nat.add_comm _ _) | 2 => rfl | 3 => rfl | 4 => rfl)) ((vbl_at x0 b _ _ h d).trans ?_)
    exact congrArg (fun y => val_main_v19 (F := Ideal) x0 (ix4 b y h d)) (Fin.ext (by simp only; omega))
  · rw [val_main_v25_apply]
    refine Eq.trans (congrArg (val_main_v22 (F := Ideal) x0) (a₂ := ix5 b ⟨n.val + 2, by omega⟩ ⟨j.val - 128 - 128, by omega⟩ h d) (funext fun a => match a with
      | 0 => rfl | 1 => Fin.ext (by show _ = n.val + 2; exact Nat.add_comm _ _) | 2 => rfl | 3 => rfl | 4 => rfl)) ((vbl_at x0 b _ _ h d).trans ?_)
    exact congrArg (fun y => val_main_v19 (F := Ideal) x0 (ix4 b y h d)) (Fin.ext (by simp only; omega))
theorem v_at (b : Fin 4) (n : Fin 16) (j : Fin 384) (h : Fin 16) (d : Fin 64) : val_main_v26 (F := Ideal) x0 (ix5 b n j h d)
    = if hj : 128 ≤ 128 * n.val + j.val ∧ 128 * n.val + j.val < 2176 then
        x0 (ix3 b ⟨128 * n.val + j.val - 128, by omega⟩ ⟨3872 + (64 * (h.val / 4) + d.val), by omega⟩) else 0 := by
  rw [vwin_at, v8_at]

theorem within_word : ∀ n : Fin 16, ∀ j : Fin 384, IntOp.andi
      (IntOp.cmpi CmpIPredicate.sge (IntOp.addi (IntOp.subi (IntOp.muli (BitVec.ofNat 32 n.val) 128#32) 128#32) (BitVec.ofNat 32 j.val)) 0#32)
      (IntOp.cmpi CmpIPredicate.slt (IntOp.addi (IntOp.subi (IntOp.muli (BitVec.ofNat 32 n.val) 128#32) 128#32) (BitVec.ofNat 32 j.val)) 2048#32)
    = if 128 ≤ 128 * n.val + j.val ∧ 128 * n.val + j.val < 2176 then 1#1 else 0#1 := by decide +kernel
theorem v50_at (i : Fin 128) (j : Fin 384) :
    val_main_v50 (F := Ideal) (ix3 0 i j) = if i.val ≤ j.val ∧ j.val ≤ i.val + 256 then 1#1 else 0#1 := by
  pointwise [val_main_v50, val_main_v49, val_main_v48, val_main_v47, val_main_v35, val_main_v34, val_main_v33, val_main_v32, val_main_v31, val_main_v30, val_main_v29, val_main_v28, val_main_v27, val_main_c, val_main_c_6]
  exact Words.near i j
theorem v56_at (n : Fin 16) (j : Fin 384) :
    val_main_v56 (F := Ideal) (ix3 n 0 j) = if 128 ≤ 128 * n.val + j.val ∧ 128 * n.val + j.val < 2176 then 1#1 else 0#1 := by
  pointwise [val_main_v56, val_main_v55, val_main_v54, val_main_v53, val_main_v52, val_main_v51, val_main_v46, val_main_v45, val_main_v44, val_main_v43, val_main_v42, val_main_v41, val_main_v40, val_main_v39, val_main_v38, val_main_v37, val_main_v36, val_main_c_4, val_main_c_5, val_main_c_7, val_main_c_8]
  exact within_word n j
/-- The mask. -/
theorem valid_at (n : Fin 16) (i : Fin 128) (j : Fin 384) : val_main_v59 (F := Ideal) (ix3 n i j) = if Seen n i j then 1#1 else 0#1 := by
  pointwise [val_main_v59, val_main_v58, val_main_v57]
  rw [v50_at, v56_at]
  unfold Seen
  by_cases h1 : i.val ≤ j.val ∧ j.val ≤ i.val + 256 <;> by_cases h2 : 128 ≤ 128 * n.val + j.val ∧ 128 * n.val + j.val < 2176
  · rw [if_pos h1, if_pos h2]; exact Eq.trans rfl (if_pos ⟨h1.1, h1.2, h2⟩).symm
  · rw [if_pos h1, if_neg h2]; exact Eq.trans rfl (if_neg fun h => h2 h.2.2).symm
  · rw [if_neg h1, if_pos h2]; exact Eq.trans rfl (if_neg fun h => h1 ⟨h.1, h.2.1⟩).symm
  · rw [if_neg h1, if_neg h2]; exact Eq.trans rfl (if_neg fun h => h2 h.2.2).symm
theorem mask_sel {α : Type} (n : Fin 16) (i : Fin 128) (j : Fin 384) (a b : α) :
    Scalar.select (val_main_v59 (F := Ideal) (ix3 n i j)) a b = if Seen n i j then a else b := by
  rw [valid_at]; split <;> rfl

/-- The scores, −∞ at a key that is not seen. -/
theorem s_at (b : Fin 4) (n : Fin 16) (h : Fin 16) (i : Fin 128) (j : Fin 384) : sR x0 x1 b n h i j
    = if Seen n i j then (∑ d : Fin 64, val_main_v4 (F := Ideal) x0 (ix5 b n i h d) * val_main_v15 (F := Ideal) x0 (ix5 b n j h d))
        * Ideal.ofBits FTy.f32 0x3E000000#32 + x1 (ix3 h i j) else ⊥ := by
  show val_main_v68_0 (F := Ideal) x0 x1 (ix5 b n h i j) = _
  pointwise [val_main_v68_0, val_main_v68_1, val_main_v67, val_main_v66, val_main_v65, val_main_v64, val_main_v63, val_main_v62, val_main_v61, val_main_call0_v2, val_main_call0_v0, val_main_cst_9, val_main_cst_10]
  rw [mask_sel]
  exact congrArg (fun z => if Seen n i j then _ else z) neg_inf
theorem do_at (b : Fin 4) (n : Fin 16) (h : Fin 16) (i : Fin 128) (d : Fin 64) : val_main_v118 (F := Ideal) x3 (ix5 b n h d i)
    = x3 (ix3 b ⟨128 * n.val + i.val, by omega⟩ ⟨1024 + (64 * h.val + d.val), by omega⟩) := by
  pointwise [val_main_v118, val_main_v117, val_main_v116, val_main_v115]
  exact congrArg₂ (fun y l => x3 (ix3 b y l)) (Fin.ext (by simp only; omega)) (Fin.ext (by simp only; omega))
/-- The probabilities' cotangents. -/
theorem g_at (b : Fin 4) (n : Fin 16) (h : Fin 16) (i : Fin 128) (j : Fin 384) : gR x0 x3 b n h i j
    = ∑ d : Fin 64, x3 (ix3 b ⟨128 * n.val + i.val, by omega⟩ ⟨1024 + (64 * h.val + d.val), by omega⟩) * val_main_v26 (F := Ideal) x0 (ix5 b n j h d) := by
  show val_main_v119 (F := Ideal) x0 x3 (ix5 b n h i j) = _
  pointwise [val_main_v119]
  exact Finset.sum_congr rfl fun d _ => congrArg (fun z => z * val_main_v26 (F := Ideal) x0 (ix5 b n j h d)) (do_at x3 b n h i d)

/-! ### The row -/

theorem v69_at (b : Fin 4) (n : Fin 16) (h : Fin 16) (i : Fin 128) : val_main_v69 (F := Ideal) x0 x1 (ix4 b n h i) = Finset.univ.fold max ⊥ (sR x0 x1 b n h i) := by
  pointwise [val_main_v69, val_main_cst_11]
  rw [neg_inf]
theorem v75_at (b : Fin 4) (n : Fin 16) (h : Fin 16) (i : Fin 128) : val_main_v75 (F := Ideal) x0 x1 (ix5 b n h i 0) = Finset.univ.fold max ⊥ (sR x0 x1 b n h i) := by
  pointwise [val_main_v75]
  exact v69_at x0 x1 b n h i
theorem v77_at (b : Fin 4) (n : Fin 16) (h : Fin 16) (i : Fin 128) : val_main_v77 (F := Ideal) x2 (ix5 b n h i 0) = zR x2 h := by
  pointwise [val_main_v77, val_main_v76, val_main_v60]
theorem v78_at (b : Fin 4) (n : Fin 16) (h : Fin 16) (i : Fin 128) : val_main_v78 (F := Ideal) x0 x1 x2 (ix5 b n h i 0) = top (sR x0 x1 b n h i) (zR x2 h) := by
  rw [val_main_v78_apply, v75_at, v77_at, top]
  exact rfl
theorem v99_at (b : Fin 4) (n : Fin 16) (h : Fin 16) (i : Fin 128) (j : Fin 384) : val_main_v99 (F := Ideal) x0 x1 x2 (ix5 b n h i j) = ex (sR x0 x1 b n h i) (zR x2 h) j := by
  pointwise [val_main_v99, val_main_v98, val_main_v97]
  rw [v78_at, ex]
theorem v105_at (b : Fin 4) (n : Fin 16) (h : Fin 16) (i : Fin 128) : val_main_v105 (F := Ideal) x0 x1 x2 (ix5 b n h i 0) = exz (sR x0 x1 b n h i) (zR x2 h) := by
  pointwise [val_main_v105, val_main_v104, val_main_v103, val_main_v102, val_main_v60]
  rw [v78_at, exz]
theorem v106_at (b : Fin 4) (n : Fin 16) (h : Fin 16) (i : Fin 128) : val_main_v106 (F := Ideal) x0 x1 x2 (ix5 b n h i 0) = rDen (sR x0 x1 b n h i) (zR x2 h) := by
  pointwise [val_main_v106, val_main_v101, val_main_v100, val_main_cst_19]
  simp only [v99_at, v105_at, rDen, zero_add]
theorem v108_at (b : Fin 4) (n : Fin 16) (h : Fin 16) (i : Fin 128) (j : Fin 384) : val_main_v108 (F := Ideal) x0 x1 x2 (ix5 b n h i j) = rP (sR x0 x1 b n h i) (zR x2 h) j := by
  pointwise [val_main_v108, val_main_v107]
  rw [v99_at, v106_at, rP]
theorem v127_at (b : Fin 4) (n : Fin 16) (h : Fin 16) (i : Fin 128) : val_main_v127 (F := Ideal) x0 x1 x2 x3 (ix5 b n h i 0) = rDd (sR x0 x1 b n h i) (zR x2 h) (gR x0 x3 b n h i) := by
  pointwise [val_main_v127, val_main_v126, val_main_v125, val_main_v124, val_main_v123, val_main_v122, val_main_v111, val_main_v110, val_main_v109, val_main_cst_20, val_main_cst_21]
  simp only [v99_at, v106_at, rDd, zero_add]
theorem v139_at (b : Fin 4) (n : Fin 16) (h : Fin 16) (i : Fin 128) (j : Fin 384) : val_main_v139 (F := Ideal) x0 x1 x2 x3 (ix5 b n h i j) = rDe (sR x0 x1 b n h i) (zR x2 h) (gR x0 x3 b n h i) j := by
  pointwise [val_main_v139, val_main_v138, val_main_v137, val_main_v136, val_main_v129, val_main_v128, val_main_cst_24]
  rw [Fin.sum_univ_one, v99_at, v106_at, v127_at, rDe, zero_add]
theorem v130_at (b : Fin 4) (n : Fin 16) (h : Fin 16) (i : Fin 128) : val_main_v130 (F := Ideal) x0 x1 x2 x3 (ix5 b n h i 0) = rDz (sR x0 x1 b n h i) (zR x2 h) (gR x0 x3 b n h i) := by
  pointwise [val_main_v130]
  rw [v127_at, v105_at, rDz]
theorem v143_at (b : Fin 4) (n : Fin 16) (h : Fin 16) (i : Fin 128) : val_main_v143 (F := Ideal) x0 x1 x2 x3 (ix5 b n h i 0) = rDm (sR x0 x1 b n h i) (zR x2 h) (gR x0 x3 b n h i) := by
  pointwise [val_main_v143, val_main_v142, val_main_v141, val_main_v140, val_main_v133, val_main_cst_25]
  simp only [v130_at, v139_at, rDm, zero_add]
theorem idx151 (b : Fin 4) (n : Fin 16) (h : Fin 16) (i : Fin 128) : idx_main_v151 (ix4 b n h i) 0 = ix5 b n h i 0 :=
  funext fun a => match a with | ⟨0, _⟩ => rfl | ⟨1, _⟩ => rfl | ⟨2, _⟩ => rfl | ⟨3, _⟩ => rfl | ⟨4, _⟩ => rfl
theorem v151_at (b : Fin 4) (n : Fin 16) (h : Fin 16) (i : Fin 128) (e : rDm (sR x0 x1 b n h i) (zR x2 h) (gR x0 x3 b n h i) = 0) : val_main_v151 (F := Ideal) x0 x1 x2 x3 (ix4 b n h i) = 0 := by
  rw [val_main_v151_apply, Fin.sum_univ_one, idx151, val_main_v147_apply, v143_at, e]
  show Ideal.ofBits FTy.f32 0x00000000#32 + 0 * _ = 0
  rw [zero_mul, add_zero]
  simp [Ideal.ofBits, Ideal.ieee]

/-- How many scores are the largest: not none. -/
theorem v74_ne (b : Fin 4) (n : Fin 16) (h : Fin 16) (i : Fin 128) : val_main_v74 (F := Ideal) x0 x1 (ix4 b n h i) ≠ 0 := by
  pointwise [val_main_v74, val_main_v73, val_main_v72, val_main_v71, val_main_v70, val_main_cst_12]
  obtain ⟨j, hj⟩ := exists_fold_max (s := sR x0 x1 b n h i)
  have one : ∀ p : Bool, FloatOps.uitofp (F := Ideal) FTy.f32 (BitVec.ofBool p) = if p then (1 : EReal) else 0 := by
    intro p; cases p <;> simp [FloatOps.uitofp, BitVec.ofBool]
  refine ne_of_gt (lt_of_lt_of_le zero_lt_one (le_trans (le_of_eq ?_) (Finset.single_le_sum (fun k _ => ?_) (Finset.mem_univ j))))
  · rw [one, if_pos]; rw [v69_at]; exact decide_eq_true hj
  · rw [one]; split <;> simp

/-- The masked scores' cotangents. -/
theorem v156_at (b : Fin 4) (n : Fin 16) (h : Fin 16) (i : Fin 128) (j : Fin 384) (e : rDm (sR x0 x1 b n h i) (zR x2 h) (gR x0 x3 b n h i) = 0) :
    val_main_v156 (F := Ideal) x0 x1 x2 x3 (ix5 b n h i j) = if Seen n i j then rDe (sR x0 x1 b n h i) (zR x2 h) (gR x0 x3 b n h i) j else 0 := by
  pointwise [val_main_v156, val_main_v68_1, val_main_v67, val_main_call1_v0, val_main_call1_cst]
  rw [mask_sel]
  refine if_congr Iff.rfl ?_ rfl
  pointwise [val_main_v155, val_main_v154, val_main_v153, val_main_v152]
  rw [v151_at x0 x1 x2 x3 b n h i e, v139_at, Ideal.div, if_neg (v74_ne x0 x1 b n h i), zero_mul, zero_mul, add_zero]
theorem v161_at (b : Fin 4) (n : Fin 16) (h : Fin 16) (i : Fin 128) (j : Fin 384) :
    val_main_v161 (F := Ideal) x0 x1 x2 x3 (ix5 b n h i j) = val_main_v156 (F := Ideal) x0 x1 x2 x3 (ix5 b n h i j) * Ideal.ofBits FTy.f32 0x3E000000#32 := by
  pointwise [val_main_v161, val_main_v160, val_main_cst_31]

/-! ### The results -/

/-- The queries' gradients. -/
theorem v198_at (b : Fin 4) (y : Fin 2048) (l : Fin 1024) : val_main_v198 (F := Ideal) x0 x1 x2 x3 (ix3 b y l)
    = ∑ j : Fin 384, val_main_v161 (F := Ideal) x0 x1 x2 x3 (ix5 b ⟨y.val / 128, by omega⟩ ⟨l.val / 64, by omega⟩ ⟨y.val % 128, by omega⟩ j)
        * val_main_v15 (F := Ideal) x0 (ix5 b ⟨y.val / 128, by omega⟩ j ⟨l.val / 64, by omega⟩ ⟨l.val % 64, by omega⟩) := by
  pointwise [val_main_v198, val_main_v197, val_main_v165, val_main_v164]

/-- The bias's. -/
theorem v159_at (h : Fin 16) (i : Fin 128) (j : Fin 384) : val_main_v159 (F := Ideal) x0 x1 x2 x3 (ix3 h i j)
    = ∑ b : Fin 4, ∑ n : Fin 16, val_main_v156 (F := Ideal) x0 x1 x2 x3 (ix5 b n h i j) := by
  have z : Ideal.ofBits FTy.f32 0x00000000#32 = 0 := by simp [Ideal.ofBits, Ideal.ieee]
  refine (sum_d01' _ _ h i j).trans ((congrArg₂ (· + ·) z ?_).trans (zero_add _))
  pointwise [val_main_v158]
  exact (sum_d01 _ _ h i j).trans ((congrArg (· + _) z).trans (zero_add _))

/-- The sinks'. -/
theorem v166_at (h : Fin 16) (e : ∀ b n i, rDm (sR x0 x1 b n h i) (zR x2 h) (gR x0 x3 b n h i) = 0) : val_main_v166 (F := Ideal) x0 x1 x2 x3 (ix1 h)
    = ∑ b : Fin 4, ∑ n : Fin 16, ∑ i : Fin 128, val_main_v130 (F := Ideal) x0 x1 x2 x3 (ix5 b n h i 0) := by
  have z : Ideal.ofBits FTy.f32 0x00000000#32 = 0 := by simp [Ideal.ofBits, Ideal.ieee]
  have e1 : val_main_v134 (F := Ideal) x0 x1 x2 x3 (ix1 h) = ∑ b : Fin 4, ∑ n : Fin 16, ∑ i : Fin 128, val_main_v130 (F := Ideal) x0 x1 x2 x3 (ix5 b n h i 0) := by
    refine (sum_d0134 _ _ h).trans ((congrArg₂ (· + ·) z ?_).trans (zero_add _))
    pointwise [val_main_v132]
    exact (sum_d013 _ _ h).trans ((congrArg (· + _) z).trans (zero_add _))
  have e2 : val_main_v148 (F := Ideal) x0 x1 x2 x3 (ix1 h) = 0 := by
    refine (sum_d0134 _ _ h).trans ((congrArg₂ (· + ·) z ?_).trans (zero_add _))
    pointwise [val_main_v146]
    refine (sum_d013 _ _ h).trans ((congrArg (· + _) z).trans ((zero_add _).trans ?_))
    refine Finset.sum_eq_zero fun b _ => Finset.sum_eq_zero fun n _ => Finset.sum_eq_zero fun i _ => ?_
    rw [val_main_v144_apply, v143_at, e]
    exact zero_mul _
  pointwise [val_main_v166, val_main_v150, val_main_v149, val_main_v135]
  rw [e1, e2, add_zero]

/-- The keys' gradients: those of a key head's four query heads, gathered from the windows that hold the key. -/
theorem dk_pad (b : Fin 4) (p : Fin 18) (r : Fin 128) (h : Fin 16) (d : Fin 64) : val_main_v189 (F := Ideal) x0 x1 x2 x3 (ix5 b p r h d)
    = (((if h_1 : 2 ≤ p.val ∧ p.val - 2 < 16 then val_main_v163 (F := Ideal) x0 x1 x2 x3 (ix5 b ⟨p.val - 2, by omega⟩ ⟨256 + r.val, by omega⟩ h d) else 0) +
        if h_1 : 1 ≤ p.val ∧ p.val - 1 < 16 then val_main_v163 (F := Ideal) x0 x1 x2 x3 (ix5 b ⟨p.val - 1, by omega⟩ ⟨128 + r.val, by omega⟩ h d) else 0) +
      if h_1 : p.val < 16 then val_main_v163 (F := Ideal) x0 x1 x2 x3 (ix5 b ⟨p.val, by omega⟩ ⟨r.val, by omega⟩ h d) else 0) := by
  pointwise [val_main_v189, val_main_v188, val_main_v187, val_main_v186, val_main_v185, val_main_v184, val_main_v183, val_main_v182, val_main_cst_36, val_main_cst_37, val_main_cst_38]
theorem dk_out (b : Fin 4) (y : Fin 2048) (l : Fin 256) : val_main_v196 (F := Ideal) x0 x1 x2 x3 (ix3 b y l)
    = ∑ x : Fin 4, val_main_v189 (F := Ideal) x0 x1 x2 x3 (ix5 b ⟨y.val / 128 + 1, by omega⟩ ⟨y.val % 128, by omega⟩ ⟨4 * (l.val / 64) + x.val, by omega⟩ ⟨l.val % 64, by omega⟩) := by
  pointwise [val_main_v196, val_main_v195, val_main_v194, val_main_v192, val_main_v190, val_main_cst_39]
  refine Finset.sum_congr rfl fun x _ => ?_
  have e1 : (⟨(128 + y.val) / 128, by omega⟩ : Fin 18) = ⟨y.val / 128 + 1, by omega⟩ := Fin.ext (by simp only; omega)
  have e2 : (⟨(128 + y.val) % 128, by omega⟩ : Fin 128) = ⟨y.val % 128, by omega⟩ := Fin.ext (by simp only; omega)
  have e3 : (⟨l.val / 64 * 4 + x.val, by omega⟩ : Fin 16) = ⟨4 * (l.val / 64) + x.val, by omega⟩ := Fin.ext (by simp only; omega)
  exact (congrArg₂ (fun p r => val_main_v189 (F := Ideal) x0 x1 x2 x3 (ix5 b p r _ ⟨l.val % 64, by omega⟩)) e1 e2).trans
    (congrArg (fun h => val_main_v189 (F := Ideal) x0 x1 x2 x3 (ix5 b _ _ h ⟨l.val % 64, by omega⟩)) e3)
theorem dk_win (b : Fin 4) (n : Fin 16) (j : Fin 384) (h : Fin 16) (d : Fin 64) : val_main_v163 (F := Ideal) x0 x1 x2 x3 (ix5 b n j h d)
    = ∑ i : Fin 128, val_main_v161 (F := Ideal) x0 x1 x2 x3 (ix5 b n h i j) * val_main_v4 (F := Ideal) x0 (ix5 b n i h d) := by
  pointwise [val_main_v163, val_main_v162]

/-- The values' gradients: those of a key head's four query heads, gathered from the windows that hold the key. -/
theorem dv_pad (b : Fin 4) (p : Fin 18) (r : Fin 128) (h : Fin 16) (d : Fin 64) : val_main_v174 (F := Ideal) x0 x1 x2 x3 (ix5 b p r h d)
    = (((if h_1 : 2 ≤ p.val ∧ p.val - 2 < 16 then val_main_v121 (F := Ideal) x0 x1 x2 x3 (ix5 b ⟨p.val - 2, by omega⟩ ⟨256 + r.val, by omega⟩ h d) else 0) +
        if h_1 : 1 ≤ p.val ∧ p.val - 1 < 16 then val_main_v121 (F := Ideal) x0 x1 x2 x3 (ix5 b ⟨p.val - 1, by omega⟩ ⟨128 + r.val, by omega⟩ h d) else 0) +
      if h_1 : p.val < 16 then val_main_v121 (F := Ideal) x0 x1 x2 x3 (ix5 b ⟨p.val, by omega⟩ ⟨r.val, by omega⟩ h d) else 0) := by
  pointwise [val_main_v174, val_main_v173, val_main_v172, val_main_v171, val_main_v170, val_main_v169, val_main_v168, val_main_v167, val_main_cst_32, val_main_cst_33, val_main_cst_34]
theorem dv_out (b : Fin 4) (y : Fin 2048) (l : Fin 256) : val_main_v181 (F := Ideal) x0 x1 x2 x3 (ix3 b y l)
    = ∑ x : Fin 4, val_main_v174 (F := Ideal) x0 x1 x2 x3 (ix5 b ⟨y.val / 128 + 1, by omega⟩ ⟨y.val % 128, by omega⟩ ⟨4 * (l.val / 64) + x.val, by omega⟩ ⟨l.val % 64, by omega⟩) := by
  pointwise [val_main_v181, val_main_v180, val_main_v179, val_main_v177, val_main_v175, val_main_cst_35]
  refine Finset.sum_congr rfl fun x _ => ?_
  have e1 : (⟨(128 + y.val) / 128, by omega⟩ : Fin 18) = ⟨y.val / 128 + 1, by omega⟩ := Fin.ext (by simp only; omega)
  have e2 : (⟨(128 + y.val) % 128, by omega⟩ : Fin 128) = ⟨y.val % 128, by omega⟩ := Fin.ext (by simp only; omega)
  have e3 : (⟨l.val / 64 * 4 + x.val, by omega⟩ : Fin 16) = ⟨4 * (l.val / 64) + x.val, by omega⟩ := Fin.ext (by simp only; omega)
  exact (congrArg₂ (fun p r => val_main_v174 (F := Ideal) x0 x1 x2 x3 (ix5 b p r _ ⟨l.val % 64, by omega⟩)) e1 e2).trans
    (congrArg (fun h => val_main_v174 (F := Ideal) x0 x1 x2 x3 (ix5 b _ _ h ⟨l.val % 64, by omega⟩)) e3)
theorem dv_win (b : Fin 4) (n : Fin 16) (j : Fin 384) (h : Fin 16) (d : Fin 64) : val_main_v121 (F := Ideal) x0 x1 x2 x3 (ix5 b n j h d)
    = ∑ i : Fin 128, x3 (ix3 b ⟨128 * n.val + i.val, by omega⟩ ⟨1024 + (64 * h.val + d.val), by omega⟩) * val_main_v108 (F := Ideal) x0 x1 x2 (ix5 b n h i j) := by
  pointwise [val_main_v121, val_main_v120]
  exact Finset.sum_congr rfl fun i _ => congrArg (· * _) (do_at x3 b n h i d)
end Cert.ReferenceIdeal.Hand
end
-- ==== Proof.Rows.lean ====
/- A point's rows, against the reference's. -/
module

public import proofs.«01_k».proof.Proof.Win
public import proofs.«01_k».proof.Proof.RefRow

@[expose] public section

set_option maxRecDepth 16384

noncomputable section

namespace Cert.RowMath

open Idealize.ShloMosaic

/-- A value that is a real number. -/
def IsR (x : EReal) : Prop := ∃ r : ℝ, x = r

theorem IsR.mul {x y : EReal} : IsR x → IsR y → IsR (x * y) | ⟨r, hr⟩, ⟨u, hu⟩ => ⟨r * u, by rw [hr, hu, EReal.coe_mul]⟩
theorem IsR.add {x y : EReal} : IsR x → IsR y → IsR (x + y) | ⟨r, hr⟩, ⟨u, hu⟩ => ⟨r + u, by rw [hr, hu, EReal.coe_add]⟩
theorem IsR.zero : IsR 0 := ⟨0, EReal.coe_zero.symm⟩
theorem IsR.coe (r : ℝ) : IsR r := ⟨r, rfl⟩
theorem IsR.sum {ι : Type} [Fintype ι] {f : ι → EReal} (h : ∀ i, IsR (f i)) : IsR (∑ i, f i) := by
  choose g hg using h
  exact ⟨∑ i, g i, by rw [← coe_sum]; exact Finset.sum_congr rfl fun i _ => hg i⟩
theorem IsR.ne_bot {x : EReal} : IsR x → x ≠ ⊥ | ⟨r, hr⟩ => hr ▸ EReal.coe_ne_bot r
theorem IsR.ne_top {x : EReal} : IsR x → x ≠ ⊤ | ⟨r, hr⟩ => hr ▸ EReal.coe_ne_top r

/-- A factor taken out of a sum of real numbers. -/
theorem sum_mul_real {ι : Type} [Fintype ι] {f : ι → EReal} {c : EReal} (h : ∀ i, IsR (f i)) (hc : IsR c) : ∑ i, f i * c = (∑ i, f i) * c := by
  choose g hg using h
  obtain ⟨c, rfl⟩ := hc
  rw [Finset.sum_congr rfl fun i _ => (show f i * (c : EReal) = ((g i * c : ℝ) : EReal) by rw [hg, EReal.coe_mul]), coe_sum,
    Finset.sum_congr rfl fun i _ => hg i, coe_sum, ← EReal.coe_mul, Finset.sum_mul]

/-- The scale of the scores, one eighth, is a real number. -/
theorem eighth : IsR (Ideal.ofBits FTy.f32 0x3E000000#32) := ⟨1 / 8, by simp [Ideal.ofBits, Ideal.ieee]; rw [← EReal.coe_mul]; norm_num⟩

end Cert.RowMath

namespace Cert.KernelIdeal.Hand

open Cert.KernelIdeal Cert.KernelIdeal.Gen
open Idealize.ShloMosaic Idealize.ShloMosaic.TcCoe
open Cert.RowMath
open Cert.ReferenceIdeal.Hand (Seen sR gR zR)

attribute [local instance] Cert.KernelIdeal.Gen.facts

variable (m : (ℓ : Loc nD τ sig) → Buf (Elt Ideal) ℓ) (c : Dev nD)

/-- The arguments as the reference takes them. -/
abbrev A0 : (⟨Cert.ReferenceIdeal.S4x2048x4128, .f32⟩ : BufTy).Contents (Elt Ideal) := m ((c : Thread nD τ).loc main_arg0)
abbrev A1 : (⟨Cert.ReferenceIdeal.S16x128x384, .f32⟩ : BufTy).Contents (Elt Ideal) := m ((c : Thread nD τ).loc main_arg1)
abbrev A2 : (⟨Cert.ReferenceIdeal.S16, .f32⟩ : BufTy).Contents (Elt Ideal) := m ((c : Thread nD τ).loc main_arg2)
abbrev A3 : (⟨Cert.ReferenceIdeal.S4x2048x2048, .bf16⟩ : BufTy).Contents (Elt Ideal) := m ((c : Thread nD τ).loc main_arg3)

/-- Every entry of every argument is a real number. -/
structure Reals : Prop where
  p : ∀ b y l, IsR (proj m c b y l)
  b : ∀ h i j, IsR (bandB m c h i j)
  z : ∀ h, IsR (sinkA m c h)
  d : ∀ b y l, IsR (dmix m c b y l)

/-- The three blocks of keys of a point, one after another. -/
theorem cat_apply (x y z : FVec Ideal S1x128x256 .f32) (j : Fin 384) (l : Fin 256) : Tile.cat x y z (ix2 j l)
    = (![x, y, z] ⟨j.val / 128, by omega⟩) (ix3 0 ⟨j.val % 128, by omega⟩ l) := by
  have hsel : ∀ (o : Fin 3) (h : o.val = j.val / 128), (![x, y, z] o) (ix3 0 ⟨j.val % 128, by omega⟩ l) = (![x, y, z] ⟨j.val / 128, by omega⟩) (ix3 0 ⟨j.val % 128, by omega⟩ l) :=
    fun o h => congrArg (fun o => (![x, y, z] o) (ix3 0 ⟨j.val % 128, by omega⟩ l)) (Fin.ext h)
  pointwise [Tile.cat, k0_pay7]
  split_ifs
  all_goals first
    | (exfalso; rename_i h; exact h rfl)
    | exact Eq.trans (congrArg (fun i => x (ix3 0 i l)) (Fin.ext (by show j.val = j.val % 128; omega))) (hsel 0 (by show 0 = j.val / 128; omega))
    | exact Eq.trans (congrArg (fun i => y (ix3 0 i l)) (Fin.ext (by show j.val - 128 = j.val % 128; omega))) (hsel 1 (by show 1 = j.val / 128; omega))
    | exact Eq.trans (congrArg (fun i => z (ix3 0 i l)) (Fin.ext (by show j.val - 128 - 128 = j.val % 128; omega))) (hsel 2 (by show 2 = j.val / 128; omega))

theorem vec3 {α : Type} (f : Fin 3 → α) (o : Fin 3) : ![f 0, f 1, f 2] o = f o :=
  match o with | 0 => rfl | 1 => rfl | 2 => rfl

/-- The keys within the sequence. -/
theorem pay6_apply (i : grid0.Coords) (j : Fin 384) : k0_pay6 (F := Ideal) i (ix2 0 j)
    = if 128 ≤ 128 * (i 1).val + j.val ∧ 128 * (i 1).val + j.val < 2176 then 0 else ⊥ := by
  have h := Cert.ReferenceIdeal.Hand.within_word (i 1) j
  pointwise [k0_pay6]
  refine (congrArg (fun w => Scalar.select w _ _) h).trans ?_
  split_ifs
  · rfl
  · rfl

section
variable (t : Fin cfg0.N) (g : Fin 4) (ρ : Fin 512)

/-- A row's query block, head, query. -/
abbrev nb : Fin 16 := ⟨t.val % 16, by omega⟩
abbrev hd : Fin 16 := ⟨4 * g.val + ρ.val / 128, by omega⟩
abbrev im : Fin 128 := ⟨ρ.val % 128, by omega⟩

/-- The point's queries are the reference's. -/
theorem q_eq (d : Fin 64) : (insAt m c t).q g (ix3 0 (im ρ) ⟨64 * (ρ.val / 128) + d.val, by omega⟩)
    = Cert.ReferenceIdeal.Read.val_main_v4 (F := Ideal) (A0 m c) (ix5 (sq t) (nb t) (im ρ) (hd g ρ) d) := by
  refine (in_q m c t g (im ρ) _).trans (Eq.trans ?_ (Cert.ReferenceIdeal.Hand.q_at (A0 m c) (sq t) (nb t) (im ρ) (hd g ρ) d).symm)
  exact congrArg (fun l => proj m c (sq t) (qrow t (im ρ)) l) (Fin.ext (by simp only; omega))

/-- So are its cotangents. -/
theorem do_eq (d : Fin 64) : (insAt m c t).d g (ix3 0 (im ρ) ⟨64 * (ρ.val / 128) + d.val, by omega⟩)
    = A3 m c (ix3 (sq t) ⟨128 * (nb t).val + (im ρ).val, by omega⟩ ⟨1024 + (64 * (hd g ρ).val + d.val), by omega⟩) := by
  refine (in_d m c t g (im ρ) _).trans ?_
  exact congrArg (fun l => dmix m c (sq t) (qrow t (im ρ)) l) (Fin.ext (by simp only; omega))

theorem kk_apply (j : Fin 384) (l : Fin 256) : (insAt m c t).kk (ix2 j l)
    = proj m c (sq t) (krow t ⟨j.val / 128, by omega⟩ ⟨j.val % 128, by omega⟩) ⟨3616 + l.val, by omega⟩ :=
  ((cat_apply _ _ _ j l).trans (congrFun (vec3 (insAt m c t).k _) _)).trans (in_k m c t _ _ l)
theorem vv_apply (j : Fin 384) (l : Fin 256) : (insAt m c t).vv (ix2 j l)
    = proj m c (sq t) (krow t ⟨j.val / 128, by omega⟩ ⟨j.val % 128, by omega⟩) ⟨3872 + l.val, by omega⟩ :=
  ((cat_apply _ _ _ j l).trans (congrFun (vec3 (insAt m c t).v _) _)).trans (in_v m c t _ _ l)

theorem krow_eq (j : Fin 384) (h : 128 ≤ 128 * (nb t).val + j.val ∧ 128 * (nb t).val + j.val < 2176) :
    (krow t ⟨j.val / 128, by omega⟩ ⟨j.val % 128, by omega⟩).val = 128 * (nb t).val + j.val - 128 := by
  have h' : 128 ≤ 128 * (t.val % 16) + j.val ∧ 128 * (t.val % 16) + j.val < 2176 := h
  show 128 * min 15 (t.val % 16 + j.val / 128 - 1) + j.val % 128 = 128 * (t.val % 16) + j.val - 128
  omega

/-- And its keys and values, within the sequence. -/
theorem kk_eq (j : Fin 384) (d : Fin 64) (h : 128 ≤ 128 * (nb t).val + j.val ∧ 128 * (nb t).val + j.val < 2176) :
    (insAt m c t).kk (ix2 j ⟨64 * g.val + d.val, by omega⟩) = Cert.ReferenceIdeal.Read.val_main_v15 (F := Ideal) (A0 m c) (ix5 (sq t) (nb t) j (hd g ρ) d) := by
  refine (kk_apply m c t j _).trans (Eq.trans ?_ ((Cert.ReferenceIdeal.Hand.k_at (A0 m c) (sq t) (nb t) j (hd g ρ) d).trans (dif_pos h)).symm)
  exact congrArg₂ (fun y l => proj m c (sq t) y l) (Fin.ext (krow_eq t j h)) (Fin.ext (by simp only; omega))
theorem vv_eq (j : Fin 384) (d : Fin 64) (h : 128 ≤ 128 * (nb t).val + j.val ∧ 128 * (nb t).val + j.val < 2176) :
    (insAt m c t).vv (ix2 j ⟨64 * g.val + d.val, by omega⟩) = Cert.ReferenceIdeal.Read.val_main_v26 (F := Ideal) (A0 m c) (ix5 (sq t) (nb t) j (hd g ρ) d) := by
  refine (vv_apply m c t j _).trans (Eq.trans ?_ ((Cert.ReferenceIdeal.Hand.v_at (A0 m c) (sq t) (nb t) j (hd g ρ) d).trans (dif_pos h)).symm)
  exact congrArg₂ (fun y l => proj m c (sq t) y l) (Fin.ext (krow_eq t j h)) (Fin.ext (by simp only; omega))

variable {m c}

/-- The reference's keys and values are real numbers. -/
theorem k15_real (hr : Reals m c) (b : Fin 4) (n : Fin 16) (j : Fin 384) (h : Fin 16) (d : Fin 64) :
    IsR (Cert.ReferenceIdeal.Read.val_main_v15 (F := Ideal) (A0 m c) (ix5 b n j h d)) := by
  rw [Cert.ReferenceIdeal.Hand.k_at]
  split_ifs
  · exact hr.p _ _ _
  · exact IsR.zero
theorem v26_real (hr : Reals m c) (b : Fin 4) (n : Fin 16) (j : Fin 384) (h : Fin 16) (d : Fin 64) :
    IsR (Cert.ReferenceIdeal.Read.val_main_v26 (F := Ideal) (A0 m c) (ix5 b n j h d)) := by
  rw [Cert.ReferenceIdeal.Hand.v_at]
  split_ifs
  · exact hr.p _ _ _
  · exact IsR.zero
theorem q4_real (hr : Reals m c) (b : Fin 4) (n : Fin 16) (i : Fin 128) (h : Fin 16) (d : Fin 64) :
    IsR (Cert.ReferenceIdeal.Read.val_main_v4 (F := Ideal) (A0 m c) (ix5 b n i h d)) := by
  rw [Cert.ReferenceIdeal.Hand.q_at]
  exact hr.p _ _ _

variable (hr : Reals m c)
include hr

/-- The products of a row with the keys, and of its cotangents with the values, are real numbers. -/
theorem dot_real (j : Fin 384) : IsR (Tile.dotK (Tile.qs ((insAt m c t).q g)) (Tile.kd g (insAt m c t).kk) (ix2 ρ j)) := by
  rw [Tile.dotK_qs_apply]
  refine IsR.sum fun d => IsR.mul (IsR.mul ?_ eighth) ?_
  · rw [in_q]; exact hr.p _ _ _
  · rw [kk_apply]; exact hr.p _ _ _
theorem dp_real (j : Fin 384) : IsR ((insAt m c t).dp g (ix2 ρ j)) := by
  refine (fun e => (congrArg IsR (Tile.dotK_dos_apply ((insAt m c t).d g) g (insAt m c t).vv ρ j)).mpr e) (IsR.sum fun d => IsR.mul ?_ ?_)
  · rw [in_d]; exact hr.d _ _ _
  · rw [vv_apply]; exact hr.p _ _ _
theorem gR_real (b : Fin 4) (n : Fin 16) (h : Fin 16) (i : Fin 128) (j : Fin 384) : IsR (gR (A0 m c) (A3 m c) b n h i j) := by
  rw [Cert.ReferenceIdeal.Hand.g_at]
  exact IsR.sum fun d => IsR.mul (hr.d _ _ _) (v26_real hr b n j h d)

/-- A row's scores are the reference's. -/
theorem s_eq (j : Fin 384) : (insAt m c t).s g (ix2 ρ j) = sR (A0 m c) (A1 m c) (sq t) (nb t) (hd g ρ) (im ρ) j := by
  refine (Tile.scores_apply (insAt m c t).i _ _ ρ j).trans (Eq.trans ?_ (Cert.ReferenceIdeal.Hand.s_at (A0 m c) (A1 m c) (sq t) (nb t) (hd g ρ) (im ρ) j).symm)
  have hb := in_b m c t g ⟨ρ.val / 128, by omega⟩ (im ρ) j
  have hp : k0_pay6 (F := Ideal) (insAt m c t).i (ix2 0 j) = if 128 ≤ 128 * (nb t).val + j.val ∧ 128 * (nb t).val + j.val < 2176 then 0 else ⊥ := by
    refine (pay6_apply (grid0.coords t) j).trans ?_
    rw [coord1]
  rw [hb, hp]
  by_cases h : Seen (nb t) (im ρ) j
  · refine Eq.trans ?_ (if_pos h).symm
    rw [if_pos ⟨h.1, h.2.1⟩, if_pos h.2.2, add_zero]
    refine congrArg (fun z => z + bandB m c (hd g ρ) (im ρ) j) ?_
    rw [Tile.dotK_qs_apply, ← sum_mul_real (fun d => (q4_real hr _ _ _ _ d).mul (k15_real hr _ _ _ _ d)) eighth]
    refine Finset.sum_congr rfl fun d _ => ?_
    rw [q_eq, kk_eq m c t g ρ j d h.2.2]
    exact mul_right_comm _ _ _
  · refine Eq.trans ?_ (if_neg h).symm
    by_cases h1 : 128 ≤ 128 * (nb t).val + j.val ∧ 128 * (nb t).val + j.val < 2176
    · rw [if_neg (fun e => h ⟨e.1, e.2, h1⟩), EReal.add_bot, EReal.bot_add]
    · rw [if_neg h1, EReal.add_bot]

theorem dp_eq (j : Fin 384) (h : Seen (nb t) (im ρ) j) : (insAt m c t).dp g (ix2 ρ j) = gR (A0 m c) (A3 m c) (sq t) (nb t) (hd g ρ) (im ρ) j := by
  refine (Tile.dotK_dos_apply ((insAt m c t).d g) g (insAt m c t).vv ρ j).trans
    (Eq.trans ?_ (Cert.ReferenceIdeal.Hand.g_at (A0 m c) (A3 m c) (sq t) (nb t) (hd g ρ) (im ρ) j).symm)
  refine Finset.sum_congr rfl fun d _ => ?_
  rw [do_eq, vv_eq m c t g ρ j d h.2.2]

omit hr in
theorem zz_eq : (insAt m c t).zz g (ix2 ρ 0) = zR (A2 m c) (hd g ρ) := by
  refine Eq.trans ?_ (in_z m c t g ρ)
  show Tile.sinks ((insAt m c t).z g) (ix2 ρ 0) = _
  pointwise [Tile.sinks]

/-- The reference's row is one `Row.main` speaks of. -/
theorem sR_seen (b : Fin 4) (n : Fin 16) (h : Fin 16) (i : Fin 128) (j : Fin 384) (e : Seen n i j) : IsR (sR (A0 m c) (A1 m c) b n h i j) := by
  rw [Cert.ReferenceIdeal.Hand.s_at, if_pos e]
  exact ((IsR.sum fun d => (q4_real hr _ _ _ _ d).mul (k15_real hr _ _ _ _ d)).mul eighth).add (hr.b _ _ _)

theorem row_ok (b : Fin 4) (n : Fin 16) (h : Fin 16) (i : Fin 128) : Row (sR (A0 m c) (A1 m c) b n h i) (zR (A2 m c) h) where
  s_ne j := by
    by_cases e : Seen n i j
    · exact (sR_seen hr b n h i j e).ne_top
    · rw [Cert.ReferenceIdeal.Hand.s_at, if_neg e]; exact bot_ne_top
  z_ne := (hr.z h).ne_top
  z_ne' := (hr.z h).ne_bot

/-- A row on both sides: the same real probabilities, scores' cotangents and sink's cotangent, zero at the keys not seen. -/
theorem row_eq : ∃ (p d : Fin 384 → ℝ) (dz : ℝ),
    (∀ j, (insAt m c t).p g (ix2 ρ j) = p j)
    ∧ (∀ j, Cert.ReferenceIdeal.Read.val_main_v108 (F := Ideal) (A0 m c) (A1 m c) (A2 m c) (ix5 (sq t) (nb t) (hd g ρ) (im ρ) j) = p j)
    ∧ (∀ j, ¬Seen (nb t) (im ρ) j → p j = 0)
    ∧ (∀ j, (insAt m c t).ds g (ix2 ρ j) = d j)
    ∧ (∀ j, Cert.ReferenceIdeal.Read.val_main_v156 (F := Ideal) (A0 m c) (A1 m c) (A2 m c) (A3 m c) (ix5 (sq t) (nb t) (hd g ρ) (im ρ) j) = d j)
    ∧ (∀ j, ¬Seen (nb t) (im ρ) j → d j = 0)
    ∧ dzRow (insAt m c t) g ρ = dz
    ∧ Cert.ReferenceIdeal.Read.val_main_v130 (F := Ideal) (A0 m c) (A1 m c) (A2 m c) (A3 m c) (ix5 (sq t) (nb t) (hd g ρ) (im ρ) 0) = dz
    ∧ rDm (sR (A0 m c) (A1 m c) (sq t) (nb t) (hd g ρ) (im ρ)) (zR (A2 m c) (hd g ρ)) (gR (A0 m c) (A3 m c) (sq t) (nb t) (hd g ρ) (im ρ)) = 0 := by
  have hs : Tile.row ((insAt m c t).s g) ρ = sR (A0 m c) (A1 m c) (sq t) (nb t) (hd g ρ) (im ρ) := funext fun j => s_eq t g ρ hr j
  have hz := zz_eq (m := m) (c := c) t g ρ
  choose gk hgk using fun j => dp_real t g ρ hr j
  choose gr hgr using fun j => gR_real hr (sq t) (nb t) (hd g ρ) (im ρ) j
  have hk : Tile.row ((insAt m c t).dp g) ρ = fun j => (gk j : EReal) := funext hgk
  have hR : gR (A0 m c) (A3 m c) (sq t) (nb t) (hd g ρ) (im ρ) = fun j => (gr j : EReal) := funext hgr
  have hseen : ∀ j, sR (A0 m c) (A1 m c) (sq t) (nb t) (hd g ρ) (im ρ) j ≠ ⊥ → Seen (nb t) (im ρ) j := fun j hj => by
    by_contra e; exact hj ((Cert.ReferenceIdeal.Hand.s_at _ _ _ _ _ _ _).trans (if_neg e))
  have hbot : ∀ j, ¬Seen (nb t) (im ρ) j → sR (A0 m c) (A1 m c) (sq t) (nb t) (hd g ρ) (im ρ) j = ⊥ :=
    fun j e => (Cert.ReferenceIdeal.Hand.s_at _ _ _ _ _ _ _).trans (if_neg e)
  obtain ⟨p, d, dz, h1, h2, h3, h4, h5, h6, h7, h8, h9⟩ := (row_ok hr (sq t) (nb t) (hd g ρ) (im ρ)).main gk gr fun j hj => by
    exact_mod_cast (hgk j).symm.trans ((dp_eq t g ρ hr j (hseen j hj)).trans (hgr j))
  rw [← hR] at h5 h8 h9
  refine ⟨p, d, dz, fun j => ?_, fun j => ?_, fun j e => h3 j (hbot j e), fun j => ?_, fun j => ?_, fun j e => h6 j (hbot j e), ?_, ?_, h9⟩
  · refine (Tile.prob_apply _ _ ρ j).trans ?_
    rw [hs, hz]; exact h1 j
  · exact (Cert.ReferenceIdeal.Hand.v108_at (A0 m c) (A1 m c) (A2 m c) (sq t) (nb t) (hd g ρ) (im ρ) j).trans (h2 j)
  · refine (Tile.dsc_apply _ _ _ ρ j).trans ?_
    rw [hs, hz, hk]; exact h4 j
  · refine (Cert.ReferenceIdeal.Hand.v156_at (A0 m c) (A1 m c) (A2 m c) (A3 m c) (sq t) (nb t) (hd g ρ) (im ρ) j h9).trans ?_
    by_cases e : Seen (nb t) (im ρ) j
    · exact (if_pos e).trans (h5 j)
    · exact (if_neg e).trans (by rw [h6 j (hbot j e)]; rfl)
  · unfold dzRow
    rw [hs, hz, hk]; exact h7
  · exact (Cert.ReferenceIdeal.Hand.v130_at (A0 m c) (A1 m c) (A2 m c) (A3 m c) (sq t) (nb t) (hd g ρ) (im ρ)).trans h8

end

end Cert.KernelIdeal.Hand

end
-- ==== Proof.Compare.lean ====
/- The kernel's results against the reference's. -/
module

public import proofs.«01_k».proof.Proof.Gather
public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe
open Cert.RowMath
open Cert.ReferenceIdeal.Hand (Seen sR gR zR)
open Cert.ReferenceIdeal.Read

attribute [local instance] Cert.KernelIdeal.Gen.facts

variable {m : (ℓ : Loc nD τ sig) → Buf (Elt Ideal) ℓ} {c : Dev nD}

/-! ### A row by its sequence, block, head and query -/

section
variable (b : Fin 4) (n : Fin 16) (h : Fin 16) (i : Fin 128)

/-- The group of a head, and its row there. -/
abbrev gr : Fin 4 := ⟨h.val / 4, by omega⟩
abbrev rw' : Fin 512 := ⟨128 * (h.val % 4) + i.val, by omega⟩

theorem pt_val : (pt b n).val = 16 * b.val + n.val := rfl
theorem sq_pt : sq (pt b n) = b := Fin.ext (by show (16 * b.val + n.val) / 16 = b.val; omega)
theorem nb_pt : nb (pt b n) = n := Fin.ext (by show (16 * b.val + n.val) % 16 = n.val; omega)
theorem hd_rw : hd (gr h) (rw' h i) = h := Fin.ext (by show 4 * (h.val / 4) + (128 * (h.val % 4) + i.val) / 128 = h.val; omega)
theorem im_rw : im (rw' h i) = i := Fin.ext (by show (128 * (h.val % 4) + i.val) % 128 = i.val; omega)

variable (hr : Reals m c)
include hr

/-- A row on both sides, by its coordinates. -/
theorem row_at : ∃ (p d : Fin 384 → ℝ) (dz : ℝ),
    (∀ j, (insAt m c (pt b n)).p (gr h) (ix2 (rw' h i) j) = p j)
    ∧ (∀ j, val_main_v108 (F := Ideal) (A0 m c) (A1 m c) (A2 m c) (ix5 b n h i j) = p j)
    ∧ (∀ j, ¬Seen n i j → p j = 0)
    ∧ (∀ j, (insAt m c (pt b n)).ds (gr h) (ix2 (rw' h i) j) = d j)
    ∧ (∀ j, val_main_v156 (F := Ideal) (A0 m c) (A1 m c) (A2 m c) (A3 m c) (ix5 b n h i j) = d j)
    ∧ (∀ j, ¬Seen n i j → d j = 0)
    ∧ dzRow (insAt m c (pt b n)) (gr h) (rw' h i) = dz
    ∧ val_main_v130 (F := Ideal) (A0 m c) (A1 m c) (A2 m c) (A3 m c) (ix5 b n h i 0) = dz
    ∧ rDm (sR (A0 m c) (A1 m c) b n h i) (zR (A2 m c) h) (gR (A0 m c) (A3 m c) b n h i) = 0 := by
  have key := row_eq (pt b n) (gr h) (rw' h i) hr
  rw [sq_pt, nb_pt, hd_rw, im_rw] at key
  exact key

/-! ### The bias's and the sinks' gradients -/

omit hr in
theorem dz_congr (t : Fin cfg0.N) {g g' : Fin 4} {ρ ρ' : Fin 512} (hg : g.val = g'.val) (hp : ρ.val = ρ'.val) :
    dzRow (insAt m c t) g ρ = dzRow (insAt m c t) g' ρ' := by
  obtain rfl := Fin.ext hg; obtain rfl := Fin.ext hp; rfl

/-- The bias's gradients. -/
theorem dbias_eq (j : Fin 384) : (dats m 0 c).arrAt 13 cfg0.N (ix3 h i j) = val_main_v159 (F := Ideal) (A0 m c) (A1 m c) (A2 m c) (A3 m c) (ix3 h i j) := by
  have e : ∑ b : Fin 4, ∑ n : Fin 16, dbRow (insAt m c (pt b n)) h i j
      = ∑ b : Fin 4, ∑ n : Fin 16, val_main_v156 (F := Ideal) (A0 m c) (A1 m c) (A2 m c) (A3 m c) (ix5 b n h i j) := by
    refine Finset.sum_congr rfl fun b _ => Finset.sum_congr rfl fun n _ => ?_
    obtain ⟨p, d, dz, h1, h2, h3, h4, h5, h6, h7, h8, h9⟩ := row_at b n h i hr
    exact (h4 j).trans (h5 j).symm
  exact (end13 m c h i j).trans (e.trans (Cert.ReferenceIdeal.Hand.v159_at (A0 m c) (A1 m c) (A2 m c) (A3 m c) h i j).symm)

omit hr in
/-- A head's rows, summed over its queries, then over the points, in either order. -/
theorem sum_rows (f : Fin 2048 → EReal) (v : Fin 4 → Fin 16 → Fin 128 → EReal) (h : Fin 16)
    (hf : ∀ i : Fin 128, f ⟨128 * h.val + i.val, by omega⟩ = ∑ b : Fin 4, ∑ n : Fin 16, v b n i) :
    ∑ i : Fin 128, f ⟨128 * h.val + i.val, by omega⟩ = ∑ b : Fin 4, ∑ n : Fin 16, ∑ i : Fin 128, v b n i := by
  rw [Finset.sum_congr rfl fun i _ => hf i, Finset.sum_comm]
  exact Finset.sum_congr rfl fun b _ => Finset.sum_comm

/-- The sinks' gradients. -/
theorem dsink_eq : Pipeline.afterTail₀ cfgs (dats m) 0 (V0 m) [hostOps1] c main_v22 (ix1 h)
    = val_main_v166 (F := Ideal) (A0 m c) (A1 m c) (A2 m c) (A3 m c) (ix1 h) := by
  have r : ∀ b n i, dzRow (insAt m c (pt b n)) (gr h) (rw' h i) = val_main_v130 (F := Ideal) (A0 m c) (A1 m c) (A2 m c) (A3 m c) (ix5 b n h i 0)
      ∧ rDm (sR (A0 m c) (A1 m c) b n h i) (zR (A2 m c) h) (gR (A0 m c) (A3 m c) b n h i) = 0 := fun b n i => by
    obtain ⟨p, d, dz, h1, h2, h3, h4, h5, h6, h7, h8, h9⟩ := row_at b n h i hr
    exact ⟨h7.trans h8.symm, h9⟩
  have e : ∀ i : Fin 128, (fun a => arr14 m c (ix2 a 0)) ⟨128 * h.val + i.val, by omega⟩ = ∑ b : Fin 4, ∑ n : Fin 16, dzRow (insAt m c (pt b n)) (gr h) (rw' h i) := fun i => by
    refine Eq.trans (end14 m c ⟨128 * h.val + i.val, by omega⟩) ?_
    exact congrArg₂ (fun g ρ => ∑ b : Fin 4, ∑ n : Fin 16, dzRow (insAt m c (pt b n)) g ρ) (Fin.ext (by show (128 * h.val + i.val) / 512 = h.val / 4; omega))
      (Fin.ext (by show (128 * h.val + i.val) % 512 = 128 * (h.val % 4) + i.val; omega))
  have s1 := sum_rows (fun a => arr14 m c (ix2 a 0)) _ h e
  have s2 : (∑ b : Fin 4, ∑ n : Fin 16, ∑ i : Fin 128, dzRow (insAt m c (pt b n)) (gr h) (rw' h i))
      = ∑ b : Fin 4, ∑ n : Fin 16, ∑ i : Fin 128, val_main_v130 (F := Ideal) (A0 m c) (A1 m c) (A2 m c) (A3 m c) (ix5 b n h i 0) :=
    Finset.sum_congr rfl fun b _ => Finset.sum_congr rfl fun n _ => Finset.sum_congr rfl fun i _ => (r b n i).1
  have s3 := Cert.ReferenceIdeal.Hand.v166_at (A0 m c) (A1 m c) (A2 m c) (A3 m c) h fun b n i => (r b n i).2
  exact (tail22 m c h).trans (s1.trans (s2.trans s3.symm))

/-- A scaled cotangent of a score is a real number, zero at a key that is not seen. -/
theorem v161_real (j : Fin 384) : IsR (val_main_v161 (F := Ideal) (A0 m c) (A1 m c) (A2 m c) (A3 m c) (ix5 b n h i j)) := by
  obtain ⟨p, d, dz, h1, h2, h3, h4, h5, h6, h7, h8, h9⟩ := row_at b n h i hr
  rw [Cert.ReferenceIdeal.Hand.v161_at, h5]
  exact (IsR.coe _).mul eighth
theorem v161_unseen (j : Fin 384) (e : ¬Seen n i j) : val_main_v161 (F := Ideal) (A0 m c) (A1 m c) (A2 m c) (A3 m c) (ix5 b n h i j) = 0 := by
  obtain ⟨p, d, dz, h1, h2, h3, h4, h5, h6, h7, h8, h9⟩ := row_at b n h i hr
  rw [Cert.ReferenceIdeal.Hand.v161_at, h5, h6 j e, EReal.coe_zero, zero_mul]
theorem v108_unseen (j : Fin 384) (e : ¬Seen n i j) : val_main_v108 (F := Ideal) (A0 m c) (A1 m c) (A2 m c) (ix5 b n h i j) = 0 := by
  obtain ⟨p, d, dz, h1, h2, h3, h4, h5, h6, h7, h8, h9⟩ := row_at b n h i hr
  rw [h2, h3 j e, EReal.coe_zero]

/-! ### The queries' gradients -/

/-- A point's queries' gradients are the reference's. -/
theorem dq_row (d : Fin 64) :
    (∑ j, (insAt m c (pt b n)).ds (gr h) (ix2 (rw' h i) j) * (insAt m c (pt b n)).kk (ix2 j ⟨64 * (gr h).val + d.val, by omega⟩)) * Tile.c8
      = ∑ j, val_main_v161 (F := Ideal) (A0 m c) (A1 m c) (A2 m c) (A3 m c) (ix5 b n h i j) * val_main_v15 (F := Ideal) (A0 m c) (ix5 b n j h d) := by
  obtain ⟨p, e, dz, h1, h2, h3, h4, h5, h6, h7, h8, h9⟩ := row_at b n h i hr
  refine (sum_mul_real (fun j => ?_) eighth).symm.trans ?_
  · rw [h4, kk_apply]
    exact (IsR.coe _).mul (hr.p _ _ _)
  · refine Finset.sum_congr rfl fun j _ => ?_
    rw [Cert.ReferenceIdeal.Hand.v161_at, h4, h5]
    by_cases hs : Seen n i j
    · have k := kk_eq m c (pt b n) (gr h) (rw' h i) j d (by rw [nb_pt]; exact hs.2.2)
      rw [sq_pt, nb_pt, hd_rw] at k
      rw [k]
      exact mul_right_comm _ _ _
    · rw [h6 j hs, EReal.coe_zero, zero_mul, zero_mul, zero_mul]

omit hr in
theorem dqOut_congr (t : Fin cfg0.N) {g g' : Fin 4} {ρ ρ' : Fin 512} {l l' : Fin 256} (hg : g.val = g'.val) (hp : ρ.val = ρ'.val) (hl : l.val = l'.val) :
    (∑ j, (insAt m c t).ds g (ix2 ρ j) * (insAt m c t).kk (ix2 j l)) * Tile.c8 = (∑ j, (insAt m c t).ds g' (ix2 ρ' j) * (insAt m c t).kk (ix2 j l')) * Tile.c8 := by
  obtain rfl := Fin.ext hg; obtain rfl := Fin.ext hp; obtain rfl := Fin.ext hl; rfl

theorem dq_eq (y : Fin 2048) (l : Fin 1024) : (dats m 0 c).arrAt 10 cfg0.N (ix3 b y l)
    = val_main_v198 (F := Ideal) (A0 m c) (A1 m c) (A2 m c) (A3 m c) (ix3 b y l) := by
  refine (end10 m c b y l).trans (Eq.trans ?_ (Cert.ReferenceIdeal.Hand.v198_at (A0 m c) (A1 m c) (A2 m c) (A3 m c) b y l).symm)
  refine Eq.trans ((Tile.dqOut_apply _ _ _ _ _).trans (dqOut_congr _ ?_ ?_ ?_)) (dq_row b ⟨y.val / 128, by omega⟩ ⟨l.val / 64, by omega⟩ ⟨y.val % 128, by omega⟩ hr ⟨l.val % 64, by omega⟩)
  · show l.val / 256 = l.val / 64 / 4; omega
  · show 128 * (l.val % 256 / 64) + y.val % 128 = 128 * (l.val / 64 % 4) + y.val % 128; omega
  · show 64 * (l.val / 256) + l.val % 256 % 64 = 64 * (l.val / 64 / 4) + l.val % 64; omega

/-! ### The keys' and the values' gradients -/

omit hr in
theorem im_row (x : Fin 4) (i : Fin 128) : im ⟨128 * x.val + i.val, by omega⟩ = i := Fin.ext (by show (128 * x.val + i.val) % 128 = i.val; omega)
omit hr in
theorem hd_row (g x : Fin 4) (i : Fin 128) : hd g ⟨128 * x.val + i.val, by omega⟩ = ⟨4 * g.val + x.val, by omega⟩ :=
  Fin.ext (by show 4 * g.val + (128 * x.val + i.val) / 128 = 4 * g.val + x.val; omega)

/-- What a point adds to its keys' gradients is what the reference's window adds. -/
theorem dk_pt (g : Fin 4) (j : Fin 384) (l : Fin 128) : (insAt m c (pt b n)).dk g (ix2 j l)
    = if l.val / 64 = g.val % 2 then ∑ z : Fin 4, val_main_v163 (F := Ideal) (A0 m c) (A1 m c) (A2 m c) (A3 m c) (ix5 b n j ⟨4 * g.val + z.val, by omega⟩ ⟨l.val % 64, by omega⟩) else 0 := by
  refine (Tile.fold_qs_apply g _ _ j l).trans (if_congr Iff.rfl ?_ rfl)
  rw [sum512]
  refine Finset.sum_congr rfl fun x _ => ?_
  rw [Cert.ReferenceIdeal.Hand.dk_win]
  refine Finset.sum_congr rfl fun i _ => ?_
  obtain ⟨p, e, dz, h1, h2, h3, h4, h5, h6, h7, h8, h9⟩ := row_eq (pt b n) g ⟨128 * x.val + i.val, by omega⟩ hr
  have q := (q_eq m c (pt b n) g ⟨128 * x.val + i.val, by omega⟩ ⟨l.val % 64, by omega⟩).trans
    (show _ = val_main_v4 (F := Ideal) (A0 m c) (ix5 b n i ⟨4 * g.val + x.val, by omega⟩ ⟨l.val % 64, by omega⟩) by rw [sq_pt, nb_pt, hd_row, im_row])
  rw [sq_pt, nb_pt, hd_row, im_row] at h5
  rw [Cert.ReferenceIdeal.Hand.v161_at, h5]
  refine (congrArg₂ (fun u v => u * (v * Tile.c8)) (h4 j) q).trans ?_
  exact (congrArg (fun z => (e j : EReal) * z) (mul_comm _ _)).trans (mul_assoc _ _ _).symm

/-- And to its values'. -/
theorem dv_pt (g : Fin 4) (j : Fin 384) (l : Fin 128) : (insAt m c (pt b n)).dv g (ix2 j l)
    = if l.val / 64 = g.val % 2 then ∑ z : Fin 4, val_main_v121 (F := Ideal) (A0 m c) (A1 m c) (A2 m c) (A3 m c) (ix5 b n j ⟨4 * g.val + z.val, by omega⟩ ⟨l.val % 64, by omega⟩) else 0 := by
  refine (Tile.fold_dos_apply g _ _ j l).trans (if_congr Iff.rfl ?_ rfl)
  rw [sum512]
  refine Finset.sum_congr rfl fun x _ => ?_
  rw [Cert.ReferenceIdeal.Hand.dv_win]
  refine Finset.sum_congr rfl fun i _ => ?_
  obtain ⟨p, e, dz, h1, h2, h3, h4, h5, h6, h7, h8, h9⟩ := row_eq (pt b n) g ⟨128 * x.val + i.val, by omega⟩ hr
  have q := (do_eq m c (pt b n) g ⟨128 * x.val + i.val, by omega⟩ ⟨l.val % 64, by omega⟩).trans
    (congrArg (A3 m c) (at3 _ b ⟨128 * n.val + i.val, by omega⟩ ⟨1024 + (64 * (4 * g.val + x.val) + l.val % 64), by omega⟩
      (congrArg Fin.val (sq_pt b n)) (congrArg₂ (fun u v : ℕ => 128 * u + v) (congrArg Fin.val (nb_pt b n)) (congrArg Fin.val (im_row x i)))
      (congrArg (fun u : ℕ => 1024 + (64 * u + l.val % 64)) (congrArg Fin.val (hd_row g x i)))))
  rw [sq_pt, nb_pt, hd_row, im_row] at h2
  rw [h2]
  refine (congrArg₂ (fun u v => u * v) (h1 j) q).trans ?_
  exact mul_comm _ _

/-- A window holds nothing of a key outside the sequence. -/
theorem dk_out_of (j : Fin 384) (d : Fin 64) (e : ¬(128 ≤ 128 * n.val + j.val ∧ 128 * n.val + j.val < 2176)) :
    val_main_v163 (F := Ideal) (A0 m c) (A1 m c) (A2 m c) (A3 m c) (ix5 b n j h d) = 0 := by
  rw [Cert.ReferenceIdeal.Hand.dk_win]
  exact Finset.sum_eq_zero fun i _ => by rw [v161_unseen b n h i hr j fun s => e s.2.2, zero_mul]
theorem dv_out_of (j : Fin 384) (d : Fin 64) (e : ¬(128 ≤ 128 * n.val + j.val ∧ 128 * n.val + j.val < 2176)) :
    val_main_v121 (F := Ideal) (A0 m c) (A1 m c) (A2 m c) (A3 m c) (ix5 b n j h d) = 0 := by
  rw [Cert.ReferenceIdeal.Hand.dv_win]
  exact Finset.sum_eq_zero fun i _ => by rw [v108_unseen b n h i hr j fun s => e s.2.2, mul_zero]

theorem dk_eq (y : Fin 2048) (l : Fin 256) : (dats m 0 c).arrAt 11 cfg0.N (ix3 b y l)
    = val_main_v196 (F := Ideal) (A0 m c) (A1 m c) (A2 m c) (A3 m c) (ix3 b y l) := by
  have g := gather Tile.Ins.dk b (fun n j h d => val_main_v163 (F := Ideal) (A0 m c) (A1 m c) (A2 m c) (A3 m c) (ix5 b n j h d))
    (fun n g j l => dk_pt b n hr g j l) (fun n j h d e => dk_out_of b n h hr j d e) y l
  have r : val_main_v196 (F := Ideal) (A0 m c) (A1 m c) (A2 m c) (A3 m c) (ix3 b y l) = _ :=
    (Cert.ReferenceIdeal.Hand.dk_out (A0 m c) (A1 m c) (A2 m c) (A3 m c) b y l).trans
      (Finset.sum_congr rfl fun z _ => Cert.ReferenceIdeal.Hand.dk_pad (A0 m c) (A1 m c) (A2 m c) (A3 m c) b _ _ _ _)
  exact (end11 m c b y l).trans (g.trans r.symm)
theorem dv_eq (y : Fin 2048) (l : Fin 256) : (dats m 0 c).arrAt 12 cfg0.N (ix3 b y l)
    = val_main_v181 (F := Ideal) (A0 m c) (A1 m c) (A2 m c) (A3 m c) (ix3 b y l) := by
  have g := gather Tile.Ins.dv b (fun n j h d => val_main_v121 (F := Ideal) (A0 m c) (A1 m c) (A2 m c) (A3 m c) (ix5 b n j h d))
    (fun n g j l => dv_pt b n hr g j l) (fun n j h d e => dv_out_of b n h hr j d e) y l
  have r : val_main_v181 (F := Ideal) (A0 m c) (A1 m c) (A2 m c) (A3 m c) (ix3 b y l) = _ :=
    (Cert.ReferenceIdeal.Hand.dv_out (A0 m c) (A1 m c) (A2 m c) (A3 m c) b y l).trans
      (Finset.sum_congr rfl fun z _ => Cert.ReferenceIdeal.Hand.dv_pad (A0 m c) (A1 m c) (A2 m c) (A3 m c) b _ _ _ _)
  exact (end12 m c b y l).trans (g.trans r.symm)

end

end Cert.KernelIdeal.Hand

end
-- ==== Proof.RefSide.lean ====
module

public import proofs.«01_k».proof.Proof.Gen.ReferenceIdeal.Run
public import proofs.«01_k».proof.Proof.Gen.ReferenceIdeal.Read
public import proofs.«01_k».proof.Proof.Gen.Pre_finite

@[expose] public section
end
-- ==== Proof.Frames.lean ====
/- The frames: each of the three programs ends from every memory, leaves its arguments as they were, and leaves every
   counter at zero; and the one constant the idealized kernel reads by its name. -/
module

public import proofs.«01_k».proof.Defs
public import proofs.«01_k».proof.Proof.Gen.Kernel
public import proofs.«01_k».proof.Proof.Gen.KernelIdeal
public import proofs.«01_k».proof.Proof.Whole
public import proofs.«01_k».proof.Proof.BitsWhole
public import proofs.«01_k».proof.Proof.RefSide
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_finite.Gen.facts

/-- The printed kernel's frame. -/
theorem frame_p : Cert.quiescent_Kernel := fun m ρ _ => Cert.Kernel.Hand.frame (F := Bits) m ρ

/-- The idealized kernel's frame. -/
theorem frame_pi : Cert.quiescent_KernelIdeal := fun m ρ _ => Cert.KernelIdeal.Hand.frame (F := Ideal) m ρ

/-- The reference's frame: a straight line of host operations that declares no counter. -/
theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The idealized kernel's frame holds as well of the memories of the value claim. -/
theorem frame_pi_pre : Cert.quiescent_KernelIdeal_pre_finite := fun m ρ _ => Cert.KernelIdeal.Hand.frame (F := Ideal) m ρ

/-- And the reference's. -/
theorem frame_ri_pre : Cert.quiescent_ReferenceIdeal_pre_finite := fun m ρ _ => frame_ri m ρ trivial

/-- The masked score's literal is read as minus infinity. -/
theorem preserves : Cert.preserves_Kernel_KernelIdeal :=
  IdealRules.named_const.statement Cert.KernelIdeal.κ "mask" .f32 0xF149F2CA#32 ⊥ rfl

end Cert.Proof

end
-- ==== Proof.Value.lean ====
/- The value claim: of real arguments, the kernel and the reference end with the same five arrays. -/
module

public import proofs.«01_k».proof.Proof.Compare
public import proofs.«01_k».proof.Proof.Frames

@[expose] public section

set_option maxRecDepth 16384

noncomputable section

namespace Cert.Proof

open Idealize.ShloMosaic Idealize.ShloMosaic.TcCoe Idealize.ShloMosaic.Tactic Idealize.SL.Sem
open Cert.RowMath

attribute [local instance] Cert.KernelIdeal.Gen.facts Cert.ReferenceIdeal.Gen.facts Cert.Pre_finite.Gen.facts

/-! ### The precondition -/

/-- The bound of the precondition is plus infinity. -/
theorem pos_inf : Ideal.ofBits FTy.f32 0x7F800000#32 = ⊤ := by simp [Ideal.ofBits, Ideal.ieee]

/-- A value whose absolute value is below plus infinity is a real number. -/
theorem isR_of_lt {x : EReal} (h : Ideal.cmp .olt (max x (-x)) (Ideal.ofBits FTy.f32 0x7F800000#32) = 1#1) : IsR x := by
  rw [pos_inf] at h
  have l : max x (-x) < ⊤ := by
    by_contra n
    simp [Ideal.cmp, n] at h
  induction x using EReal.rec with
  | bot => simp at l
  | coe r => exact ⟨r, rfl⟩
  | top => simp at l

/-- The precondition says the four arguments are real numbers. -/
theorem reals {m : (ℓ : Loc Cert.KernelIdeal.nD Cert.KernelIdeal.τ Cert.KernelIdeal.sig) → Buf (Elt Ideal) ℓ}
    (h : Cert.Pre_KernelIdeal_finite m) (c : Dev Cert.KernelIdeal.nD) : Cert.KernelIdeal.Hand.Reals m c where
  p b y l := isR_of_lt (congrFun (h c).1 (ix3 b y l))
  b a i j := isR_of_lt (congrFun (h c).2.1 (ix3 a i j))
  z a := isR_of_lt (congrFun (h c).2.2.1 (ix1 a))
  d b y l := isR_of_lt (congrFun (h c).2.2.2 (ix3 b y l))

end Cert.Proof

/-! ### The kernel's run -/

namespace Cert.KernelIdeal.Hand

open Cert.KernelIdeal Cert.KernelIdeal.Gen
open Idealize.ShloMosaic Idealize.ShloMosaic.TcCoe Idealize.SL.Sem
open Cert.ReferenceIdeal.Read

attribute [local instance] Cert.KernelIdeal.Gen.facts Cert.ReferenceIdeal.Gen.facts

variable {m : (ℓ : Loc nD τ sig) → Buf (Elt Ideal) ℓ} {c : Dev nD}

/-- The queries' gradients, the whole array. -/
theorem dq_all (hr : Reals m c) : (dats m 0 c).arrAt 10 cfg0.N = val_main_v198 (F := Ideal) (A0 m c) (A1 m c) (A2 m c) (A3 m c) := by
  funext i
  rw [at3 i (i 0) (i 1) (i 2) rfl rfl rfl]
  exact dq_eq _ hr _ _
/-- The keys'. -/
theorem dk_all (hr : Reals m c) : (dats m 0 c).arrAt 11 cfg0.N = val_main_v196 (F := Ideal) (A0 m c) (A1 m c) (A2 m c) (A3 m c) := by
  funext i
  rw [at3 i (i 0) (i 1) (i 2) rfl rfl rfl]
  exact dk_eq _ hr _ _
/-- The values'. -/
theorem dv_all (hr : Reals m c) : (dats m 0 c).arrAt 12 cfg0.N = val_main_v181 (F := Ideal) (A0 m c) (A1 m c) (A2 m c) (A3 m c) := by
  funext i
  rw [at3 i (i 0) (i 1) (i 2) rfl rfl rfl]
  exact dv_eq _ hr _ _
/-- The bias's. -/
theorem dbias_all (hr : Reals m c) : (dats m 0 c).arrAt 13 cfg0.N = val_main_v159 (F := Ideal) (A0 m c) (A1 m c) (A2 m c) (A3 m c) := by
  funext i
  rw [at3 i (i 0) (i 1) (i 2) rfl rfl rfl]
  exact dbias_eq _ _ hr _
/-- The sinks'. -/
theorem dsink_all (hr : Reals m c) : Pipeline.afterTail₀ cfgs (dats m) 0 (V0 m) [hostOps1] c main_v22 = val_main_v166 (F := Ideal) (A0 m c) (A1 m c) (A2 m c) (A3 m c) := by
  funext i
  obtain ⟨a, rfl⟩ : ∃ a, i = ix1 a := ⟨i 0, funext fun k => by fin_cases k; rfl⟩
  exact dsink_eq _ hr

/-- Of real arguments the kernel ends with the reference's five arrays, its arguments unchanged. -/
theorem run_value (ρ : Dev nD → PrngReg) (hr : ∀ c, Reals m c) : θ_run defs (onTc (τ := τ) (main (F := Ideal))) ⟨m, fun _ => 0, ρ⟩ (fun r => ∀ c : Dev nD,
      r.2.mem ((c.tc : Thread nD τ).loc main_v20_0) = val_main_v198 (F := Ideal) (A0 m c) (A1 m c) (A2 m c) (A3 m c)
      ∧ r.2.mem ((c.tc : Thread nD τ).loc main_v20_1) = val_main_v196 (F := Ideal) (A0 m c) (A1 m c) (A2 m c) (A3 m c)
      ∧ r.2.mem ((c.tc : Thread nD τ).loc main_v20_2) = val_main_v181 (F := Ideal) (A0 m c) (A1 m c) (A2 m c) (A3 m c)
      ∧ r.2.mem ((c.tc : Thread nD τ).loc main_v20_3) = val_main_v159 (F := Ideal) (A0 m c) (A1 m c) (A2 m c) (A3 m c)
      ∧ r.2.mem ((c.tc : Thread nD τ).loc main_v22) = val_main_v166 (F := Ideal) (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 10).trans (dq_all (hr c)), ((h c).1 11).trans (dk_all (hr c)), ((h c).1 12).trans (dv_all (hr c)),
      ((h c).1 13).trans (dbias_all (hr c)),
      ((h c).2 main_v22 (Pipeline.mem_restRefs_of main_v22 (by decide) (by decide))).trans (dsink_all (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 9).trans (((dats m 0 c).arrAt_in 9 rfl _).trans ((A_eq m c 9).trans (V_main_arg3 m c)))⟩) (run_main m ρ)

end Cert.KernelIdeal.Hand

/-! ### The reference's run -/

namespace Cert.ReferenceIdeal.Hand

open Cert.ReferenceIdeal Cert.ReferenceIdeal.Read
open Idealize.ShloMosaic Idealize.ShloMosaic.TcCoe Idealize.SL.Sem Idealize.ShloMosaic.StableHlo

attribute [local instance] Cert.ReferenceIdeal.Gen.facts

variable (m : (ℓ : Loc nD τ sig) → Buf (Elt Ideal) ℓ) (ρ : Dev nD → PrngReg)

/-- A stage at the arguments as launched. -/
abbrev atArgs {α : Sort*} (c : Dev nD) (f : (⟨S4x2048x4128, .f32⟩ : BufTy).Contents (Elt Ideal) → (⟨S16x128x384, .f32⟩ : BufTy).Contents (Elt Ideal)
    → (⟨S16, .f32⟩ : BufTy).Contents (Elt Ideal) → (⟨S4x2048x2048, .bf16⟩ : BufTy).Contents (Elt Ideal) → α) : α :=
  f (m ((c.tc : Thread nD τ).loc main_arg0)) (m ((c.tc : Thread nD τ).loc main_arg1)) (m ((c.tc : Thread nD τ).loc main_arg2)) (m ((c.tc : Thread nD τ).loc main_arg3))

/-- The reference ends with its last five stages, its arguments unchanged. -/
theorem run_value : θ_run defs (onTc (τ := τ) (main (F := Ideal))) ⟨m, fun _ => 0, ρ⟩ (fun r => ∀ c : Dev nD,
      r.2.mem ((c.tc : Thread nD τ).loc main_v198) = atArgs m c (val_main_v198 (F := Ideal))
      ∧ r.2.mem ((c.tc : Thread nD τ).loc main_v196) = atArgs m c (val_main_v196 (F := Ideal))
      ∧ r.2.mem ((c.tc : Thread nD τ).loc main_v181) = atArgs m c (val_main_v181 (F := Ideal))
      ∧ r.2.mem ((c.tc : Thread nD τ).loc main_v159) = atArgs m c (val_main_v159 (F := Ideal))
      ∧ r.2.mem ((c.tc : Thread nD τ).loc main_v166) = atArgs m c (val_main_v166 (F := Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (val_main_v198_eq (launchContents m c)), (h c).2.1.trans (val_main_v196_eq (launchContents m c)),
      (h c).2.2.1.trans (val_main_v181_eq (launchContents m c)), (h c).2.2.2.1.trans (val_main_v159_eq (launchContents m c)),
      (h c).2.2.2.2.1.trans (val_main_v166_eq (launchContents m c)), (h c).2.2.2.2.2⟩) (Cert.ReferenceIdeal.Value.run (F := Ideal) m ρ)

end Cert.ReferenceIdeal.Hand

namespace Cert.Proof

open Idealize.ShloMosaic Idealize.SL.Sem
open Cert.ReferenceIdeal.Read Cert.KernelIdeal.Hand

attribute [local instance] Cert.KernelIdeal.Gen.facts Cert.ReferenceIdeal.Gen.facts Cert.Pre_finite.Gen.facts

/-- The value claim. -/
theorem algebraic : Cert.algebraic_KernelIdeal_ReferenceIdeal_pre_finite := fun m ρ m' ρ' hp ha =>
  ⟨fun c => val_main_v198 (F := Ideal) (A0 m c) (A1 m c) (A2 m c) (A3 m c), fun c => val_main_v196 (F := Ideal) (A0 m c) (A1 m c) (A2 m c) (A3 m c),
    fun c => val_main_v181 (F := Ideal) (A0 m c) (A1 m c) (A2 m c) (A3 m c), fun c => val_main_v159 (F := Ideal) (A0 m c) (A1 m c) (A2 m c) (A3 m c),
    fun c => val_main_v166 (F := Ideal) (A0 m c) (A1 m c) (A2 m c) (A3 m c),
    Cert.KernelIdeal.Hand.run_value ρ fun c => reals hp c,
    (θ_run Cert.ReferenceIdeal.defs _ _).mono (fun r h c => by
      obtain ⟨a0, a1, a2, a3⟩ := ha c
      obtain ⟨h0, h1, h2, h3, h4, hk⟩ := h c
      refine ⟨h0.trans ?_, h1.trans ?_, h2.trans ?_, h3.trans ?_, h4.trans ?_, hk⟩ <;>
        (simp only [Cert.ReferenceIdeal.Hand.atArgs]; rw [a0, a1, a2, a3]))
      (Cert.ReferenceIdeal.Hand.run_value m' ρ')⟩

end Cert.Proof

end
-- ==== Proof.Blocked.lean ====
/- A product in blocks, apart from any program: the running sum over a block's points, and the whole sum that it is. -/
module

public import proofs.«01_k».proof.Proof.Win

@[expose] public section

namespace Cert.Blocked

/-- A coordinate of a tile in its array: the tile's number times its length, plus the place in the tile. -/
theorem place {v i j n r : ℕ} (h : v = i * n + r) (hi : i = j) : v = n * j + r := by rw [h, hi, Nat.mul_comm]
theorem place0 {v i n r : ℕ} (h : v = i * n + r) (hi : i = 0) : v = r := by rw [h, hi, Nat.zero_mul, Nat.zero_add]

/-- Part `k` of a sum of `N` terms, taken as `K` parts of `n`. -/
noncomputable def share {N : ℕ} (K n : ℕ) (hN : K * n = N) (f : Fin N → EReal) (k : ℕ) : EReal :=
  ∑ r : Fin n, if h : k < K then f ⟨n * k + r.val, by have := Nat.mul_le_mul_left n (show k + 1 ≤ K from h); rw [← hN, Nat.mul_comm K]; rw [Nat.mul_add, Nat.mul_one] at this; omega⟩ else 0

/-- The parts' sum is the whole. -/
theorem shares {N K n : ℕ} (hN : K * n = N) (f : Fin N → EReal) : (∑ k ∈ Finset.range K, share K n hN f k : EReal) = ∑ y : Fin N, f y := by
  subst hN
  rw [← Equiv.sum_comp (finProdFinEquiv (m := K) (n := n)) f, Fintype.sum_prod_type, Finset.sum_range]
  refine Finset.sum_congr rfl fun k _ => Finset.sum_congr rfl fun r _ => ?_
  rw [dif_pos k.isLt]
  exact congrArg f (Fin.ext (Nat.add_comm _ _))

/-- `K` points to a block, the first of which sets a scratch to its part, while the later ones add theirs: what the point
    before the last left, and the last one's part, are the sum of them all. -/
theorem sum_of_parts {N : ℕ} (K : ℕ) (hK : 2 ≤ K) (S : Fin N → EReal) (P : ℕ → ℕ → EReal)
    (first : ∀ t : Fin N, t.val % K = 0 → S t = P (t.val / K) 0)
    (mid : ∀ t : Fin N, t.val % K ≠ 0 → t.val % K ≠ K - 1 → S t = S ⟨t.val - 1, by omega⟩ + P (t.val / K) (t.val % K))
    (t : Fin N) (ht : t.val % K = K - 1) : S ⟨t.val - 1, by omega⟩ + P (t.val / K) (K - 1) = ∑ k ∈ Finset.range K, P (t.val / K) k := by
  have before : ∀ u : ℕ, u % K ≠ 0 → (u - 1) % K = u % K - 1 ∧ (u - 1) / K = u / K := by
    intro u hu
    have e := Nat.div_add_mod u K
    have l := Nat.mod_lt u (show 0 < K by omega)
    have h : u - 1 = (u % K - 1) + K * (u / K) := by omega
    constructor
    · rw [h, Nat.add_mul_mod_self_left, Nat.mod_eq_of_lt (by omega)]
    · rw [h, Nat.add_mul_div_left _ _ (by omega), Nat.div_eq_of_lt (by omega), Nat.zero_add]
  have so : ∀ (n : ℕ) (t : Fin N), t.val % K = n → n ≠ K - 1 → S t = ∑ k ∈ Finset.range (n + 1), P (t.val / K) k := by
    intro n
    induction n with
    | zero => intro t ht _; rw [Finset.sum_range_succ, Finset.sum_range_zero, zero_add, first t ht]
    | succ n ih =>
      intro t ht h7
      have l := Nat.mod_lt t.val (show 0 < K by omega)
      obtain ⟨b0, b1⟩ := before t.val (by omega)
      rw [Finset.sum_range_succ, mid t (by omega) (by omega), ih ⟨t.val - 1, by omega⟩ (by simp only; omega) (by omega), ht]
      simp only [b1]
  obtain ⟨b0, b1⟩ := before t.val (by omega)
  rw [so (K - 2) ⟨t.val - 1, by omega⟩ (by simp only; omega) (by omega), show K - 2 + 1 = K - 1 by omega]
  simp only [b1]
  rw [← Finset.sum_range_succ, show K - 1 + 1 = K by omega]

end Cert.Blocked
-- ==== Proof.Up.lean ====
/- The gradient of the up-projection's weights: the blocked product's running sum is the reference's one product. -/
module

public import proofs.«01_k».proof.Proof.Gen.KernelUpIdeal.Value
public import proofs.«01_k».proof.Proof.Gen.ReferenceUpIdeal.Run
public import Idealize.ShloMosaic.Lib.KernelVsHost
public import proofs.«01_k».proof.Proof.Blocked

@[expose] public section

set_option maxRecDepth 16384

noncomputable section

namespace Cert.KernelUpIdeal.Hand

open Cert.KernelUpIdeal Cert.KernelUpIdeal.Gen Cert.KernelUpIdeal.Value
open Idealize.ShloMosaic Idealize.ShloMosaic.TcCoe Idealize.ShloMosaic.Tactic
open Cert.KernelIdeal.Hand (at2)

attribute [local instance] Cert.KernelUpIdeal.Gen.facts

theorem zero2 : (![0, 0] : Fin 2 → Nat) = fun _ => 0 := by decide

/-! ### What a point leaves -/

section
variable (c : Dev nD) (i : grid0.Coords) (a3 : Memref sig .tc .vmem S1024x1024 .bf16) (h3 : a3.IsWhole)
  (a4 : Memref sig .tc .vmem S1024x1408 .bf16) (h4 : a4.IsWhole) (a5 : Memref sig .tc .vmem S1024x1408 .bf16) (h5 : a5.IsWhole)
  (a6 : Memref sig .tc .vmem S1024x1408 .f32) (h6 : a6.IsWhole)
  (x : Vec Ideal S1024x1024 .bf16) (y : Vec Ideal S1024x1408 .bf16) (s : Vec Ideal S1024x1408 .f32)

/-- The first point of a block leaves the two tiles' product over zero. -/
theorem first_sum (hc0) (hc1) : sout0_A_0 c i a3 h3 a4 h4 a5 h5 a6 h6 hc0 hc1 x y = k0_pay2 (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero zero2]
  simp only [View.readAt_eq_ld, h3.read_unread, h4.read_unread, View.ld_unit_zero (S := S1024x1024) zero2, View.ld_unit_zero (S := S1024x1408) zero2, View.readCov_unit_zero (S := S1024x1408) _ zero2]

/-- The points in between add their tiles' product to what the point before left. -/
theorem mid_sum (hc0) (hc1) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zero2]
  simp only [View.readAt_eq_ld, h3.read_unread, h4.read_unread, h6.read_unread, View.ld_unit_zero (S := S1024x1024) zero2, View.ld_unit_zero (S := S1024x1408) zero2]

/-- The last point of a block stores the sum, narrowed. -/
theorem last_out (hc0) (hc1) : out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zero2]
  simp only [View.readAt_eq_ld, h3.read_unread, h4.read_unread, h6.read_unread, View.ld_unit_zero (S := S1024x1024) zero2, View.ld_unit_zero (S := S1024x1408) zero2, View.readCov_unit_zero (S := S1024x1408) _ zero2]

end

/-! ### The tiles' product, at an index -/

theorem zero_at (a : Fin 1024) (b : Fin 1408) : k0_pay1 (F := Ideal) (ix2 a b) = 0 := by
  pointwise [k0_pay1]

theorem add_at (s : Vec Ideal S1024x1408 .f32) (x : Vec Ideal S1024x1024 .bf16) (y : Vec Ideal S1024x1408 .bf16) (a : Fin 1024) (b : Fin 1408) :
    (k0_pay2 s x y : Vec Ideal S1024x1408 .f32) (ix2 a b) = s (ix2 a b) + ∑ r : Fin 1024, x (ix2 r a) * y (ix2 r b) := by
  pointwise [k0_pay2]

/-! ### The tiles, over the arguments -/

variable (m : (ℓ : Loc nD τ sig) → Buf (Elt Ideal) ℓ) (c : Dev nD)

/-- The activations and the cotangents, as launched. -/
abbrev act (r : Fin 8192) (a : Fin 1024) : EReal := m ((c : Thread nD τ).loc main_arg0) (ix2 r a)
abbrev cot (r : Fin 8192) (b : Fin 2816) : EReal := m ((c : Thread nD τ).loc main_arg1) (ix2 r b)

theorem t_lt (t : Fin cfg0.N) : t.val < 16 := lt_of_lt_of_eq t.isLt N_0

theorem index0 : ∀ t : Fin cfg0.N, (cfg0.win 0).index t 0 = t.val % 8 ∧ (cfg0.win 0).index t 1 = 0 := by decide +kernel
theorem index1 : ∀ t : Fin cfg0.N, (cfg0.win 1).index t 0 = t.val % 8 ∧ (cfg0.win 1).index t 1 = t.val / 8 := by decide +kernel

theorem tile0 (t : Fin cfg0.N) (r a : Fin 1024) :
    iblk m c 0 t (ix2 r a) = act m c ⟨1024 * (t.val % 8) + r.val, by omega⟩ a := by
  obtain ⟨h0, h1⟩ := index0 t
  show V m c main_arg0 (((cfg0.win 0).rect t).emb (ix2 r a)) = _
  rw [V_main_arg0]
  exact congrArg (m ((c : Thread nD τ).loc main_arg0)) (at2 _ ⟨1024 * (t.val % 8) + r.val, by omega⟩ a
    (Blocked.place (Pipeline.Window.rect_emb_val (cfg0.win 0) t _ 0) h0) (Blocked.place0 (Pipeline.Window.rect_emb_val (cfg0.win 0) t _ 1) h1))

theorem tile1 (t : Fin cfg0.N) (r : Fin 1024) (b : Fin 1408) :
    iblk m c 1 t (ix2 r b) = cot m c ⟨1024 * (t.val % 8) + r.val, by omega⟩ ⟨1408 * (t.val / 8) + b.val, by have := t_lt t; omega⟩ := by
  have ht := t_lt t
  obtain ⟨h0, h1⟩ := index1 t
  show V m c main_arg1 (((cfg0.win 1).rect t).emb (ix2 r b)) = _
  rw [V_main_arg1]
  exact congrArg (m ((c : Thread nD τ).loc main_arg1)) (at2 _ ⟨1024 * (t.val % 8) + r.val, by omega⟩ ⟨1408 * (t.val / 8) + b.val, by omega⟩
    (Blocked.place (Pipeline.Window.rect_emb_val (cfg0.win 1) t _ 0) h0) (Blocked.place (Pipeline.Window.rect_emb_val (cfg0.win 1) t _ 1) h1))

/-! ### The running sum -/

/-- What block `q` of columns adds at its place `(a, b)` with the tile pair `k`. -/
def part (a : Fin 1024) (b : Fin 1408) (q k : ℕ) : EReal :=
  if h : q < 2 then Blocked.share 8 1024 rfl (fun y => act m c y a * cot m c y ⟨1408 * q + b.val, by omega⟩) k else 0

theorem tiles_sum (t : Fin cfg0.N) (a : Fin 1024) (b : Fin 1408) :
    (∑ r : Fin 1024, (show EReal from iblk m c 0 t (ix2 r a)) * (show EReal from iblk m c 1 t (ix2 r b)) : EReal) = part m c a b (t.val / 8) (t.val % 8) := by
  have ht := t_lt t
  unfold part Blocked.share
  rw [dif_pos (by omega)]
  refine Finset.sum_congr rfl fun r _ => ?_
  rw [dif_pos (by omega), tile0, tile1]

/-- The scratch after a block's first point. -/
theorem first_at (t : Fin cfg0.N) (h0 : t.val % 8 = 0) (a : Fin 1024) (b : Fin 1408) :
    ((outsAt0 m c t.val t.isLt).2 (ix2 a b) : EReal) = part m c a b (t.val / 8) 0 := by
  rw [outsAt0_A m c t h0 (by omega)]
  dsimp only
  rw [first_sum]
  refine (add_at _ _ _ a b).trans ?_
  rw [zero_at, zero_add, ← h0]
  exact tiles_sum m c t a b

/-- The scratch after a later one. -/
theorem mid_at (t : Fin cfg0.N) (h0 : t.val % 8 ≠ 0) (h1 : t.val % 8 ≠ 7) (a : Fin 1024) (b : Fin 1408) :
    ((outsAt0 m c t.val t.isLt).2 (ix2 a b) : EReal)
      = (show EReal from (outsAt0 m c (t.val - 1) (by omega)).2 (ix2 a b)) + part m c a b (t.val / 8) (t.val % 8) := by
  rw [outsAt0_B m c t h0 h1]
  dsimp only
  rw [mid_sum]
  exact (add_at _ _ _ a b).trans (congrArg (_ + ·) (tiles_sum m c t a b))

/-- A block's last point stores the sum over all the rows. -/
theorem out_at (t : Fin cfg0.N) (h7 : t.val % 8 = 7) (a : Fin 1024) (b : Fin 1408) :
    ((outsAt0 m c t.val t.isLt).1 (ix2 a b) : EReal)
      = ∑ y : Fin 8192, act m c y a * cot m c y ⟨1408 * (t.val / 8) + b.val, by have := t_lt t; omega⟩ := by
  have ht := t_lt t
  rw [outsAt0_C m c t (by omega) h7]
  dsimp only
  rw [last_out]
  refine (add_at _ _ _ a b).trans ((congrArg (_ + ·) ((tiles_sum m c t a b).trans (congrArg _ h7))).trans ?_)
  refine (Blocked.sum_of_parts 8 (by decide) (fun t => (outsAt0 m c t.val t.isLt).2 (ix2 a b)) (part m c a b)
    (fun t h => first_at m c t h a b) (fun t h h' => mid_at m c t h h' a b) t h7).trans ?_
  unfold part
  simp only [dif_pos (show t.val / 8 < 2 by omega)]
  exact Blocked.shares _ _

/-- The result at `(a, b)`: the product over all the rows. -/
theorem result_at (a : Fin 1024) (b : Fin 2816) : (G2 m c (ix2 a b) : EReal) = ∑ y : Fin 8192, cot m c y b * act m c y a := by
  have hp : pt2Of (ix2 a b) = 8 * (b.val / 1408) + 7 := by
    show 8 * (2 * (a.val / 1024 - 0) + 1 * (b.val / 1408 - 0)) + 7 = _
    omega
  have hlt : pt2Of (ix2 a b) < cfg0.N := lt_of_lt_of_eq (by rw [hp]; omega) N_0.symm
  unfold G2
  rw [dif_pos hlt, ← outsAt0_sweep m c _ hlt,
    at2 (loc2Of (ix2 a b)) a ⟨b.val % 1408, by omega⟩ (Nat.mod_eq_of_lt a.isLt) rfl]
  refine (out_at m c ⟨pt2Of (ix2 a b), hlt⟩ (by simp only [hp]; omega) a ⟨b.val % 1408, by omega⟩).trans ?_
  refine Finset.sum_congr rfl fun y _ => (mul_comm _ _).trans (congrArg (cot m c y · * act m c y a) (Fin.ext ?_))
  simp only [hp]; omega

end Cert.KernelUpIdeal.Hand

end
-- ==== Proof.UpValue.lean ====
/- The up-projection's weight gradient: the frames, and the kernel's array against the reference's. -/
module

public import proofs.«01_k».proof.Defs
public import proofs.«01_k».proof.Proof.Gen.KernelUp
public import proofs.«01_k».proof.Proof.Up
public import Idealize.ShloMosaic.Adequacy
public import Idealize.ShloMosaic.Init

@[expose] public section

set_option maxRecDepth 16384

noncomputable section

namespace Cert.Proof

open Idealize.ShloMosaic Idealize.SL.Sem
open Cert.KernelUpIdeal.Hand (act cot)

attribute [local instance] Cert.KernelUp.Gen.facts Cert.KernelUpIdeal.Gen.facts Cert.ReferenceUpIdeal.Gen.facts

/-- The printed kernel and the idealized one have one text: the same bodies, so the same table of them. -/
theorem up_bodies : (Cert.KernelUp.defs₀ : Defs _ _ _ (Elt Bits) _) = Cert.KernelUpIdeal.defs₀ := by
  unfold Cert.KernelUp.defs₀ Cert.KernelUpIdeal.defs₀
  refine congrArg Defs.onTc (funext fun l => ?_)
  match l with
  | 0 => rfl
theorem up_tables : (Cert.KernelUp.defs (F := Bits)) = Cert.KernelUpIdeal.defs (F := Bits) := congrArg (Pipeline.defs Cert.KernelUp.pcfgs) up_bodies

/-- The printed kernel's frame, from the run that holds over any float values. -/
theorem frame_up : Cert.quiescent_KernelUp := fun m ρ _ => by
  rw [up_tables]
  exact Cert.KernelUpIdeal.Gen.frame (F := Bits) m ρ

/-- The idealized kernel's frame. -/
theorem frame_up_ideal : Cert.quiescent_KernelUpIdeal := fun m ρ _ => Cert.KernelUpIdeal.Gen.frame (F := Ideal) m ρ

/-- The reference's frame. -/
theorem frame_up_ref : Cert.quiescent_ReferenceUpIdeal := fun m ρ _ =>
  (θ_run Cert.ReferenceUpIdeal.defs _ _).mono (fun r h => ⟨fun c => (h c).2, Idealize.ShloMosaic.sem_eq_zero_of_no_sems (by decide) r.2⟩)
    (Cert.ReferenceUpIdeal.Value.run (F := Ideal) m ρ)

/-- The kernel reads the tiles as launched, so nothing is to be preserved but its text. -/
theorem preserves_up : Cert.preserves_KernelUp_KernelUpIdeal := trivial

/-- The reference's product at an index. -/
theorem up_ref_at (x : FVec Ideal Cert.ReferenceUpIdeal.S8192x1024 .bf16) (y : FVec Ideal Cert.ReferenceUpIdeal.S8192x2816 .bf16) (a : Fin 1024) (b : Fin 2816) :
    (truncf .bf16 (transpose Cert.ReferenceUpIdeal.S1024x2816 [1, 0]
        (Host.dotGeneral Cert.ReferenceUpIdeal.dot_S8192x2816_S8192x1024_S2816x1024_0_0_1_1_n_n none (extf .f32 y Cert.ReferenceUpIdeal.Facts₀.bitsLt_bf16_f32) (extf .f32 x Cert.ReferenceUpIdeal.Facts₀.bitsLt_bf16_f32))
        Cert.ReferenceUpIdeal.Facts₀.transposes_S2816x1024_S1024x2816_1_0) Cert.ReferenceUpIdeal.Facts₀.bitsLt_bf16_f32 : FVec Ideal Cert.ReferenceUpIdeal.S1024x2816 .bf16) (ix2 a b)
      = ∑ r : Fin 8192, y (ix2 r b) * x (ix2 r a) := by
  pointwise []

/-- The value claim. -/
theorem algebraic_up : Cert.algebraic_KernelUpIdeal_ReferenceUpIdeal := fun m ρ m' ρ' _ ha =>
  ⟨fun c => Cert.KernelUpIdeal.Value.G2 m c, Cert.KernelUpIdeal.Value.run (F := Ideal) m ρ,
    (θ_run Cert.ReferenceUpIdeal.defs _ _).mono (fun r h c => by
      obtain ⟨a0, a1⟩ := ha c
      obtain ⟨h0, hk⟩ := h c
      refine ⟨h0.trans ?_, hk⟩
      rw [a0, a1]
      funext i
      rw [Cert.KernelIdeal.Hand.at2 i (i 0) (i 1) rfl rfl]
      exact (up_ref_at _ _ (i 0) (i 1)).trans (Cert.KernelUpIdeal.Hand.result_at m c (i 0) (i 1)).symm)
      (Cert.ReferenceUpIdeal.Value.run (F := Ideal) m' ρ')⟩

end Cert.Proof

end
-- ==== Proof.Down.lean ====
/- The gradient of the down-projection's weights: blocks of rows here, where the up-projection's has blocks of columns. -/
module

public import proofs.«01_k».proof.Proof.Gen.KernelDownIdeal.Value
public import proofs.«01_k».proof.Proof.Gen.ReferenceDownIdeal.Run
public import Idealize.ShloMosaic.Lib.KernelVsHost
public import proofs.«01_k».proof.Proof.Blocked

@[expose] public section

set_option maxRecDepth 16384

noncomputable section

namespace Cert.KernelDownIdeal.Hand

open Cert.KernelDownIdeal Cert.KernelDownIdeal.Gen Cert.KernelDownIdeal.Value
open Idealize.ShloMosaic Idealize.ShloMosaic.TcCoe Idealize.ShloMosaic.Tactic
open Cert.KernelIdeal.Hand (at2)

attribute [local instance] Cert.KernelDownIdeal.Gen.facts

theorem zero2 : (![0, 0] : Fin 2 → Nat) = fun _ => 0 := by decide

/-! ### What a point leaves -/

section
variable (c : Dev nD) (i : grid0.Coords) (a3 : Memref sig .tc .vmem S1024x1408 .bf16) (h3 : a3.IsWhole)
  (a4 : Memref sig .tc .vmem S1024x1024 .bf16) (h4 : a4.IsWhole) (a5 : Memref sig .tc .vmem S1408x1024 .bf16) (h5 : a5.IsWhole)
  (a6 : Memref sig .tc .vmem S1408x1024 .f32) (h6 : a6.IsWhole)
  (x : Vec Ideal S1024x1408 .bf16) (y : Vec Ideal S1024x1024 .bf16) (s : Vec Ideal S1408x1024 .f32)

/-- The first point of a block leaves the two tiles' product over zero. -/
theorem first_sum (hc0) (hc1) : sout0_A_0 c i a3 h3 a4 h4 a5 h5 a6 h6 hc0 hc1 x y = k0_pay2 (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero zero2]
  simp only [View.readAt_eq_ld, h3.read_unread, h4.read_unread, View.ld_unit_zero (S := S1024x1024) zero2, View.ld_unit_zero (S := S1024x1408) zero2, View.readCov_unit_zero (S := S1408x1024) _ zero2]

/-- The points in between add their tiles' product to what the point before left. -/
theorem mid_sum (hc0) (hc1) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zero2]
  simp only [View.readAt_eq_ld, h3.read_unread, h4.read_unread, h6.read_unread, View.ld_unit_zero (S := S1024x1024) zero2, View.ld_unit_zero (S := S1024x1408) zero2, View.ld_unit_zero (S := S1408x1024) zero2]

/-- The last point of a block stores the sum, narrowed. -/
theorem last_out (hc0) (hc1) : out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zero2]
  simp only [View.readAt_eq_ld, h3.read_unread, h4.read_unread, h6.read_unread, View.ld_unit_zero (S := S1024x1024) zero2, View.ld_unit_zero (S := S1024x1408) zero2, View.ld_unit_zero (S := S1408x1024) zero2, View.readCov_unit_zero (S := S1408x1024) _ zero2]

end

/-! ### The tiles' product, at an index -/

theorem zero_at (a : Fin 1408) (b : Fin 1024) : k0_pay1 (F := Ideal) (ix2 a b) = 0 := by
  pointwise [k0_pay1]

theorem add_at (s : Vec Ideal S1408x1024 .f32) (x : Vec Ideal S1024x1408 .bf16) (y : Vec Ideal S1024x1024 .bf16) (a : Fin 1408) (b : Fin 1024) :
    (k0_pay2 s x y : Vec Ideal S1408x1024 .f32) (ix2 a b) = s (ix2 a b) + ∑ r : Fin 1024, x (ix2 r a) * y (ix2 r b) := by
  pointwise [k0_pay2]

/-! ### The tiles, over the arguments -/

variable (m : (ℓ : Loc nD τ sig) → Buf (Elt Ideal) ℓ) (c : Dev nD)

/-- The gated activations and the cotangents, as launched. -/
abbrev act (r : Fin 8192) (a : Fin 2816) : EReal := m ((c : Thread nD τ).loc main_arg0) (ix2 r a)
abbrev cot (r : Fin 8192) (b : Fin 1024) : EReal := m ((c : Thread nD τ).loc main_arg1) (ix2 r b)

theorem t_lt (t : Fin cfg0.N) : t.val < 16 := lt_of_lt_of_eq t.isLt N_0

theorem index0 : ∀ t : Fin cfg0.N, (cfg0.win 0).index t 0 = t.val % 8 ∧ (cfg0.win 0).index t 1 = t.val / 8 := by decide +kernel
theorem index1 : ∀ t : Fin cfg0.N, (cfg0.win 1).index t 0 = t.val % 8 ∧ (cfg0.win 1).index t 1 = 0 := by decide +kernel

theorem tile0 (t : Fin cfg0.N) (r : Fin 1024) (a : Fin 1408) :
    iblk m c 0 t (ix2 r a) = act m c ⟨1024 * (t.val % 8) + r.val, by omega⟩ ⟨1408 * (t.val / 8) + a.val, by have := t_lt t; omega⟩ := by
  have ht := t_lt t
  obtain ⟨h0, h1⟩ := index0 t
  show V m c main_arg0 (((cfg0.win 0).rect t).emb (ix2 r a)) = _
  rw [V_main_arg0]
  exact congrArg (m ((c : Thread nD τ).loc main_arg0)) (at2 _ ⟨1024 * (t.val % 8) + r.val, by omega⟩ ⟨1408 * (t.val / 8) + a.val, by omega⟩
    (Blocked.place (Pipeline.Window.rect_emb_val (cfg0.win 0) t _ 0) h0) (Blocked.place (Pipeline.Window.rect_emb_val (cfg0.win 0) t _ 1) h1))

theorem tile1 (t : Fin cfg0.N) (r b : Fin 1024) :
    iblk m c 1 t (ix2 r b) = cot m c ⟨1024 * (t.val % 8) + r.val, by omega⟩ b := by
  obtain ⟨h0, h1⟩ := index1 t
  show V m c main_arg1 (((cfg0.win 1).rect t).emb (ix2 r b)) = _
  rw [V_main_arg1]
  exact congrArg (m ((c : Thread nD τ).loc main_arg1)) (at2 _ ⟨1024 * (t.val % 8) + r.val, by omega⟩ b
    (Blocked.place (Pipeline.Window.rect_emb_val (cfg0.win 1) t _ 0) h0) (Blocked.place0 (Pipeline.Window.rect_emb_val (cfg0.win 1) t _ 1) h1))

/-! ### The running sum -/

/-- What block `q` of rows adds at its place `(a, b)` with the tile pair `k`. -/
def part (a : Fin 1408) (b : Fin 1024) (q k : ℕ) : EReal :=
  if h : q < 2 then Blocked.share 8 1024 rfl (fun y => act m c y ⟨1408 * q + a.val, by omega⟩ * cot m c y b) k else 0

theorem tiles_sum (t : Fin cfg0.N) (a : Fin 1408) (b : Fin 1024) :
    (∑ r : Fin 1024, (show EReal from iblk m c 0 t (ix2 r a)) * (show EReal from iblk m c 1 t (ix2 r b)) : EReal) = part m c a b (t.val / 8) (t.val % 8) := by
  have ht := t_lt t
  unfold part Blocked.share
  rw [dif_pos (by omega)]
  refine Finset.sum_congr rfl fun r _ => ?_
  rw [dif_pos (by omega), tile0, tile1]

/-- The scratch after a block's first point. -/
theorem first_at (t : Fin cfg0.N) (h0 : t.val % 8 = 0) (a : Fin 1408) (b : Fin 1024) :
    ((outsAt0 m c t.val t.isLt).2 (ix2 a b) : EReal) = part m c a b (t.val / 8) 0 := by
  rw [outsAt0_A m c t h0 (by omega)]
  dsimp only
  rw [first_sum]
  refine (add_at _ _ _ a b).trans ?_
  rw [zero_at, zero_add, ← h0]
  exact tiles_sum m c t a b

/-- The scratch after a later one. -/
theorem mid_at (t : Fin cfg0.N) (h0 : t.val % 8 ≠ 0) (h1 : t.val % 8 ≠ 7) (a : Fin 1408) (b : Fin 1024) :
    ((outsAt0 m c t.val t.isLt).2 (ix2 a b) : EReal)
      = (show EReal from (outsAt0 m c (t.val - 1) (by omega)).2 (ix2 a b)) + part m c a b (t.val / 8) (t.val % 8) := by
  rw [outsAt0_B m c t h0 h1]
  dsimp only
  rw [mid_sum]
  exact (add_at _ _ _ a b).trans (congrArg (_ + ·) (tiles_sum m c t a b))

/-- A block's last point stores the sum over all the rows. -/
theorem out_at (t : Fin cfg0.N) (h7 : t.val % 8 = 7) (a : Fin 1408) (b : Fin 1024) :
    ((outsAt0 m c t.val t.isLt).1 (ix2 a b) : EReal)
      = ∑ y : Fin 8192, act m c y ⟨1408 * (t.val / 8) + a.val, by have := t_lt t; omega⟩ * cot m c y b := by
  have ht := t_lt t
  rw [outsAt0_C m c t (by omega) h7]
  dsimp only
  rw [last_out]
  refine (add_at _ _ _ a b).trans ((congrArg (_ + ·) ((tiles_sum m c t a b).trans (congrArg _ h7))).trans ?_)
  refine (Blocked.sum_of_parts 8 (by decide) (fun t => (outsAt0 m c t.val t.isLt).2 (ix2 a b)) (part m c a b)
    (fun t h => first_at m c t h a b) (fun t h h' => mid_at m c t h h' a b) t h7).trans ?_
  unfold part
  simp only [dif_pos (show t.val / 8 < 2 by omega)]
  exact Blocked.shares _ _

/-- The result at `(a, b)`: the product over all the rows. -/
theorem result_at (a : Fin 2816) (b : Fin 1024) : (G2 m c (ix2 a b) : EReal) = ∑ y : Fin 8192, cot m c y b * act m c y a := by
  have hp : pt2Of (ix2 a b) = 8 * (a.val / 1408) + 7 := by
    show 8 * (1 * (a.val / 1408 - 0) + 1 * (b.val / 1024 - 0)) + 7 = _
    omega
  have hlt : pt2Of (ix2 a b) < cfg0.N := lt_of_lt_of_eq (by rw [hp]; omega) N_0.symm
  unfold G2
  rw [dif_pos hlt, ← outsAt0_sweep m c _ hlt,
    at2 (loc2Of (ix2 a b)) ⟨a.val % 1408, by omega⟩ b rfl (Nat.mod_eq_of_lt b.isLt)]
  refine (out_at m c ⟨pt2Of (ix2 a b), hlt⟩ (by simp only [hp]; omega) ⟨a.val % 1408, by omega⟩ b).trans ?_
  refine Finset.sum_congr rfl fun y _ => (mul_comm _ _).trans (congrArg (cot m c y b * act m c y ·) (Fin.ext ?_))
  simp only [hp]; omega

end Cert.KernelDownIdeal.Hand

end
-- ==== Proof.Act.lean ====
/- The gradient of the gated activations: each point's one product of tiles is the reference's product at the tile's places. -/
module

public import proofs.«01_k».proof.Proof.Gen.KernelActIdeal.Value
public import proofs.«01_k».proof.Proof.Gen.ReferenceActIdeal.Run
public import Idealize.ShloMosaic.Lib.KernelVsHost
public import proofs.«01_k».proof.Proof.Blocked

@[expose] public section

set_option maxRecDepth 16384

noncomputable section

namespace Cert.KernelActIdeal.Hand

open Cert.KernelActIdeal Cert.KernelActIdeal.Gen Cert.KernelActIdeal.Value
open Idealize.ShloMosaic Idealize.ShloMosaic.TcCoe Idealize.ShloMosaic.Tactic
open Cert.KernelIdeal.Hand (at2)

attribute [local instance] Cert.KernelActIdeal.Gen.facts

theorem zero2 : (![0, 0] : Fin 2 → Nat) = fun _ => 0 := by decide

/-- What a point stores: the tiles' product, narrowed. -/
theorem stored (x : Vec Ideal S1024x1024 .bf16) (y : Vec Ideal S1408x1024 .bf16) : out0_2 x y = k0_pay1 x y := by
  unfold out0_2
  rw [View.canon_unit_zero zero2]
  simp only [View.ld_unit_zero (S := S1024x1024) zero2, View.ld_unit_zero (S := S1408x1024) zero2]

theorem product_at (x : Vec Ideal S1024x1024 .bf16) (y : Vec Ideal S1408x1024 .bf16) (a : Fin 1024) (b : Fin 1408) :
    (k0_pay1 x y : Vec Ideal S1024x1408 .bf16) (ix2 a b) = ∑ r : Fin 1024, x (ix2 a r) * y (ix2 b r) := by
  pointwise [k0_pay1]

variable (m : (ℓ : Loc nD τ sig) → Buf (Elt Ideal) ℓ) (c : Dev nD)

/-- The cotangents and the weights, as launched. -/
abbrev cot (a : Fin 8192) (r : Fin 1024) : EReal := m ((c : Thread nD τ).loc main_arg0) (ix2 a r)
abbrev wgt (b : Fin 2816) (r : Fin 1024) : EReal := m ((c : Thread nD τ).loc main_arg1) (ix2 b r)

theorem t_lt (t : Fin cfg0.N) : t.val < 16 := lt_of_lt_of_eq t.isLt N_0

theorem index0 : ∀ t : Fin cfg0.N, (cfg0.win 0).index t 0 = t.val / 2 ∧ (cfg0.win 0).index t 1 = 0 := by decide +kernel
theorem index1 : ∀ t : Fin cfg0.N, (cfg0.win 1).index t 0 = t.val % 2 ∧ (cfg0.win 1).index t 1 = 0 := by decide +kernel
theorem index2 : ∀ t : Fin cfg0.N, (cfg0.win 2).index t 0 = t.val / 2 ∧ (cfg0.win 2).index t 1 = t.val % 2 := by decide +kernel
theorem flushes : ∀ t : Fin cfg0.N, (cfg0.win 2).flush t = true := by decide +kernel

theorem tile0 (t : Fin cfg0.N) (a r : Fin 1024) :
    iblk m c 0 t (ix2 a r) = cot m c ⟨1024 * (t.val / 2) + a.val, by have := t_lt t; omega⟩ r := by
  have ht := t_lt t
  obtain ⟨h0, h1⟩ := index0 t
  show V m c main_arg0 (((cfg0.win 0).rect t).emb (ix2 a r)) = _
  rw [V_main_arg0]
  exact congrArg (m ((c : Thread nD τ).loc main_arg0)) (at2 _ ⟨1024 * (t.val / 2) + a.val, by omega⟩ r
    (Blocked.place (Pipeline.Window.rect_emb_val (cfg0.win 0) t _ 0) h0) (Blocked.place0 (Pipeline.Window.rect_emb_val (cfg0.win 0) t _ 1) h1))

theorem tile1 (t : Fin cfg0.N) (b : Fin 1408) (r : Fin 1024) :
    iblk m c 1 t (ix2 b r) = wgt m c ⟨1408 * (t.val % 2) + b.val, by omega⟩ r := by
  obtain ⟨h0, h1⟩ := index1 t
  show V m c main_arg1 (((cfg0.win 1).rect t).emb (ix2 b r)) = _
  rw [V_main_arg1]
  exact congrArg (m ((c : Thread nD τ).loc main_arg1)) (at2 _ ⟨1408 * (t.val % 2) + b.val, by omega⟩ r
    (Blocked.place (Pipeline.Window.rect_emb_val (cfg0.win 1) t _ 0) h0) (Blocked.place0 (Pipeline.Window.rect_emb_val (cfg0.win 1) t _ 1) h1))

/-- The result in a point's tile. -/
theorem tile_at (t : Fin cfg0.N) (a : Fin 1024) (b : Fin 1408) :
    ((dats m 0 c).arrAt 2 cfg0.N (ix2 ⟨1024 * (t.val / 2) + a.val, by have := t_lt t; omega⟩ ⟨1408 * (t.val % 2) + b.val, by omega⟩) : EReal)
      = ∑ r : Fin 1024, cot m c ⟨1024 * (t.val / 2) + a.val, by have := t_lt t; omega⟩ r * wgt m c ⟨1408 * (t.val % 2) + b.val, by omega⟩ r := by
  have ht := t_lt t
  obtain ⟨h0, h1⟩ := index2 t
  have e : ((cfg0.win 2).rect t).emb (ix2 a b) = ix2 ⟨1024 * (t.val / 2) + a.val, by omega⟩ ⟨1408 * (t.val % 2) + b.val, by omega⟩ :=
    at2 _ ⟨1024 * (t.val / 2) + a.val, by omega⟩ ⟨1408 * (t.val % 2) + b.val, by omega⟩
      (Blocked.place (Pipeline.Window.rect_emb_val (cfg0.win 2) t _ 0) h0) (Blocked.place (Pipeline.Window.rect_emb_val (cfg0.win 2) t _ 1) h1)
  rw [← e]
  refine (congrFun ((blocks2 m c t (flushes t)).trans (flushed2 m c t)) (ix2 a b)).trans ?_
  show (out0_2 (iblk m c 0 t) (iblk m c 1 t) : Vec Ideal S1024x1408 .bf16) (ix2 a b) = _
  rw [stored]
  refine (product_at _ _ a b).trans (Finset.sum_congr rfl fun r _ => ?_)
  rw [tile0, tile1]

/-- The result at `(a, b)`. -/
theorem result_at (a : Fin 8192) (b : Fin 2816) : ((dats m 0 c).arrAt 2 cfg0.N (ix2 a b) : EReal) = ∑ r : Fin 1024, cot m c a r * wgt m c b r := by
  have h := tile_at m c ⟨2 * (a.val / 1024) + b.val / 1408, lt_of_lt_of_eq (by omega) N_0.symm⟩ ⟨a.val % 1024, by omega⟩ ⟨b.val % 1408, by omega⟩
  have ea : 1024 * ((2 * (a.val / 1024) + b.val / 1408) / 2) + a.val % 1024 = a.val := by omega
  have eb : 1408 * ((2 * (a.val / 1024) + b.val / 1408) % 2) + b.val % 1408 = b.val := by omega
  simp only [ea, eb] at h
  exact h

end Cert.KernelActIdeal.Hand

end
-- ==== Proof.DownValue.lean ====
/- The down-projection backwards: the frames, the weight gradient and the gradient of its argument against the reference's. -/
module

public import proofs.«01_k».proof.Defs
public import proofs.«01_k».proof.Proof.Gen.KernelDown
public import proofs.«01_k».proof.Proof.Down
public import proofs.«01_k».proof.Proof.Gen.KernelAct
public import proofs.«01_k».proof.Proof.Act
public import Idealize.ShloMosaic.Adequacy
public import Idealize.ShloMosaic.Init

@[expose] public section

set_option maxRecDepth 16384

noncomputable section

namespace Cert.Proof

open Idealize.ShloMosaic Idealize.SL.Sem

attribute [local instance] Cert.KernelDown.Gen.facts Cert.KernelDownIdeal.Gen.facts Cert.ReferenceDownIdeal.Gen.facts Cert.KernelAct.Gen.facts Cert.KernelActIdeal.Gen.facts Cert.ReferenceActIdeal.Gen.facts

/-! ### The weights' gradient: the frames, then the reference's product at an index and the value claim -/

theorem down_bodies : (Cert.KernelDown.defs₀ : Defs _ _ _ (Elt Bits) _) = Cert.KernelDownIdeal.defs₀ := by
  unfold Cert.KernelDown.defs₀ Cert.KernelDownIdeal.defs₀
  refine congrArg Defs.onTc (funext fun l => ?_)
  match l with
  | 0 => rfl
theorem down_tables : (Cert.KernelDown.defs (F := Bits)) = Cert.KernelDownIdeal.defs (F := Bits) := congrArg (Pipeline.defs Cert.KernelDown.pcfgs) down_bodies

theorem frame_down : Cert.quiescent_KernelDown := fun m ρ _ => by
  rw [down_tables]
  exact Cert.KernelDownIdeal.Gen.frame (F := Bits) m ρ

theorem frame_down_ideal : Cert.quiescent_KernelDownIdeal := fun m ρ _ => Cert.KernelDownIdeal.Gen.frame (F := Ideal) m ρ

theorem frame_down_ref : Cert.quiescent_ReferenceDownIdeal := fun m ρ _ =>
  (θ_run Cert.ReferenceDownIdeal.defs _ _).mono (fun r h => ⟨fun c => (h c).2, Idealize.ShloMosaic.sem_eq_zero_of_no_sems (by decide) r.2⟩)
    (Cert.ReferenceDownIdeal.Value.run (F := Ideal) m ρ)

theorem preserves_down : Cert.preserves_KernelDown_KernelDownIdeal := trivial

theorem down_ref_at (x : FVec Ideal Cert.ReferenceDownIdeal.S8192x2816 .bf16) (y : FVec Ideal Cert.ReferenceDownIdeal.S8192x1024 .bf16) (a : Fin 2816) (b : Fin 1024) :
    (truncf .bf16 (transpose Cert.ReferenceDownIdeal.S2816x1024 [1, 0]
        (Host.dotGeneral Cert.ReferenceDownIdeal.dot_S8192x1024_S8192x2816_S1024x2816_0_0_1_1_n_n none (extf .f32 y Cert.ReferenceDownIdeal.Facts₀.bitsLt_bf16_f32) (extf .f32 x Cert.ReferenceDownIdeal.Facts₀.bitsLt_bf16_f32))
        Cert.ReferenceDownIdeal.Facts₀.transposes_S1024x2816_S2816x1024_1_0) Cert.ReferenceDownIdeal.Facts₀.bitsLt_bf16_f32 : FVec Ideal Cert.ReferenceDownIdeal.S2816x1024 .bf16) (ix2 a b)
      = ∑ r : Fin 8192, y (ix2 r b) * x (ix2 r a) := by
  pointwise []

theorem algebraic_down : Cert.algebraic_KernelDownIdeal_ReferenceDownIdeal := fun m ρ m' ρ' _ ha =>
  ⟨fun c => Cert.KernelDownIdeal.Value.G2 m c, Cert.KernelDownIdeal.Value.run (F := Ideal) m ρ,
    (θ_run Cert.ReferenceDownIdeal.defs _ _).mono (fun r h c => by
      obtain ⟨a0, a1⟩ := ha c
      obtain ⟨h0, hk⟩ := h c
      refine ⟨h0.trans ?_, hk⟩
      rw [a0, a1]
      funext i
      rw [Cert.KernelIdeal.Hand.at2 i (i 0) (i 1) rfl rfl]
      exact (down_ref_at _ _ (i 0) (i 1)).trans (Cert.KernelDownIdeal.Hand.result_at m c (i 0) (i 1)).symm)
      (Cert.ReferenceDownIdeal.Value.run (F := Ideal) m' ρ')⟩

/-! ### The gated activations' gradient: the same of its one-point blocks -/

theorem act_bodies : (Cert.KernelAct.defs₀ : Defs _ _ _ (Elt Bits) _) = Cert.KernelActIdeal.defs₀ := by
  unfold Cert.KernelAct.defs₀ Cert.KernelActIdeal.defs₀
  refine congrArg Defs.onTc (funext fun l => ?_)
  match l with
  | 0 => rfl
theorem act_tables : (Cert.KernelAct.defs (F := Bits)) = Cert.KernelActIdeal.defs (F := Bits) := congrArg (Pipeline.defs Cert.KernelAct.pcfgs) act_bodies

theorem frame_act : Cert.quiescent_KernelAct := fun m ρ _ => by
  rw [act_tables]
  exact Cert.KernelActIdeal.Gen.frame (F := Bits) m ρ

theorem frame_act_ideal : Cert.quiescent_KernelActIdeal := fun m ρ _ => Cert.KernelActIdeal.Gen.frame (F := Ideal) m ρ

theorem frame_act_ref : Cert.quiescent_ReferenceActIdeal := fun m ρ _ =>
  (θ_run Cert.ReferenceActIdeal.defs _ _).mono (fun r h => ⟨fun c => (h c).2, Idealize.ShloMosaic.sem_eq_zero_of_no_sems (by decide) r.2⟩)
    (Cert.ReferenceActIdeal.Value.run (F := Ideal) m ρ)

theorem preserves_act : Cert.preserves_KernelAct_KernelActIdeal := trivial

theorem act_ref_at (x : FVec Ideal Cert.ReferenceActIdeal.S8192x1024 .bf16) (y : FVec Ideal Cert.ReferenceActIdeal.S2816x1024 .bf16) (a : Fin 8192) (b : Fin 2816) :
    (truncf .bf16 (Host.dotGeneral Cert.ReferenceActIdeal.dot_S8192x1024_S2816x1024_S8192x2816_1_1_0_0_n_n none (extf .f32 x Cert.ReferenceActIdeal.Facts₀.bitsLt_bf16_f32) (extf .f32 y Cert.ReferenceActIdeal.Facts₀.bitsLt_bf16_f32))
        Cert.ReferenceActIdeal.Facts₀.bitsLt_bf16_f32 : FVec Ideal Cert.ReferenceActIdeal.S8192x2816 .bf16) (ix2 a b)
      = ∑ r : Fin 1024, x (ix2 a r) * y (ix2 b r) := by
  pointwise []

theorem algebraic_act : Cert.algebraic_KernelActIdeal_ReferenceActIdeal := fun m ρ m' ρ' _ ha =>
  ⟨fun c => (Cert.KernelActIdeal.Gen.dats m 0 c).arrAt 2 Cert.KernelActIdeal.cfg0.N, Cert.KernelActIdeal.Value.run_blocks (F := Ideal) m ρ,
    (θ_run Cert.ReferenceActIdeal.defs _ _).mono (fun r h c => by
      obtain ⟨a0, a1⟩ := ha c
      obtain ⟨h0, hk⟩ := h c
      refine ⟨h0.trans ?_, hk⟩
      rw [a0, a1]
      funext i
      rw [Cert.KernelIdeal.Hand.at2 i (i 0) (i 1) rfl rfl]
      exact (act_ref_at _ _ (i 0) (i 1)).trans (Cert.KernelActIdeal.Hand.result_at m c (i 0) (i 1)).symm)
      (Cert.ReferenceActIdeal.Value.run (F := Ideal) m' ρ')⟩

end Cert.Proof

end
-- ==== Proof.G.lean ====
/- The first half of the gradient of the channel mixer's normed input: two points to a block of rows, half the columns summed in each. -/
module

public import proofs.«01_k».proof.Proof.Gen.KernelGIdeal.Value
public import proofs.«01_k».proof.Proof.Gen.ReferenceGIdeal.Run
public import Idealize.ShloMosaic.Lib.KernelVsHost
public import Idealize.ShloMosaic.Lib.StableHlo.ReadAt
public import proofs.«01_k».proof.Proof.Blocked

@[expose] public section

set_option maxRecDepth 16384

noncomputable section

namespace Cert.KernelGIdeal.Hand

open Cert.KernelGIdeal Cert.KernelGIdeal.Gen Cert.KernelGIdeal.Value
open Idealize.ShloMosaic Idealize.ShloMosaic.TcCoe Idealize.ShloMosaic.Tactic
open Cert.KernelIdeal.Hand (at2)

attribute [local instance] Cert.KernelGIdeal.Gen.facts

theorem zero2 : (![0, 0] : Fin 2 → Nat) = fun _ => 0 := by decide

/-! ### What a point leaves -/

section
variable (c : Dev nD) (i : grid0.Coords) (a3 : Memref sig .tc .vmem S1024x1408 .bf16) (h3 : a3.IsWhole)
  (a4 : Memref sig .tc .vmem S1024x1408 .bf16) (h4 : a4.IsWhole) (a5 : Memref sig .tc .vmem S1024x1024 .f32) (h5 : a5.IsWhole)
  (a6 : Memref sig .tc .vmem S1024x1024 .f32) (h6 : a6.IsWhole)
  (x y : Vec Ideal S1024x1408 .bf16) (s : Vec Ideal S1024x1024 .f32)

/-- The first point of a block leaves the two tiles' product over zero. -/
theorem first_sum (hc0) (hc1) : sout0_A_0 c i a3 h3 a4 h4 a5 h5 a6 h6 hc0 hc1 x y = k0_pay2 (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero zero2]
  simp only [View.readAt_eq_ld, h3.read_unread, h4.read_unread, View.ld_unit_zero (S := S1024x1408) zero2, View.readCov_unit_zero (S := S1024x1024) _ zero2]

/-- The second adds its own, and stores the sum. -/
theorem last_out (hc0) (hc1) : out0_B_2 c i a3 h3 a4 h4 a5 h5 a6 h6 hc0 hc1 x y s = k0_pay2 s x y := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero zero2]
  simp only [View.readAt_eq_ld, h3.read_unread, h4.read_unread, h6.read_unread, View.ld_unit_zero (S := S1024x1024) zero2, View.ld_unit_zero (S := S1024x1408) zero2, View.readCov_unit_zero (S := S1024x1024) _ zero2]

end

/-! ### The tiles' product, at an index -/

theorem zero_at (a b : Fin 1024) : k0_pay1 (F := Ideal) (ix2 a b) = 0 := by
  pointwise [k0_pay1]

theorem add_at (s : Vec Ideal S1024x1024 .f32) (x y : Vec Ideal S1024x1408 .bf16) (a b : Fin 1024) :
    (k0_pay2 s x y : Vec Ideal S1024x1024 .f32) (ix2 a b) = s (ix2 a b) + ∑ r : Fin 1408, x (ix2 a r) * y (ix2 b r) := by
  pointwise [k0_pay2]

/-! ### The tiles, over the arguments -/

variable (m : (ℓ : Loc nD τ sig) → Buf (Elt Ideal) ℓ) (c : Dev nD)

/-- The cotangents and the weights, as launched. -/
abbrev cot (a : Fin 8192) (r : Fin 2816) : EReal := m ((c : Thread nD τ).loc main_arg0) (ix2 a r)
abbrev wgt (b : Fin 1024) (r : Fin 2816) : EReal := m ((c : Thread nD τ).loc main_arg1) (ix2 b ⟨r.val, by omega⟩)

/-- The host's slice of the weights. -/
theorem V_wgt (b : Fin 1024) (r : Fin 2816) : V m c main_v0 (ix2 b r) = wgt m c b r := by
  unfold V
  simp only [hostOps0]
  after_reads_at

theorem t_lt (t : Fin cfg0.N) : t.val < 16 := lt_of_lt_of_eq t.isLt N_0

theorem index0 : ∀ t : Fin cfg0.N, (cfg0.win 0).index t 0 = t.val / 2 ∧ (cfg0.win 0).index t 1 = t.val % 2 := by decide +kernel
theorem index1 : ∀ t : Fin cfg0.N, (cfg0.win 1).index t 0 = 0 ∧ (cfg0.win 1).index t 1 = t.val % 2 := by decide +kernel

theorem tile0 (t : Fin cfg0.N) (a : Fin 1024) (r : Fin 1408) :
    iblk m c 0 t (ix2 a r) = cot m c ⟨1024 * (t.val / 2) + a.val, by have := t_lt t; omega⟩ ⟨1408 * (t.val % 2) + r.val, by omega⟩ := by
  have ht := t_lt t
  obtain ⟨h0, h1⟩ := index0 t
  show V m c main_arg0 (((cfg0.win 0).rect t).emb (ix2 a r)) = _
  rw [V_main_arg0]
  exact congrArg (m ((c : Thread nD τ).loc main_arg0)) (at2 _ ⟨1024 * (t.val / 2) + a.val, by omega⟩ ⟨1408 * (t.val % 2) + r.val, by omega⟩
    (Blocked.place (Pipeline.Window.rect_emb_val (cfg0.win 0) t _ 0) h0) (Blocked.place (Pipeline.Window.rect_emb_val (cfg0.win 0) t _ 1) h1))

theorem tile1 (t : Fin cfg0.N) (b : Fin 1024) (r : Fin 1408) :
    iblk m c 1 t (ix2 b r) = wgt m c b ⟨1408 * (t.val % 2) + r.val, by omega⟩ := by
  obtain ⟨h0, h1⟩ := index1 t
  show V m c main_v0 (((cfg0.win 1).rect t).emb (ix2 b r)) = _
  rw [at2 (((cfg0.win 1).rect t).emb (ix2 b r)) b ⟨1408 * (t.val % 2) + r.val, by omega⟩
    (Blocked.place0 (Pipeline.Window.rect_emb_val (cfg0.win 1) t _ 0) h0) (Blocked.place (Pipeline.Window.rect_emb_val (cfg0.win 1) t _ 1) h1)]
  exact V_wgt m c b _

/-! ### The sum -/

/-- What block `q` of rows adds at its place `(a, b)` with the tile pair `k`. -/
def part (a b : Fin 1024) (q k : ℕ) : EReal :=
  if h : q < 8 then Blocked.share 2 1408 rfl (fun y => cot m c ⟨1024 * q + a.val, by omega⟩ y * wgt m c b y) k else 0

theorem tiles_sum (t : Fin cfg0.N) (a b : Fin 1024) :
    (∑ r : Fin 1408, (show EReal from iblk m c 0 t (ix2 a r)) * (show EReal from iblk m c 1 t (ix2 b r)) : EReal) = part m c a b (t.val / 2) (t.val % 2) := by
  have ht := t_lt t
  unfold part Blocked.share
  rw [dif_pos (by omega)]
  refine Finset.sum_congr rfl fun r _ => ?_
  rw [dif_pos (by omega), tile0, tile1]

/-- The scratch after a block's first point. -/
theorem first_at (t : Fin cfg0.N) (h0 : t.val % 2 = 0) (a b : Fin 1024) :
    ((outsAt0 m c t.val t.isLt).2 (ix2 a b) : EReal) = part m c a b (t.val / 2) 0 := by
  rw [outsAt0_A m c t h0 (by omega)]
  dsimp only
  rw [first_sum]
  refine (add_at _ _ _ a b).trans ?_
  rw [zero_at, zero_add, ← h0]
  exact tiles_sum m c t a b

/-- A block's second point stores the sum over all the columns. -/
theorem out_at (t : Fin cfg0.N) (h1 : t.val % 2 = 1) (a b : Fin 1024) :
    ((outsAt0 m c t.val t.isLt).1 (ix2 a b) : EReal)
      = ∑ y : Fin 2816, cot m c ⟨1024 * (t.val / 2) + a.val, by have := t_lt t; omega⟩ y * wgt m c b y := by
  have ht := t_lt t
  rw [outsAt0_B m c t (by omega) h1]
  dsimp only
  rw [last_out]
  refine (add_at _ _ _ a b).trans ((congrArg (_ + ·) ((tiles_sum m c t a b).trans (congrArg _ h1))).trans ?_)
  refine (Blocked.sum_of_parts 2 (by decide) (fun t => (outsAt0 m c t.val t.isLt).2 (ix2 a b)) (part m c a b)
    (fun t h => first_at m c t h a b) (fun t h h' => absurd h (by omega)) t h1).trans ?_
  unfold part
  simp only [dif_pos (show t.val / 2 < 8 by omega)]
  exact Blocked.shares _ _

/-- The result at `(a, b)`: the product over all the columns. -/
theorem result_at (a : Fin 8192) (b : Fin 1024) : (G2 m c (ix2 a b) : EReal) = ∑ y : Fin 2816, cot m c a y * wgt m c b y := by
  have hp : pt2Of (ix2 a b) = 2 * (a.val / 1024) + 1 := by
    show 2 * (1 * (a.val / 1024 - 0) + 1 * (b.val / 1024 - 0)) + 1 = _
    omega
  have hlt : pt2Of (ix2 a b) < cfg0.N := lt_of_lt_of_eq (by rw [hp]; omega) N_0.symm
  unfold G2
  rw [dif_pos hlt, ← outsAt0_sweep m c _ hlt,
    at2 (loc2Of (ix2 a b)) ⟨a.val % 1024, by omega⟩ b rfl (Nat.mod_eq_of_lt b.isLt)]
  refine (out_at m c ⟨pt2Of (ix2 a b), hlt⟩ (by simp only [hp]; omega) ⟨a.val % 1024, by omega⟩ b).trans ?_
  refine Finset.sum_congr rfl fun y _ => congrArg (cot m c · y * wgt m c b y) (Fin.ext ?_)
  simp only [hp]; omega

end Cert.KernelGIdeal.Hand

end
-- ==== Proof.S.lean ====
/- The second half of the gradient of the channel mixer's normed input: the block's sum is added onto the first half's tile. -/
module

public import proofs.«01_k».proof.Proof.Gen.KernelSIdeal.Value
public import proofs.«01_k».proof.Proof.Gen.ReferenceSIdeal.Run
public import Idealize.ShloMosaic.Lib.KernelVsHost
public import Idealize.ShloMosaic.Lib.StableHlo.ReadAt
public import proofs.«01_k».proof.Proof.Blocked

@[expose] public section

set_option maxRecDepth 16384

noncomputable section

namespace Cert.KernelSIdeal.Hand

open Cert.KernelSIdeal Cert.KernelSIdeal.Gen Cert.KernelSIdeal.Value
open Idealize.ShloMosaic Idealize.ShloMosaic.TcCoe Idealize.ShloMosaic.Tactic
open Cert.KernelIdeal.Hand (at2)

attribute [local instance] Cert.KernelSIdeal.Gen.facts

theorem zero2 : (![0, 0] : Fin 2 → Nat) = fun _ => 0 := by decide

/-! ### What a point leaves -/

section
variable (c : Dev nD) (i : grid0.Coords) (a3 : Memref sig .tc .vmem S1024x1408 .bf16) (h3 : a3.IsWhole)
  (a4 : Memref sig .tc .vmem S1024x1408 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x y : Vec Ideal S1024x1408 .bf16) (z s : Vec Ideal S1024x1024 .f32)

/-- The first point of a block leaves the two tiles' product over zero. -/
theorem first_sum (hc0) (hc1) : sout0_A_0 c i a3 h3 a4 h4 a5 h5 a6 h6 a7 h7 hc0 hc1 x y z = k0_pay2 (k0_pay1 (F := Ideal)) x y := by
  unfold sout0_A_0
  rw [View.read_writes_eq_canon _ _ _ (scover0_A_0 c i a3 h3 a4 h4 a5 h5 a6 h6 a7 h7 hc0 hc1 x y z)]
  unfold kernelRun0_A
  dsimp only
  sl_unfold_words
  rw [View.canon_cons_unit_zero zero2]
  simp only [View.readAt_eq_ld, h3.read_unread, h4.read_unread, View.ld_unit_zero (S := S1024x1408) zero2, View.readCov_unit_zero (S := S1024x1024) _ zero2]

/-- The second adds its own, and stores the sum with the first half's tile added. -/
theorem last_out (hc0) (hc1) : out0_B_3 c i a3 h3 a4 h4 a5 h5 a6 h6 a7 h7 hc0 hc1 x y z s = k0_pay3 (k0_pay2 s x y) z := by
  unfold out0_B_3
  rw [View.read_writes_eq_canon _ _ _ (cover0_B_3 c i a3 h3 a4 h4 a5 h5 a6 h6 a7 h7 hc0 hc1 x y z s)]
  unfold kernelRun0_B
  dsimp only
  sl_unfold_words
  rw [View.canon_unit_zero zero2]
  simp only [View.readAt_eq_ld, h3.read_unread, h4.read_unread, h5.read_unread, h7.read_unread, View.ld_unit_zero (S := S1024x1024) zero2, View.ld_unit_zero (S := S1024x1408) zero2, View.readCov_unit_zero (S := S1024x1024) _ zero2]

end

/-! ### The tiles' product, at an index -/

theorem zero_at (a b : Fin 1024) : k0_pay1 (F := Ideal) (ix2 a b) = 0 := by
  pointwise [k0_pay1]

theorem add_at (s : Vec Ideal S1024x1024 .f32) (x y : Vec Ideal S1024x1408 .bf16) (a b : Fin 1024) :
    (k0_pay2 s x y : Vec Ideal S1024x1024 .f32) (ix2 a b) = s (ix2 a b) + ∑ r : Fin 1408, x (ix2 a r) * y (ix2 b r) := by
  pointwise [k0_pay2]

theorem onto_at (s z : Vec Ideal S1024x1024 .f32) (a b : Fin 1024) :
    (k0_pay3 s z : Vec Ideal S1024x1024 .f32) (ix2 a b) = s (ix2 a b) + z (ix2 a b) := by
  pointwise [k0_pay3]

/-! ### The tiles, over the arguments -/

variable (m : (ℓ : Loc nD τ sig) → Buf (Elt Ideal) ℓ) (c : Dev nD)

/-- The cotangents, the weights and the first half, as launched. -/
abbrev cot (a : Fin 8192) (r : Fin 2816) : EReal := m ((c : Thread nD τ).loc main_arg0) (ix2 a r)
abbrev wgt (b : Fin 1024) (r : Fin 2816) : EReal := m ((c : Thread nD τ).loc main_arg1) (ix2 b ⟨2816 + r.val, by omega⟩)
abbrev half (a : Fin 8192) (b : Fin 1024) : EReal := m ((c : Thread nD τ).loc main_arg2) (ix2 a b)

/-- The host's slice of the weights. -/
theorem V_wgt (b : Fin 1024) (r : Fin 2816) : V m c main_v0 (ix2 b r) = wgt m c b r := by
  unfold V
  simp only [hostOps0]
  after_reads_at

theorem t_lt (t : Fin cfg0.N) : t.val < 16 := lt_of_lt_of_eq t.isLt N_0

theorem index0 : ∀ t : Fin cfg0.N, (cfg0.win 0).index t 0 = t.val / 2 ∧ (cfg0.win 0).index t 1 = t.val % 2 := by decide +kernel
theorem index1 : ∀ t : Fin cfg0.N, (cfg0.win 1).index t 0 = 0 ∧ (cfg0.win 1).index t 1 = t.val % 2 := by decide +kernel
theorem index2 : ∀ t : Fin cfg0.N, (cfg0.win 2).index t 0 = t.val / 2 ∧ (cfg0.win 2).index t 1 = 0 := by decide +kernel

theorem tile0 (t : Fin cfg0.N) (a : Fin 1024) (r : Fin 1408) :
    iblk m c 0 t (ix2 a r) = cot m c ⟨1024 * (t.val / 2) + a.val, by have := t_lt t; omega⟩ ⟨1408 * (t.val % 2) + r.val, by omega⟩ := by
  have ht := t_lt t
  obtain ⟨h0, h1⟩ := index0 t
  show V m c main_arg0 (((cfg0.win 0).rect t).emb (ix2 a r)) = _
  rw [V_main_arg0]
  exact congrArg (m ((c : Thread nD τ).loc main_arg0)) (at2 _ ⟨1024 * (t.val / 2) + a.val, by omega⟩ ⟨1408 * (t.val % 2) + r.val, by omega⟩
    (Blocked.place (Pipeline.Window.rect_emb_val (cfg0.win 0) t _ 0) h0) (Blocked.place (Pipeline.Window.rect_emb_val (cfg0.win 0) t _ 1) h1))

theorem tile1 (t : Fin cfg0.N) (b : Fin 1024) (r : Fin 1408) :
    iblk m c 1 t (ix2 b r) = wgt m c b ⟨1408 * (t.val % 2) + r.val, by omega⟩ := by
  obtain ⟨h0, h1⟩ := index1 t
  show V m c main_v0 (((cfg0.win 1).rect t).emb (ix2 b r)) = _
  rw [at2 (((cfg0.win 1).rect t).emb (ix2 b r)) b ⟨1408 * (t.val % 2) + r.val, by omega⟩
    (Blocked.place0 (Pipeline.Window.rect_emb_val (cfg0.win 1) t _ 0) h0) (Blocked.place (Pipeline.Window.rect_emb_val (cfg0.win 1) t _ 1) h1)]
  exact V_wgt m c b _

theorem tile2 (t : Fin cfg0.N) (a b : Fin 1024) : iblk m c 2 t (ix2 a b) = half m c ⟨1024 * (t.val / 2) + a.val, by have := t_lt t; omega⟩ b := by
  have ht := t_lt t
  obtain ⟨h0, h1⟩ := index2 t
  show V m c main_arg2 (((cfg0.win 2).rect t).emb (ix2 a b)) = _
  rw [V_main_arg2]
  exact congrArg (m ((c : Thread nD τ).loc main_arg2)) (at2 _ ⟨1024 * (t.val / 2) + a.val, by omega⟩ b
    (Blocked.place (Pipeline.Window.rect_emb_val (cfg0.win 2) t _ 0) h0) (Blocked.place0 (Pipeline.Window.rect_emb_val (cfg0.win 2) t _ 1) h1))

/-! ### The sum -/

/-- What block `q` of rows adds at its place `(a, b)` with the tile pair `k`. -/
def part (a b : Fin 1024) (q k : ℕ) : EReal :=
  if h : q < 8 then Blocked.share 2 1408 rfl (fun y => cot m c ⟨1024 * q + a.val, by omega⟩ y * wgt m c b y) k else 0

theorem tiles_sum (t : Fin cfg0.N) (a b : Fin 1024) :
    (∑ r : Fin 1408, (show EReal from iblk m c 0 t (ix2 a r)) * (show EReal from iblk m c 1 t (ix2 b r)) : EReal) = part m c a b (t.val / 2) (t.val % 2) := by
  have ht := t_lt t
  unfold part Blocked.share
  rw [dif_pos (by omega)]
  refine Finset.sum_congr rfl fun r _ => ?_
  rw [dif_pos (by omega), tile0, tile1]

/-- The scratch after a block's first point. -/
theorem first_at (t : Fin cfg0.N) (h0 : t.val % 2 = 0) (a b : Fin 1024) :
    ((outsAt0 m c t.val t.isLt).2 (ix2 a b) : EReal) = part m c a b (t.val / 2) 0 := by
  rw [outsAt0_A m c t h0 (by omega)]
  dsimp only
  rw [first_sum]
  refine (add_at _ _ _ a b).trans ?_
  rw [zero_at, zero_add, ← h0]
  exact tiles_sum m c t a b

/-- A block's second point stores the sum over all the columns, added onto the first half. -/
theorem out_at (t : Fin cfg0.N) (h1 : t.val % 2 = 1) (a b : Fin 1024) :
    ((outsAt0 m c t.val t.isLt).1 (ix2 a b) : EReal)
      = half m c ⟨1024 * (t.val / 2) + a.val, by have := t_lt t; omega⟩ b
        + ∑ y : Fin 2816, cot m c ⟨1024 * (t.val / 2) + a.val, by have := t_lt t; omega⟩ y * wgt m c b y := by
  have ht := t_lt t
  rw [outsAt0_B m c t (by omega) h1]
  dsimp only
  rw [last_out]
  refine (onto_at _ _ a b).trans ((add_comm _ _).trans ?_)
  refine congrArg₂ (fun u v : EReal => u + v) (tile2 m c t a b) ?_
  refine (add_at _ _ _ a b).trans ((congrArg (_ + ·) ((tiles_sum m c t a b).trans (congrArg _ h1))).trans ?_)
  refine (Blocked.sum_of_parts 2 (by decide) (fun t => (outsAt0 m c t.val t.isLt).2 (ix2 a b)) (part m c a b)
    (fun t h => first_at m c t h a b) (fun t h h' => absurd h (by omega)) t h1).trans ?_
  unfold part
  simp only [dif_pos (show t.val / 2 < 8 by omega)]
  exact Blocked.shares _ _

/-- The result at `(a, b)`: the first half, and the product over all the columns. -/
theorem result_at (a : Fin 8192) (b : Fin 1024) : (G3 m c (ix2 a b) : EReal) = half m c a b + ∑ y : Fin 2816, cot m c a y * wgt m c b y := by
  have hp : pt3Of (ix2 a b) = 2 * (a.val / 1024) + 1 := by
    show 2 * (1 * (a.val / 1024 - 0) + 1 * (b.val / 1024 - 0)) + 1 = _
    omega
  have hlt : pt3Of (ix2 a b) < cfg0.N := lt_of_lt_of_eq (by rw [hp]; omega) N_0.symm
  unfold G3
  rw [dif_pos hlt, ← outsAt0_sweep m c _ hlt,
    at2 (loc3Of (ix2 a b)) ⟨a.val % 1024, by omega⟩ b rfl (Nat.mod_eq_of_lt b.isLt)]
  refine (out_at m c ⟨pt3Of (ix2 a b), hlt⟩ (by simp only [hp]; omega) ⟨a.val % 1024, by omega⟩ b).trans ?_
  refine congrArg (fun r => half m c r b + ∑ y : Fin 2816, cot m c r y * wgt m c b y) (Fin.ext ?_)
  simp only [hp]; omega

end Cert.KernelSIdeal.Hand

end
-- ==== Proof.SumValue.lean ====
/- The up-projection backwards, onto its argument: the frames, and the two halves' arrays against the reference's. -/
module

public import proofs.«01_k».proof.Defs
public import proofs.«01_k».proof.Proof.Gen.KernelG
public import proofs.«01_k».proof.Proof.G
public import proofs.«01_k».proof.Proof.Gen.KernelS
public import proofs.«01_k».proof.Proof.S
public import Idealize.ShloMosaic.Adequacy
public import Idealize.ShloMosaic.Init

@[expose] public section

set_option maxRecDepth 16384

noncomputable section

namespace Cert.Proof

open Idealize.ShloMosaic Idealize.SL.Sem

attribute [local instance] Cert.KernelG.Gen.facts Cert.KernelGIdeal.Gen.facts Cert.ReferenceGIdeal.Gen.facts Cert.KernelS.Gen.facts Cert.KernelSIdeal.Gen.facts Cert.ReferenceSIdeal.Gen.facts

/-! ### The first half: the frames, then the reference's product at an index and the value claim -/

theorem g_bodies : (Cert.KernelG.defs₀ : Defs _ _ _ (Elt Bits) _) = Cert.KernelGIdeal.defs₀ := by
  unfold Cert.KernelG.defs₀ Cert.KernelGIdeal.defs₀
  refine congrArg Defs.onTc (funext fun l => ?_)
  match l with
  | 0 => rfl
theorem g_tables : (Cert.KernelG.defs (F := Bits)) = Cert.KernelGIdeal.defs (F := Bits) := congrArg (Pipeline.defs Cert.KernelG.pcfgs) g_bodies

theorem frame_g : Cert.quiescent_KernelG := fun m ρ _ => by
  rw [g_tables]
  exact Cert.KernelGIdeal.Gen.frame (F := Bits) m ρ

theorem frame_g_ideal : Cert.quiescent_KernelGIdeal := fun m ρ _ => Cert.KernelGIdeal.Gen.frame (F := Ideal) m ρ

theorem frame_g_ref : Cert.quiescent_ReferenceGIdeal := fun m ρ _ =>
  (θ_run Cert.ReferenceGIdeal.defs _ _).mono (fun r h => ⟨fun c => (h c).2, Idealize.ShloMosaic.sem_eq_zero_of_no_sems (by decide) r.2⟩)
    (Cert.ReferenceGIdeal.Value.run (F := Ideal) m ρ)

theorem preserves_g : Cert.preserves_KernelG_KernelGIdeal := trivial

theorem g_ref_at (x : FVec Ideal Cert.ReferenceGIdeal.S8192x2816 .bf16) (y : FVec Ideal Cert.ReferenceGIdeal.S1024x5632 .bf16) (a : Fin 8192) (b : Fin 1024) :
    (Host.dotGeneral Cert.ReferenceGIdeal.dot_S8192x2816_S1024x2816_S8192x1024_1_1_0_0_n_n none (extf .f32 x Cert.ReferenceGIdeal.Facts₀.bitsLt_bf16_f32) (extf .f32 (extractStridedSlice Cert.ReferenceGIdeal.S1024x2816 ![0, 0] y Cert.ReferenceGIdeal.Facts₀.slices_S1024x5632_S1024x2816_0_0) Cert.ReferenceGIdeal.Facts₀.bitsLt_bf16_f32)
        : FVec Ideal Cert.ReferenceGIdeal.S8192x1024 .f32) (ix2 a b)
      = ∑ r : Fin 2816, x (ix2 a r) * y (ix2 b ⟨r.val, by omega⟩) := by
  pointwise []

theorem algebraic_g : Cert.algebraic_KernelGIdeal_ReferenceGIdeal := fun m ρ m' ρ' _ ha =>
  ⟨fun c => Cert.KernelGIdeal.Value.G2 m c, Cert.KernelGIdeal.Value.run (F := Ideal) m ρ,
    (θ_run Cert.ReferenceGIdeal.defs _ _).mono (fun r h c => by
      obtain ⟨a0, a1⟩ := ha c
      obtain ⟨h0, hk⟩ := h c
      refine ⟨h0.trans ?_, hk⟩
      rw [a0, a1]
      funext i
      rw [Cert.KernelIdeal.Hand.at2 i (i 0) (i 1) rfl rfl]
      exact (g_ref_at _ _ (i 0) (i 1)).trans (Cert.KernelGIdeal.Hand.result_at m c (i 0) (i 1)).symm)
      (Cert.ReferenceGIdeal.Value.run (F := Ideal) m' ρ')⟩

/-! ### The second half, onto the first -/

theorem s_bodies : (Cert.KernelS.defs₀ : Defs _ _ _ (Elt Bits) _) = Cert.KernelSIdeal.defs₀ := by
  unfold Cert.KernelS.defs₀ Cert.KernelSIdeal.defs₀
  refine congrArg Defs.onTc (funext fun l => ?_)
  match l with
  | 0 => rfl
theorem s_tables : (Cert.KernelS.defs (F := Bits)) = Cert.KernelSIdeal.defs (F := Bits) := congrArg (Pipeline.defs Cert.KernelS.pcfgs) s_bodies

theorem frame_s : Cert.quiescent_KernelS := fun m ρ _ => by
  rw [s_tables]
  exact Cert.KernelSIdeal.Gen.frame (F := Bits) m ρ

theorem frame_s_ideal : Cert.quiescent_KernelSIdeal := fun m ρ _ => Cert.KernelSIdeal.Gen.frame (F := Ideal) m ρ

theorem frame_s_ref : Cert.quiescent_ReferenceSIdeal := fun m ρ _ =>
  (θ_run Cert.ReferenceSIdeal.defs _ _).mono (fun r h => ⟨fun c => (h c).2, Idealize.ShloMosaic.sem_eq_zero_of_no_sems (by decide) r.2⟩)
    (Cert.ReferenceSIdeal.Value.run (F := Ideal) m ρ)

theorem preserves_s : Cert.preserves_KernelS_KernelSIdeal := trivial

theorem s_ref_at (x : FVec Ideal Cert.ReferenceSIdeal.S8192x2816 .bf16) (y : FVec Ideal Cert.ReferenceSIdeal.S1024x5632 .bf16) (z : FVec Ideal Cert.ReferenceSIdeal.S8192x1024 .f32) (a : Fin 8192) (b : Fin 1024) :
    (addf z (Host.dotGeneral Cert.ReferenceSIdeal.dot_S8192x2816_S1024x2816_S8192x1024_1_1_0_0_n_n none (extf .f32 x Cert.ReferenceSIdeal.Facts₀.bitsLt_bf16_f32) (extf .f32 (extractStridedSlice Cert.ReferenceSIdeal.S1024x2816 ![0, 2816] y Cert.ReferenceSIdeal.Facts₀.slices_S1024x5632_S1024x2816_0_2816) Cert.ReferenceSIdeal.Facts₀.bitsLt_bf16_f32))
        : FVec Ideal Cert.ReferenceSIdeal.S8192x1024 .f32) (ix2 a b)
      = z (ix2 a b) + ∑ r : Fin 2816, x (ix2 a r) * y (ix2 b ⟨2816 + r.val, by omega⟩) := by
  pointwise []

theorem algebraic_s : Cert.algebraic_KernelSIdeal_ReferenceSIdeal := fun m ρ m' ρ' _ ha =>
  ⟨fun c => Cert.KernelSIdeal.Value.G3 m c, Cert.KernelSIdeal.Value.run (F := Ideal) m ρ,
    (θ_run Cert.ReferenceSIdeal.defs _ _).mono (fun r h c => by
      obtain ⟨a0, a1, a2⟩ := ha c
      obtain ⟨h0, hk⟩ := h c
      refine ⟨h0.trans ?_, hk⟩
      rw [a0, a1, a2]
      funext i
      rw [Cert.KernelIdeal.Hand.at2 i (i 0) (i 1) rfl rfl]
      exact (s_ref_at _ _ _ (i 0) (i 1)).trans (Cert.KernelSIdeal.Hand.result_at m c (i 0) (i 1)).symm)
      (Cert.ReferenceSIdeal.Value.run (F := Ideal) m' ρ')⟩

end Cert.Proof

end
-- ==== Proof.DwOut.lean ====
/- The gradient of the output projection's weights: square tiles, in two blocks of rows. -/
module

public import proofs.«01_k».proof.Proof.Gen.KernelDwOutIdeal.Value
public import proofs.«01_k».proof.Proof.Gen.ReferenceDwOutIdeal.Run
public import Idealize.ShloMosaic.Lib.KernelVsHost
public import proofs.«01_k».proof.Proof.Blocked

@[expose] public section

set_option maxRecDepth 16384

noncomputable section

namespace Cert.KernelDwOutIdeal.Hand

open Cert.KernelDwOutIdeal Cert.KernelDwOutIdeal.Gen Cert.KernelDwOutIdeal.Value
open Idealize.ShloMosaic Idealize.ShloMosaic.TcCoe Idealize.ShloMosaic.Tactic
open Cert.KernelIdeal.Hand (at2)

attribute [local instance] Cert.KernelDwOutIdeal.Gen.facts

theorem zero2 : (![0, 0] : Fin 2 → Nat) = fun _ => 0 := by decide

/-! ### What a point leaves -/

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole)
  (a6 : Memref sig .tc .vmem S1024x1024 .f32) (h6 : a6.IsWhole)
  (x : Vec Ideal S1024x1024 .bf16) (y : Vec Ideal S1024x1024 .bf16) (s : Vec Ideal S1024x1024 .f32)

/-- The first point of a block leaves the two tiles' product over zero. -/
theorem first_sum (hc0) (hc1) : sout0_A_0 c i a3 h3 a4 h4 a5 h5 a6 h6 hc0 hc1 x y = k0_pay2 (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero zero2]
  simp only [View.readAt_eq_ld, h3.read_unread, h4.read_unread, View.ld_unit_zero (S := S1024x1024) zero2, View.readCov_unit_zero (S := S1024x1024) _ zero2]

/-- The points in between add their tiles' product to what the point before left. -/
theorem mid_sum (hc0) (hc1) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zero2]
  simp only [View.readAt_eq_ld, h3.read_unread, h4.read_unread, h6.read_unread, View.ld_unit_zero (S := S1024x1024) zero2]

/-- The last point of a block stores the sum, narrowed. -/
theorem last_out (hc0) (hc1) : out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zero2]
  simp only [View.readAt_eq_ld, h3.read_unread, h4.read_unread, h6.read_unread, View.ld_unit_zero (S := S1024x1024) zero2, View.readCov_unit_zero (S := S1024x1024) _ zero2]

end

/-! ### The tiles' product, at an index -/

theorem zero_at (a : Fin 1024) (b : Fin 1024) : k0_pay1 (F := Ideal) (ix2 a b) = 0 := by
  pointwise [k0_pay1]

theorem add_at (s : Vec Ideal S1024x1024 .f32) (x : Vec Ideal S1024x1024 .bf16) (y : Vec Ideal S1024x1024 .bf16) (a : Fin 1024) (b : Fin 1024) :
    (k0_pay2 s x y : Vec Ideal S1024x1024 .f32) (ix2 a b) = s (ix2 a b) + ∑ r : Fin 1024, x (ix2 r a) * y (ix2 r b) := by
  pointwise [k0_pay2]

/-! ### The tiles, over the arguments -/

variable (m : (ℓ : Loc nD τ sig) → Buf (Elt Ideal) ℓ) (c : Dev nD)

/-- The mixed rows and the cotangents, as launched. -/
abbrev act (r : Fin 8192) (a : Fin 2048) : EReal := m ((c : Thread nD τ).loc main_arg0) (ix2 r a)
abbrev cot (r : Fin 8192) (b : Fin 1024) : EReal := m ((c : Thread nD τ).loc main_arg1) (ix2 r b)

theorem t_lt (t : Fin cfg0.N) : t.val < 16 := lt_of_lt_of_eq t.isLt N_0

theorem index0 : ∀ t : Fin cfg0.N, (cfg0.win 0).index t 0 = t.val % 8 ∧ (cfg0.win 0).index t 1 = t.val / 8 := by decide +kernel
theorem index1 : ∀ t : Fin cfg0.N, (cfg0.win 1).index t 0 = t.val % 8 ∧ (cfg0.win 1).index t 1 = 0 := by decide +kernel

theorem tile0 (t : Fin cfg0.N) (r : Fin 1024) (a : Fin 1024) :
    iblk m c 0 t (ix2 r a) = act m c ⟨1024 * (t.val % 8) + r.val, by omega⟩ ⟨1024 * (t.val / 8) + a.val, by have := t_lt t; omega⟩ := by
  have ht := t_lt t
  obtain ⟨h0, h1⟩ := index0 t
  show V m c main_arg0 (((cfg0.win 0).rect t).emb (ix2 r a)) = _
  rw [V_main_arg0]
  exact congrArg (m ((c : Thread nD τ).loc main_arg0)) (at2 _ ⟨1024 * (t.val % 8) + r.val, by omega⟩ ⟨1024 * (t.val / 8) + a.val, by omega⟩
    (Blocked.place (Pipeline.Window.rect_emb_val (cfg0.win 0) t _ 0) h0) (Blocked.place (Pipeline.Window.rect_emb_val (cfg0.win 0) t _ 1) h1))

theorem tile1 (t : Fin cfg0.N) (r b : Fin 1024) :
    iblk m c 1 t (ix2 r b) = cot m c ⟨1024 * (t.val % 8) + r.val, by omega⟩ b := by
  obtain ⟨h0, h1⟩ := index1 t
  show V m c main_arg1 (((cfg0.win 1).rect t).emb (ix2 r b)) = _
  rw [V_main_arg1]
  exact congrArg (m ((c : Thread nD τ).loc main_arg1)) (at2 _ ⟨1024 * (t.val % 8) + r.val, by omega⟩ b
    (Blocked.place (Pipeline.Window.rect_emb_val (cfg0.win 1) t _ 0) h0) (Blocked.place0 (Pipeline.Window.rect_emb_val (cfg0.win 1) t _ 1) h1))

/-! ### The running sum -/

/-- What block `q` of rows adds at its place `(a, b)` with the tile pair `k`. -/
def part (a : Fin 1024) (b : Fin 1024) (q k : ℕ) : EReal :=
  if h : q < 2 then Blocked.share 8 1024 rfl (fun y => act m c y ⟨1024 * q + a.val, by omega⟩ * cot m c y b) k else 0

theorem tiles_sum (t : Fin cfg0.N) (a : Fin 1024) (b : Fin 1024) :
    (∑ r : Fin 1024, (show EReal from iblk m c 0 t (ix2 r a)) * (show EReal from iblk m c 1 t (ix2 r b)) : EReal) = part m c a b (t.val / 8) (t.val % 8) := by
  have ht := t_lt t
  unfold part Blocked.share
  rw [dif_pos (by omega)]
  refine Finset.sum_congr rfl fun r _ => ?_
  rw [dif_pos (by omega), tile0, tile1]

/-- The scratch after a block's first point. -/
theorem first_at (t : Fin cfg0.N) (h0 : t.val % 8 = 0) (a : Fin 1024) (b : Fin 1024) :
    ((outsAt0 m c t.val t.isLt).2 (ix2 a b) : EReal) = part m c a b (t.val / 8) 0 := by
  rw [outsAt0_A m c t h0 (by omega)]
  dsimp only
  rw [first_sum]
  refine (add_at _ _ _ a b).trans ?_
  rw [zero_at, zero_add, ← h0]
  exact tiles_sum m c t a b

/-- The scratch after a later one. -/
theorem mid_at (t : Fin cfg0.N) (h0 : t.val % 8 ≠ 0) (h1 : t.val % 8 ≠ 7) (a : Fin 1024) (b : Fin 1024) :
    ((outsAt0 m c t.val t.isLt).2 (ix2 a b) : EReal)
      = (show EReal from (outsAt0 m c (t.val - 1) (by omega)).2 (ix2 a b)) + part m c a b (t.val / 8) (t.val % 8) := by
  rw [outsAt0_B m c t h0 h1]
  dsimp only
  rw [mid_sum]
  exact (add_at _ _ _ a b).trans (congrArg (_ + ·) (tiles_sum m c t a b))

/-- A block's last point stores the sum over all the rows. -/
theorem out_at (t : Fin cfg0.N) (h7 : t.val % 8 = 7) (a : Fin 1024) (b : Fin 1024) :
    ((outsAt0 m c t.val t.isLt).1 (ix2 a b) : EReal)
      = ∑ y : Fin 8192, act m c y ⟨1024 * (t.val / 8) + a.val, by have := t_lt t; omega⟩ * cot m c y b := by
  have ht := t_lt t
  rw [outsAt0_C m c t (by omega) h7]
  dsimp only
  rw [last_out]
  refine (add_at _ _ _ a b).trans ((congrArg (_ + ·) ((tiles_sum m c t a b).trans (congrArg _ h7))).trans ?_)
  refine (Blocked.sum_of_parts 8 (by decide) (fun t => (outsAt0 m c t.val t.isLt).2 (ix2 a b)) (part m c a b)
    (fun t h => first_at m c t h a b) (fun t h h' => mid_at m c t h h' a b) t h7).trans ?_
  unfold part
  simp only [dif_pos (show t.val / 8 < 2 by omega)]
  exact Blocked.shares _ _

/-- The result at `(a, b)`: the product over all the rows. -/
theorem result_at (a : Fin 2048) (b : Fin 1024) : (G2 m c (ix2 a b) : EReal) = ∑ y : Fin 8192, cot m c y b * act m c y a := by
  have hp : pt2Of (ix2 a b) = 8 * (a.val / 1024) + 7 := by
    show 8 * (1 * (a.val / 1024 - 0) + 1 * (b.val / 1024 - 0)) + 7 = _
    omega
  have hlt : pt2Of (ix2 a b) < cfg0.N := lt_of_lt_of_eq (by rw [hp]; omega) N_0.symm
  unfold G2
  rw [dif_pos hlt, ← outsAt0_sweep m c _ hlt,
    at2 (loc2Of (ix2 a b)) ⟨a.val % 1024, by omega⟩ b rfl (Nat.mod_eq_of_lt b.isLt)]
  refine (out_at m c ⟨pt2Of (ix2 a b), hlt⟩ (by simp only [hp]; omega) ⟨a.val % 1024, by omega⟩ b).trans ?_
  refine Finset.sum_congr rfl fun y _ => (mul_comm _ _).trans (congrArg (cot m c y b * act m c y ·) (Fin.ext ?_))
  simp only [hp]; omega

end Cert.KernelDwOutIdeal.Hand

end
-- ==== Proof.DMixed.lean ====
/- The gradient of the mixed rows: each point's one product of square tiles is the reference's product at the tile's places. -/
module

public import proofs.«01_k».proof.Proof.Gen.KernelDMixedIdeal.Value
public import proofs.«01_k».proof.Proof.Gen.ReferenceDMixedIdeal.Run
public import Idealize.ShloMosaic.Lib.KernelVsHost
public import proofs.«01_k».proof.Proof.Blocked

@[expose] public section

set_option maxRecDepth 16384

noncomputable section

namespace Cert.KernelDMixedIdeal.Hand

open Cert.KernelDMixedIdeal Cert.KernelDMixedIdeal.Gen Cert.KernelDMixedIdeal.Value
open Idealize.ShloMosaic Idealize.ShloMosaic.TcCoe Idealize.ShloMosaic.Tactic
open Cert.KernelIdeal.Hand (at2)

attribute [local instance] Cert.KernelDMixedIdeal.Gen.facts

theorem zero2 : (![0, 0] : Fin 2 → Nat) = fun _ => 0 := by decide

/-- What a point stores: the tiles' product, narrowed. -/
theorem stored (x : Vec Ideal S1024x1024 .bf16) (y : Vec Ideal S1024x1024 .bf16) : out0_2 x y = k0_pay1 x y := by
  unfold out0_2
  rw [View.canon_unit_zero zero2]
  simp only [View.ld_unit_zero (S := S1024x1024) zero2]

theorem product_at (x : Vec Ideal S1024x1024 .bf16) (y : Vec Ideal S1024x1024 .bf16) (a : Fin 1024) (b : Fin 1024) :
    (k0_pay1 x y : Vec Ideal S1024x1024 .bf16) (ix2 a b) = ∑ r : Fin 1024, x (ix2 a r) * y (ix2 b r) := by
  pointwise [k0_pay1]

variable (m : (ℓ : Loc nD τ sig) → Buf (Elt Ideal) ℓ) (c : Dev nD)

/-- The cotangents and the weights, as launched. -/
abbrev cot (a : Fin 8192) (r : Fin 1024) : EReal := m ((c : Thread nD τ).loc main_arg0) (ix2 a r)
abbrev wgt (b : Fin 2048) (r : Fin 1024) : EReal := m ((c : Thread nD τ).loc main_arg1) (ix2 b r)

theorem t_lt (t : Fin cfg0.N) : t.val < 16 := lt_of_lt_of_eq t.isLt N_0

theorem index0 : ∀ t : Fin cfg0.N, (cfg0.win 0).index t 0 = t.val / 2 ∧ (cfg0.win 0).index t 1 = 0 := by decide +kernel
theorem index1 : ∀ t : Fin cfg0.N, (cfg0.win 1).index t 0 = t.val % 2 ∧ (cfg0.win 1).index t 1 = 0 := by decide +kernel
theorem index2 : ∀ t : Fin cfg0.N, (cfg0.win 2).index t 0 = t.val / 2 ∧ (cfg0.win 2).index t 1 = t.val % 2 := by decide +kernel
theorem flushes : ∀ t : Fin cfg0.N, (cfg0.win 2).flush t = true := by decide +kernel

theorem tile0 (t : Fin cfg0.N) (a r : Fin 1024) :
    iblk m c 0 t (ix2 a r) = cot m c ⟨1024 * (t.val / 2) + a.val, by have := t_lt t; omega⟩ r := by
  have ht := t_lt t
  obtain ⟨h0, h1⟩ := index0 t
  show V m c main_arg0 (((cfg0.win 0).rect t).emb (ix2 a r)) = _
  rw [V_main_arg0]
  exact congrArg (m ((c : Thread nD τ).loc main_arg0)) (at2 _ ⟨1024 * (t.val / 2) + a.val, by omega⟩ r
    (Blocked.place (Pipeline.Window.rect_emb_val (cfg0.win 0) t _ 0) h0) (Blocked.place0 (Pipeline.Window.rect_emb_val (cfg0.win 0) t _ 1) h1))

theorem tile1 (t : Fin cfg0.N) (b : Fin 1024) (r : Fin 1024) :
    iblk m c 1 t (ix2 b r) = wgt m c ⟨1024 * (t.val % 2) + b.val, by omega⟩ r := by
  obtain ⟨h0, h1⟩ := index1 t
  show V m c main_arg1 (((cfg0.win 1).rect t).emb (ix2 b r)) = _
  rw [V_main_arg1]
  exact congrArg (m ((c : Thread nD τ).loc main_arg1)) (at2 _ ⟨1024 * (t.val % 2) + b.val, by omega⟩ r
    (Blocked.place (Pipeline.Window.rect_emb_val (cfg0.win 1) t _ 0) h0) (Blocked.place0 (Pipeline.Window.rect_emb_val (cfg0.win 1) t _ 1) h1))

/-- The result in a point's tile. -/
theorem tile_at (t : Fin cfg0.N) (a : Fin 1024) (b : Fin 1024) :
    ((dats m 0 c).arrAt 2 cfg0.N (ix2 ⟨1024 * (t.val / 2) + a.val, by have := t_lt t; omega⟩ ⟨1024 * (t.val % 2) + b.val, by omega⟩) : EReal)
      = ∑ r : Fin 1024, cot m c ⟨1024 * (t.val / 2) + a.val, by have := t_lt t; omega⟩ r * wgt m c ⟨1024 * (t.val % 2) + b.val, by omega⟩ r := by
  have ht := t_lt t
  obtain ⟨h0, h1⟩ := index2 t
  have e : ((cfg0.win 2).rect t).emb (ix2 a b) = ix2 ⟨1024 * (t.val / 2) + a.val, by omega⟩ ⟨1024 * (t.val % 2) + b.val, by omega⟩ :=
    at2 _ ⟨1024 * (t.val / 2) + a.val, by omega⟩ ⟨1024 * (t.val % 2) + b.val, by omega⟩
      (Blocked.place (Pipeline.Window.rect_emb_val (cfg0.win 2) t _ 0) h0) (Blocked.place (Pipeline.Window.rect_emb_val (cfg0.win 2) t _ 1) h1)
  rw [← e]
  refine (congrFun ((blocks2 m c t (flushes t)).trans (flushed2 m c t)) (ix2 a b)).trans ?_
  show (out0_2 (iblk m c 0 t) (iblk m c 1 t) : Vec Ideal S1024x1024 .bf16) (ix2 a b) = _
  rw [stored]
  refine (product_at _ _ a b).trans (Finset.sum_congr rfl fun r _ => ?_)
  rw [tile0, tile1]

/-- The result at `(a, b)`. -/
theorem result_at (a : Fin 8192) (b : Fin 2048) : ((dats m 0 c).arrAt 2 cfg0.N (ix2 a b) : EReal) = ∑ r : Fin 1024, cot m c a r * wgt m c b r := by
  have h := tile_at m c ⟨2 * (a.val / 1024) + b.val / 1024, lt_of_lt_of_eq (by omega) N_0.symm⟩ ⟨a.val % 1024, by omega⟩ ⟨b.val % 1024, by omega⟩
  have ea : 1024 * ((2 * (a.val / 1024) + b.val / 1024) / 2) + a.val % 1024 = a.val := by omega
  have eb : 1024 * ((2 * (a.val / 1024) + b.val / 1024) % 2) + b.val % 1024 = b.val := by omega
  simp only [ea, eb] at h
  exact h

end Cert.KernelDMixedIdeal.Hand

end
-- ==== Proof.OutValue.lean ====
/- The output projection backwards: the frames, the weight gradient and the gradient of its argument against the reference's. -/
module

public import proofs.«01_k».proof.Defs
public import proofs.«01_k».proof.Proof.Gen.KernelDwOut
public import proofs.«01_k».proof.Proof.DwOut
public import proofs.«01_k».proof.Proof.Gen.KernelDMixed
public import proofs.«01_k».proof.Proof.DMixed
public import Idealize.ShloMosaic.Adequacy
public import Idealize.ShloMosaic.Init

@[expose] public section

set_option maxRecDepth 16384

noncomputable section

namespace Cert.Proof

open Idealize.ShloMosaic Idealize.SL.Sem

attribute [local instance] Cert.KernelDwOut.Gen.facts Cert.KernelDwOutIdeal.Gen.facts Cert.ReferenceDwOutIdeal.Gen.facts Cert.KernelDMixed.Gen.facts Cert.KernelDMixedIdeal.Gen.facts Cert.ReferenceDMixedIdeal.Gen.facts

/-! ### The weights' gradient: the frames, then the reference's product at an index and the value claim -/

theorem dw_out_bodies : (Cert.KernelDwOut.defs₀ : Defs _ _ _ (Elt Bits) _) = Cert.KernelDwOutIdeal.defs₀ := by
  unfold Cert.KernelDwOut.defs₀ Cert.KernelDwOutIdeal.defs₀
  refine congrArg Defs.onTc (funext fun l => ?_)
  match l with
  | 0 => rfl
theorem dw_out_tables : (Cert.KernelDwOut.defs (F := Bits)) = Cert.KernelDwOutIdeal.defs (F := Bits) := congrArg (Pipeline.defs Cert.KernelDwOut.pcfgs) dw_out_bodies

theorem frame_dw_out : Cert.quiescent_KernelDwOut := fun m ρ _ => by
  rw [dw_out_tables]
  exact Cert.KernelDwOutIdeal.Gen.frame (F := Bits) m ρ

theorem frame_dw_out_ideal : Cert.quiescent_KernelDwOutIdeal := fun m ρ _ => Cert.KernelDwOutIdeal.Gen.frame (F := Ideal) m ρ

theorem frame_dw_out_ref : Cert.quiescent_ReferenceDwOutIdeal := fun m ρ _ =>
  (θ_run Cert.ReferenceDwOutIdeal.defs _ _).mono (fun r h => ⟨fun c => (h c).2, Idealize.ShloMosaic.sem_eq_zero_of_no_sems (by decide) r.2⟩)
    (Cert.ReferenceDwOutIdeal.Value.run (F := Ideal) m ρ)

theorem preserves_dw_out : Cert.preserves_KernelDwOut_KernelDwOutIdeal := trivial

theorem dw_out_ref_at (x : FVec Ideal Cert.ReferenceDwOutIdeal.S8192x2048 .bf16) (y : FVec Ideal Cert.ReferenceDwOutIdeal.S8192x1024 .bf16) (a : Fin 2048) (b : Fin 1024) :
    (truncf .bf16 (transpose Cert.ReferenceDwOutIdeal.S2048x1024 [1, 0]
        (Host.dotGeneral Cert.ReferenceDwOutIdeal.dot_S8192x1024_S8192x2048_S1024x2048_0_0_1_1_n_n none (extf .f32 y Cert.ReferenceDwOutIdeal.Facts₀.bitsLt_bf16_f32) (extf .f32 x Cert.ReferenceDwOutIdeal.Facts₀.bitsLt_bf16_f32))
        Cert.ReferenceDwOutIdeal.Facts₀.transposes_S1024x2048_S2048x1024_1_0) Cert.ReferenceDwOutIdeal.Facts₀.bitsLt_bf16_f32 : FVec Ideal Cert.ReferenceDwOutIdeal.S2048x1024 .bf16) (ix2 a b)
      = ∑ r : Fin 8192, y (ix2 r b) * x (ix2 r a) := by
  pointwise []

theorem algebraic_dw_out : Cert.algebraic_KernelDwOutIdeal_ReferenceDwOutIdeal := fun m ρ m' ρ' _ ha =>
  ⟨fun c => Cert.KernelDwOutIdeal.Value.G2 m c, Cert.KernelDwOutIdeal.Value.run (F := Ideal) m ρ,
    (θ_run Cert.ReferenceDwOutIdeal.defs _ _).mono (fun r h c => by
      obtain ⟨a0, a1⟩ := ha c
      obtain ⟨h0, hk⟩ := h c
      refine ⟨h0.trans ?_, hk⟩
      rw [a0, a1]
      funext i
      rw [Cert.KernelIdeal.Hand.at2 i (i 0) (i 1) rfl rfl]
      exact (dw_out_ref_at _ _ (i 0) (i 1)).trans (Cert.KernelDwOutIdeal.Hand.result_at m c (i 0) (i 1)).symm)
      (Cert.ReferenceDwOutIdeal.Value.run (F := Ideal) m' ρ')⟩

/-! ### The mixed rows' gradient: the same of its one-point blocks -/

theorem d_mixed_bodies : (Cert.KernelDMixed.defs₀ : Defs _ _ _ (Elt Bits) _) = Cert.KernelDMixedIdeal.defs₀ := by
  unfold Cert.KernelDMixed.defs₀ Cert.KernelDMixedIdeal.defs₀
  refine congrArg Defs.onTc (funext fun l => ?_)
  match l with
  | 0 => rfl
theorem d_mixed_tables : (Cert.KernelDMixed.defs (F := Bits)) = Cert.KernelDMixedIdeal.defs (F := Bits) := congrArg (Pipeline.defs Cert.KernelDMixed.pcfgs) d_mixed_bodies

theorem frame_d_mixed : Cert.quiescent_KernelDMixed := fun m ρ _ => by
  rw [d_mixed_tables]
  exact Cert.KernelDMixedIdeal.Gen.frame (F := Bits) m ρ

theorem frame_d_mixed_ideal : Cert.quiescent_KernelDMixedIdeal := fun m ρ _ => Cert.KernelDMixedIdeal.Gen.frame (F := Ideal) m ρ

theorem frame_d_mixed_ref : Cert.quiescent_ReferenceDMixedIdeal := fun m ρ _ =>
  (θ_run Cert.ReferenceDMixedIdeal.defs _ _).mono (fun r h => ⟨fun c => (h c).2, Idealize.ShloMosaic.sem_eq_zero_of_no_sems (by decide) r.2⟩)
    (Cert.ReferenceDMixedIdeal.Value.run (F := Ideal) m ρ)

theorem preserves_d_mixed : Cert.preserves_KernelDMixed_KernelDMixedIdeal := trivial

theorem d_mixed_ref_at (x : FVec Ideal Cert.ReferenceDMixedIdeal.S8192x1024 .bf16) (y : FVec Ideal Cert.ReferenceDMixedIdeal.S2048x1024 .bf16) (a : Fin 8192) (b : Fin 2048) :
    (truncf .bf16 (Host.dotGeneral Cert.ReferenceDMixedIdeal.dot_S8192x1024_S2048x1024_S8192x2048_1_1_0_0_n_n none (extf .f32 x Cert.ReferenceDMixedIdeal.Facts₀.bitsLt_bf16_f32) (extf .f32 y Cert.ReferenceDMixedIdeal.Facts₀.bitsLt_bf16_f32))
        Cert.ReferenceDMixedIdeal.Facts₀.bitsLt_bf16_f32 : FVec Ideal Cert.ReferenceDMixedIdeal.S8192x2048 .bf16) (ix2 a b)
      = ∑ r : Fin 1024, x (ix2 a r) * y (ix2 b r) := by
  pointwise []

theorem algebraic_d_mixed : Cert.algebraic_KernelDMixedIdeal_ReferenceDMixedIdeal := fun m ρ m' ρ' _ ha =>
  ⟨fun c => (Cert.KernelDMixedIdeal.Gen.dats m 0 c).arrAt 2 Cert.KernelDMixedIdeal.cfg0.N, Cert.KernelDMixedIdeal.Value.run_blocks (F := Ideal) m ρ,
    (θ_run Cert.ReferenceDMixedIdeal.defs _ _).mono (fun r h c => by
      obtain ⟨a0, a1⟩ := ha c
      obtain ⟨h0, hk⟩ := h c
      refine ⟨h0.trans ?_, hk⟩
      rw [a0, a1]
      funext i
      rw [Cert.KernelIdeal.Hand.at2 i (i 0) (i 1) rfl rfl]
      exact (d_mixed_ref_at _ _ (i 0) (i 1)).trans (Cert.KernelDMixedIdeal.Hand.result_at m c (i 0) (i 1)).symm)
      (Cert.ReferenceDMixedIdeal.Value.run (F := Ideal) m' ρ')⟩

end Cert.Proof

end
-- ==== Proof.OutProj.lean ====
/- The output projection onto the layer's rows: two points to a block of rows, half the mixed columns summed in each. -/
module

public import proofs.«01_k».proof.Proof.Gen.KernelOutProjIdeal.Value
public import proofs.«01_k».proof.Proof.Gen.ReferenceOutProjIdeal.Run
public import Idealize.ShloMosaic.Lib.KernelVsHost
public import proofs.«01_k».proof.Proof.Blocked

@[expose] public section

set_option maxRecDepth 16384

noncomputable section

namespace Cert.KernelOutProjIdeal.Hand

open Cert.KernelOutProjIdeal Cert.KernelOutProjIdeal.Gen Cert.KernelOutProjIdeal.Value
open Idealize.ShloMosaic Idealize.ShloMosaic.TcCoe Idealize.ShloMosaic.Tactic
open Cert.KernelIdeal.Hand (at2)

attribute [local instance] Cert.KernelOutProjIdeal.Gen.facts

theorem zero2 : (![0, 0] : Fin 2 → Nat) = fun _ => 0 := by decide

/-! ### What a point leaves -/

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x : Vec Ideal S1024x1024 .bf16) (y : Vec Ideal S1024x1024 .bf16) (z s : Vec Ideal S1024x1024 .f32)

/-- The first point of a block leaves the two tiles' product over zero. -/
theorem first_sum (hc0) (hc1) : sout0_A_0 c i a3 h3 a4 h4 a5 h5 a6 h6 a7 h7 hc0 hc1 x y z = k0_pay2 (k0_pay1 (F := Ideal)) x y := by
  unfold sout0_A_0
  rw [View.read_writes_eq_canon _ _ _ (scover0_A_0 c i a3 h3 a4 h4 a5 h5 a6 h6 a7 h7 hc0 hc1 x y z)]
  unfold kernelRun0_A
  dsimp only
  sl_unfold_words
  rw [View.canon_cons_unit_zero zero2]
  simp only [View.readAt_eq_ld, h3.read_unread, h4.read_unread, View.ld_unit_zero (S := S1024x1024) zero2, View.readCov_unit_zero (S := S1024x1024) _ zero2]

/-- The second adds its own, and stores the sum with the rows' tile added. -/
theorem last_out (hc0) (hc1) : out0_B_3 c i a3 h3 a4 h4 a5 h5 a6 h6 a7 h7 hc0 hc1 x y z s = k0_pay3 (k0_pay2 s x y) z := by
  unfold out0_B_3
  rw [View.read_writes_eq_canon _ _ _ (cover0_B_3 c i a3 h3 a4 h4 a5 h5 a6 h6 a7 h7 hc0 hc1 x y z s)]
  unfold kernelRun0_B
  dsimp only
  sl_unfold_words
  rw [View.canon_unit_zero zero2]
  simp only [View.readAt_eq_ld, h3.read_unread, h4.read_unread, h5.read_unread, h7.read_unread, View.ld_unit_zero (S := S1024x1024) zero2, View.readCov_unit_zero (S := S1024x1024) _ zero2]

end

/-! ### The tiles' product, at an index -/

theorem zero_at (a b : Fin 1024) : k0_pay1 (F := Ideal) (ix2 a b) = 0 := by
  pointwise [k0_pay1]

theorem add_at (s : Vec Ideal S1024x1024 .f32) (x : Vec Ideal S1024x1024 .bf16) (y : Vec Ideal S1024x1024 .bf16) (a b : Fin 1024) :
    (k0_pay2 s x y : Vec Ideal S1024x1024 .f32) (ix2 a b) = s (ix2 a b) + ∑ r : Fin 1024, x (ix2 a r) * y (ix2 r b) := by
  pointwise [k0_pay2]

theorem onto_at (s z : Vec Ideal S1024x1024 .f32) (a b : Fin 1024) :
    (k0_pay3 s z : Vec Ideal S1024x1024 .f32) (ix2 a b) = s (ix2 a b) + z (ix2 a b) := by
  pointwise [k0_pay3]

/-! ### The tiles, over the arguments -/

variable (m : (ℓ : Loc nD τ sig) → Buf (Elt Ideal) ℓ) (c : Dev nD)

/-- The mixed rows, the weights and the rows that the product is added onto, as launched. -/
abbrev mix (a : Fin 8192) (r : Fin 2048) : EReal := m ((c : Thread nD τ).loc main_arg0) (ix2 a r)
abbrev wgt (r : Fin 2048) (b : Fin 1024) : EReal := m ((c : Thread nD τ).loc main_arg1) (ix2 r b)
abbrev row (a : Fin 8192) (b : Fin 1024) : EReal := m ((c : Thread nD τ).loc main_arg2) (ix2 a b)

theorem t_lt (t : Fin cfg0.N) : t.val < 16 := lt_of_lt_of_eq t.isLt N_0

theorem index0 : ∀ t : Fin cfg0.N, (cfg0.win 0).index t 0 = t.val / 2 ∧ (cfg0.win 0).index t 1 = t.val % 2 := by decide +kernel
theorem index1 : ∀ t : Fin cfg0.N, (cfg0.win 1).index t 0 = t.val % 2 ∧ (cfg0.win 1).index t 1 = 0 := by decide +kernel
theorem index2 : ∀ t : Fin cfg0.N, (cfg0.win 2).index t 0 = t.val / 2 ∧ (cfg0.win 2).index t 1 = 0 := by decide +kernel

theorem tile0 (t : Fin cfg0.N) (a : Fin 1024) (r : Fin 1024) :
    iblk m c 0 t (ix2 a r) = mix m c ⟨1024 * (t.val / 2) + a.val, by have := t_lt t; omega⟩ ⟨1024 * (t.val % 2) + r.val, by omega⟩ := by
  have ht := t_lt t
  obtain ⟨h0, h1⟩ := index0 t
  show V m c main_arg0 (((cfg0.win 0).rect t).emb (ix2 a r)) = _
  rw [V_main_arg0]
  exact congrArg (m ((c : Thread nD τ).loc main_arg0)) (at2 _ ⟨1024 * (t.val / 2) + a.val, by omega⟩ ⟨1024 * (t.val % 2) + r.val, by omega⟩
    (Blocked.place (Pipeline.Window.rect_emb_val (cfg0.win 0) t _ 0) h0) (Blocked.place (Pipeline.Window.rect_emb_val (cfg0.win 0) t _ 1) h1))

theorem tile1 (t : Fin cfg0.N) (r : Fin 1024) (b : Fin 1024) :
    iblk m c 1 t (ix2 r b) = wgt m c ⟨1024 * (t.val % 2) + r.val, by omega⟩ b := by
  obtain ⟨h0, h1⟩ := index1 t
  show V m c main_arg1 (((cfg0.win 1).rect t).emb (ix2 r b)) = _
  rw [V_main_arg1]
  exact congrArg (m ((c : Thread nD τ).loc main_arg1)) (at2 _ ⟨1024 * (t.val % 2) + r.val, by omega⟩ b
    (Blocked.place (Pipeline.Window.rect_emb_val (cfg0.win 1) t _ 0) h0) (Blocked.place0 (Pipeline.Window.rect_emb_val (cfg0.win 1) t _ 1) h1))

theorem tile2 (t : Fin cfg0.N) (a b : Fin 1024) : iblk m c 2 t (ix2 a b) = row m c ⟨1024 * (t.val / 2) + a.val, by have := t_lt t; omega⟩ b := by
  have ht := t_lt t
  obtain ⟨h0, h1⟩ := index2 t
  show V m c main_arg2 (((cfg0.win 2).rect t).emb (ix2 a b)) = _
  rw [V_main_arg2]
  exact congrArg (m ((c : Thread nD τ).loc main_arg2)) (at2 _ ⟨1024 * (t.val / 2) + a.val, by omega⟩ b
    (Blocked.place (Pipeline.Window.rect_emb_val (cfg0.win 2) t _ 0) h0) (Blocked.place0 (Pipeline.Window.rect_emb_val (cfg0.win 2) t _ 1) h1))

/-! ### The sum -/

/-- What block `q` of rows adds at its place `(a, b)` with the tile pair `k`. -/
def part (a b : Fin 1024) (q k : ℕ) : EReal :=
  if h : q < 8 then Blocked.share 2 1024 rfl (fun y => mix m c ⟨1024 * q + a.val, by omega⟩ y * wgt m c y b) k else 0

theorem tiles_sum (t : Fin cfg0.N) (a b : Fin 1024) :
    (∑ r : Fin 1024, (show EReal from iblk m c 0 t (ix2 a r)) * (show EReal from iblk m c 1 t (ix2 r b)) : EReal) = part m c a b (t.val / 2) (t.val % 2) := by
  have ht := t_lt t
  unfold part Blocked.share
  rw [dif_pos (by omega)]
  refine Finset.sum_congr rfl fun r _ => ?_
  rw [dif_pos (by omega), tile0, tile1]

/-- The scratch after a block's first point. -/
theorem first_at (t : Fin cfg0.N) (h0 : t.val % 2 = 0) (a b : Fin 1024) :
    ((outsAt0 m c t.val t.isLt).2 (ix2 a b) : EReal) = part m c a b (t.val / 2) 0 := by
  rw [outsAt0_A m c t h0 (by omega)]
  dsimp only
  rw [first_sum]
  refine (add_at _ _ _ a b).trans ?_
  rw [zero_at, zero_add, ← h0]
  exact tiles_sum m c t a b

/-- A block's second point stores the sum over all the columns, added onto the rows. -/
theorem out_at (t : Fin cfg0.N) (h1 : t.val % 2 = 1) (a b : Fin 1024) :
    ((outsAt0 m c t.val t.isLt).1 (ix2 a b) : EReal)
      = row m c ⟨1024 * (t.val / 2) + a.val, by have := t_lt t; omega⟩ b
        + ∑ y : Fin 2048, mix m c ⟨1024 * (t.val / 2) + a.val, by have := t_lt t; omega⟩ y * wgt m c y b := by
  have ht := t_lt t
  rw [outsAt0_B m c t (by omega) h1]
  dsimp only
  rw [last_out]
  refine (onto_at _ _ a b).trans ((add_comm _ _).trans ?_)
  refine congrArg₂ (fun u v : EReal => u + v) (tile2 m c t a b) ?_
  refine (add_at _ _ _ a b).trans ((congrArg (_ + ·) ((tiles_sum m c t a b).trans (congrArg _ h1))).trans ?_)
  refine (Blocked.sum_of_parts 2 (by decide) (fun t => (outsAt0 m c t.val t.isLt).2 (ix2 a b)) (part m c a b)
    (fun t h => first_at m c t h a b) (fun t h h' => absurd h (by omega)) t h1).trans ?_
  unfold part
  simp only [dif_pos (show t.val / 2 < 8 by omega)]
  exact Blocked.shares _ _

/-- The result at `(a, b)`: the row, and the product over all the columns. -/
theorem result_at (a : Fin 8192) (b : Fin 1024) : (G3 m c (ix2 a b) : EReal) = row m c a b + ∑ y : Fin 2048, mix m c a y * wgt m c y b := by
  have hp : pt3Of (ix2 a b) = 2 * (a.val / 1024) + 1 := by
    show 2 * (1 * (a.val / 1024 - 0) + 1 * (b.val / 1024 - 0)) + 1 = _
    omega
  have hlt : pt3Of (ix2 a b) < cfg0.N := lt_of_lt_of_eq (by rw [hp]; omega) N_0.symm
  unfold G3
  rw [dif_pos hlt, ← outsAt0_sweep m c _ hlt,
    at2 (loc3Of (ix2 a b)) ⟨a.val % 1024, by omega⟩ b rfl (Nat.mod_eq_of_lt b.isLt)]
  refine (out_at m c ⟨pt3Of (ix2 a b), hlt⟩ (by simp only [hp]; omega) ⟨a.val % 1024, by omega⟩ b).trans ?_
  refine congrArg (fun r => row m c r b + ∑ y : Fin 2048, mix m c r y * wgt m c y b) (Fin.ext ?_)
  simp only [hp]; omega

end Cert.KernelOutProjIdeal.Hand

end
-- ==== Proof.DownProj.lean ====
/- The down-projection onto the layer's rows: two points to a block of rows, half the gated activations summed in each. -/
module

public import proofs.«01_k».proof.Proof.Gen.KernelDownProjIdeal.Value
public import proofs.«01_k».proof.Proof.Gen.ReferenceDownProjIdeal.Run
public import Idealize.ShloMosaic.Lib.KernelVsHost
public import proofs.«01_k».proof.Proof.Blocked

@[expose] public section

set_option maxRecDepth 16384

noncomputable section

namespace Cert.KernelDownProjIdeal.Hand

open Cert.KernelDownProjIdeal Cert.KernelDownProjIdeal.Gen Cert.KernelDownProjIdeal.Value
open Idealize.ShloMosaic Idealize.ShloMosaic.TcCoe Idealize.ShloMosaic.Tactic
open Cert.KernelIdeal.Hand (at2)

attribute [local instance] Cert.KernelDownProjIdeal.Gen.facts

theorem zero2 : (![0, 0] : Fin 2 → Nat) = fun _ => 0 := by decide

/-! ### What a point leaves -/

section
variable (c : Dev nD) (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x : Vec Ideal S1024x1408 .bf16) (y : Vec Ideal S1408x1024 .bf16) (z s : Vec Ideal S1024x1024 .f32)

/-- The first point of a block leaves the two tiles' product over zero. -/
theorem first_sum (hc0) (hc1) : sout0_A_0 c i a3 h3 a4 h4 a5 h5 a6 h6 a7 h7 hc0 hc1 x y z = k0_pay2 (k0_pay1 (F := Ideal)) x y := by
  unfold sout0_A_0
  rw [View.read_writes_eq_canon _ _ _ (scover0_A_0 c i a3 h3 a4 h4 a5 h5 a6 h6 a7 h7 hc0 hc1 x y z)]
  unfold kernelRun0_A
  dsimp only
  sl_unfold_words
  rw [View.canon_cons_unit_zero zero2]
  simp only [View.readAt_eq_ld, h3.read_unread, h4.read_unread, View.ld_unit_zero (S := S1024x1408) zero2, View.ld_unit_zero (S := S1408x1024) zero2, View.readCov_unit_zero (S := S1024x1024) _ zero2]

/-- The second adds its own, and stores the sum with the rows' tile added. -/
theorem last_out (hc0) (hc1) : out0_B_3 c i a3 h3 a4 h4 a5 h5 a6 h6 a7 h7 hc0 hc1 x y z s = k0_pay3 (k0_pay2 s x y) z := by
  unfold out0_B_3
  rw [View.read_writes_eq_canon _ _ _ (cover0_B_3 c i a3 h3 a4 h4 a5 h5 a6 h6 a7 h7 hc0 hc1 x y z s)]
  unfold kernelRun0_B
  dsimp only
  sl_unfold_words
  rw [View.canon_unit_zero zero2]
  simp only [View.readAt_eq_ld, h3.read_unread, h4.read_unread, h5.read_unread, h7.read_unread, View.ld_unit_zero (S := S1024x1024) zero2, View.ld_unit_zero (S := S1024x1408) zero2, View.ld_unit_zero (S := S1408x1024) zero2, View.readCov_unit_zero (S := S1024x1024) _ zero2]

end

/-! ### The tiles' product, at an index -/

theorem zero_at (a b : Fin 1024) : k0_pay1 (F := Ideal) (ix2 a b) = 0 := by
  pointwise [k0_pay1]

theorem add_at (s : Vec Ideal S1024x1024 .f32) (x : Vec Ideal S1024x1408 .bf16) (y : Vec Ideal S1408x1024 .bf16) (a b : Fin 1024) :
    (k0_pay2 s x y : Vec Ideal S1024x1024 .f32) (ix2 a b) = s (ix2 a b) + ∑ r : Fin 1408, x (ix2 a r) * y (ix2 r b) := by
  pointwise [k0_pay2]

theorem onto_at (s z : Vec Ideal S1024x1024 .f32) (a b : Fin 1024) :
    (k0_pay3 s z : Vec Ideal S1024x1024 .f32) (ix2 a b) = s (ix2 a b) + z (ix2 a b) := by
  pointwise [k0_pay3]

/-! ### The tiles, over the arguments -/

variable (m : (ℓ : Loc nD τ sig) → Buf (Elt Ideal) ℓ) (c : Dev nD)

/-- The gated activations, the weights and the rows that the product is added onto, as launched. -/
abbrev act (a : Fin 8192) (r : Fin 2816) : EReal := m ((c : Thread nD τ).loc main_arg0) (ix2 a r)
abbrev wgt (r : Fin 2816) (b : Fin 1024) : EReal := m ((c : Thread nD τ).loc main_arg1) (ix2 r b)
abbrev row (a : Fin 8192) (b : Fin 1024) : EReal := m ((c : Thread nD τ).loc main_arg2) (ix2 a b)

theorem t_lt (t : Fin cfg0.N) : t.val < 16 := lt_of_lt_of_eq t.isLt N_0

theorem index0 : ∀ t : Fin cfg0.N, (cfg0.win 0).index t 0 = t.val / 2 ∧ (cfg0.win 0).index t 1 = t.val % 2 := by decide +kernel
theorem index1 : ∀ t : Fin cfg0.N, (cfg0.win 1).index t 0 = t.val % 2 ∧ (cfg0.win 1).index t 1 = 0 := by decide +kernel
theorem index2 : ∀ t : Fin cfg0.N, (cfg0.win 2).index t 0 = t.val / 2 ∧ (cfg0.win 2).index t 1 = 0 := by decide +kernel

theorem tile0 (t : Fin cfg0.N) (a : Fin 1024) (r : Fin 1408) :
    iblk m c 0 t (ix2 a r) = act m c ⟨1024 * (t.val / 2) + a.val, by have := t_lt t; omega⟩ ⟨1408 * (t.val % 2) + r.val, by omega⟩ := by
  have ht := t_lt t
  obtain ⟨h0, h1⟩ := index0 t
  show V m c main_arg0 (((cfg0.win 0).rect t).emb (ix2 a r)) = _
  rw [V_main_arg0]
  exact congrArg (m ((c : Thread nD τ).loc main_arg0)) (at2 _ ⟨1024 * (t.val / 2) + a.val, by omega⟩ ⟨1408 * (t.val % 2) + r.val, by omega⟩
    (Blocked.place (Pipeline.Window.rect_emb_val (cfg0.win 0) t _ 0) h0) (Blocked.place (Pipeline.Window.rect_emb_val (cfg0.win 0) t _ 1) h1))

theorem tile1 (t : Fin cfg0.N) (r : Fin 1408) (b : Fin 1024) :
    iblk m c 1 t (ix2 r b) = wgt m c ⟨1408 * (t.val % 2) + r.val, by omega⟩ b := by
  obtain ⟨h0, h1⟩ := index1 t
  show V m c main_arg1 (((cfg0.win 1).rect t).emb (ix2 r b)) = _
  rw [V_main_arg1]
  exact congrArg (m ((c : Thread nD τ).loc main_arg1)) (at2 _ ⟨1408 * (t.val % 2) + r.val, by omega⟩ b
    (Blocked.place (Pipeline.Window.rect_emb_val (cfg0.win 1) t _ 0) h0) (Blocked.place0 (Pipeline.Window.rect_emb_val (cfg0.win 1) t _ 1) h1))

theorem tile2 (t : Fin cfg0.N) (a b : Fin 1024) : iblk m c 2 t (ix2 a b) = row m c ⟨1024 * (t.val / 2) + a.val, by have := t_lt t; omega⟩ b := by
  have ht := t_lt t
  obtain ⟨h0, h1⟩ := index2 t
  show V m c main_arg2 (((cfg0.win 2).rect t).emb (ix2 a b)) = _
  rw [V_main_arg2]
  exact congrArg (m ((c : Thread nD τ).loc main_arg2)) (at2 _ ⟨1024 * (t.val / 2) + a.val, by omega⟩ b
    (Blocked.place (Pipeline.Window.rect_emb_val (cfg0.win 2) t _ 0) h0) (Blocked.place0 (Pipeline.Window.rect_emb_val (cfg0.win 2) t _ 1) h1))

/-! ### The sum -/

/-- What block `q` of rows adds at its place `(a, b)` with the tile pair `k`. -/
def part (a b : Fin 1024) (q k : ℕ) : EReal :=
  if h : q < 8 then Blocked.share 2 1408 rfl (fun y => act m c ⟨1024 * q + a.val, by omega⟩ y * wgt m c y b) k else 0

theorem tiles_sum (t : Fin cfg0.N) (a b : Fin 1024) :
    (∑ r : Fin 1408, (show EReal from iblk m c 0 t (ix2 a r)) * (show EReal from iblk m c 1 t (ix2 r b)) : EReal) = part m c a b (t.val / 2) (t.val % 2) := by
  have ht := t_lt t
  unfold part Blocked.share
  rw [dif_pos (by omega)]
  refine Finset.sum_congr rfl fun r _ => ?_
  rw [dif_pos (by omega), tile0, tile1]

/-- The scratch after a block's first point. -/
theorem first_at (t : Fin cfg0.N) (h0 : t.val % 2 = 0) (a b : Fin 1024) :
    ((outsAt0 m c t.val t.isLt).2 (ix2 a b) : EReal) = part m c a b (t.val / 2) 0 := by
  rw [outsAt0_A m c t h0 (by omega)]
  dsimp only
  rw [first_sum]
  refine (add_at _ _ _ a b).trans ?_
  rw [zero_at, zero_add, ← h0]
  exact tiles_sum m c t a b

/-- A block's second point stores the sum over all the columns, added onto the rows. -/
theorem out_at (t : Fin cfg0.N) (h1 : t.val % 2 = 1) (a b : Fin 1024) :
    ((outsAt0 m c t.val t.isLt).1 (ix2 a b) : EReal)
      = row m c ⟨1024 * (t.val / 2) + a.val, by have := t_lt t; omega⟩ b
        + ∑ y : Fin 2816, act m c ⟨1024 * (t.val / 2) + a.val, by have := t_lt t; omega⟩ y * wgt m c y b := by
  have ht := t_lt t
  rw [outsAt0_B m c t (by omega) h1]
  dsimp only
  rw [last_out]
  refine (onto_at _ _ a b).trans ((add_comm _ _).trans ?_)
  refine congrArg₂ (fun u v : EReal => u + v) (tile2 m c t a b) ?_
  refine (add_at _ _ _ a b).trans ((congrArg (_ + ·) ((tiles_sum m c t a b).trans (congrArg _ h1))).trans ?_)
  refine (Blocked.sum_of_parts 2 (by decide) (fun t => (outsAt0 m c t.val t.isLt).2 (ix2 a b)) (part m c a b)
    (fun t h => first_at m c t h a b) (fun t h h' => absurd h (by omega)) t h1).trans ?_
  unfold part
  simp only [dif_pos (show t.val / 2 < 8 by omega)]
  exact Blocked.shares _ _

/-- The result at `(a, b)`: the row, and the product over all the columns. -/
theorem result_at (a : Fin 8192) (b : Fin 1024) : (G3 m c (ix2 a b) : EReal) = row m c a b + ∑ y : Fin 2816, act m c a y * wgt m c y b := by
  have hp : pt3Of (ix2 a b) = 2 * (a.val / 1024) + 1 := by
    show 2 * (1 * (a.val / 1024 - 0) + 1 * (b.val / 1024 - 0)) + 1 = _
    omega
  have hlt : pt3Of (ix2 a b) < cfg0.N := lt_of_lt_of_eq (by rw [hp]; omega) N_0.symm
  unfold G3
  rw [dif_pos hlt, ← outsAt0_sweep m c _ hlt,
    at2 (loc3Of (ix2 a b)) ⟨a.val % 1024, by omega⟩ b rfl (Nat.mod_eq_of_lt b.isLt)]
  refine (out_at m c ⟨pt3Of (ix2 a b), hlt⟩ (by simp only [hp]; omega) ⟨a.val % 1024, by omega⟩ b).trans ?_
  refine congrArg (fun r => row m c r b + ∑ y : Fin 2816, act m c r y * wgt m c y b) (Fin.ext ?_)
  simp only [hp]; omega

end Cert.KernelDownProjIdeal.Hand

end
-- ==== Proof.ForwardValue.lean ====
/- The two projections back onto the layer's rows, forwards: the frames, and the arrays against the reference's. -/
module

public import proofs.«01_k».proof.Defs
public import proofs.«01_k».proof.Proof.Gen.KernelOutProj
public import proofs.«01_k».proof.Proof.OutProj
public import proofs.«01_k».proof.Proof.Gen.KernelDownProj
public import proofs.«01_k».proof.Proof.DownProj
public import Idealize.ShloMosaic.Adequacy
public import Idealize.ShloMosaic.Init

@[expose] public section

set_option maxRecDepth 16384

noncomputable section

namespace Cert.Proof

open Idealize.ShloMosaic Idealize.SL.Sem

attribute [local instance] Cert.KernelOutProj.Gen.facts Cert.KernelOutProjIdeal.Gen.facts Cert.ReferenceOutProjIdeal.Gen.facts Cert.KernelDownProj.Gen.facts Cert.KernelDownProjIdeal.Gen.facts Cert.ReferenceDownProjIdeal.Gen.facts

/-! ### The output projection: the frames, then the reference's sum at an index and the value claim -/

theorem out_proj_bodies : (Cert.KernelOutProj.defs₀ : Defs _ _ _ (Elt Bits) _) = Cert.KernelOutProjIdeal.defs₀ := by
  unfold Cert.KernelOutProj.defs₀ Cert.KernelOutProjIdeal.defs₀
  refine congrArg Defs.onTc (funext fun l => ?_)
  match l with
  | 0 => rfl
theorem out_proj_tables : (Cert.KernelOutProj.defs (F := Bits)) = Cert.KernelOutProjIdeal.defs (F := Bits) := congrArg (Pipeline.defs Cert.KernelOutProj.pcfgs) out_proj_bodies

theorem frame_out_proj : Cert.quiescent_KernelOutProj := fun m ρ _ => by
  rw [out_proj_tables]
  exact Cert.KernelOutProjIdeal.Gen.frame (F := Bits) m ρ

theorem frame_out_proj_ideal : Cert.quiescent_KernelOutProjIdeal := fun m ρ _ => Cert.KernelOutProjIdeal.Gen.frame (F := Ideal) m ρ

theorem frame_out_proj_ref : Cert.quiescent_ReferenceOutProjIdeal := fun m ρ _ =>
  (θ_run Cert.ReferenceOutProjIdeal.defs _ _).mono (fun r h => ⟨fun c => (h c).2, Idealize.ShloMosaic.sem_eq_zero_of_no_sems (by decide) r.2⟩)
    (Cert.ReferenceOutProjIdeal.Value.run (F := Ideal) m ρ)

theorem preserves_out_proj : Cert.preserves_KernelOutProj_KernelOutProjIdeal := trivial

theorem out_proj_ref_at (x : FVec Ideal Cert.ReferenceOutProjIdeal.S8192x2048 .bf16) (y : FVec Ideal Cert.ReferenceOutProjIdeal.S2048x1024 .bf16) (z : FVec Ideal Cert.ReferenceOutProjIdeal.S8192x1024 .f32) (a : Fin 8192) (b : Fin 1024) :
    (addf z (Host.dotGeneral Cert.ReferenceOutProjIdeal.dot_S8192x2048_S2048x1024_S8192x1024_1_0_0_1_n_n none (extf .f32 x Cert.ReferenceOutProjIdeal.Facts₀.bitsLt_bf16_f32) (extf .f32 y Cert.ReferenceOutProjIdeal.Facts₀.bitsLt_bf16_f32))
        : FVec Ideal Cert.ReferenceOutProjIdeal.S8192x1024 .f32) (ix2 a b)
      = z (ix2 a b) + ∑ r : Fin 2048, x (ix2 a r) * y (ix2 r b) := by
  pointwise []

theorem algebraic_out_proj : Cert.algebraic_KernelOutProjIdeal_ReferenceOutProjIdeal := fun m ρ m' ρ' _ ha =>
  ⟨fun c => Cert.KernelOutProjIdeal.Value.G3 m c, Cert.KernelOutProjIdeal.Value.run (F := Ideal) m ρ,
    (θ_run Cert.ReferenceOutProjIdeal.defs _ _).mono (fun r h c => by
      obtain ⟨a0, a1, a2⟩ := ha c
      obtain ⟨h0, hk⟩ := h c
      refine ⟨h0.trans ?_, hk⟩
      rw [a0, a1, a2]
      funext i
      rw [Cert.KernelIdeal.Hand.at2 i (i 0) (i 1) rfl rfl]
      exact (out_proj_ref_at _ _ _ (i 0) (i 1)).trans (Cert.KernelOutProjIdeal.Hand.result_at m c (i 0) (i 1)).symm)
      (Cert.ReferenceOutProjIdeal.Value.run (F := Ideal) m' ρ')⟩

/-! ### The down-projection -/

theorem down_proj_bodies : (Cert.KernelDownProj.defs₀ : Defs _ _ _ (Elt Bits) _) = Cert.KernelDownProjIdeal.defs₀ := by
  unfold Cert.KernelDownProj.defs₀ Cert.KernelDownProjIdeal.defs₀
  refine congrArg Defs.onTc (funext fun l => ?_)
  match l with
  | 0 => rfl
theorem down_proj_tables : (Cert.KernelDownProj.defs (F := Bits)) = Cert.KernelDownProjIdeal.defs (F := Bits) := congrArg (Pipeline.defs Cert.KernelDownProj.pcfgs) down_proj_bodies

theorem frame_down_proj : Cert.quiescent_KernelDownProj := fun m ρ _ => by
  rw [down_proj_tables]
  exact Cert.KernelDownProjIdeal.Gen.frame (F := Bits) m ρ

theorem frame_down_proj_ideal : Cert.quiescent_KernelDownProjIdeal := fun m ρ _ => Cert.KernelDownProjIdeal.Gen.frame (F := Ideal) m ρ

theorem frame_down_proj_ref : Cert.quiescent_ReferenceDownProjIdeal := fun m ρ _ =>
  (θ_run Cert.ReferenceDownProjIdeal.defs _ _).mono (fun r h => ⟨fun c => (h c).2, Idealize.ShloMosaic.sem_eq_zero_of_no_sems (by decide) r.2⟩)
    (Cert.ReferenceDownProjIdeal.Value.run (F := Ideal) m ρ)

theorem preserves_down_proj : Cert.preserves_KernelDownProj_KernelDownProjIdeal := trivial

theorem down_proj_ref_at (x : FVec Ideal Cert.ReferenceDownProjIdeal.S8192x2816 .bf16) (y : FVec Ideal Cert.ReferenceDownProjIdeal.S2816x1024 .bf16) (z : FVec Ideal Cert.ReferenceDownProjIdeal.S8192x1024 .f32) (a : Fin 8192) (b : Fin 1024) :
    (addf z (Host.dotGeneral Cert.ReferenceDownProjIdeal.dot_S8192x2816_S2816x1024_S8192x1024_1_0_0_1_n_n none (extf .f32 x Cert.ReferenceDownProjIdeal.Facts₀.bitsLt_bf16_f32) (extf .f32 y Cert.ReferenceDownProjIdeal.Facts₀.bitsLt_bf16_f32))
        : FVec Ideal Cert.ReferenceDownProjIdeal.S8192x1024 .f32) (ix2 a b)
      = z (ix2 a b) + ∑ r : Fin 2816, x (ix2 a r) * y (ix2 r b) := by
  pointwise []

theorem algebraic_down_proj : Cert.algebraic_KernelDownProjIdeal_ReferenceDownProjIdeal := fun m ρ m' ρ' _ ha =>
  ⟨fun c => Cert.KernelDownProjIdeal.Value.G3 m c, Cert.KernelDownProjIdeal.Value.run (F := Ideal) m ρ,
    (θ_run Cert.ReferenceDownProjIdeal.defs _ _).mono (fun r h c => by
      obtain ⟨a0, a1, a2⟩ := ha c
      obtain ⟨h0, hk⟩ := h c
      refine ⟨h0.trans ?_, hk⟩
      rw [a0, a1, a2]
      funext i
      rw [Cert.KernelIdeal.Hand.at2 i (i 0) (i 1) rfl rfl]
      exact (down_proj_ref_at _ _ _ (i 0) (i 1)).trans (Cert.KernelDownProjIdeal.Hand.result_at m c (i 0) (i 1)).symm)
      (Cert.ReferenceDownProjIdeal.Value.run (F := Ideal) m' ρ')⟩

end Cert.Proof

end
-- ==== Proof.DIn.lean ====
/- The gradient of the input projection's argument: three points to a block of rows, a third of the columns summed in each. -/
module

public import proofs.«01_k».proof.Proof.Gen.KernelDInIdeal.Value
public import proofs.«01_k».proof.Proof.Gen.ReferenceDInIdeal.Run
public import Idealize.ShloMosaic.Lib.KernelVsHost
public import proofs.«01_k».proof.Proof.Blocked

@[expose] public section

set_option maxRecDepth 16384

noncomputable section

namespace Cert.KernelDInIdeal.Hand

open Cert.KernelDInIdeal Cert.KernelDInIdeal.Gen Cert.KernelDInIdeal.Value
open Idealize.ShloMosaic Idealize.ShloMosaic.TcCoe Idealize.ShloMosaic.Tactic
open Cert.KernelIdeal.Hand (at2)

attribute [local instance] Cert.KernelDInIdeal.Gen.facts

theorem zero2 : (![0, 0] : Fin 2 → Nat) = fun _ => 0 := by decide

/-! ### What a point leaves -/

section
variable (c : Dev nD) (i : grid0.Coords) (a3 : Memref sig .tc .vmem S1024x1408 .bf16) (h3 : a3.IsWhole)
  (a4 : Memref sig .tc .vmem S1024x1408 .bf16) (h4 : a4.IsWhole) (a5 : Memref sig .tc .vmem S1024x1024 .f32) (h5 : a5.IsWhole)
  (a6 : Memref sig .tc .vmem S1024x1024 .f32) (h6 : a6.IsWhole)
  (x y : Vec Ideal S1024x1408 .bf16) (s : Vec Ideal S1024x1024 .f32)

/-- The first point of a block leaves the two tiles' product over zero. -/
theorem first_sum (hc0) (hc1) : sout0_A_0 c i a3 h3 a4 h4 a5 h5 a6 h6 hc0 hc1 x y = k0_pay2 (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero zero2]
  simp only [View.readAt_eq_ld, h3.read_unread, h4.read_unread, View.ld_unit_zero (S := S1024x1408) zero2, View.readCov_unit_zero (S := S1024x1024) _ zero2]

/-- The points in between add their tiles' product to what the point before left. -/
theorem mid_sum (hc0) (hc1) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zero2]
  simp only [View.readAt_eq_ld, h3.read_unread, h4.read_unread, h6.read_unread, View.ld_unit_zero (S := S1024x1408) zero2, View.ld_unit_zero (S := S1024x1024) zero2]

/-- The last adds its own, and stores the sum. -/
theorem last_out (hc0) (hc1) : out0_C_2 c i a3 h3 a4 h4 a5 h5 a6 h6 hc0 hc1 x y s = k0_pay2 s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zero2]
  simp only [View.readAt_eq_ld, h3.read_unread, h4.read_unread, h6.read_unread, View.ld_unit_zero (S := S1024x1024) zero2, View.ld_unit_zero (S := S1024x1408) zero2, View.readCov_unit_zero (S := S1024x1024) _ zero2]

end

/-! ### The tiles' product, at an index -/

theorem zero_at (a b : Fin 1024) : k0_pay1 (F := Ideal) (ix2 a b) = 0 := by
  pointwise [k0_pay1]

theorem add_at (s : Vec Ideal S1024x1024 .f32) (x y : Vec Ideal S1024x1408 .bf16) (a b : Fin 1024) :
    (k0_pay2 s x y : Vec Ideal S1024x1024 .f32) (ix2 a b) = s (ix2 a b) + ∑ r : Fin 1408, x (ix2 a r) * y (ix2 b r) := by
  pointwise [k0_pay2]

/-! ### The tiles, over the arguments -/

variable (m : (ℓ : Loc nD τ sig) → Buf (Elt Ideal) ℓ) (c : Dev nD)

/-- The cotangents and the weights, as launched. -/
abbrev cot (a : Fin 8192) (r : Fin 4224) : EReal := m ((c : Thread nD τ).loc main_arg0) (ix2 a r)
abbrev wgt (b : Fin 1024) (r : Fin 4224) : EReal := m ((c : Thread nD τ).loc main_arg1) (ix2 b r)

theorem t_lt (t : Fin cfg0.N) : t.val < 24 := lt_of_lt_of_eq t.isLt N_0

theorem index0 : ∀ t : Fin cfg0.N, (cfg0.win 0).index t 0 = t.val / 3 ∧ (cfg0.win 0).index t 1 = t.val % 3 := by decide +kernel
theorem index1 : ∀ t : Fin cfg0.N, (cfg0.win 1).index t 0 = 0 ∧ (cfg0.win 1).index t 1 = t.val % 3 := by decide +kernel

theorem tile0 (t : Fin cfg0.N) (a : Fin 1024) (r : Fin 1408) :
    iblk m c 0 t (ix2 a r) = cot m c ⟨1024 * (t.val / 3) + a.val, by have := t_lt t; omega⟩ ⟨1408 * (t.val % 3) + r.val, by omega⟩ := by
  have ht := t_lt t
  obtain ⟨h0, h1⟩ := index0 t
  show V m c main_arg0 (((cfg0.win 0).rect t).emb (ix2 a r)) = _
  rw [V_main_arg0]
  exact congrArg (m ((c : Thread nD τ).loc main_arg0)) (at2 _ ⟨1024 * (t.val / 3) + a.val, by omega⟩ ⟨1408 * (t.val % 3) + r.val, by omega⟩
    (Blocked.place (Pipeline.Window.rect_emb_val (cfg0.win 0) t _ 0) h0) (Blocked.place (Pipeline.Window.rect_emb_val (cfg0.win 0) t _ 1) h1))

theorem tile1 (t : Fin cfg0.N) (b : Fin 1024) (r : Fin 1408) :
    iblk m c 1 t (ix2 b r) = wgt m c b ⟨1408 * (t.val % 3) + r.val, by omega⟩ := by
  obtain ⟨h0, h1⟩ := index1 t
  show V m c main_arg1 (((cfg0.win 1).rect t).emb (ix2 b r)) = _
  rw [V_main_arg1]
  exact congrArg (m ((c : Thread nD τ).loc main_arg1)) (at2 _ b ⟨1408 * (t.val % 3) + r.val, by omega⟩
    (Blocked.place0 (Pipeline.Window.rect_emb_val (cfg0.win 1) t _ 0) h0) (Blocked.place (Pipeline.Window.rect_emb_val (cfg0.win 1) t _ 1) h1))

/-! ### The sum -/

/-- What block `q` of rows adds at its place `(a, b)` with the tile pair `k`. -/
def part (a b : Fin 1024) (q k : ℕ) : EReal :=
  if h : q < 8 then Blocked.share 3 1408 rfl (fun y => cot m c ⟨1024 * q + a.val, by omega⟩ y * wgt m c b y) k else 0

theorem tiles_sum (t : Fin cfg0.N) (a b : Fin 1024) :
    (∑ r : Fin 1408, (show EReal from iblk m c 0 t (ix2 a r)) * (show EReal from iblk m c 1 t (ix2 b r)) : EReal) = part m c a b (t.val / 3) (t.val % 3) := by
  have ht := t_lt t
  unfold part Blocked.share
  rw [dif_pos (by omega)]
  refine Finset.sum_congr rfl fun r _ => ?_
  rw [dif_pos (by omega), tile0, tile1]

/-- The scratch after a block's first point. -/
theorem first_at (t : Fin cfg0.N) (h0 : t.val % 3 = 0) (a b : Fin 1024) :
    ((outsAt0 m c t.val t.isLt).2 (ix2 a b) : EReal) = part m c a b (t.val / 3) 0 := by
  rw [outsAt0_A m c t h0 (by omega)]
  dsimp only
  rw [first_sum]
  refine (add_at _ _ _ a b).trans ?_
  rw [zero_at, zero_add, ← h0]
  exact tiles_sum m c t a b

/-- The scratch after a later one. -/
theorem mid_at (t : Fin cfg0.N) (h0 : t.val % 3 ≠ 0) (h1 : t.val % 3 ≠ 2) (a b : Fin 1024) :
    ((outsAt0 m c t.val t.isLt).2 (ix2 a b) : EReal)
      = (show EReal from (outsAt0 m c (t.val - 1) (by omega)).2 (ix2 a b)) + part m c a b (t.val / 3) (t.val % 3) := by
  rw [outsAt0_B m c t h0 h1]
  dsimp only
  rw [mid_sum]
  exact (add_at _ _ _ a b).trans (congrArg (_ + ·) (tiles_sum m c t a b))

/-- A block's last point stores the sum over all the columns. -/
theorem out_at (t : Fin cfg0.N) (h1 : t.val % 3 = 2) (a b : Fin 1024) :
    ((outsAt0 m c t.val t.isLt).1 (ix2 a b) : EReal)
      = ∑ y : Fin 4224, cot m c ⟨1024 * (t.val / 3) + a.val, by have := t_lt t; omega⟩ y * wgt m c b y := by
  have ht := t_lt t
  rw [outsAt0_C m c t (by omega) h1]
  dsimp only
  rw [last_out]
  refine (add_at _ _ _ a b).trans ((congrArg (_ + ·) ((tiles_sum m c t a b).trans (congrArg _ h1))).trans ?_)
  refine (Blocked.sum_of_parts 3 (by decide) (fun t => (outsAt0 m c t.val t.isLt).2 (ix2 a b)) (part m c a b)
    (fun t h => first_at m c t h a b) (fun t h h' => mid_at m c t h h' a b) t h1).trans ?_
  unfold part
  simp only [dif_pos (show t.val / 3 < 8 by omega)]
  exact Blocked.shares _ _

/-- The result at `(a, b)`: the product over all the columns. -/
theorem result_at (a : Fin 8192) (b : Fin 1024) : (G2 m c (ix2 a b) : EReal) = ∑ y : Fin 4224, cot m c a y * wgt m c b y := by
  have hp : pt2Of (ix2 a b) = 3 * (a.val / 1024) + 2 := by
    show 3 * (1 * (a.val / 1024 - 0) + 1 * (b.val / 1024 - 0)) + 2 = _
    omega
  have hlt : pt2Of (ix2 a b) < cfg0.N := lt_of_lt_of_eq (by rw [hp]; omega) N_0.symm
  unfold G2
  rw [dif_pos hlt, ← outsAt0_sweep m c _ hlt,
    at2 (loc2Of (ix2 a b)) ⟨a.val % 1024, by omega⟩ b rfl (Nat.mod_eq_of_lt b.isLt)]
  refine (out_at m c ⟨pt2Of (ix2 a b), hlt⟩ (by simp only [hp]; omega) ⟨a.val % 1024, by omega⟩ b).trans ?_
  refine Finset.sum_congr rfl fun y _ => congrArg (cot m c · y * wgt m c b y) (Fin.ext ?_)
  simp only [hp]; omega

end Cert.KernelDInIdeal.Hand

end
-- ==== Proof.DwIn.lean ====
/- The gradient of the input projection's weights: eight points to a block of columns, three blocks. -/
module

public import proofs.«01_k».proof.Proof.Gen.KernelDwInIdeal.Value
public import proofs.«01_k».proof.Proof.Gen.ReferenceDwInIdeal.Run
public import Idealize.ShloMosaic.Lib.KernelVsHost
public import proofs.«01_k».proof.Proof.Blocked

@[expose] public section

set_option maxRecDepth 16384

noncomputable section

namespace Cert.KernelDwInIdeal.Hand

open Cert.KernelDwInIdeal Cert.KernelDwInIdeal.Gen Cert.KernelDwInIdeal.Value
open Idealize.ShloMosaic Idealize.ShloMosaic.TcCoe Idealize.ShloMosaic.Tactic
open Cert.KernelIdeal.Hand (at2)

attribute [local instance] Cert.KernelDwInIdeal.Gen.facts

theorem zero2 : (![0, 0] : Fin 2 → Nat) = fun _ => 0 := by decide

/-! ### What a point leaves -/

section
variable (c : Dev nD) (i : grid0.Coords) (a3 : Memref sig .tc .vmem S1024x1024 .bf16) (h3 : a3.IsWhole)
  (a4 : Memref sig .tc .vmem S1024x1408 .bf16) (h4 : a4.IsWhole) (a5 : Memref sig .tc .vmem S1024x1408 .bf16) (h5 : a5.IsWhole)
  (a6 : Memref sig .tc .vmem S1024x1408 .f32) (h6 : a6.IsWhole)
  (x : Vec Ideal S1024x1024 .bf16) (y : Vec Ideal S1024x1408 .bf16) (s : Vec Ideal S1024x1408 .f32)

/-- The first point of a block leaves the two tiles' product over zero. -/
theorem first_sum (hc0) (hc1) : sout0_A_0 c i a3 h3 a4 h4 a5 h5 a6 h6 hc0 hc1 x y = k0_pay2 (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero zero2]
  simp only [View.readAt_eq_ld, h3.read_unread, h4.read_unread, View.ld_unit_zero (S := S1024x1024) zero2, View.ld_unit_zero (S := S1024x1408) zero2, View.readCov_unit_zero (S := S1024x1408) _ zero2]

/-- The points in between add their tiles' product to what the point before left. -/
theorem mid_sum (hc0) (hc1) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero zero2]
  simp only [View.readAt_eq_ld, h3.read_unread, h4.read_unread, h6.read_unread, View.ld_unit_zero (S := S1024x1024) zero2, View.ld_unit_zero (S := S1024x1408) zero2]

/-- The last point of a block stores the sum, narrowed. -/
theorem last_out (hc0) (hc1) : out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero zero2]
  simp only [View.readAt_eq_ld, h3.read_unread, h4.read_unread, h6.read_unread, View.ld_unit_zero (S := S1024x1024) zero2, View.ld_unit_zero (S := S1024x1408) zero2, View.readCov_unit_zero (S := S1024x1408) _ zero2]

end

/-! ### The tiles' product, at an index -/

theorem zero_at (a : Fin 1024) (b : Fin 1408) : k0_pay1 (F := Ideal) (ix2 a b) = 0 := by
  pointwise [k0_pay1]

theorem add_at (s : Vec Ideal S1024x1408 .f32) (x : Vec Ideal S1024x1024 .bf16) (y : Vec Ideal S1024x1408 .bf16) (a : Fin 1024) (b : Fin 1408) :
    (k0_pay2 s x y : Vec Ideal S1024x1408 .f32) (ix2 a b) = s (ix2 a b) + ∑ r : Fin 1024, x (ix2 r a) * y (ix2 r b) := by
  pointwise [k0_pay2]

/-! ### The tiles, over the arguments -/

variable (m : (ℓ : Loc nD τ sig) → Buf (Elt Ideal) ℓ) (c : Dev nD)

/-- The activations and the cotangents, as launched. -/
abbrev act (r : Fin 8192) (a : Fin 1024) : EReal := m ((c : Thread nD τ).loc main_arg0) (ix2 r a)
abbrev cot (r : Fin 8192) (b : Fin 4224) : EReal := m ((c : Thread nD τ).loc main_arg1) (ix2 r b)

theorem t_lt (t : Fin cfg0.N) : t.val < 24 := lt_of_lt_of_eq t.isLt N_0

theorem index0 : ∀ t : Fin cfg0.N, (cfg0.win 0).index t 0 = t.val % 8 ∧ (cfg0.win 0).index t 1 = 0 := by decide +kernel
theorem index1 : ∀ t : Fin cfg0.N, (cfg0.win 1).index t 0 = t.val % 8 ∧ (cfg0.win 1).index t 1 = t.val / 8 := by decide +kernel

theorem tile0 (t : Fin cfg0.N) (r a : Fin 1024) :
    iblk m c 0 t (ix2 r a) = act m c ⟨1024 * (t.val % 8) + r.val, by omega⟩ a := by
  obtain ⟨h0, h1⟩ := index0 t
  show V m c main_arg0 (((cfg0.win 0).rect t).emb (ix2 r a)) = _
  rw [V_main_arg0]
  exact congrArg (m ((c : Thread nD τ).loc main_arg0)) (at2 _ ⟨1024 * (t.val % 8) + r.val, by omega⟩ a
    (Blocked.place (Pipeline.Window.rect_emb_val (cfg0.win 0) t _ 0) h0) (Blocked.place0 (Pipeline.Window.rect_emb_val (cfg0.win 0) t _ 1) h1))

theorem tile1 (t : Fin cfg0.N) (r : Fin 1024) (b : Fin 1408) :
    iblk m c 1 t (ix2 r b) = cot m c ⟨1024 * (t.val % 8) + r.val, by omega⟩ ⟨1408 * (t.val / 8) + b.val, by have := t_lt t; omega⟩ := by
  have ht := t_lt t
  obtain ⟨h0, h1⟩ := index1 t
  show V m c main_arg1 (((cfg0.win 1).rect t).emb (ix2 r b)) = _
  rw [V_main_arg1]
  exact congrArg (m ((c : Thread nD τ).loc main_arg1)) (at2 _ ⟨1024 * (t.val % 8) + r.val, by omega⟩ ⟨1408 * (t.val / 8) + b.val, by omega⟩
    (Blocked.place (Pipeline.Window.rect_emb_val (cfg0.win 1) t _ 0) h0) (Blocked.place (Pipeline.Window.rect_emb_val (cfg0.win 1) t _ 1) h1))

/-! ### The running sum -/

/-- What block `q` of columns adds at its place `(a, b)` with the tile pair `k`. -/
def part (a : Fin 1024) (b : Fin 1408) (q k : ℕ) : EReal :=
  if h : q < 3 then Blocked.share 8 1024 rfl (fun y => act m c y a * cot m c y ⟨1408 * q + b.val, by omega⟩) k else 0

theorem tiles_sum (t : Fin cfg0.N) (a : Fin 1024) (b : Fin 1408) :
    (∑ r : Fin 1024, (show EReal from iblk m c 0 t (ix2 r a)) * (show EReal from iblk m c 1 t (ix2 r b)) : EReal) = part m c a b (t.val / 8) (t.val % 8) := by
  have ht := t_lt t
  unfold part Blocked.share
  rw [dif_pos (by omega)]
  refine Finset.sum_congr rfl fun r _ => ?_
  rw [dif_pos (by omega), tile0, tile1]

/-- The scratch after a block's first point. -/
theorem first_at (t : Fin cfg0.N) (h0 : t.val % 8 = 0) (a : Fin 1024) (b : Fin 1408) :
    ((outsAt0 m c t.val t.isLt).2 (ix2 a b) : EReal) = part m c a b (t.val / 8) 0 := by
  rw [outsAt0_A m c t h0 (by omega)]
  dsimp only
  rw [first_sum]
  refine (add_at _ _ _ a b).trans ?_
  rw [zero_at, zero_add, ← h0]
  exact tiles_sum m c t a b

/-- The scratch after a later one. -/
theorem mid_at (t : Fin cfg0.N) (h0 : t.val % 8 ≠ 0) (h1 : t.val % 8 ≠ 7) (a : Fin 1024) (b : Fin 1408) :
    ((outsAt0 m c t.val t.isLt).2 (ix2 a b) : EReal)
      = (show EReal from (outsAt0 m c (t.val - 1) (by omega)).2 (ix2 a b)) + part m c a b (t.val / 8) (t.val % 8) := by
  rw [outsAt0_B m c t h0 h1]
  dsimp only
  rw [mid_sum]
  exact (add_at _ _ _ a b).trans (congrArg (_ + ·) (tiles_sum m c t a b))

/-- A block's last point stores the sum over all the rows. -/
theorem out_at (t : Fin cfg0.N) (h7 : t.val % 8 = 7) (a : Fin 1024) (b : Fin 1408) :
    ((outsAt0 m c t.val t.isLt).1 (ix2 a b) : EReal)
      = ∑ y : Fin 8192, act m c y a * cot m c y ⟨1408 * (t.val / 8) + b.val, by have := t_lt t; omega⟩ := by
  have ht := t_lt t
  rw [outsAt0_C m c t (by omega) h7]
  dsimp only
  rw [last_out]
  refine (add_at _ _ _ a b).trans ((congrArg (_ + ·) ((tiles_sum m c t a b).trans (congrArg _ h7))).trans ?_)
  refine (Blocked.sum_of_parts 8 (by decide) (fun t => (outsAt0 m c t.val t.isLt).2 (ix2 a b)) (part m c a b)
    (fun t h => first_at m c t h a b) (fun t h h' => mid_at m c t h h' a b) t h7).trans ?_
  unfold part
  simp only [dif_pos (show t.val / 8 < 3 by omega)]
  exact Blocked.shares _ _

/-- The result at `(a, b)`: the product over all the rows. -/
theorem result_at (a : Fin 1024) (b : Fin 4224) : (G2 m c (ix2 a b) : EReal) = ∑ y : Fin 8192, cot m c y b * act m c y a := by
  have hp : pt2Of (ix2 a b) = 8 * (b.val / 1408) + 7 := by
    show 8 * (3 * (a.val / 1024 - 0) + 1 * (b.val / 1408 - 0)) + 7 = _
    omega
  have hlt : pt2Of (ix2 a b) < cfg0.N := lt_of_lt_of_eq (by rw [hp]; omega) N_0.symm
  unfold G2
  rw [dif_pos hlt, ← outsAt0_sweep m c _ hlt,
    at2 (loc2Of (ix2 a b)) a ⟨b.val % 1408, by omega⟩ (Nat.mod_eq_of_lt a.isLt) rfl]
  refine (out_at m c ⟨pt2Of (ix2 a b), hlt⟩ (by simp only [hp]; omega) a ⟨b.val % 1408, by omega⟩).trans ?_
  refine Finset.sum_congr rfl fun y _ => (mul_comm _ _).trans (congrArg (cot m c y · * act m c y a) (Fin.ext ?_))
  simp only [hp]; omega

end Cert.KernelDwInIdeal.Hand

end
-- ==== Proof.InValue.lean ====
/- The input projection backwards: the frames, the gradient of its argument and the weight gradient against the reference's. -/
module

public import proofs.«01_k».proof.Defs
public import proofs.«01_k».proof.Proof.Gen.KernelDIn
public import proofs.«01_k».proof.Proof.DIn
public import proofs.«01_k».proof.Proof.Gen.KernelDwIn
public import proofs.«01_k».proof.Proof.DwIn
public import Idealize.ShloMosaic.Adequacy
public import Idealize.ShloMosaic.Init

@[expose] public section

set_option maxRecDepth 16384

noncomputable section

namespace Cert.Proof

open Idealize.ShloMosaic Idealize.SL.Sem

attribute [local instance] Cert.KernelDIn.Gen.facts Cert.KernelDInIdeal.Gen.facts Cert.ReferenceDInIdeal.Gen.facts Cert.KernelDwIn.Gen.facts Cert.KernelDwInIdeal.Gen.facts Cert.ReferenceDwInIdeal.Gen.facts

/-! ### The argument's gradient: the frames, then the reference's product at an index and the value claim -/

theorem d_in_bodies : (Cert.KernelDIn.defs₀ : Defs _ _ _ (Elt Bits) _) = Cert.KernelDInIdeal.defs₀ := by
  unfold Cert.KernelDIn.defs₀ Cert.KernelDInIdeal.defs₀
  refine congrArg Defs.onTc (funext fun l => ?_)
  match l with
  | 0 => rfl
theorem d_in_tables : (Cert.KernelDIn.defs (F := Bits)) = Cert.KernelDInIdeal.defs (F := Bits) := congrArg (Pipeline.defs Cert.KernelDIn.pcfgs) d_in_bodies

theorem frame_d_in : Cert.quiescent_KernelDIn := fun m ρ _ => by
  rw [d_in_tables]
  exact Cert.KernelDInIdeal.Gen.frame (F := Bits) m ρ

theorem frame_d_in_ideal : Cert.quiescent_KernelDInIdeal := fun m ρ _ => Cert.KernelDInIdeal.Gen.frame (F := Ideal) m ρ

theorem frame_d_in_ref : Cert.quiescent_ReferenceDInIdeal := fun m ρ _ =>
  (θ_run Cert.ReferenceDInIdeal.defs _ _).mono (fun r h => ⟨fun c => (h c).2, Idealize.ShloMosaic.sem_eq_zero_of_no_sems (by decide) r.2⟩)
    (Cert.ReferenceDInIdeal.Value.run (F := Ideal) m ρ)

theorem preserves_d_in : Cert.preserves_KernelDIn_KernelDInIdeal := trivial

theorem d_in_ref_at (x : FVec Ideal Cert.ReferenceDInIdeal.S8192x4224 .bf16) (y : FVec Ideal Cert.ReferenceDInIdeal.S1024x4224 .bf16) (a : Fin 8192) (b : Fin 1024) :
    (Host.dotGeneral Cert.ReferenceDInIdeal.dot_S8192x4224_S1024x4224_S8192x1024_1_1_0_0_n_n none (extf .f32 x Cert.ReferenceDInIdeal.Facts₀.bitsLt_bf16_f32) (extf .f32 y Cert.ReferenceDInIdeal.Facts₀.bitsLt_bf16_f32)
        : FVec Ideal Cert.ReferenceDInIdeal.S8192x1024 .f32) (ix2 a b)
      = ∑ r : Fin 4224, x (ix2 a r) * y (ix2 b r) := by
  pointwise []

theorem algebraic_d_in : Cert.algebraic_KernelDInIdeal_ReferenceDInIdeal := fun m ρ m' ρ' _ ha =>
  ⟨fun c => Cert.KernelDInIdeal.Value.G2 m c, Cert.KernelDInIdeal.Value.run (F := Ideal) m ρ,
    (θ_run Cert.ReferenceDInIdeal.defs _ _).mono (fun r h c => by
      obtain ⟨a0, a1⟩ := ha c
      obtain ⟨h0, hk⟩ := h c
      refine ⟨h0.trans ?_, hk⟩
      rw [a0, a1]
      funext i
      rw [Cert.KernelIdeal.Hand.at2 i (i 0) (i 1) rfl rfl]
      exact (d_in_ref_at _ _ (i 0) (i 1)).trans (Cert.KernelDInIdeal.Hand.result_at m c (i 0) (i 1)).symm)
      (Cert.ReferenceDInIdeal.Value.run (F := Ideal) m' ρ')⟩

/-! ### The weights' gradient -/

theorem dw_in_bodies : (Cert.KernelDwIn.defs₀ : Defs _ _ _ (Elt Bits) _) = Cert.KernelDwInIdeal.defs₀ := by
  unfold Cert.KernelDwIn.defs₀ Cert.KernelDwInIdeal.defs₀
  refine congrArg Defs.onTc (funext fun l => ?_)
  match l with
  | 0 => rfl
theorem dw_in_tables : (Cert.KernelDwIn.defs (F := Bits)) = Cert.KernelDwInIdeal.defs (F := Bits) := congrArg (Pipeline.defs Cert.KernelDwIn.pcfgs) dw_in_bodies

theorem frame_dw_in : Cert.quiescent_KernelDwIn := fun m ρ _ => by
  rw [dw_in_tables]
  exact Cert.KernelDwInIdeal.Gen.frame (F := Bits) m ρ

theorem frame_dw_in_ideal : Cert.quiescent_KernelDwInIdeal := fun m ρ _ => Cert.KernelDwInIdeal.Gen.frame (F := Ideal) m ρ

theorem frame_dw_in_ref : Cert.quiescent_ReferenceDwInIdeal := fun m ρ _ =>
  (θ_run Cert.ReferenceDwInIdeal.defs _ _).mono (fun r h => ⟨fun c => (h c).2, Idealize.ShloMosaic.sem_eq_zero_of_no_sems (by decide) r.2⟩)
    (Cert.ReferenceDwInIdeal.Value.run (F := Ideal) m ρ)

theorem preserves_dw_in : Cert.preserves_KernelDwIn_KernelDwInIdeal := trivial

theorem dw_in_ref_at (x : FVec Ideal Cert.ReferenceDwInIdeal.S8192x1024 .bf16) (y : FVec Ideal Cert.ReferenceDwInIdeal.S8192x4224 .bf16) (a : Fin 1024) (b : Fin 4224) :
    (truncf .bf16 (transpose Cert.ReferenceDwInIdeal.S1024x4224 [1, 0]
        (Host.dotGeneral Cert.ReferenceDwInIdeal.dot_S8192x4224_S8192x1024_S4224x1024_0_0_1_1_n_n none (extf .f32 y Cert.ReferenceDwInIdeal.Facts₀.bitsLt_bf16_f32) (extf .f32 x Cert.ReferenceDwInIdeal.Facts₀.bitsLt_bf16_f32))
        Cert.ReferenceDwInIdeal.Facts₀.transposes_S4224x1024_S1024x4224_1_0) Cert.ReferenceDwInIdeal.Facts₀.bitsLt_bf16_f32 : FVec Ideal Cert.ReferenceDwInIdeal.S1024x4224 .bf16) (ix2 a b)
      = ∑ r : Fin 8192, y (ix2 r b) * x (ix2 r a) := by
  pointwise []

theorem algebraic_dw_in : Cert.algebraic_KernelDwInIdeal_ReferenceDwInIdeal := fun m ρ m' ρ' _ ha =>
  ⟨fun c => Cert.KernelDwInIdeal.Value.G2 m c, Cert.KernelDwInIdeal.Value.run (F := Ideal) m ρ,
    (θ_run Cert.ReferenceDwInIdeal.defs _ _).mono (fun r h c => by
      obtain ⟨a0, a1⟩ := ha c
      obtain ⟨h0, hk⟩ := h c
      refine ⟨h0.trans ?_, hk⟩
      rw [a0, a1]
      funext i
      rw [Cert.KernelIdeal.Hand.at2 i (i 0) (i 1) rfl rfl]
      exact (dw_in_ref_at _ _ (i 0) (i 1)).trans (Cert.KernelDwInIdeal.Hand.result_at m c (i 0) (i 1)).symm)
      (Cert.ReferenceDwInIdeal.Value.run (F := Ideal) m' ρ')⟩

end Cert.Proof

end
-- ==== Proof.lean ====
/- The proof of the claim: the modules beside it, one conjunct after the other. -/
module

public import proofs.«01_k».proof.Proof.Value
public import proofs.«01_k».proof.Proof.UpValue
public import proofs.«01_k».proof.Proof.DownValue
public import proofs.«01_k».proof.Proof.SumValue
public import proofs.«01_k».proof.Proof.OutValue
public import proofs.«01_k».proof.Proof.ForwardValue
public import proofs.«01_k».proof.Proof.InValue

@[expose] public section

noncomputable section

namespace Cert.Proof

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelAct.Gen.facts, Cert.KernelActIdeal.Gen.facts, Cert.ReferenceActIdeal.Gen.facts,
    Cert.KernelG.Gen.facts, Cert.KernelGIdeal.Gen.facts, Cert.ReferenceGIdeal.Gen.facts,
    Cert.KernelS.Gen.facts, Cert.KernelSIdeal.Gen.facts, Cert.ReferenceSIdeal.Gen.facts,
    Cert.KernelDwOut.Gen.facts, Cert.KernelDwOutIdeal.Gen.facts, Cert.ReferenceDwOutIdeal.Gen.facts,
    Cert.KernelDMixed.Gen.facts, Cert.KernelDMixedIdeal.Gen.facts, Cert.ReferenceDMixedIdeal.Gen.facts,
    Cert.KernelOutProj.Gen.facts, Cert.KernelOutProjIdeal.Gen.facts, Cert.ReferenceOutProjIdeal.Gen.facts,
    Cert.KernelDownProj.Gen.facts, Cert.KernelDownProjIdeal.Gen.facts, Cert.ReferenceDownProjIdeal.Gen.facts,
    Cert.KernelDIn.Gen.facts, Cert.KernelDInIdeal.Gen.facts, Cert.ReferenceDInIdeal.Gen.facts,
    Cert.KernelDwIn.Gen.facts, Cert.KernelDwInIdeal.Gen.facts, Cert.ReferenceDwInIdeal.Gen.facts,
    Cert.Pre_finite.Gen.facts,
    frame_p, frame_pi, frame_pi_pre, frame_ri, frame_ri_pre, frame_up, frame_up_ideal, frame_up_ref,
    frame_down, frame_down_ideal, frame_down_ref, frame_act, frame_act_ideal, frame_act_ref,
    frame_g, frame_g_ideal, frame_g_ref, frame_s, frame_s_ideal, frame_s_ref,
    frame_dw_out, frame_dw_out_ideal, frame_dw_out_ref,
    frame_d_mixed, frame_d_mixed_ideal, frame_d_mixed_ref,
    frame_out_proj, frame_out_proj_ideal, frame_out_proj_ref,
    frame_down_proj, frame_down_proj_ideal, frame_down_proj_ref,
    frame_d_in, frame_d_in_ideal, frame_d_in_ref,
    frame_dw_in, frame_dw_in_ideal, frame_dw_in_ref,
    preserves, algebraic, preserves_up, algebraic_up, preserves_down, algebraic_down, preserves_act, algebraic_act,
    preserves_g, algebraic_g, preserves_s, algebraic_s,
    preserves_dw_out, algebraic_dw_out, preserves_d_mixed, algebraic_d_mixed, preserves_out_proj, algebraic_out_proj, preserves_down_proj, algebraic_down_proj,
    preserves_d_in, algebraic_d_in, preserves_dw_in, algebraic_dw_in⟩

end Cert.Proof

end
